-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)) (v4 : (c : Dev Cert.KernelIdeal.nD) → Buf (Elt Ideal) ((c.tc : Thread Cert.KernelIdeal.nD Cert.KernelIdeal.τ).loc Cert.KernelIdeal.main_v17_4)) (v5 : (c : Dev Cert.KernelIdeal.nD) → Buf (Elt Ideal) ((c.tc : Thread Cert.KernelIdeal.nD Cert.KernelIdeal.τ).loc Cert.KernelIdeal.main_v17_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_v17_4) = v4 c
          ∧ r.2.mem ((c.tc : Thread Cert.KernelIdeal.nD Cert.KernelIdeal.τ).loc Cert.KernelIdeal.main_v17_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_v285) = v1 c
          ∧ r.2.mem ((c.tc : Thread Cert.ReferenceIdeal.nD Cert.ReferenceIdeal.τ).loc Cert.ReferenceIdeal.main_v286) = v2 c
          ∧ r.2.mem ((c.tc : Thread Cert.ReferenceIdeal.nD Cert.ReferenceIdeal.τ).loc Cert.ReferenceIdeal.main_v287) = v3 c
          ∧ r.2.mem ((c.tc : Thread Cert.ReferenceIdeal.nD Cert.ReferenceIdeal.τ).loc Cert.ReferenceIdeal.main_v288) = v4 c
          ∧ r.2.mem ((c.tc : Thread Cert.ReferenceIdeal.nD Cert.ReferenceIdeal.τ).loc Cert.ReferenceIdeal.main_v289) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x28x36x512 : Shape := ⟨4, ![128, 28, 36, 512]⟩
abbrev S512x256 : Shape := ⟨2, ![512, 256]⟩
abbrev S256 : Shape := ⟨1, ![256]⟩
abbrev S3x3x256x256 : Shape := ⟨4, ![3, 3, 256, 256]⟩
abbrev S256x1024 : Shape := ⟨2, ![256, 1024]⟩
abbrev S1024 : Shape := ⟨1, ![1024]⟩
abbrev S512x1024 : Shape := ⟨2, ![512, 1024]⟩
abbrev S1024x256 : Shape := ⟨2, ![1024, 256]⟩
abbrev S1 : Shape := ⟨1, ![1]⟩
abbrev S28x36x128x512 : Shape := ⟨4, ![28, 36, 128, 512]⟩
abbrev S2304x256 : Shape := ⟨2, ![2304, 256]⟩
abbrev S1x256 : Shape := ⟨2, ![1, 256]⟩
abbrev S1x1024 : Shape := ⟨2, ![1, 1024]⟩
abbrev S14x18x128x1024 : Shape := ⟨4, ![14, 18, 128, 1024]⟩
abbrev S28x36x128x256 : Shape := ⟨4, ![28, 36, 128, 256]⟩
abbrev S14x18x128x256 : Shape := ⟨4, ![14, 18, 128, 256]⟩
abbrev S2x36x32x512 : Shape := ⟨4, ![2, 36, 32, 512]⟩
abbrev S1x18x32x1024 : Shape := ⟨4, ![1, 18, 32, 1024]⟩
abbrev S2x36x32x256 : Shape := ⟨4, ![2, 36, 32, 256]⟩
abbrev S1x18x32x256 : Shape := ⟨4, ![1, 18, 32, 256]⟩
abbrev S3x38x32x256 : Shape := ⟨4, ![3, 38, 32, 256]⟩
abbrev S576x256 : Shape := ⟨2, ![576, 256]⟩
abbrev S2x576x1024 : Shape := ⟨3, ![2, 576, 1024]⟩
abbrev S4x20x32x256 : Shape := ⟨4, ![4, 20, 32, 256]⟩
abbrev S1x37x32x256 : Shape := ⟨4, ![1, 37, 32, 256]⟩
abbrev S37x32x256 : Shape := ⟨3, ![37, 32, 256]⟩
abbrev S1x18x32x512 : Shape := ⟨4, ![1, 18, 32, 512]⟩
abbrev S18x32x512 : Shape := ⟨3, ![18, 32, 512]⟩
abbrev S576x512 : Shape := ⟨2, ![576, 512]⟩
abbrev S18x32x256 : Shape := ⟨3, ![18, 32, 256]⟩
abbrev S3x19x2x32x256 : Shape := ⟨5, ![3, 19, 2, 32, 256]⟩
abbrev S1x18x1x32x256 : Shape := ⟨5, ![1, 18, 1, 32, 256]⟩
abbrev S576x2304 : Shape := ⟨2, ![576, 2304]⟩
abbrev S2x18x2x32x512 : Shape := ⟨5, ![2, 18, 2, 32, 512]⟩
abbrev S1x18x1x32x512 : Shape := ⟨5, ![1, 18, 1, 32, 512]⟩
abbrev S256x256 : Shape := ⟨2, ![256, 256]⟩
abbrev S1x576x256 : Shape := ⟨3, ![1, 576, 256]⟩
abbrev S1x576x1024 : Shape := ⟨3, ![1, 576, 1024]⟩
abbrev S576x1024 : Shape := ⟨2, ![576, 1024]⟩
abbrev S1x20x32x256 : Shape := ⟨4, ![1, 20, 32, 256]⟩
abbrev S20x32x256 : Shape := ⟨3, ![20, 32, 256]⟩

abbrev nBuf : Space → Nat
  | .hbm => 46
  | .vmem => 47
  | .smem => 1
  | _ => 0

abbrev bufTy : (tb : Table) → Fin (tcTables nBuf tb) → BufTy
  | .hbm, ⟨0, _⟩ => ⟨S128x28x36x512, .i8⟩
  | .hbm, ⟨1, _⟩ => ⟨S512x256, .i8⟩
  | .hbm, ⟨2, _⟩ => ⟨S256, .i32⟩
  | .hbm, ⟨3, _⟩ => ⟨S256, .f32⟩
  | .hbm, ⟨4, _⟩ => ⟨S3x3x256x256, .i8⟩
  | .hbm, ⟨5, _⟩ => ⟨S256, .i32⟩
  | .hbm, ⟨6, _⟩ => ⟨S256, .f32⟩
  | .hbm, ⟨7, _⟩ => ⟨S256x1024, .i8⟩
  | .hbm, ⟨8, _⟩ => ⟨S1024, .i32⟩
  | .hbm, ⟨9, _⟩ => ⟨S1024, .f32⟩
  | .hbm, ⟨10, _⟩ => ⟨S512x1024, .i8⟩
  | .hbm, ⟨11, _⟩ => ⟨S1024, .i32⟩
  | .hbm, ⟨12, _⟩ => ⟨S1024, .f32⟩
  | .hbm, ⟨13, _⟩ => ⟨S1024x256, .i8⟩
  | .hbm, ⟨14, _⟩ => ⟨S256, .i32⟩
  | .hbm, ⟨15, _⟩ => ⟨S256, .f32⟩
  | .hbm, ⟨16, _⟩ => ⟨S3x3x256x256, .i8⟩
  | .hbm, ⟨17, _⟩ => ⟨S256, .i32⟩
  | .hbm, ⟨18, _⟩ => ⟨S256, .f32⟩
  | .hbm, ⟨19, _⟩ => ⟨S256x1024, .i8⟩
  | .hbm, ⟨20, _⟩ => ⟨S1024, .i32⟩
  | .hbm, ⟨21, _⟩ => ⟨S1024, .f32⟩
  | .hbm, ⟨22, _⟩ => ⟨S1, .f32⟩
  | .hbm, ⟨23, _⟩ => ⟨S28x36x128x512, .i8⟩
  | .hbm, ⟨24, _⟩ => ⟨S2304x256, .i8⟩
  | .hbm, ⟨25, _⟩ => ⟨S2304x256, .i8⟩
  | .hbm, ⟨26, _⟩ => ⟨S1x256, .i32⟩
  | .hbm, ⟨27, _⟩ => ⟨S1x256, .f32⟩
  | .hbm, ⟨28, _⟩ => ⟨S1x256, .i32⟩
  | .hbm, ⟨29, _⟩ => ⟨S1x256, .f32⟩
  | .hbm, ⟨30, _⟩ => ⟨S1x1024, .i32⟩
  | .hbm, ⟨31, _⟩ => ⟨S1x1024, .f32⟩
  | .hbm, ⟨32, _⟩ => ⟨S1x1024, .i32⟩
  | .hbm, ⟨33, _⟩ => ⟨S1x1024, .f32⟩
  | .hbm, ⟨34, _⟩ => ⟨S1x256, .i32⟩
  | .hbm, ⟨35, _⟩ => ⟨S1x256, .f32⟩
  | .hbm, ⟨36, _⟩ => ⟨S1x256, .i32⟩
  | .hbm, ⟨37, _⟩ => ⟨S1x256, .f32⟩
  | .hbm, ⟨38, _⟩ => ⟨S1x1024, .i32⟩
  | .hbm, ⟨39, _⟩ => ⟨S1x1024, .f32⟩
  | .hbm, ⟨40, _⟩ => ⟨S14x18x128x1024, .i8⟩
  | .hbm, ⟨41, _⟩ => ⟨S14x18x128x1024, .i8⟩
  | .hbm, ⟨42, _⟩ => ⟨S28x36x128x256, .i8⟩
  | .hbm, ⟨43, _⟩ => ⟨S14x18x128x256, .i8⟩
  | .hbm, ⟨44, _⟩ => ⟨S14x18x128x256, .i8⟩
  | .hbm, ⟨45, _⟩ => ⟨S14x18x128x256, .i8⟩
  | .local _ .vmem, ⟨0, _⟩ => ⟨S2x36x32x512, .i8⟩
  | .local _ .vmem, ⟨1, _⟩ => ⟨S2x36x32x512, .i8⟩
  | .local _ .vmem, ⟨2, _⟩ => ⟨S512x256, .i8⟩
  | .local _ .vmem, ⟨3, _⟩ => ⟨S2304x256, .i8⟩
  | .local _ .vmem, ⟨4, _⟩ => ⟨S256x1024, .i8⟩
  | .local _ .vmem, ⟨5, _⟩ => ⟨S512x1024, .i8⟩
  | .local _ .vmem, ⟨6, _⟩ => ⟨S1024x256, .i8⟩
  | .local _ .vmem, ⟨7, _⟩ => ⟨S2304x256, .i8⟩
  | .local _ .vmem, ⟨8, _⟩ => ⟨S256x1024, .i8⟩
  | .local _ .vmem, ⟨9, _⟩ => ⟨S1x256, .i32⟩
  | .local _ .vmem, ⟨10, _⟩ => ⟨S1x256, .f32⟩
  | .local _ .vmem, ⟨11, _⟩ => ⟨S1x256, .i32⟩
  | .local _ .vmem, ⟨12, _⟩ => ⟨S1x256, .f32⟩
  | .local _ .vmem, ⟨13, _⟩ => ⟨S1x1024, .i32⟩
  | .local _ .vmem, ⟨14, _⟩ => ⟨S1x1024, .f32⟩
  | .local _ .vmem, ⟨15, _⟩ => ⟨S1x1024, .i32⟩
  | .local _ .vmem, ⟨16, _⟩ => ⟨S1x1024, .f32⟩
  | .local _ .vmem, ⟨17, _⟩ => ⟨S1x256, .i32⟩
  | .local _ .vmem, ⟨18, _⟩ => ⟨S1x256, .f32⟩
  | .local _ .vmem, ⟨19, _⟩ => ⟨S1x256, .i32⟩
  | .local _ .vmem, ⟨20, _⟩ => ⟨S1x256, .f32⟩
  | .local _ .vmem, ⟨21, _⟩ => ⟨S1x1024, .i32⟩
  | .local _ .vmem, ⟨22, _⟩ => ⟨S1x1024, .f32⟩
  | .local _ .vmem, ⟨23, _⟩ => ⟨S1x18x32x1024, .i8⟩
  | .local _ .vmem, ⟨24, _⟩ => ⟨S1x18x32x1024, .i8⟩
  | .local _ .vmem, ⟨25, _⟩ => ⟨S1x18x32x1024, .i8⟩
  | .local _ .vmem, ⟨26, _⟩ => ⟨S1x18x32x1024, .i8⟩
  | .local _ .vmem, ⟨27, _⟩ => ⟨S2x36x32x256, .i8⟩
  | .local _ .vmem, ⟨28, _⟩ => ⟨S2x36x32x256, .i8⟩
  | .local _ .vmem, ⟨29, _⟩ => ⟨S1x18x32x256, .i8⟩
  | .local _ .vmem, ⟨30, _⟩ => ⟨S1x18x32x256, .i8⟩
  | .local _ .vmem, ⟨31, _⟩ => ⟨S1x18x32x256, .i8⟩
  | .local _ .vmem, ⟨32, _⟩ => ⟨S1x18x32x256, .i8⟩
  | .local _ .vmem, ⟨33, _⟩ => ⟨S1x18x32x256, .i8⟩
  | .local _ .vmem, ⟨34, _⟩ => ⟨S1x18x32x256, .i8⟩
  | .local _ .vmem, ⟨35, _⟩ => ⟨S512x256, .bf16⟩
  | .local _ .vmem, ⟨36, _⟩ => ⟨S2304x256, .bf16⟩
  | .local _ .vmem, ⟨37, _⟩ => ⟨S256x1024, .bf16⟩
  | .local _ .vmem, ⟨38, _⟩ => ⟨S512x1024, .bf16⟩
  | .local _ .vmem, ⟨39, _⟩ => ⟨S1024x256, .bf16⟩
  | .local _ .vmem, ⟨40, _⟩ => ⟨S2304x256, .bf16⟩
  | .local _ .vmem, ⟨41, _⟩ => ⟨S256x1024, .bf16⟩
  | .local _ .vmem, ⟨42, _⟩ => ⟨S3x38x32x256, .bf16⟩
  | .local _ .vmem, ⟨43, _⟩ => ⟨S576x256, .bf16⟩
  | .local _ .vmem, ⟨44, _⟩ => ⟨S2x576x1024, .bf16⟩
  | .local _ .vmem, ⟨45, _⟩ => ⟨S4x20x32x256, .bf16⟩
  | .local _ .vmem, ⟨46, _⟩ => ⟨S576x256, .bf16⟩
  | .local _ .smem, ⟨0, _⟩ => ⟨S1, .f32⟩
  | _, _ => ⟨S128x28x36x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .smem, ⟨0, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17_0 : Ref sig .tc := ⟨.hbm, 40, rfl⟩
abbrev main_v17_1 : Ref sig .tc := ⟨.hbm, 41, rfl⟩
abbrev main_v17_2 : Ref sig .tc := ⟨.hbm, 42, rfl⟩
abbrev main_v17_3 : Ref sig .tc := ⟨.hbm, 43, rfl⟩
abbrev main_v17_4 : Ref sig .tc := ⟨.hbm, 44, rfl⟩
abbrev main_v17_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg23_0 : Ref sig .tc := ⟨.vmem, 23, rfl⟩
abbrev cc0_stg23_1 : Ref sig .tc := ⟨.vmem, 24, rfl⟩
abbrev cc0_stg24_0 : Ref sig .tc := ⟨.vmem, 25, rfl⟩
abbrev cc0_stg24_1 : Ref sig .tc := ⟨.vmem, 26, rfl⟩
abbrev cc0_stg25_0 : Ref sig .tc := ⟨.vmem, 27, rfl⟩
abbrev cc0_stg25_1 : Ref sig .tc := ⟨.vmem, 28, rfl⟩
abbrev cc0_stg26_0 : Ref sig .tc := ⟨.vmem, 29, rfl⟩
abbrev cc0_stg26_1 : Ref sig .tc := ⟨.vmem, 30, rfl⟩
abbrev cc0_stg27_0 : Ref sig .tc := ⟨.vmem, 31, rfl⟩
abbrev cc0_stg27_1 : Ref sig .tc := ⟨.vmem, 32, rfl⟩
abbrev cc0_stg28_0 : Ref sig .tc := ⟨.vmem, 33, rfl⟩
abbrev cc0_stg28_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_scratch6 : Ref sig .tc := ⟨.vmem, 41, rfl⟩
abbrev cc0_scratch7 : Ref sig .tc := ⟨.vmem, 42, rfl⟩
abbrev cc0_scratch8 : Ref sig .tc := ⟨.vmem, 43, rfl⟩
abbrev cc0_scratch9 : Ref sig .tc := ⟨.vmem, 44, rfl⟩
abbrev cc0_scratch10 : Ref sig .tc := ⟨.vmem, 45, rfl⟩
abbrev cc0_scratch11 : Ref sig .tc := ⟨.vmem, 46, rfl⟩
abbrev cc0_stg22_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25
abbrev cc0_sem24_0 : DmaSem sig := 26
abbrev cc0_sem24_1 : DmaSem sig := 27
abbrev cc0_sem25_0 : DmaSem sig := 28
abbrev cc0_sem25_1 : DmaSem sig := 29
abbrev cc0_sem26_0 : DmaSem sig := 30
abbrev cc0_sem26_1 : DmaSem sig := 31
abbrev cc0_sem27_0 : DmaSem sig := 32
abbrev cc0_sem27_1 : DmaSem sig := 33
abbrev cc0_sem28_0 : DmaSem sig := 34
abbrev cc0_sem28_1 : DmaSem sig := 35

abbrev nD : Nat := 1
abbrev τ : Topo := Topo.v7x

variable {F : FTy → Type} [FloatOps F]

abbrev grid0 : Pipeline.Grid := ⟨1, ![57], ![false]⟩

def k0_cond2 (i : grid0.Coords) : BitVec 1 :=
  let arg0 : BitVec 32 := BitVec.ofNat 32 (i 0).val
  let c56_i32 : BitVec 32 := 56#32
  let v4 : BitVec 1 := Scalar.cmpi .slt arg0 c56_i32
  let v5 : BitVec 32 := Scalar.extui v4
  let c0_i32_1 : BitVec 32 := 0#32
  let v6 : BitVec 1 := Scalar.cmpi .ne v5 c0_i32_1
  v6

def k0_off1 (i : grid0.Coords) : Fin 3 → Nat :=
  let arg0 : BitVec 32 := BitVec.ofNat 32 (i 0).val
  let c2_i32 : BitVec 32 := 2#32
  let c0_i32_197 : BitVec 32 := 0#32
  let v289 : BitVec 1 := Scalar.cmpi .eq c2_i32 c0_i32_197
  let c1_i32 : BitVec 32 := 1#32
  let v290 : BitVec 32 := Scalar.select v289 c1_i32 c2_i32
  let v291 : BitVec 32 := Scalar.remsi arg0 v290
  let c0_i32_199 : BitVec 32 := 0#32
  let v293 : BitVec 1 := Scalar.cmpi .slt v291 c0_i32_199
  let c0_i32_200 : BitVec 32 := 0#32
  let v294 : BitVec 1 := Scalar.cmpi .slt v290 c0_i32_200
  let v295 : BitVec 1 := Scalar.xori v293 v294
  let c0_i32_198 : BitVec 32 := 0#32
  let v292 : BitVec 1 := Scalar.cmpi .ne v291 c0_i32_198
  let v296 : BitVec 1 := Scalar.andi v295 v292
  let v297 : BitVec 32 := Scalar.addi v291 v290
  let v298 : BitVec 32 := Scalar.select v296 v297 v291
  let v299 : Index := Scalar.indexCast v298
  let c0_201 : Index := 0#32
  let c0_202 : Index := 0#32
  ![v299.toNat, 0, 0]
def k0_off2 (i : grid0.Coords) : Fin 3 → Nat :=
  let arg0 : BitVec 32 := BitVec.ofNat 32 (i 0).val
  let c2_i32_224 : BitVec 32 := 2#32
  let c0_i32_225 : BitVec 32 := 0#32
  let v345 : BitVec 1 := Scalar.cmpi .eq c2_i32_224 c0_i32_225
  let c1_i32_226 : BitVec 32 := 1#32
  let v346 : BitVec 32 := Scalar.select v345 c1_i32_226 c2_i32_224
  let v347 : BitVec 32 := Scalar.remsi arg0 v346
  let c0_i32_228 : BitVec 32 := 0#32
  let v349 : BitVec 1 := Scalar.cmpi .slt v347 c0_i32_228
  let c0_i32_229 : BitVec 32 := 0#32
  let v350 : BitVec 1 := Scalar.cmpi .slt v346 c0_i32_229
  let v351 : BitVec 1 := Scalar.xori v349 v350
  let c0_i32_227 : BitVec 32 := 0#32
  let v348 : BitVec 1 := Scalar.cmpi .ne v347 c0_i32_227
  let v352 : BitVec 1 := Scalar.andi v351 v348
  let v353 : BitVec 32 := Scalar.addi v347 v346
  let v354 : BitVec 32 := Scalar.select v352 v353 v347
  let v355 : Index := Scalar.indexCast v354
  let c0_230 : Index := 0#32
  let c256_231 : Index := 256#32
  ![v355.toNat, 0, 256]
def k0_off3 (i : grid0.Coords) : Fin 3 → Nat :=
  let arg0 : BitVec 32 := BitVec.ofNat 32 (i 0).val
  let c2_i32_253 : BitVec 32 := 2#32
  let c0_i32_254 : BitVec 32 := 0#32
  let v401 : BitVec 1 := Scalar.cmpi .eq c2_i32_253 c0_i32_254
  let c1_i32_255 : BitVec 32 := 1#32
  let v402 : BitVec 32 := Scalar.select v401 c1_i32_255 c2_i32_253
  let v403 : BitVec 32 := Scalar.remsi arg0 v402
  let c0_i32_257 : BitVec 32 := 0#32
  let v405 : BitVec 1 := Scalar.cmpi .slt v403 c0_i32_257
  let c0_i32_258 : BitVec 32 := 0#32
  let v406 : BitVec 1 := Scalar.cmpi .slt v402 c0_i32_258
  let v407 : BitVec 1 := Scalar.xori v405 v406
  let c0_i32_256 : BitVec 32 := 0#32
  let v404 : BitVec 1 := Scalar.cmpi .ne v403 c0_i32_256
  let v408 : BitVec 1 := Scalar.andi v407 v404
  let v409 : BitVec 32 := Scalar.addi v403 v402
  let v410 : BitVec 32 := Scalar.select v408 v409 v403
  let v411 : Index := Scalar.indexCast v410
  let c0_259 : Index := 0#32
  let c512_260 : Index := 512#32
  ![v411.toNat, 0, 512]
def k0_off4 (i : grid0.Coords) : Fin 3 → Nat :=
  let arg0 : BitVec 32 := BitVec.ofNat 32 (i 0).val
  let c2_i32_282 : BitVec 32 := 2#32
  let c0_i32_283 : BitVec 32 := 0#32
  let v457 : BitVec 1 := Scalar.cmpi .eq c2_i32_282 c0_i32_283
  let c1_i32_284 : BitVec 32 := 1#32
  let v458 : BitVec 32 := Scalar.select v457 c1_i32_284 c2_i32_282
  let v459 : BitVec 32 := Scalar.remsi arg0 v458
  let c0_i32_286 : BitVec 32 := 0#32
  let v461 : BitVec 1 := Scalar.cmpi .slt v459 c0_i32_286
  let c0_i32_287 : BitVec 32 := 0#32
  let v462 : BitVec 1 := Scalar.cmpi .slt v458 c0_i32_287
  let v463 : BitVec 1 := Scalar.xori v461 v462
  let c0_i32_285 : BitVec 32 := 0#32
  let v460 : BitVec 1 := Scalar.cmpi .ne v459 c0_i32_285
  let v464 : BitVec 1 := Scalar.andi v463 v460
  let v465 : BitVec 32 := Scalar.addi v459 v458
  let v466 : BitVec 32 := Scalar.select v464 v465 v459
  let v467 : Index := Scalar.indexCast v466
  let c0_288 : Index := 0#32
  let c768_289 : Index := 768#32
  ![v467.toNat, 0, 768]
def k0_off5 (i : grid0.Coords) : Fin 3 → Nat :=
  let arg0 : BitVec 32 := BitVec.ofNat 32 (i 0).val
  let c2_i32_290 : BitVec 32 := 2#32
  let c0_i32_291 : BitVec 32 := 0#32
  let v471 : BitVec 1 := Scalar.cmpi .eq c2_i32_290 c0_i32_291
  let c1_i32_292 : BitVec 32 := 1#32
  let v472 : BitVec 32 := Scalar.select v471 c1_i32_292 c2_i32_290
  let v473 : BitVec 32 := Scalar.remsi arg0 v472
  let c0_i32_294 : BitVec 32 := 0#32
  let v475 : BitVec 1 := Scalar.cmpi .slt v473 c0_i32_294
  let c0_i32_295 : BitVec 32 := 0#32
  let v476 : BitVec 1 := Scalar.cmpi .slt v472 c0_i32_295
  let v477 : BitVec 1 := Scalar.xori v475 v476
  let c0_i32_293 : BitVec 32 := 0#32
  let v474 : BitVec 1 := Scalar.cmpi .ne v473 c0_i32_293
  let v478 : BitVec 1 := Scalar.andi v477 v474
  let v479 : BitVec 32 := Scalar.addi v473 v472
  let v480 : BitVec 32 := Scalar.select v478 v479 v473
  let v481 : Index := Scalar.indexCast v480
  let c0_296 : Index := 0#32
  let c0_297 : Index := 0#32
  ![v481.toNat, 0, 0]
def k0_cond3 (i : grid0.Coords) : BitVec 1 :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .ne v8 c0_i32_3
  v9

def k0_off6 (i : grid0.Coords) : Fin 3 → Nat :=
  let arg0 : BitVec 32 := BitVec.ofNat 32 (i 0).val
  let c1_i32 : BitVec 32 := 1#32
  let v108 : BitVec 32 := Scalar.addi arg0 c1_i32
  let c2_i32 : BitVec 32 := 2#32
  let c0_i32_89 : BitVec 32 := 0#32
  let v109 : BitVec 1 := Scalar.cmpi .eq c2_i32 c0_i32_89
  let c1_i32_90 : BitVec 32 := 1#32
  let v110 : BitVec 32 := Scalar.select v109 c1_i32_90 c2_i32
  let v111 : BitVec 32 := Scalar.remsi v108 v110
  let c0_i32_92 : BitVec 32 := 0#32
  let v113 : BitVec 1 := Scalar.cmpi .slt v111 c0_i32_92
  let c0_i32_93 : BitVec 32 := 0#32
  let v114 : BitVec 1 := Scalar.cmpi .slt v110 c0_i32_93
  let v115 : BitVec 1 := Scalar.xori v113 v114
  let c0_i32_91 : BitVec 32 := 0#32
  let v112 : BitVec 1 := Scalar.cmpi .ne v111 c0_i32_91
  let v116 : BitVec 1 := Scalar.andi v115 v112
  let v117 : BitVec 32 := Scalar.addi v111 v110
  let v118 : BitVec 32 := Scalar.select v116 v117 v111
  let v119 : Index := Scalar.indexCast v118
  let c0_94 : Index := 0#32
  let c0_95 : Index := 0#32
  ![v119.toNat, 0, 0]
def k0_off7 (i : grid0.Coords) : Fin 3 → Nat :=
  let arg0 : BitVec 32 := BitVec.ofNat 32 (i 0).val
  let c1_i32_110 : BitVec 32 := 1#32
  let v153 : BitVec 32 := Scalar.addi arg0 c1_i32_110
  let c2_i32_111 : BitVec 32 := 2#32
  let c0_i32_112 : BitVec 32 := 0#32
  let v154 : BitVec 1 := Scalar.cmpi .eq c2_i32_111 c0_i32_112
  let c1_i32_113 : BitVec 32 := 1#32
  let v155 : BitVec 32 := Scalar.select v154 c1_i32_113 c2_i32_111
  let v156 : BitVec 32 := Scalar.remsi v153 v155
  let c0_i32_115 : BitVec 32 := 0#32
  let v158 : BitVec 1 := Scalar.cmpi .slt v156 c0_i32_115
  let c0_i32_116 : BitVec 32 := 0#32
  let v159 : BitVec 1 := Scalar.cmpi .slt v155 c0_i32_116
  let v160 : BitVec 1 := Scalar.xori v158 v159
  let c0_i32_114 : BitVec 32 := 0#32
  let v157 : BitVec 1 := Scalar.cmpi .ne v156 c0_i32_114
  let v161 : BitVec 1 := Scalar.andi v160 v157
  let v162 : BitVec 32 := Scalar.addi v156 v155
  let v163 : BitVec 32 := Scalar.select v161 v162 v156
  let v164 : Index := Scalar.indexCast v163
  let c0_117 : Index := 0#32
  let c256_118 : Index := 256#32
  ![v164.toNat, 0, 256]
def k0_off8 (i : grid0.Coords) : Fin 3 → Nat :=
  let arg0 : BitVec 32 := BitVec.ofNat 32 (i 0).val
  let c1_i32_133 : BitVec 32 := 1#32
  let v198 : BitVec 32 := Scalar.addi arg0 c1_i32_133
  let c2_i32_134 : BitVec 32 := 2#32
  let c0_i32_135 : BitVec 32 := 0#32
  let v199 : BitVec 1 := Scalar.cmpi .eq c2_i32_134 c0_i32_135
  let c1_i32_136 : BitVec 32 := 1#32
  let v200 : BitVec 32 := Scalar.select v199 c1_i32_136 c2_i32_134
  let v201 : BitVec 32 := Scalar.remsi v198 v200
  let c0_i32_138 : BitVec 32 := 0#32
  let v203 : BitVec 1 := Scalar.cmpi .slt v201 c0_i32_138
  let c0_i32_139 : BitVec 32 := 0#32
  let v204 : BitVec 1 := Scalar.cmpi .slt v200 c0_i32_139
  let v205 : BitVec 1 := Scalar.xori v203 v204
  let c0_i32_137 : BitVec 32 := 0#32
  let v202 : BitVec 1 := Scalar.cmpi .ne v201 c0_i32_137
  let v206 : BitVec 1 := Scalar.andi v205 v202
  let v207 : BitVec 32 := Scalar.addi v201 v200
  let v208 : BitVec 32 := Scalar.select v206 v207 v201
  let v209 : Index := Scalar.indexCast v208
  let c0_140 : Index := 0#32
  let c512_141 : Index := 512#32
  ![v209.toNat, 0, 512]
def k0_off9 (i : grid0.Coords) : Fin 3 → Nat :=
  let arg0 : BitVec 32 := BitVec.ofNat 32 (i 0).val
  let c1_i32_156 : BitVec 32 := 1#32
  let v243 : BitVec 32 := Scalar.addi arg0 c1_i32_156
  let c2_i32_157 : BitVec 32 := 2#32
  let c0_i32_158 : BitVec 32 := 0#32
  let v244 : BitVec 1 := Scalar.cmpi .eq c2_i32_157 c0_i32_158
  let c1_i32_159 : BitVec 32 := 1#32
  let v245 : BitVec 32 := Scalar.select v244 c1_i32_159 c2_i32_157
  let v246 : BitVec 32 := Scalar.remsi v243 v245
  let c0_i32_161 : BitVec 32 := 0#32
  let v248 : BitVec 1 := Scalar.cmpi .slt v246 c0_i32_161
  let c0_i32_162 : BitVec 32 := 0#32
  let v249 : BitVec 1 := Scalar.cmpi .slt v245 c0_i32_162
  let v250 : BitVec 1 := Scalar.xori v248 v249
  let c0_i32_160 : BitVec 32 := 0#32
  let v247 : BitVec 1 := Scalar.cmpi .ne v246 c0_i32_160
  let v251 : BitVec 1 := Scalar.andi v250 v247
  let v252 : BitVec 32 := Scalar.addi v246 v245
  let v253 : BitVec 32 := Scalar.select v251 v252 v246
  let v254 : Index := Scalar.indexCast v253
  let c0_163 : Index := 0#32
  let c768_164 : Index := 768#32
  ![v254.toNat, 0, 768]
def cc0_transform_0 (i : grid0.Coords) : Fin 4 → Nat :=
  let arg0 : BitVec 32 := BitVec.ofNat 32 (i 0).val
  let c55_i32 : BitVec 32 := 55#32
  let v0 : BitVec 32 := Scalar.minsi arg0 c55_i32
  let c14_i32 : BitVec 32 := 14#32
  let c0_i32 : BitVec 32 := 0#32
  let v1 : BitVec 1 := Scalar.cmpi .eq c14_i32 c0_i32
  let c1_i32 : BitVec 32 := 1#32
  let v2 : BitVec 32 := Scalar.select v1 c1_i32 c14_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c14_i32_3 : BitVec 32 := 14#32
  let v11 : BitVec 32 := Scalar.divsi v0 c14_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c14_i32_3 c0_i32_6
  let v18 : BitVec 32 := Scalar.extui v17
  let c0_i32_7 : BitVec 32 := 0#32
  let v19 : BitVec 1 := Scalar.cmpi .slt c14_i32_3 c0_i32_7
  let v20 : BitVec 32 := Scalar.extui v19
  let v21 : BitVec 32 := Scalar.subi v18 v20
  let v22 : BitVec 1 := Scalar.cmpi .ne v16 v21
  let v23 : BitVec 32 := Scalar.remsi v0 c14_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  let c0_i32_12 : BitVec 32 := 0#32
  ![v10.toNat, c0_i32_10.toNat, v27.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c14_i32 : BitVec 32 := 14#32
  let c0_i32_0 : BitVec 32 := 0#32
  let v2 : BitVec 1 := Scalar.cmpi .eq c14_i32 c0_i32_0
  let c1_i32_1 : BitVec 32 := 1#32
  let v3 : BitVec 32 := Scalar.select v2 c1_i32_1 c14_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c14_i32_5 : BitVec 32 := 14#32
  let v12 : BitVec 32 := Scalar.divsi v1 c14_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c14_i32_5 c0_i32_8
  let v19 : BitVec 32 := Scalar.extui v18
  let c0_i32_9 : BitVec 32 := 0#32
  let v20 : BitVec 1 := Scalar.cmpi .slt c14_i32_5 c0_i32_9
  let v21 : BitVec 32 := Scalar.extui v20
  let v22 : BitVec 32 := Scalar.subi v19 v21
  let v23 : BitVec 1 := Scalar.cmpi .ne v17 v22
  let v24 : BitVec 32 := Scalar.remsi v1 c14_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  let c0_i32_14 : BitVec 32 := 0#32
  ![v11.toNat, c0_i32_12.toNat, v28.toNat, c0_i32_13.toNat]

def cc0_transform_24 (i : grid0.Coords) : Fin 4 → Nat :=
  let arg0 : BitVec 32 := BitVec.ofNat 32 (i 0).val
  let c55_i32 : BitVec 32 := 55#32
  let v0 : BitVec 32 := Scalar.minsi arg0 c55_i32
  let c14_i32 : BitVec 32 := 14#32
  let c0_i32 : BitVec 32 := 0#32
  let v1 : BitVec 1 := Scalar.cmpi .eq c14_i32 c0_i32
  let c1_i32 : BitVec 32 := 1#32
  let v2 : BitVec 32 := Scalar.select v1 c1_i32 c14_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c14_i32_3 : BitVec 32 := 14#32
  let v11 : BitVec 32 := Scalar.divsi v0 c14_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c14_i32_3 c0_i32_6
  let v18 : BitVec 32 := Scalar.extui v17
  let c0_i32_7 : BitVec 32 := 0#32
  let v19 : BitVec 1 := Scalar.cmpi .slt c14_i32_3 c0_i32_7
  let v20 : BitVec 32 := Scalar.extui v19
  let v21 : BitVec 32 := Scalar.subi v18 v20
  let v22 : BitVec 1 := Scalar.cmpi .ne v16 v21
  let v23 : BitVec 32 := Scalar.remsi v0 c14_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  let c0_i32_12 : BitVec 32 := 0#32
  ![v10.toNat, c0_i32_10.toNat, v27.toNat, c0_i32_11.toNat]

def cc0_transform_25 (i : grid0.Coords) : Fin 4 → Nat :=
  let arg0 : BitVec 32 := BitVec.ofNat 32 (i 0).val
  let c55_i32 : BitVec 32 := 55#32
  let v0 : BitVec 32 := Scalar.minsi arg0 c55_i32
  let c14_i32 : BitVec 32 := 14#32
  let c0_i32 : BitVec 32 := 0#32
  let v1 : BitVec 1 := Scalar.cmpi .eq c14_i32 c0_i32
  let c1_i32 : BitVec 32 := 1#32
  let v2 : BitVec 32 := Scalar.select v1 c1_i32 c14_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c14_i32_3 : BitVec 32 := 14#32
  let v11 : BitVec 32 := Scalar.divsi v0 c14_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c14_i32_3 c0_i32_6
  let v18 : BitVec 32 := Scalar.extui v17
  let c0_i32_7 : BitVec 32 := 0#32
  let v19 : BitVec 1 := Scalar.cmpi .slt c14_i32_3 c0_i32_7
  let v20 : BitVec 32 := Scalar.extui v19
  let v21 : BitVec 32 := Scalar.subi v18 v20
  let v22 : BitVec 1 := Scalar.cmpi .ne v16 v21
  let v23 : BitVec 32 := Scalar.remsi v0 c14_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  let c0_i32_12 : BitVec 32 := 0#32
  ![v10.toNat, c0_i32_10.toNat, v27.toNat, c0_i32_11.toNat]

def cc0_transform_26 (i : grid0.Coords) : Fin 4 → Nat :=
  let arg0 : BitVec 32 := BitVec.ofNat 32 (i 0).val
  let c55_i32 : BitVec 32 := 55#32
  let v0 : BitVec 32 := Scalar.minsi arg0 c55_i32
  let c14_i32 : BitVec 32 := 14#32
  let c0_i32 : BitVec 32 := 0#32
  let v1 : BitVec 1 := Scalar.cmpi .eq c14_i32 c0_i32
  let c1_i32 : BitVec 32 := 1#32
  let v2 : BitVec 32 := Scalar.select v1 c1_i32 c14_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c14_i32_3 : BitVec 32 := 14#32
  let v11 : BitVec 32 := Scalar.divsi v0 c14_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c14_i32_3 c0_i32_6
  let v18 : BitVec 32 := Scalar.extui v17
  let c0_i32_7 : BitVec 32 := 0#32
  let v19 : BitVec 1 := Scalar.cmpi .slt c14_i32_3 c0_i32_7
  let v20 : BitVec 32 := Scalar.extui v19
  let v21 : BitVec 32 := Scalar.subi v18 v20
  let v22 : BitVec 1 := Scalar.cmpi .ne v16 v21
  let v23 : BitVec 32 := Scalar.remsi v0 c14_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  let c0_i32_12 : BitVec 32 := 0#32
  ![v10.toNat, c0_i32_10.toNat, v27.toNat, c0_i32_11.toNat]

def cc0_transform_27 (i : grid0.Coords) : Fin 4 → Nat :=
  let arg0 : BitVec 32 := BitVec.ofNat 32 (i 0).val
  let c55_i32 : BitVec 32 := 55#32
  let v0 : BitVec 32 := Scalar.minsi arg0 c55_i32
  let c14_i32 : BitVec 32 := 14#32
  let c0_i32 : BitVec 32 := 0#32
  let v1 : BitVec 1 := Scalar.cmpi .eq c14_i32 c0_i32
  let c1_i32 : BitVec 32 := 1#32
  let v2 : BitVec 32 := Scalar.select v1 c1_i32 c14_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c14_i32_3 : BitVec 32 := 14#32
  let v11 : BitVec 32 := Scalar.divsi v0 c14_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c14_i32_3 c0_i32_6
  let v18 : BitVec 32 := Scalar.extui v17
  let c0_i32_7 : BitVec 32 := 0#32
  let v19 : BitVec 1 := Scalar.cmpi .slt c14_i32_3 c0_i32_7
  let v20 : BitVec 32 := Scalar.extui v19
  let v21 : BitVec 32 := Scalar.subi v18 v20
  let v22 : BitVec 1 := Scalar.cmpi .ne v16 v21
  let v23 : BitVec 32 := Scalar.remsi v0 c14_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  let c0_i32_12 : BitVec 32 := 0#32
  ![v10.toNat, c0_i32_10.toNat, v27.toNat, c0_i32_11.toNat]

def cc0_transform_28 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c14_i32 : BitVec 32 := 14#32
  let c0_i32_0 : BitVec 32 := 0#32
  let v2 : BitVec 1 := Scalar.cmpi .eq c14_i32 c0_i32_0
  let c1_i32_1 : BitVec 32 := 1#32
  let v3 : BitVec 32 := Scalar.select v2 c1_i32_1 c14_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c14_i32_5 : BitVec 32 := 14#32
  let v12 : BitVec 32 := Scalar.divsi v1 c14_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c14_i32_5 c0_i32_8
  let v19 : BitVec 32 := Scalar.extui v18
  let c0_i32_9 : BitVec 32 := 0#32
  let v20 : BitVec 1 := Scalar.cmpi .slt c14_i32_5 c0_i32_9
  let v21 : BitVec 32 := Scalar.extui v20
  let v22 : BitVec 32 := Scalar.subi v19 v21
  let v23 : BitVec 1 := Scalar.cmpi .ne v17 v22
  let v24 : BitVec 32 := Scalar.remsi v1 c14_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  let c0_i32_14 : BitVec 32 := 0#32
  ![v11.toNat, c0_i32_12.toNat, v28.toNat, c0_i32_13.toNat]

abbrev stage0_0 : Fin 2 → Memref sig .tc .vmem S2x36x32x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2304x256 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .smem S1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x18x32x1024 .i8 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x18x32x1024 .i8 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2x36x32x256 .i8 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x18x32x256 .i8 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x18x32x256 .i8 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x18x32x256 .i8 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== ReferenceIdeal.lean ====
abbrev S128x28x36x512 : Shape := ⟨4, ![128, 28, 36, 512]⟩
abbrev S512x256 : Shape := ⟨2, ![512, 256]⟩
abbrev S256 : Shape := ⟨1, ![256]⟩
abbrev S3x3x256x256 : Shape := ⟨4, ![3, 3, 256, 256]⟩
abbrev S256x1024 : Shape := ⟨2, ![256, 1024]⟩
abbrev S1024 : Shape := ⟨1, ![1024]⟩
abbrev S512x1024 : Shape := ⟨2, ![512, 1024]⟩
abbrev S1024x256 : Shape := ⟨2, ![1024, 256]⟩
abbrev S1 : Shape := ⟨1, ![1]⟩
abbrev S128x28x36x256 : Shape := ⟨4, ![128, 28, 36, 256]⟩
abbrev S1x1x1x256 : Shape := ⟨4, ![1, 1, 1, 256]⟩
abbrev S_ : Shape := ⟨0, ![]⟩
abbrev S128x30x38x256 : Shape := ⟨4, ![128, 30, 38, 256]⟩
abbrev S128x14x18x256 : Shape := ⟨4, ![128, 14, 18, 256]⟩
abbrev S1x1x256x256 : Shape := ⟨4, ![1, 1, 256, 256]⟩
abbrev S256x256 : Shape := ⟨2, ![256, 256]⟩
abbrev S128x14x18x1024 : Shape := ⟨4, ![128, 14, 18, 1024]⟩
abbrev S1x1x1x1024 : Shape := ⟨4, ![1, 1, 1, 1024]⟩
abbrev S128x14x18x512 : Shape := ⟨4, ![128, 14, 18, 512]⟩
abbrev S128x16x20x256 : Shape := ⟨4, ![128, 16, 20, 256]⟩
abbrev S14x18x128x1024 : Shape := ⟨4, ![14, 18, 128, 1024]⟩
abbrev S28x36x128x256 : Shape := ⟨4, ![28, 36, 128, 256]⟩
abbrev S14x18x128x256 : Shape := ⟨4, ![14, 18, 128, 256]⟩

abbrev nBuf : Space → Nat
  | .hbm => 361
  | .vmem => 0
  | .smem => 0
  | _ => 0

abbrev hbmTy0_0 (i : Nat) : BufTy := match i % 128 with
  | 0 => ⟨S128x28x36x512, .i8⟩
  | 1 => ⟨S512x256, .i8⟩
  | 2 => ⟨S256, .i32⟩
  | 3 => ⟨S256, .f32⟩
  | 4 => ⟨S3x3x256x256, .i8⟩
  | 5 => ⟨S256, .i32⟩
  | 6 => ⟨S256, .f32⟩
  | 7 => ⟨S256x1024, .i8⟩
  | 8 => ⟨S1024, .i32⟩
  | 9 => ⟨S1024, .f32⟩
  | 10 => ⟨S512x1024, .i8⟩
  | 11 => ⟨S1024, .i32⟩
  | 12 => ⟨S1024, .f32⟩
  | 13 => ⟨S1024x256, .i8⟩
  | 14 => ⟨S256, .i32⟩
  | 15 => ⟨S256, .f32⟩
  | 16 => ⟨S3x3x256x256, .i8⟩
  | 17 => ⟨S256, .i32⟩
  | 18 => ⟨S256, .f32⟩
  | 19 => ⟨S256x1024, .i8⟩
  | 20 => ⟨S1024, .i32⟩
  | 21 => ⟨S1024, .f32⟩
  | 22 => ⟨S1, .f32⟩
  | 23 => ⟨S128x28x36x512, .i32⟩
  | 24 => ⟨S128x28x36x512, .f32⟩
  | 25 => ⟨S128x28x36x512, .bf16⟩
  | 26 => ⟨S512x256, .i32⟩
  | 27 => ⟨S512x256, .f32⟩
  | 28 => ⟨S512x256, .bf16⟩
  | 29 => ⟨S128x28x36x256, .f32⟩
  | 30 => ⟨S128x28x36x256, .f32⟩
  | 31 => ⟨S128x28x36x256, .i32⟩
  | 32 => ⟨S1x1x1x256, .i32⟩
  | 33 => ⟨S128x28x36x256, .i32⟩
  | 34 => ⟨S128x28x36x256, .i32⟩
  | 35 => ⟨S128x28x36x256, .f32⟩
  | 36 => ⟨S1x1x1x256, .f32⟩
  | 37 => ⟨S128x28x36x256, .f32⟩
  | 38 => ⟨S128x28x36x256, .f32⟩
  | 39 => ⟨S128x28x36x256, .f32⟩
  | 40 => ⟨S_, .i32⟩
  | 41 => ⟨S_, .i32⟩
  | 42 => ⟨S_, .f32⟩
  | 43 => ⟨S128x28x36x256, .f32⟩
  | 44 => ⟨S128x28x36x256, .f32⟩
  | 45 => ⟨S_, .f32⟩
  | 46 => ⟨S128x28x36x256, .f32⟩
  | 47 => ⟨S128x28x36x256, .f32⟩
  | 48 => ⟨S128x28x36x256, .i32⟩
  | 49 => ⟨S128x28x36x256, .i8⟩
  | 50 => ⟨S128x28x36x256, .i32⟩
  | 51 => ⟨S128x28x36x256, .f32⟩
  | 52 => ⟨S128x28x36x256, .bf16⟩
  | 53 => ⟨S_, .i32⟩
  | 54 => ⟨S_, .bf16⟩
  | 55 => ⟨S128x30x38x256, .bf16⟩
  | 56 => ⟨S128x14x18x256, .bf16⟩
  | 57 => ⟨S1x1x256x256, .i8⟩
  | 58 => ⟨S256x256, .i8⟩
  | 59 => ⟨S256x256, .i32⟩
  | 60 => ⟨S256x256, .f32⟩
  | 61 => ⟨S256x256, .bf16⟩
  | 62 => ⟨S128x14x18x256, .f32⟩
  | 63 => ⟨S_, .f32⟩
  | 64 => ⟨S128x14x18x256, .f32⟩
  | 65 => ⟨S128x14x18x256, .f32⟩
  | 66 => ⟨S128x14x18x256, .bf16⟩
  | 67 => ⟨S1x1x256x256, .i8⟩
  | 68 => ⟨S256x256, .i8⟩
  | 69 => ⟨S256x256, .i32⟩
  | 70 => ⟨S256x256, .f32⟩
  | 71 => ⟨S256x256, .bf16⟩
  | 72 => ⟨S128x14x18x256, .f32⟩
  | 73 => ⟨S128x14x18x256, .f32⟩
  | 74 => ⟨S128x14x18x256, .bf16⟩
  | 75 => ⟨S1x1x256x256, .i8⟩
  | 76 => ⟨S256x256, .i8⟩
  | 77 => ⟨S256x256, .i32⟩
  | 78 => ⟨S256x256, .f32⟩
  | 79 => ⟨S256x256, .bf16⟩
  | 80 => ⟨S128x14x18x256, .f32⟩
  | 81 => ⟨S128x14x18x256, .f32⟩
  | 82 => ⟨S128x14x18x256, .bf16⟩
  | 83 => ⟨S1x1x256x256, .i8⟩
  | 84 => ⟨S256x256, .i8⟩
  | 85 => ⟨S256x256, .i32⟩
  | 86 => ⟨S256x256, .f32⟩
  | 87 => ⟨S256x256, .bf16⟩
  | 88 => ⟨S128x14x18x256, .f32⟩
  | 89 => ⟨S128x14x18x256, .f32⟩
  | 90 => ⟨S128x14x18x256, .bf16⟩
  | 91 => ⟨S1x1x256x256, .i8⟩
  | 92 => ⟨S256x256, .i8⟩
  | 93 => ⟨S256x256, .i32⟩
  | 94 => ⟨S256x256, .f32⟩
  | 95 => ⟨S256x256, .bf16⟩
  | 96 => ⟨S128x14x18x256, .f32⟩
  | 97 => ⟨S128x14x18x256, .f32⟩
  | 98 => ⟨S128x14x18x256, .bf16⟩
  | 99 => ⟨S1x1x256x256, .i8⟩
  | 100 => ⟨S256x256, .i8⟩
  | 101 => ⟨S256x256, .i32⟩
  | 102 => ⟨S256x256, .f32⟩
  | 103 => ⟨S256x256, .bf16⟩
  | 104 => ⟨S128x14x18x256, .f32⟩
  | 105 => ⟨S128x14x18x256, .f32⟩
  | 106 => ⟨S128x14x18x256, .bf16⟩
  | 107 => ⟨S1x1x256x256, .i8⟩
  | 108 => ⟨S256x256, .i8⟩
  | 109 => ⟨S256x256, .i32⟩
  | 110 => ⟨S256x256, .f32⟩
  | 111 => ⟨S256x256, .bf16⟩
  | 112 => ⟨S128x14x18x256, .f32⟩
  | 113 => ⟨S128x14x18x256, .f32⟩
  | 114 => ⟨S128x14x18x256, .bf16⟩
  | 115 => ⟨S1x1x256x256, .i8⟩
  | 116 => ⟨S256x256, .i8⟩
  | 117 => ⟨S256x256, .i32⟩
  | 118 => ⟨S256x256, .f32⟩
  | 119 => ⟨S256x256, .bf16⟩
  | 120 => ⟨S128x14x18x256, .f32⟩
  | 121 => ⟨S128x14x18x256, .f32⟩
  | 122 => ⟨S128x14x18x256, .bf16⟩
  | 123 => ⟨S1x1x256x256, .i8⟩
  | 124 => ⟨S256x256, .i8⟩
  | 125 => ⟨S256x256, .i32⟩
  | 126 => ⟨S256x256, .f32⟩
  | 127 => ⟨S256x256, .bf16⟩
  | _ => ⟨S128x28x36x512, .i8⟩

abbrev hbmTy0_1 (i : Nat) : BufTy := match i % 128 with
  | 0 => ⟨S128x14x18x256, .f32⟩
  | 1 => ⟨S128x14x18x256, .f32⟩
  | 2 => ⟨S128x14x18x256, .f32⟩
  | 3 => ⟨S128x14x18x256, .i32⟩
  | 4 => ⟨S1x1x1x256, .i32⟩
  | 5 => ⟨S128x14x18x256, .i32⟩
  | 6 => ⟨S128x14x18x256, .i32⟩
  | 7 => ⟨S128x14x18x256, .f32⟩
  | 8 => ⟨S1x1x1x256, .f32⟩
  | 9 => ⟨S128x14x18x256, .f32⟩
  | 10 => ⟨S128x14x18x256, .f32⟩
  | 11 => ⟨S128x14x18x256, .f32⟩
  | 12 => ⟨S_, .i32⟩
  | 13 => ⟨S_, .i32⟩
  | 14 => ⟨S_, .f32⟩
  | 15 => ⟨S128x14x18x256, .f32⟩
  | 16 => ⟨S128x14x18x256, .f32⟩
  | 17 => ⟨S_, .f32⟩
  | 18 => ⟨S128x14x18x256, .f32⟩
  | 19 => ⟨S128x14x18x256, .f32⟩
  | 20 => ⟨S128x14x18x256, .i32⟩
  | 21 => ⟨S128x14x18x256, .i8⟩
  | 22 => ⟨S128x14x18x256, .i32⟩
  | 23 => ⟨S128x14x18x256, .f32⟩
  | 24 => ⟨S128x14x18x256, .bf16⟩
  | 25 => ⟨S256x1024, .i32⟩
  | 26 => ⟨S256x1024, .f32⟩
  | 27 => ⟨S256x1024, .bf16⟩
  | 28 => ⟨S128x14x18x1024, .f32⟩
  | 29 => ⟨S128x14x18x1024, .f32⟩
  | 30 => ⟨S128x14x18x1024, .i32⟩
  | 31 => ⟨S1x1x1x1024, .i32⟩
  | 32 => ⟨S128x14x18x1024, .i32⟩
  | 33 => ⟨S128x14x18x1024, .i32⟩
  | 34 => ⟨S128x14x18x512, .i8⟩
  | 35 => ⟨S128x14x18x512, .i32⟩
  | 36 => ⟨S128x14x18x512, .f32⟩
  | 37 => ⟨S128x14x18x512, .bf16⟩
  | 38 => ⟨S512x1024, .i32⟩
  | 39 => ⟨S512x1024, .f32⟩
  | 40 => ⟨S512x1024, .bf16⟩
  | 41 => ⟨S128x14x18x1024, .f32⟩
  | 42 => ⟨S128x14x18x1024, .f32⟩
  | 43 => ⟨S128x14x18x1024, .i32⟩
  | 44 => ⟨S1x1x1x1024, .i32⟩
  | 45 => ⟨S128x14x18x1024, .i32⟩
  | 46 => ⟨S128x14x18x1024, .i32⟩
  | 47 => ⟨S128x14x18x1024, .f32⟩
  | 48 => ⟨S1x1x1x1024, .f32⟩
  | 49 => ⟨S128x14x18x1024, .f32⟩
  | 50 => ⟨S128x14x18x1024, .f32⟩
  | 51 => ⟨S128x14x18x1024, .f32⟩
  | 52 => ⟨S1x1x1x1024, .f32⟩
  | 53 => ⟨S128x14x18x1024, .f32⟩
  | 54 => ⟨S128x14x18x1024, .f32⟩
  | 55 => ⟨S128x14x18x1024, .f32⟩
  | 56 => ⟨S128x14x18x1024, .f32⟩
  | 57 => ⟨S_, .i32⟩
  | 58 => ⟨S_, .i32⟩
  | 59 => ⟨S_, .f32⟩
  | 60 => ⟨S128x14x18x1024, .f32⟩
  | 61 => ⟨S128x14x18x1024, .f32⟩
  | 62 => ⟨S_, .f32⟩
  | 63 => ⟨S128x14x18x1024, .f32⟩
  | 64 => ⟨S128x14x18x1024, .f32⟩
  | 65 => ⟨S128x14x18x1024, .i32⟩
  | 66 => ⟨S128x14x18x1024, .i8⟩
  | 67 => ⟨S128x14x18x1024, .i32⟩
  | 68 => ⟨S128x14x18x1024, .f32⟩
  | 69 => ⟨S128x14x18x1024, .bf16⟩
  | 70 => ⟨S1024x256, .i32⟩
  | 71 => ⟨S1024x256, .f32⟩
  | 72 => ⟨S1024x256, .bf16⟩
  | 73 => ⟨S128x14x18x256, .f32⟩
  | 74 => ⟨S128x14x18x256, .f32⟩
  | 75 => ⟨S128x14x18x256, .i32⟩
  | 76 => ⟨S1x1x1x256, .i32⟩
  | 77 => ⟨S128x14x18x256, .i32⟩
  | 78 => ⟨S128x14x18x256, .i32⟩
  | 79 => ⟨S128x14x18x256, .f32⟩
  | 80 => ⟨S1x1x1x256, .f32⟩
  | 81 => ⟨S128x14x18x256, .f32⟩
  | 82 => ⟨S128x14x18x256, .f32⟩
  | 83 => ⟨S128x14x18x256, .f32⟩
  | 84 => ⟨S_, .i32⟩
  | 85 => ⟨S_, .i32⟩
  | 86 => ⟨S_, .f32⟩
  | 87 => ⟨S128x14x18x256, .f32⟩
  | 88 => ⟨S128x14x18x256, .f32⟩
  | 89 => ⟨S_, .f32⟩
  | 90 => ⟨S128x14x18x256, .f32⟩
  | 91 => ⟨S128x14x18x256, .f32⟩
  | 92 => ⟨S128x14x18x256, .i32⟩
  | 93 => ⟨S128x14x18x256, .i8⟩
  | 94 => ⟨S128x14x18x256, .i32⟩
  | 95 => ⟨S128x14x18x256, .f32⟩
  | 96 => ⟨S128x14x18x256, .bf16⟩
  | 97 => ⟨S_, .i32⟩
  | 98 => ⟨S_, .bf16⟩
  | 99 => ⟨S128x16x20x256, .bf16⟩
  | 100 => ⟨S128x14x18x256, .bf16⟩
  | 101 => ⟨S1x1x256x256, .i8⟩
  | 102 => ⟨S256x256, .i8⟩
  | 103 => ⟨S256x256, .i32⟩
  | 104 => ⟨S256x256, .f32⟩
  | 105 => ⟨S256x256, .bf16⟩
  | 106 => ⟨S128x14x18x256, .f32⟩
  | 107 => ⟨S_, .f32⟩
  | 108 => ⟨S128x14x18x256, .f32⟩
  | 109 => ⟨S128x14x18x256, .f32⟩
  | 110 => ⟨S128x14x18x256, .bf16⟩
  | 111 => ⟨S1x1x256x256, .i8⟩
  | 112 => ⟨S256x256, .i8⟩
  | 113 => ⟨S256x256, .i32⟩
  | 114 => ⟨S256x256, .f32⟩
  | 115 => ⟨S256x256, .bf16⟩
  | 116 => ⟨S128x14x18x256, .f32⟩
  | 117 => ⟨S128x14x18x256, .f32⟩
  | 118 => ⟨S128x14x18x256, .bf16⟩
  | 119 => ⟨S1x1x256x256, .i8⟩
  | 120 => ⟨S256x256, .i8⟩
  | 121 => ⟨S256x256, .i32⟩
  | 122 => ⟨S256x256, .f32⟩
  | 123 => ⟨S256x256, .bf16⟩
  | 124 => ⟨S128x14x18x256, .f32⟩
  | 125 => ⟨S128x14x18x256, .f32⟩
  | 126 => ⟨S128x14x18x256, .bf16⟩
  | 127 => ⟨S1x1x256x256, .i8⟩
  | _ => ⟨S128x28x36x512, .i8⟩

abbrev hbmTy0_2 (i : Nat) : BufTy := match i % 128 with
  | 0 => ⟨S256x256, .i8⟩
  | 1 => ⟨S256x256, .i32⟩
  | 2 => ⟨S256x256, .f32⟩
  | 3 => ⟨S256x256, .bf16⟩
  | 4 => ⟨S128x14x18x256, .f32⟩
  | 5 => ⟨S128x14x18x256, .f32⟩
  | 6 => ⟨S128x14x18x256, .bf16⟩
  | 7 => ⟨S1x1x256x256, .i8⟩
  | 8 => ⟨S256x256, .i8⟩
  | 9 => ⟨S256x256, .i32⟩
  | 10 => ⟨S256x256, .f32⟩
  | 11 => ⟨S256x256, .bf16⟩
  | 12 => ⟨S128x14x18x256, .f32⟩
  | 13 => ⟨S128x14x18x256, .f32⟩
  | 14 => ⟨S128x14x18x256, .bf16⟩
  | 15 => ⟨S1x1x256x256, .i8⟩
  | 16 => ⟨S256x256, .i8⟩
  | 17 => ⟨S256x256, .i32⟩
  | 18 => ⟨S256x256, .f32⟩
  | 19 => ⟨S256x256, .bf16⟩
  | 20 => ⟨S128x14x18x256, .f32⟩
  | 21 => ⟨S128x14x18x256, .f32⟩
  | 22 => ⟨S128x14x18x256, .bf16⟩
  | 23 => ⟨S1x1x256x256, .i8⟩
  | 24 => ⟨S256x256, .i8⟩
  | 25 => ⟨S256x256, .i32⟩
  | 26 => ⟨S256x256, .f32⟩
  | 27 => ⟨S256x256, .bf16⟩
  | 28 => ⟨S128x14x18x256, .f32⟩
  | 29 => ⟨S128x14x18x256, .f32⟩
  | 30 => ⟨S128x14x18x256, .bf16⟩
  | 31 => ⟨S1x1x256x256, .i8⟩
  | 32 => ⟨S256x256, .i8⟩
  | 33 => ⟨S256x256, .i32⟩
  | 34 => ⟨S256x256, .f32⟩
  | 35 => ⟨S256x256, .bf16⟩
  | 36 => ⟨S128x14x18x256, .f32⟩
  | 37 => ⟨S128x14x18x256, .f32⟩
  | 38 => ⟨S128x14x18x256, .bf16⟩
  | 39 => ⟨S1x1x256x256, .i8⟩
  | 40 => ⟨S256x256, .i8⟩
  | 41 => ⟨S256x256, .i32⟩
  | 42 => ⟨S256x256, .f32⟩
  | 43 => ⟨S256x256, .bf16⟩
  | 44 => ⟨S128x14x18x256, .f32⟩
  | 45 => ⟨S128x14x18x256, .f32⟩
  | 46 => ⟨S128x14x18x256, .f32⟩
  | 47 => ⟨S128x14x18x256, .i32⟩
  | 48 => ⟨S1x1x1x256, .i32⟩
  | 49 => ⟨S128x14x18x256, .i32⟩
  | 50 => ⟨S128x14x18x256, .i32⟩
  | 51 => ⟨S128x14x18x256, .f32⟩
  | 52 => ⟨S1x1x1x256, .f32⟩
  | 53 => ⟨S128x14x18x256, .f32⟩
  | 54 => ⟨S128x14x18x256, .f32⟩
  | 55 => ⟨S128x14x18x256, .f32⟩
  | 56 => ⟨S_, .i32⟩
  | 57 => ⟨S_, .i32⟩
  | 58 => ⟨S_, .f32⟩
  | 59 => ⟨S128x14x18x256, .f32⟩
  | 60 => ⟨S128x14x18x256, .f32⟩
  | 61 => ⟨S_, .f32⟩
  | 62 => ⟨S128x14x18x256, .f32⟩
  | 63 => ⟨S128x14x18x256, .f32⟩
  | 64 => ⟨S128x14x18x256, .i32⟩
  | 65 => ⟨S128x14x18x256, .i8⟩
  | 66 => ⟨S128x14x18x256, .i32⟩
  | 67 => ⟨S128x14x18x256, .f32⟩
  | 68 => ⟨S128x14x18x256, .bf16⟩
  | 69 => ⟨S256x1024, .i32⟩
  | 70 => ⟨S256x1024, .f32⟩
  | 71 => ⟨S256x1024, .bf16⟩
  | 72 => ⟨S128x14x18x1024, .f32⟩
  | 73 => ⟨S128x14x18x1024, .f32⟩
  | 74 => ⟨S128x14x18x1024, .i32⟩
  | 75 => ⟨S1x1x1x1024, .i32⟩
  | 76 => ⟨S128x14x18x1024, .i32⟩
  | 77 => ⟨S128x14x18x1024, .i32⟩
  | 78 => ⟨S128x14x18x1024, .f32⟩
  | 79 => ⟨S1x1x1x1024, .f32⟩
  | 80 => ⟨S128x14x18x1024, .f32⟩
  | 81 => ⟨S128x14x18x1024, .f32⟩
  | 82 => ⟨S128x14x18x1024, .i32⟩
  | 83 => ⟨S128x14x18x1024, .f32⟩
  | 84 => ⟨S_, .f32⟩
  | 85 => ⟨S128x14x18x1024, .f32⟩
  | 86 => ⟨S128x14x18x1024, .f32⟩
  | 87 => ⟨S128x14x18x1024, .f32⟩
  | 88 => ⟨S128x14x18x1024, .f32⟩
  | 89 => ⟨S_, .i32⟩
  | 90 => ⟨S_, .i32⟩
  | 91 => ⟨S_, .f32⟩
  | 92 => ⟨S128x14x18x1024, .f32⟩
  | 93 => ⟨S128x14x18x1024, .f32⟩
  | 94 => ⟨S_, .f32⟩
  | 95 => ⟨S128x14x18x1024, .f32⟩
  | 96 => ⟨S128x14x18x1024, .f32⟩
  | 97 => ⟨S128x14x18x1024, .i32⟩
  | 98 => ⟨S128x14x18x1024, .i8⟩
  | 99 => ⟨S14x18x128x1024, .i8⟩
  | 100 => ⟨S14x18x128x1024, .i8⟩
  | 101 => ⟨S28x36x128x256, .i8⟩
  | 102 => ⟨S14x18x128x256, .i8⟩
  | 103 => ⟨S14x18x128x256, .i8⟩
  | 104 => ⟨S14x18x128x256, .i8⟩
  | _ => ⟨S128x28x36x512, .i8⟩

abbrev hbmTy (i : Nat) : BufTy := match i / 128 with
  | 0 => hbmTy0_0 i
  | 1 => hbmTy0_1 i
  | 2 => hbmTy0_2 i
  | _ => ⟨S128x28x36x512, .i8⟩

abbrev bufTy : (tb : Table) → Fin (tcTables nBuf tb) → BufTy
  | .hbm, ⟨i, _⟩ => hbmTy i
  | _, _ => ⟨S128x28x36x512, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_c_0 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_1 : Ref sig .tc := ⟨.hbm, 53, rfl⟩
abbrev main_call3_v0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_2 : Ref sig .tc := ⟨.hbm, 140, rfl⟩
abbrev main_c_3 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_call6_v3 : Ref sig .tc := ⟨.hbm, 145, rfl⟩
abbrev main_call6_v4 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_c_4 : Ref sig .tc := ⟨.hbm, 185, rfl⟩
abbrev main_c_5 : Ref sig .tc := ⟨.hbm, 186, rfl⟩
abbrev main_call10_v0 : Ref sig .tc := ⟨.hbm, 187, rfl⟩
abbrev main_call10_v1 : Ref sig .tc := ⟨.hbm, 188, rfl⟩
abbrev main_call10_v2 : Ref sig .tc := ⟨.hbm, 189, rfl⟩
abbrev main_call10_v3 : Ref sig .tc := ⟨.hbm, 190, rfl⟩
abbrev main_call10_v4 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_c_6 : Ref sig .tc := ⟨.hbm, 212, rfl⟩
abbrev main_c_7 : Ref sig .tc := ⟨.hbm, 213, rfl⟩
abbrev main_call13_v0 : Ref sig .tc := ⟨.hbm, 214, rfl⟩
abbrev main_call13_v1 : Ref sig .tc := ⟨.hbm, 215, rfl⟩
abbrev main_call13_v2 : Ref sig .tc := ⟨.hbm, 216, rfl⟩
abbrev main_call13_v3 : Ref sig .tc := ⟨.hbm, 217, rfl⟩
abbrev main_call13_v4 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_c_8 : Ref sig .tc := ⟨.hbm, 225, rfl⟩
abbrev main_call14_v0 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_9 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_c_10 : Ref sig .tc := ⟨.hbm, 312, rfl⟩
abbrev main_c_11 : Ref sig .tc := ⟨.hbm, 313, rfl⟩
abbrev main_call17_v0 : Ref sig .tc := ⟨.hbm, 314, rfl⟩
abbrev main_call17_v1 : Ref sig .tc := ⟨.hbm, 315, rfl⟩
abbrev main_call17_v2 : Ref sig .tc := ⟨.hbm, 316, rfl⟩
abbrev main_call17_v3 : Ref sig .tc := ⟨.hbm, 317, rfl⟩
abbrev main_call17_v4 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_c_12 : Ref sig .tc := ⟨.hbm, 345, rfl⟩
abbrev main_c_13 : Ref sig .tc := ⟨.hbm, 346, rfl⟩
abbrev main_call20_v0 : Ref sig .tc := ⟨.hbm, 347, rfl⟩
abbrev main_call20_v1 : Ref sig .tc := ⟨.hbm, 348, rfl⟩
abbrev main_call20_v2 : Ref sig .tc := ⟨.hbm, 349, rfl⟩
abbrev main_call20_v3 : Ref sig .tc := ⟨.hbm, 350, rfl⟩
abbrev main_call20_v4 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_v286 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩

abbrev nD : Nat := 1
abbrev τ : Topo := Topo.v7x

variable {F : FTy → Type} [FloatOps F]
-- ==== Proof.Held.lean ====
/-
  A LIST OF BUFFERS HELD AT KNOWN CONTENTS, and the rules that run a load or a store of one of them. `held c L` owns
  every buffer of the list `L` at the contents the list names. A load of the `n`-th buffer continues at a window of its
  contents; a store continues with the list whose `n`-th contents have the payload put over that window. The rules are
  plain entailments with the whole list on the left, so a straight-line program is run by chaining them.
-/
module

public import Idealize.ShloMosaic.Lib.VecWindow

@[expose] public section

noncomputable section

namespace Cert.Held

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

/-- A buffer and contents for it. -/
structure Cell (κ : Kind) (sig : RefSig) (Val : EltTy → Type) where
  {sp : Space}
  {s : Shape}
  {e : EltTy}
  m : Memref sig κ sp s e
  X : s.Idx → Val e

local notation "𝕄" => MT nD τ sig Ix Val Name U Lvl

/-- Every buffer of the list owned whole, at the contents the list names. -/
def held (c : Thread nD τ) : List (Cell c.2.kind sig Val) → sProp 𝕄
  | [] => iprop(emp)
  | x :: L => iprop(owns c x.m fullShare x.X ∗ held c L)

/-- Any one buffer of the list can be taken out and put back at other contents. -/
theorem held_take (c : Thread nD τ) (L : List (Cell c.2.kind sig Val)) (n : ℕ) {sp : Space} {s : Shape} {e : EltTy}
    {m : Memref sig c.2.kind sp s e} {X : s.Idx → Val e} (h : L[n]? = some ⟨m, X⟩) :
    (held c L : sProp 𝕄) ⊢ iprop(owns c m fullShare X ∗ ∀ Y, owns c m fullShare Y -∗ held c (L.set n ⟨m, Y⟩)) := by
  induction L generalizing n with
  | nil => simp at h
  | cons x L ih =>
    cases n with
    | zero =>
      obtain rfl : x = ⟨m, X⟩ := by simpa using h
      simp only [held, List.set_cons_zero]
      iintro ⟨H, HL⟩
      isplitl [H]; · iexact H
      iintro %Y HY
      isplitl [HY]; · iexact HY
      iexact HL
    | succ n =>
      have hn : L[n]? = some ⟨m, X⟩ := by simpa using h
      simp only [held, List.set_cons_succ]
      iintro ⟨H, HL⟩
      ihave HL := (ih n hn) $$ HL
      icases HL with ⟨HX, HR⟩
      isplitl [HX]; · iexact HX
      iintro %Y HY
      isplitl [H]; · iexact H
      iapply HR
      iexact HY

theorem set_self {α : Type} (L : List α) (n : ℕ) {x : α} (h : L[n]? = some x) : L.set n x = L := by
  induction L generalizing n with
  | nil => rfl
  | cons y L ih =>
    cases n with
    | zero => have : y = x := by simpa using h
              subst this; rfl
    | succ n => rw [List.set_cons_succ, ih n (by simpa using h)]

section Rules

variable {Λ : Labels} [Preorder Lvl] {defs : Defs nD τ sig Val Λ} {𝒱 : Variants} {c : Thread nD τ} {bd : Option 𝒱.V} {E : Set Name}
variable {α : Type} {L : List (Cell c.2.kind sig Val)}
variable {cs : CoreSpace} {s : Shape} {e : EltTy} {m : Memref sig c.2.kind cs s e} {X : s.Idx → Val e}

variable {β : Type} {κ : β → Prog (TpuEff nD τ sig Val Λ c.2) α}

/-- Regrouping a call followed by the rest of the caller. -/
theorem assoc {γ : Type} {Q : α → sProp 𝕄} {P : sProp 𝕄} {p : Prog (TpuEff nD τ sig Val Λ c.2) γ} {f : γ → Prog (TpuEff nD τ sig Val Λ c.2) β}
    (hk : P ⊢ wp frame (wpE defs 𝒱 c bd) E (p >>= fun x => f x >>= κ) Q) : P ⊢ wp frame (wpE defs 𝒱 c bd) E ((p >>= f) >>= κ) Q := by
  rw [bind_assoc]; exact hk

/-- A load of the `n`-th buffer: the program continues at what the rectangle reads of its contents. -/
theorem load_lift {Q : α → sProp 𝕄} (n : ℕ) (h : L[n]? = some ⟨m, X⟩) {r : LoadRect s} {hl : m.view.LoadsAt r}
    {k : (r.shape.Idx → Val e) → Prog (TpuEff nD τ sig Val Λ c.2) α}
    (hk : (held c L : sProp 𝕄) ⊢ wp frame (wpE defs 𝒱 c bd) E (k fun y => X (r.idx y)) Q) :
    (held c L : sProp 𝕄) ⊢ wp frame (wpE defs 𝒱 c bd) E (Prog.lift (.load m r hl) >>= k) Q := by
  refine (held_take c L n h).trans ?_
  show _ ⊢ wp frame (wpE defs 𝒱 c bd) E (.op (.load m r hl) k) Q
  unfold owns
  iintro ⟨⟨%f, %hf, H⟩, HR⟩
  subst hf
  iapply (wp_load 𝒱 c bd E (k := k) (hl := hl) (View.setOn_subset_set m.view r.set)) $$ H
  iintro H
  ihave HL := HR $$ %(m.view.read Val f) [H]
  · iexists f; isplitr
    · ipureintro; rfl
    · iexact H
  rw [set_self L n h]
  iapply hk
  iexact HL

/-- The same at a unit-stride rectangle, in a program with more to come: it continues at the window. -/
theorem load {Q : α → sProp 𝕄} (n : ℕ) (h : L[n]? = some ⟨m, X⟩) {off size : Fin s.rank → ℕ} {inb : ∀ a, off a + size a ≤ s.size a}
    {hl : m.view.LoadsAt (Rect.unit off size inb).toLoadRect}
    {f : ((Rect.unit off size inb).toLoadRect.shape.Idx → Val e) → Prog (TpuEff nD τ sig Val Λ c.2) β}
    (hk : (held c L : sProp 𝕄) ⊢ wp frame (wpE defs 𝒱 c bd) E (f (VecWindow.window X off size inb) >>= κ) Q) :
    (held c L : sProp 𝕄) ⊢ wp frame (wpE defs 𝒱 c bd) E ((Prog.lift (.load m (Rect.unit off size inb).toLoadRect hl) >>= f) >>= κ) Q :=
  load_lift n h (k := fun x => f x >>= κ) hk

/-- A load of the `n`-th buffer through a reshape of it. -/
theorem load_reshape_lift {Q : α → sProp 𝕄} (n : ℕ) (h : L[n]? = some ⟨m, X⟩) {s' : Shape} (hn : s'.numel = s.numel) {h2} {h3} {r : LoadRect s'}
    {hl : (m.reshape s' hn h2 h3).view.LoadsAt r} {k : (r.shape.Idx → Val e) → Prog (TpuEff nD τ sig Val Λ c.2) α}
    (hk : (held c L : sProp 𝕄) ⊢ wp frame (wpE defs 𝒱 c bd) E (k fun y => X (Shape.reshapeEquiv hn (r.idx y))) Q) :
    (held c L : sProp 𝕄) ⊢ wp frame (wpE defs 𝒱 c bd) E (Prog.lift (.load (m.reshape s' hn h2 h3) r hl) >>= k) Q := by
  refine (held_take c L n h).trans ?_
  show _ ⊢ wp frame (wpE defs 𝒱 c bd) E (.op (.load (m.reshape s' hn h2 h3) r hl) k) Q
  unfold owns
  iintro ⟨⟨%f, %hf, H⟩, HR⟩
  subst hf
  iapply (wp_load 𝒱 c bd E (m := m.reshape s' hn h2 h3) (k := k) (hl := hl) (S := m.view.set) (f := f)
    ((View.setOn_subset_set _ r.set).trans (View.set_reshape m.view hn).le)) $$ H
  iintro H
  ihave HL := HR $$ %(m.view.read Val f) [H]
  · iexists f; isplitr
    · ipureintro; rfl
    · iexact H
  rw [set_self L n h]
  iapply hk
  iexact HL

/-- The same at a unit-stride rectangle, in a program with more to come. -/
theorem load_reshape {Q : α → sProp 𝕄} (n : ℕ) (h : L[n]? = some ⟨m, X⟩) {s' : Shape} {hn : s'.numel = s.numel} {h2} {h3}
    {off size : Fin s'.rank → ℕ} {inb : ∀ a, off a + size a ≤ s'.size a}
    {hl : (m.reshape s' hn h2 h3).view.LoadsAt (Rect.unit off size inb).toLoadRect}
    {f : ((Rect.unit off size inb).toLoadRect.shape.Idx → Val e) → Prog (TpuEff nD τ sig Val Λ c.2) β}
    (hk : (held c L : sProp 𝕄) ⊢ wp frame (wpE defs 𝒱 c bd) E (f (VecWindow.window (fun j => X (Shape.reshapeEquiv hn j)) off size inb) >>= κ) Q) :
    (held c L : sProp 𝕄) ⊢ wp frame (wpE defs 𝒱 c bd) E ((Prog.lift (.load (m.reshape s' hn h2 h3) (Rect.unit off size inb).toLoadRect hl) >>= f) >>= κ) Q :=
  load_reshape_lift n h hn (k := fun x => f x >>= κ) hk

/-- An unmasked store over a window of the `n`-th buffer. -/
theorem store_lift {Q : α → sProp 𝕄} (n : ℕ) (h : L[n]? = some ⟨m, X⟩) {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ c.2) α} {L' : List (Cell c.2.kind sig Val)}
    (hL : L.set n ⟨m, VecWindow.put X off size w⟩ = L')
    (hk : (held c L' : sProp 𝕄) ⊢ wp frame (wpE defs 𝒱 c bd) E (k ⟨⟩) Q) :
    (held c L : sProp 𝕄) ⊢ wp frame (wpE defs 𝒱 c bd) E (Prog.lift (.store m (Rect.unit off size inb) w Finset.univ hx hm) >>= k) Q := by
  subst hL
  refine (held_take c L n h).trans ?_
  show _ ⊢ wp frame (wpE defs 𝒱 c bd) E (.op (.store m (Rect.unit off size inb) w Finset.univ hx hm) k) Q
  unfold owns
  iintro ⟨⟨%f, %hf, H⟩, HR⟩
  subst hf
  iapply (wp_store_writes₀ 𝒱 c bd E (k := k) (hx := hx) (hm := hm) (S := m.view.set) (View.set_slice_subset m.view _)) $$ H
  iintro H
  ihave HL := HR $$ %(VecWindow.put (m.view.read Val f) off size w) [H]
  · iexists (m.view.writes Val f [⟨Rect.unit off size inb, w⟩]); isplitr
    · ipureintro; rw [View.read_writes_cons_put m.view f inb w [] rfl, View.writes_nil]
    · iexact H
  iapply hk
  iexact HL

/-- The same in a program with more to come. -/
theorem store {Q : α → sProp 𝕄} (n : ℕ) (h : L[n]? = some ⟨m, X⟩) {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1}
    {f : PUnit → Prog (TpuEff nD τ sig Val Λ c.2) β} (L' : List (Cell c.2.kind sig Val))
    (hL : L.set n ⟨m, VecWindow.put X off size w⟩ = L')
    (hk : (held c L' : sProp 𝕄) ⊢ wp frame (wpE defs 𝒱 c bd) E (f ⟨⟩ >>= κ) Q) :
    (held c L : sProp 𝕄) ⊢ wp frame (wpE defs 𝒱 c bd) E ((Prog.lift (.store m (Rect.unit off size inb) w Finset.univ hx hm) >>= f) >>= κ) Q :=
  store_lift n h hL (k := fun x => f x >>= κ) hk

/-- The end of a part: the caller goes on at the value returned. -/
theorem ret_bind {Q : α → sProp 𝕄} {P : sProp 𝕄} {x : β} (hk : P ⊢ wp frame (wpE defs 𝒱 c bd) E (κ x) Q) :
    P ⊢ wp frame (wpE defs 𝒱 c bd) E ((pure x : Prog (TpuEff nD τ sig Val Λ c.2) β) >>= κ) Q := hk

/-- A conditional that falls through to the rest `R` of the program, `L₁` being the list on either way to it. -/
theorem branch {Q : α → sProp 𝕄} {p : Prop} [Decidable p] {A : p → Prog (TpuEff nD τ sig Val Λ c.2) β} {R : Prog (TpuEff nD τ sig Val Λ c.2) β}
    (L₁ : List (Cell c.2.kind sig Val))
    (hA : ∀ h : p, ((held c L₁ : sProp 𝕄) ⊢ wp frame (wpE defs 𝒱 c bd) E (R >>= κ) Q) → (held c L : sProp 𝕄) ⊢ wp frame (wpE defs 𝒱 c bd) E (A h >>= κ) Q)
    (hB : ¬ p → L₁ = L)
    (hk : (held c L₁ : sProp 𝕄) ⊢ wp frame (wpE defs 𝒱 c bd) E (R >>= κ) Q) :
    (held c L : sProp 𝕄) ⊢ wp frame (wpE defs 𝒱 c bd) E (dite p A (fun _ => R) >>= κ) Q := by
  by_cases h : p
  · rw [dif_pos h]; exact hA h hk
  · rw [dif_neg h, ← hB h]; exact hk

/-- The one word of a scalar buffer. -/
theorem smem_load {Q : α → sProp 𝕄} {m : Memref sig c.2.kind .smem s e} (n : ℕ) (h : L[n]? = some ⟨m, X⟩) {r : Rect s} {h1 : r.shape.numel = 1} {hp : e.packing = 1}
    {f : Val e → Prog (TpuEff nD τ sig Val Λ c.2) β}
    (hk : (held c L : sProp 𝕄) ⊢ wp frame (wpE defs 𝒱 c bd) E (f (X (r.emb (Shape.Idx.first (h1.symm ▸ Nat.one_pos)))) >>= κ) Q) :
    (held c L : sProp 𝕄) ⊢ wp frame (wpE defs 𝒱 c bd) E ((smemLoad m r h1 hp >>= f) >>= κ) Q :=
  load_lift (cs := .smem) n h (r := r.toLoadRect) (k := fun g => f (g (Shape.Idx.first (h1.symm ▸ Nat.one_pos))) >>= κ) hk

end Rules

end Cert.Held

end
-- ==== Proof.Kernel.State.lean ====
/-
  THE BUFFERS THE BODY SEES AND WHAT THEY HOLD. `Bufs` names the forty-one buffers handed to the body (the inputs'
  blocks, the outputs' blocks, the scratch), `St` gives contents for each, `cells` pairs them; `put24` … `put41` store a
  window into one of the buffers the body writes.
-/
module

public import proofs.«01_k».proof.Proof.Held
public import proofs.«01_k».proof.Proof.Gen.Kernel.Frame
public import proofs.«01_k».proof.Proof.Gen.Kernel.Skeleton

@[expose] public section

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Gen Cert.Held

variable {F : FTy → Type} [FloatOps F]

local notation "𝕄" => MT nD τ sig Unit (Elt F) ℕ (UR sig nD τ) ℕ

/-- The buffers handed to the body, each a whole buffer. -/
structure Bufs where
  arg1 : Memref sig .tc .vmem S2x36x32x512 .i8
  harg1 : arg1.IsWhole
  arg2 : Memref sig .tc .vmem S512x256 .i8
  harg2 : arg2.IsWhole
  arg3 : Memref sig .tc .vmem S2304x256 .i8
  harg3 : arg3.IsWhole
  arg4 : Memref sig .tc .vmem S256x1024 .i8
  harg4 : arg4.IsWhole
  arg5 : Memref sig .tc .vmem S512x1024 .i8
  harg5 : arg5.IsWhole
  arg6 : Memref sig .tc .vmem S1024x256 .i8
  harg6 : arg6.IsWhole
  arg7 : Memref sig .tc .vmem S2304x256 .i8
  harg7 : arg7.IsWhole
  arg8 : Memref sig .tc .vmem S256x1024 .i8
  harg8 : arg8.IsWhole
  arg9 : Memref sig .tc .vmem S1x256 .i32
  harg9 : arg9.IsWhole
  arg10 : Memref sig .tc .vmem S1x256 .f32
  harg10 : arg10.IsWhole
  arg11 : Memref sig .tc .vmem S1x256 .i32
  harg11 : arg11.IsWhole
  arg12 : Memref sig .tc .vmem S1x256 .f32
  harg12 : arg12.IsWhole
  arg13 : Memref sig .tc .vmem S1x1024 .i32
  harg13 : arg13.IsWhole
  arg14 : Memref sig .tc .vmem S1x1024 .f32
  harg14 : arg14.IsWhole
  arg15 : Memref sig .tc .vmem S1x1024 .i32
  harg15 : arg15.IsWhole
  arg16 : Memref sig .tc .vmem S1x1024 .f32
  harg16 : arg16.IsWhole
  arg17 : Memref sig .tc .vmem S1x256 .i32
  harg17 : arg17.IsWhole
  arg18 : Memref sig .tc .vmem S1x256 .f32
  harg18 : arg18.IsWhole
  arg19 : Memref sig .tc .vmem S1x256 .i32
  harg19 : arg19.IsWhole
  arg20 : Memref sig .tc .vmem S1x256 .f32
  harg20 : arg20.IsWhole
  arg21 : Memref sig .tc .vmem S1x1024 .i32
  harg21 : arg21.IsWhole
  arg22 : Memref sig .tc .vmem S1x1024 .f32
  harg22 : arg22.IsWhole
  arg23 : Memref sig .tc .smem S1 .f32
  harg23 : arg23.IsWhole
  arg24 : Memref sig .tc .vmem S1x18x32x1024 .i8
  harg24 : arg24.IsWhole
  arg25 : Memref sig .tc .vmem S1x18x32x1024 .i8
  harg25 : arg25.IsWhole
  arg26 : Memref sig .tc .vmem S2x36x32x256 .i8
  harg26 : arg26.IsWhole
  arg27 : Memref sig .tc .vmem S1x18x32x256 .i8
  harg27 : arg27.IsWhole
  arg28 : Memref sig .tc .vmem S1x18x32x256 .i8
  harg28 : arg28.IsWhole
  arg29 : Memref sig .tc .vmem S1x18x32x256 .i8
  harg29 : arg29.IsWhole
  arg30 : Memref sig .tc .vmem S512x256 .bf16
  harg30 : arg30.IsWhole
  arg31 : Memref sig .tc .vmem S2304x256 .bf16
  harg31 : arg31.IsWhole
  arg32 : Memref sig .tc .vmem S256x1024 .bf16
  harg32 : arg32.IsWhole
  arg33 : Memref sig .tc .vmem S512x1024 .bf16
  harg33 : arg33.IsWhole
  arg34 : Memref sig .tc .vmem S1024x256 .bf16
  harg34 : arg34.IsWhole
  arg35 : Memref sig .tc .vmem S2304x256 .bf16
  harg35 : arg35.IsWhole
  arg36 : Memref sig .tc .vmem S256x1024 .bf16
  harg36 : arg36.IsWhole
  arg37 : Memref sig .tc .vmem S3x38x32x256 .bf16
  harg37 : arg37.IsWhole
  arg38 : Memref sig .tc .vmem S576x256 .bf16
  harg38 : arg38.IsWhole
  arg39 : Memref sig .tc .vmem S2x576x1024 .bf16
  harg39 : arg39.IsWhole
  arg40 : Memref sig .tc .vmem S4x20x32x256 .bf16
  harg40 : arg40.IsWhole
  arg41 : Memref sig .tc .vmem S576x256 .bf16
  harg41 : arg41.IsWhole

/-- Contents for each of them. -/
@[ext]
structure St (F : FTy → Type) where
  a1 : Shape.Idx S2x36x32x512 → Elt F .i8
  a2 : Shape.Idx S512x256 → Elt F .i8
  a3 : Shape.Idx S2304x256 → Elt F .i8
  a4 : Shape.Idx S256x1024 → Elt F .i8
  a5 : Shape.Idx S512x1024 → Elt F .i8
  a6 : Shape.Idx S1024x256 → Elt F .i8
  a7 : Shape.Idx S2304x256 → Elt F .i8
  a8 : Shape.Idx S256x1024 → Elt F .i8
  a9 : Shape.Idx S1x256 → Elt F .i32
  a10 : Shape.Idx S1x256 → Elt F .f32
  a11 : Shape.Idx S1x256 → Elt F .i32
  a12 : Shape.Idx S1x256 → Elt F .f32
  a13 : Shape.Idx S1x1024 → Elt F .i32
  a14 : Shape.Idx S1x1024 → Elt F .f32
  a15 : Shape.Idx S1x1024 → Elt F .i32
  a16 : Shape.Idx S1x1024 → Elt F .f32
  a17 : Shape.Idx S1x256 → Elt F .i32
  a18 : Shape.Idx S1x256 → Elt F .f32
  a19 : Shape.Idx S1x256 → Elt F .i32
  a20 : Shape.Idx S1x256 → Elt F .f32
  a21 : Shape.Idx S1x1024 → Elt F .i32
  a22 : Shape.Idx S1x1024 → Elt F .f32
  a23 : Shape.Idx S1 → Elt F .f32
  a24 : Shape.Idx S1x18x32x1024 → Elt F .i8
  a25 : Shape.Idx S1x18x32x1024 → Elt F .i8
  a26 : Shape.Idx S2x36x32x256 → Elt F .i8
  a27 : Shape.Idx S1x18x32x256 → Elt F .i8
  a28 : Shape.Idx S1x18x32x256 → Elt F .i8
  a29 : Shape.Idx S1x18x32x256 → Elt F .i8
  a30 : Shape.Idx S512x256 → Elt F .bf16
  a31 : Shape.Idx S2304x256 → Elt F .bf16
  a32 : Shape.Idx S256x1024 → Elt F .bf16
  a33 : Shape.Idx S512x1024 → Elt F .bf16
  a34 : Shape.Idx S1024x256 → Elt F .bf16
  a35 : Shape.Idx S2304x256 → Elt F .bf16
  a36 : Shape.Idx S256x1024 → Elt F .bf16
  a37 : Shape.Idx S3x38x32x256 → Elt F .bf16
  a38 : Shape.Idx S576x256 → Elt F .bf16
  a39 : Shape.Idx S2x576x1024 → Elt F .bf16
  a40 : Shape.Idx S4x20x32x256 → Elt F .bf16
  a41 : Shape.Idx S576x256 → Elt F .bf16

/-- The buffers paired with their contents. -/
def cells (B : Bufs) (S : St F) : List (Cell .tc sig (Elt F)) :=
  [⟨B.arg1, S.a1⟩,
   ⟨B.arg2, S.a2⟩,
   ⟨B.arg3, S.a3⟩,
   ⟨B.arg4, S.a4⟩,
   ⟨B.arg5, S.a5⟩,
   ⟨B.arg6, S.a6⟩,
   ⟨B.arg7, S.a7⟩,
   ⟨B.arg8, S.a8⟩,
   ⟨B.arg9, S.a9⟩,
   ⟨B.arg10, S.a10⟩,
   ⟨B.arg11, S.a11⟩,
   ⟨B.arg12, S.a12⟩,
   ⟨B.arg13, S.a13⟩,
   ⟨B.arg14, S.a14⟩,
   ⟨B.arg15, S.a15⟩,
   ⟨B.arg16, S.a16⟩,
   ⟨B.arg17, S.a17⟩,
   ⟨B.arg18, S.a18⟩,
   ⟨B.arg19, S.a19⟩,
   ⟨B.arg20, S.a20⟩,
   ⟨B.arg21, S.a21⟩,
   ⟨B.arg22, S.a22⟩,
   ⟨B.arg23, S.a23⟩,
   ⟨B.arg24, S.a24⟩,
   ⟨B.arg25, S.a25⟩,
   ⟨B.arg26, S.a26⟩,
   ⟨B.arg27, S.a27⟩,
   ⟨B.arg28, S.a28⟩,
   ⟨B.arg29, S.a29⟩,
   ⟨B.arg30, S.a30⟩,
   ⟨B.arg31, S.a31⟩,
   ⟨B.arg32, S.a32⟩,
   ⟨B.arg33, S.a33⟩,
   ⟨B.arg34, S.a34⟩,
   ⟨B.arg35, S.a35⟩,
   ⟨B.arg36, S.a36⟩,
   ⟨B.arg37, S.a37⟩,
   ⟨B.arg38, S.a38⟩,
   ⟨B.arg39, S.a39⟩,
   ⟨B.arg40, S.a40⟩,
   ⟨B.arg41, S.a41⟩]

/-- A window of buffer 24 overwritten. -/
def St.put24 (S : St F) (off size : Fin (Shape.rank S1x18x32x1024) → ℕ) (w : ((a : Fin (Shape.rank S1x18x32x1024)) → Fin (size a)) → Elt F .i8) : St F :=
  { S with a24 := VecWindow.put S.a24 off size w }

theorem cells_put24 (B : Bufs) (S : St F) (off size : Fin (Shape.rank S1x18x32x1024) → ℕ) (w : ((a : Fin (Shape.rank S1x18x32x1024)) → Fin (size a)) → Elt F .i8) :
    (cells B S).set 23 ⟨B.arg24, VecWindow.put S.a24 off size w⟩ = cells B (S.put24 off size w) := rfl

/-- A window of buffer 25 overwritten. -/
def St.put25 (S : St F) (off size : Fin (Shape.rank S1x18x32x1024) → ℕ) (w : ((a : Fin (Shape.rank S1x18x32x1024)) → Fin (size a)) → Elt F .i8) : St F :=
  { S with a25 := VecWindow.put S.a25 off size w }

theorem cells_put25 (B : Bufs) (S : St F) (off size : Fin (Shape.rank S1x18x32x1024) → ℕ) (w : ((a : Fin (Shape.rank S1x18x32x1024)) → Fin (size a)) → Elt F .i8) :
    (cells B S).set 24 ⟨B.arg25, VecWindow.put S.a25 off size w⟩ = cells B (S.put25 off size w) := rfl

/-- A window of buffer 26 overwritten. -/
def St.put26 (S : St F) (off size : Fin (Shape.rank S2x36x32x256) → ℕ) (w : ((a : Fin (Shape.rank S2x36x32x256)) → Fin (size a)) → Elt F .i8) : St F :=
  { S with a26 := VecWindow.put S.a26 off size w }

theorem cells_put26 (B : Bufs) (S : St F) (off size : Fin (Shape.rank S2x36x32x256) → ℕ) (w : ((a : Fin (Shape.rank S2x36x32x256)) → Fin (size a)) → Elt F .i8) :
    (cells B S).set 25 ⟨B.arg26, VecWindow.put S.a26 off size w⟩ = cells B (S.put26 off size w) := rfl

/-- A window of buffer 27 overwritten. -/
def St.put27 (S : St F) (off size : Fin (Shape.rank S1x18x32x256) → ℕ) (w : ((a : Fin (Shape.rank S1x18x32x256)) → Fin (size a)) → Elt F .i8) : St F :=
  { S with a27 := VecWindow.put S.a27 off size w }

theorem cells_put27 (B : Bufs) (S : St F) (off size : Fin (Shape.rank S1x18x32x256) → ℕ) (w : ((a : Fin (Shape.rank S1x18x32x256)) → Fin (size a)) → Elt F .i8) :
    (cells B S).set 26 ⟨B.arg27, VecWindow.put S.a27 off size w⟩ = cells B (S.put27 off size w) := rfl

/-- A window of buffer 28 overwritten. -/
def St.put28 (S : St F) (off size : Fin (Shape.rank S1x18x32x256) → ℕ) (w : ((a : Fin (Shape.rank S1x18x32x256)) → Fin (size a)) → Elt F .i8) : St F :=
  { S with a28 := VecWindow.put S.a28 off size w }

theorem cells_put28 (B : Bufs) (S : St F) (off size : Fin (Shape.rank S1x18x32x256) → ℕ) (w : ((a : Fin (Shape.rank S1x18x32x256)) → Fin (size a)) → Elt F .i8) :
    (cells B S).set 27 ⟨B.arg28, VecWindow.put S.a28 off size w⟩ = cells B (S.put28 off size w) := rfl

/-- A window of buffer 29 overwritten. -/
def St.put29 (S : St F) (off size : Fin (Shape.rank S1x18x32x256) → ℕ) (w : ((a : Fin (Shape.rank S1x18x32x256)) → Fin (size a)) → Elt F .i8) : St F :=
  { S with a29 := VecWindow.put S.a29 off size w }

theorem cells_put29 (B : Bufs) (S : St F) (off size : Fin (Shape.rank S1x18x32x256) → ℕ) (w : ((a : Fin (Shape.rank S1x18x32x256)) → Fin (size a)) → Elt F .i8) :
    (cells B S).set 28 ⟨B.arg29, VecWindow.put S.a29 off size w⟩ = cells B (S.put29 off size w) := rfl

/-- A window of buffer 30 overwritten. -/
def St.put30 (S : St F) (off size : Fin (Shape.rank S512x256) → ℕ) (w : ((a : Fin (Shape.rank S512x256)) → Fin (size a)) → Elt F .bf16) : St F :=
  { S with a30 := VecWindow.put S.a30 off size w }

theorem cells_put30 (B : Bufs) (S : St F) (off size : Fin (Shape.rank S512x256) → ℕ) (w : ((a : Fin (Shape.rank S512x256)) → Fin (size a)) → Elt F .bf16) :
    (cells B S).set 29 ⟨B.arg30, VecWindow.put S.a30 off size w⟩ = cells B (S.put30 off size w) := rfl

/-- A window of buffer 31 overwritten. -/
def St.put31 (S : St F) (off size : Fin (Shape.rank S2304x256) → ℕ) (w : ((a : Fin (Shape.rank S2304x256)) → Fin (size a)) → Elt F .bf16) : St F :=
  { S with a31 := VecWindow.put S.a31 off size w }

theorem cells_put31 (B : Bufs) (S : St F) (off size : Fin (Shape.rank S2304x256) → ℕ) (w : ((a : Fin (Shape.rank S2304x256)) → Fin (size a)) → Elt F .bf16) :
    (cells B S).set 30 ⟨B.arg31, VecWindow.put S.a31 off size w⟩ = cells B (S.put31 off size w) := rfl

/-- A window of buffer 32 overwritten. -/
def St.put32 (S : St F) (off size : Fin (Shape.rank S256x1024) → ℕ) (w : ((a : Fin (Shape.rank S256x1024)) → Fin (size a)) → Elt F .bf16) : St F :=
  { S with a32 := VecWindow.put S.a32 off size w }

theorem cells_put32 (B : Bufs) (S : St F) (off size : Fin (Shape.rank S256x1024) → ℕ) (w : ((a : Fin (Shape.rank S256x1024)) → Fin (size a)) → Elt F .bf16) :
    (cells B S).set 31 ⟨B.arg32, VecWindow.put S.a32 off size w⟩ = cells B (S.put32 off size w) := rfl

/-- A window of buffer 33 overwritten. -/
def St.put33 (S : St F) (off size : Fin (Shape.rank S512x1024) → ℕ) (w : ((a : Fin (Shape.rank S512x1024)) → Fin (size a)) → Elt F .bf16) : St F :=
  { S with a33 := VecWindow.put S.a33 off size w }

theorem cells_put33 (B : Bufs) (S : St F) (off size : Fin (Shape.rank S512x1024) → ℕ) (w : ((a : Fin (Shape.rank S512x1024)) → Fin (size a)) → Elt F .bf16) :
    (cells B S).set 32 ⟨B.arg33, VecWindow.put S.a33 off size w⟩ = cells B (S.put33 off size w) := rfl

/-- A window of buffer 34 overwritten. -/
def St.put34 (S : St F) (off size : Fin (Shape.rank S1024x256) → ℕ) (w : ((a : Fin (Shape.rank S1024x256)) → Fin (size a)) → Elt F .bf16) : St F :=
  { S with a34 := VecWindow.put S.a34 off size w }

theorem cells_put34 (B : Bufs) (S : St F) (off size : Fin (Shape.rank S1024x256) → ℕ) (w : ((a : Fin (Shape.rank S1024x256)) → Fin (size a)) → Elt F .bf16) :
    (cells B S).set 33 ⟨B.arg34, VecWindow.put S.a34 off size w⟩ = cells B (S.put34 off size w) := rfl

/-- A window of buffer 35 overwritten. -/
def St.put35 (S : St F) (off size : Fin (Shape.rank S2304x256) → ℕ) (w : ((a : Fin (Shape.rank S2304x256)) → Fin (size a)) → Elt F .bf16) : St F :=
  { S with a35 := VecWindow.put S.a35 off size w }

theorem cells_put35 (B : Bufs) (S : St F) (off size : Fin (Shape.rank S2304x256) → ℕ) (w : ((a : Fin (Shape.rank S2304x256)) → Fin (size a)) → Elt F .bf16) :
    (cells B S).set 34 ⟨B.arg35, VecWindow.put S.a35 off size w⟩ = cells B (S.put35 off size w) := rfl

/-- A window of buffer 36 overwritten. -/
def St.put36 (S : St F) (off size : Fin (Shape.rank S256x1024) → ℕ) (w : ((a : Fin (Shape.rank S256x1024)) → Fin (size a)) → Elt F .bf16) : St F :=
  { S with a36 := VecWindow.put S.a36 off size w }

theorem cells_put36 (B : Bufs) (S : St F) (off size : Fin (Shape.rank S256x1024) → ℕ) (w : ((a : Fin (Shape.rank S256x1024)) → Fin (size a)) → Elt F .bf16) :
    (cells B S).set 35 ⟨B.arg36, VecWindow.put S.a36 off size w⟩ = cells B (S.put36 off size w) := rfl

/-- A window of buffer 37 overwritten. -/
def St.put37 (S : St F) (off size : Fin (Shape.rank S3x38x32x256) → ℕ) (w : ((a : Fin (Shape.rank S3x38x32x256)) → Fin (size a)) → Elt F .bf16) : St F :=
  { S with a37 := VecWindow.put S.a37 off size w }

theorem cells_put37 (B : Bufs) (S : St F) (off size : Fin (Shape.rank S3x38x32x256) → ℕ) (w : ((a : Fin (Shape.rank S3x38x32x256)) → Fin (size a)) → Elt F .bf16) :
    (cells B S).set 36 ⟨B.arg37, VecWindow.put S.a37 off size w⟩ = cells B (S.put37 off size w) := rfl

/-- A window of buffer 38 overwritten. -/
def St.put38 (S : St F) (off size : Fin (Shape.rank S576x256) → ℕ) (w : ((a : Fin (Shape.rank S576x256)) → Fin (size a)) → Elt F .bf16) : St F :=
  { S with a38 := VecWindow.put S.a38 off size w }

theorem cells_put38 (B : Bufs) (S : St F) (off size : Fin (Shape.rank S576x256) → ℕ) (w : ((a : Fin (Shape.rank S576x256)) → Fin (size a)) → Elt F .bf16) :
    (cells B S).set 37 ⟨B.arg38, VecWindow.put S.a38 off size w⟩ = cells B (S.put38 off size w) := rfl

/-- A window of buffer 39 overwritten. -/
def St.put39 (S : St F) (off size : Fin (Shape.rank S2x576x1024) → ℕ) (w : ((a : Fin (Shape.rank S2x576x1024)) → Fin (size a)) → Elt F .bf16) : St F :=
  { S with a39 := VecWindow.put S.a39 off size w }

theorem cells_put39 (B : Bufs) (S : St F) (off size : Fin (Shape.rank S2x576x1024) → ℕ) (w : ((a : Fin (Shape.rank S2x576x1024)) → Fin (size a)) → Elt F .bf16) :
    (cells B S).set 38 ⟨B.arg39, VecWindow.put S.a39 off size w⟩ = cells B (S.put39 off size w) := rfl

/-- A window of buffer 40 overwritten. -/
def St.put40 (S : St F) (off size : Fin (Shape.rank S4x20x32x256) → ℕ) (w : ((a : Fin (Shape.rank S4x20x32x256)) → Fin (size a)) → Elt F .bf16) : St F :=
  { S with a40 := VecWindow.put S.a40 off size w }

theorem cells_put40 (B : Bufs) (S : St F) (off size : Fin (Shape.rank S4x20x32x256) → ℕ) (w : ((a : Fin (Shape.rank S4x20x32x256)) → Fin (size a)) → Elt F .bf16) :
    (cells B S).set 39 ⟨B.arg40, VecWindow.put S.a40 off size w⟩ = cells B (S.put40 off size w) := rfl

/-- A window of buffer 41 overwritten. -/
def St.put41 (S : St F) (off size : Fin (Shape.rank S576x256) → ℕ) (w : ((a : Fin (Shape.rank S576x256)) → Fin (size a)) → Elt F .bf16) : St F :=
  { S with a41 := VecWindow.put S.a41 off size w }

theorem cells_put41 (B : Bufs) (S : St F) (off size : Fin (Shape.rank S576x256) → ℕ) (w : ((a : Fin (Shape.rank S576x256)) → Fin (size a)) → Elt F .bf16) :
    (cells B S).set 40 ⟨B.arg41, VecWindow.put S.a41 off size w⟩ = cells B (S.put41 off size w) := rfl

end Cert.Kernel.Hand

end
-- ==== Proof.Kernel.Parts.lean ====
/-
  THE PARTS OF THE BODY AS FUNCTIONS OF THE CONTENTS. For each part: `partN`, the contents it leaves; `partN_r…`, the values it
  returns; and `run_partN`, that running the part from the given contents goes on with exactly those.
-/
module

public import proofs.«01_k».proof.Proof.Kernel.State

@[expose] public section

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Gen Cert.Held

variable {F : FTy → Type} [FloatOps F]

local notation "𝕄" => MT nD τ sig Unit (Elt F) ℕ (UR sig nD τ) ℕ

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81

/-- Value 0 returned by part 1. -/
def part1_r0 (i : grid0.Coords) (S : St F)  : FVec F S2304x256 .bf16 :=
  let v25 : Vec F S512x256 .i8 := VecWindow.window S.a2 ![0, 0] S512x256.size inb_S512x256_S512x256_0_0
  let C1 : St F := S.put30 ![0, 0] S512x256.size (k0_pay10 v25)
  let v30 : Vec F S2304x256 .i8 := VecWindow.window C1.a3 ![0, 0] S2304x256.size inb_S2304x256_S2304x256_0_0
  let C2 : St F := C1.put31 ![0, 0] S2304x256.size (k0_pay11 v30)
  let v36 : Vec F S256x1024 .i8 := VecWindow.window C2.a4 ![0, 0] S256x1024.size inb_S256x1024_S256x1024_0_0
  let C3 : St F := C2.put32 ![0, 0] S256x1024.size (k0_pay12 v36)
  let v41 : Vec F S512x1024 .i8 := VecWindow.window C3.a5 ![0, 0] S512x1024.size inb_S512x1024_S512x1024_0_0
  let C4 : St F := C3.put33 ![0, 0] S512x1024.size (k0_pay13 v41)
  let v46 : Vec F S1024x256 .i8 := VecWindow.window C4.a6 ![0, 0] S1024x256.size inb_S1024x256_S1024x256_0_0
  let C5 : St F := C4.put34 ![0, 0] S1024x256.size (k0_pay14 v46)
  let v51 : Vec F S2304x256 .i8 := VecWindow.window C5.a7 ![0, 0] S2304x256.size inb_S2304x256_S2304x256_0_0
  (k0_pay15 v51)

/-- The contents part 1 leaves. -/
def part1 (i : grid0.Coords) (S : St F)  : St F :=
  let v25 : Vec F S512x256 .i8 := VecWindow.window S.a2 ![0, 0] S512x256.size inb_S512x256_S512x256_0_0
  let C1 : St F := S.put30 ![0, 0] S512x256.size (k0_pay10 v25)
  let v30 : Vec F S2304x256 .i8 := VecWindow.window C1.a3 ![0, 0] S2304x256.size inb_S2304x256_S2304x256_0_0
  let C2 : St F := C1.put31 ![0, 0] S2304x256.size (k0_pay11 v30)
  let v36 : Vec F S256x1024 .i8 := VecWindow.window C2.a4 ![0, 0] S256x1024.size inb_S256x1024_S256x1024_0_0
  let C3 : St F := C2.put32 ![0, 0] S256x1024.size (k0_pay12 v36)
  let v41 : Vec F S512x1024 .i8 := VecWindow.window C3.a5 ![0, 0] S512x1024.size inb_S512x1024_S512x1024_0_0
  let C4 : St F := C3.put33 ![0, 0] S512x1024.size (k0_pay13 v41)
  let v46 : Vec F S1024x256 .i8 := VecWindow.window C4.a6 ![0, 0] S1024x256.size inb_S1024x256_S1024x256_0_0
  let C5 : St F := C4.put34 ![0, 0] S1024x256.size (k0_pay14 v46)
  C5

theorem run_part1 {c : Dev nD} {i : grid0.Coords} {B : Bufs} {S : St F}  {E : Set ℕ} {α : Type} {Q : α → sProp 𝕄}
    {κ : (FVec F S2304x256 .bf16) → Prog (TpuEff nD τ sig (Elt F) Λ₀ .tc) α}
    (hk : (held (c : Thread nD τ) (cells B (part1 i S )) : sProp 𝕄) ⊢ wp frame (wpE (defs₀ (F := F)) Variants.none c none) E (κ (part1_r0 i S)) Q) :
    (held (c : Thread nD τ) (cells B S) : sProp 𝕄) ⊢ wp frame (wpE (defs₀ (F := F)) Variants.none c none) E
      (k0_part1 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41  >>= κ) Q := by
  rw [k0_part1_eq_skeleton]
  unfold k0_part1_skel
  refine load 1 rfl ?_
  refine load 29 rfl ?_
  refine store 29 rfl _ (cells_put30 _ _ _ _ _) ?_
  refine load 2 rfl ?_
  refine load 30 rfl ?_
  refine store 30 rfl _ (cells_put31 _ _ _ _ _) ?_
  refine load 3 rfl ?_
  refine load 31 rfl ?_
  refine store 31 rfl _ (cells_put32 _ _ _ _ _) ?_
  refine load 4 rfl ?_
  refine load 32 rfl ?_
  refine store 32 rfl _ (cells_put33 _ _ _ _ _) ?_
  refine load 5 rfl ?_
  refine load 33 rfl ?_
  refine store 33 rfl _ (cells_put34 _ _ _ _ _) ?_
  refine load 6 rfl ?_
  refine load 34 rfl ?_
  exact ret_bind hk

/-- Value 0 returned by part 2. -/
def part2_r0 (i : grid0.Coords) (S : St F) (v0 : BitVec 32) : FVec F S576x256 .f32 :=
  let v28 : Vec F S1x37x32x256 .bf16 := VecWindow.window S.a37 ![2, 1, 0, 0] S1x37x32x256.size inb_S3x38x32x256_S1x37x32x256_2_1_0_0
  let C1 : St F := S.put37 ![0, 1, 0, 0] S1x37x32x256.size (k0_pay16 v0 v28)
  let v35 : Vec F S1x18x32x512 .i8 := VecWindow.window C1.a1 ![0, 0, 0, 0] S1x18x32x512.size inb_S2x36x32x512_S1x18x32x512_0_0_0_0
  let v39 : Vec F S512x256 .bf16 := VecWindow.window C1.a30 ![0, 0] S512x256.size inb_S512x256_S512x256_0_0
  let v41 : Vec F S1x256 .i32 := VecWindow.window C1.a9 ![0, 0] S1x256.size inb_S1x256_S1x256_0_0
  let v43 : Vec F S1x256 .f32 := VecWindow.window C1.a10 ![0, 0] S1x256.size inb_S1x256_S1x256_0_0
  k0_pay17 v35 v39 v41 v43

/-- Value 1 returned by part 2. -/
def part2_r1 (i : grid0.Coords) (S : St F) (v0 : BitVec 32) : IVec S576x256 32 :=
  let v28 : Vec F S1x37x32x256 .bf16 := VecWindow.window S.a37 ![2, 1, 0, 0] S1x37x32x256.size inb_S3x38x32x256_S1x37x32x256_2_1_0_0
  let C1 : St F := S.put37 ![0, 1, 0, 0] S1x37x32x256.size (k0_pay16 v0 v28)
  let v35 : Vec F S1x18x32x512 .i8 := VecWindow.window C1.a1 ![0, 0, 0, 0] S1x18x32x512.size inb_S2x36x32x512_S1x18x32x512_0_0_0_0
  let v39 : Vec F S512x256 .bf16 := VecWindow.window C1.a30 ![0, 0] S512x256.size inb_S512x256_S512x256_0_0
  let v41 : Vec F S1x256 .i32 := VecWindow.window C1.a9 ![0, 0] S1x256.size inb_S1x256_S1x256_0_0
  let v43 : Vec F S1x256 .f32 := VecWindow.window C1.a10 ![0, 0] S1x256.size inb_S1x256_S1x256_0_0
  k0_pay18 v35 v39 v41 v43

/-- The contents part 2 leaves. -/
def part2 (i : grid0.Coords) (S : St F) (v0 : BitVec 32) : St F :=
  let v28 : Vec F S1x37x32x256 .bf16 := VecWindow.window S.a37 ![2, 1, 0, 0] S1x37x32x256.size inb_S3x38x32x256_S1x37x32x256_2_1_0_0
  let C1 : St F := S.put37 ![0, 1, 0, 0] S1x37x32x256.size (k0_pay16 v0 v28)
  C1

theorem run_part2 {c : Dev nD} {i : grid0.Coords} {B : Bufs} {S : St F} {v0 : BitVec 32} {E : Set ℕ} {α : Type} {Q : α → sProp 𝕄}
    {κ : (Σ' (v58 : FVec F S576x256 .f32), IVec S576x256 32) → Prog (TpuEff nD τ sig (Elt F) Λ₀ .tc) α}
    (hk : (held (c : Thread nD τ) (cells B (part2 i S v0)) : sProp 𝕄) ⊢ wp frame (wpE (defs₀ (F := F)) Variants.none c none) E (κ ⟨part2_r0 i S v0, part2_r1 i S v0⟩) Q) :
    (held (c : Thread nD τ) (cells B S) : sProp 𝕄) ⊢ wp frame (wpE (defs₀ (F := F)) Variants.none c none) E
      (k0_part2 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v0 >>= κ) Q := by
  rw [k0_part2_eq_skeleton]
  unfold k0_part2_skel
  refine load 36 rfl ?_
  refine load 36 rfl ?_
  refine store 36 rfl _ (cells_put37 _ _ _ _ _) ?_
  refine load 0 rfl ?_
  refine load 29 rfl ?_
  refine load 8 rfl ?_
  refine load 9 rfl ?_
  exact ret_bind hk

/-- Value 0 returned by part 3. -/
def part3_r0 (i : grid0.Coords) (S : St F) (v58 : FVec F S576x256 .f32) (v59 : IVec S576x256 32) : FVec F S576x256 .f32 :=
  let C1 : St F := S.put26 ![0, 0, 0, 0] S1x18x32x256.size (k0_pay19 v59)
  let C2 : St F := C1.put37 ![1, 1, 0, 0] S1x18x32x256.size (k0_pay20 v58)
  let v70 : Vec F S1x18x32x512 .i8 := VecWindow.window C2.a1 ![0, 18, 0, 0] S1x18x32x512.size inb_S2x36x32x512_S1x18x32x512_0_18_0_0
  let v74 : Vec F S512x256 .bf16 := VecWindow.window C2.a30 ![0, 0] S512x256.size inb_S512x256_S512x256_0_0
  let v76 : Vec F S1x256 .i32 := VecWindow.window C2.a9 ![0, 0] S1x256.size inb_S1x256_S1x256_0_0
  let v78 : Vec F S1x256 .f32 := VecWindow.window C2.a10 ![0, 0] S1x256.size inb_S1x256_S1x256_0_0
  k0_pay21 v70 v74 v76 v78

/-- Value 1 returned by part 3. -/
def part3_r1 (i : grid0.Coords) (S : St F) (v58 : FVec F S576x256 .f32) (v59 : IVec S576x256 32) : IVec S18x32x256 8 :=
  let C1 : St F := S.put26 ![0, 0, 0, 0] S1x18x32x256.size (k0_pay19 v59)
  let C2 : St F := C1.put37 ![1, 1, 0, 0] S1x18x32x256.size (k0_pay20 v58)
  let v70 : Vec F S1x18x32x512 .i8 := VecWindow.window C2.a1 ![0, 18, 0, 0] S1x18x32x512.size inb_S2x36x32x512_S1x18x32x512_0_18_0_0
  let v74 : Vec F S512x256 .bf16 := VecWindow.window C2.a30 ![0, 0] S512x256.size inb_S512x256_S512x256_0_0
  let v76 : Vec F S1x256 .i32 := VecWindow.window C2.a9 ![0, 0] S1x256.size inb_S1x256_S1x256_0_0
  let v78 : Vec F S1x256 .f32 := VecWindow.window C2.a10 ![0, 0] S1x256.size inb_S1x256_S1x256_0_0
  k0_pay22 v70 v74 v76 v78

/-- The contents part 3 leaves. -/
def part3 (i : grid0.Coords) (S : St F) (v58 : FVec F S576x256 .f32) (v59 : IVec S576x256 32) : St F :=
  let C1 : St F := S.put26 ![0, 0, 0, 0] S1x18x32x256.size (k0_pay19 v59)
  let C2 : St F := C1.put37 ![1, 1, 0, 0] S1x18x32x256.size (k0_pay20 v58)
  C2

theorem run_part3 {c : Dev nD} {i : grid0.Coords} {B : Bufs} {S : St F} {v58 : FVec F S576x256 .f32} {v59 : IVec S576x256 32} {E : Set ℕ} {α : Type} {Q : α → sProp 𝕄}
    {κ : (Σ' (v93 : FVec F S576x256 .f32), IVec S18x32x256 8) → Prog (TpuEff nD τ sig (Elt F) Λ₀ .tc) α}
    (hk : (held (c : Thread nD τ) (cells B (part3 i S v58 v59)) : sProp 𝕄) ⊢ wp frame (wpE (defs₀ (F := F)) Variants.none c none) E (κ ⟨part3_r0 i S v58 v59, part3_r1 i S v58 v59⟩) Q) :
    (held (c : Thread nD τ) (cells B S) : sProp 𝕄) ⊢ wp frame (wpE (defs₀ (F := F)) Variants.none c none) E
      (k0_part3 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v58 v59 >>= κ) Q := by
  rw [k0_part3_eq_skeleton]
  unfold k0_part3_skel
  refine load 25 rfl ?_
  refine store 25 rfl _ (cells_put26 _ _ _ _ _) ?_
  refine load 36 rfl ?_
  refine store 36 rfl _ (cells_put37 _ _ _ _ _) ?_
  refine load 0 rfl ?_
  refine load 29 rfl ?_
  refine load 8 rfl ?_
  refine load 9 rfl ?_
  exact ret_bind hk

/-- Value 0 returned by part 4. -/
def part4_r0 (i : grid0.Coords) (S : St F) (v93 : FVec F S576x256 .f32) (v96 : IVec S18x32x256 8) : FVec F S576x256 .f32 :=
  let C1 : St F := S.put26 ![0, 18, 0, 0] S1x18x32x256.size (k0_pay23 v96)
  let C2 : St F := C1.put37 ![1, 19, 0, 0] S1x18x32x256.size (k0_pay24 v93)
  let v105 : Vec F S1x18x32x512 .i8 := VecWindow.window C2.a1 ![1, 0, 0, 0] S1x18x32x512.size inb_S2x36x32x512_S1x18x32x512_1_0_0_0
  let v109 : Vec F S512x256 .bf16 := VecWindow.window C2.a30 ![0, 0] S512x256.size inb_S512x256_S512x256_0_0
  let v111 : Vec F S1x256 .i32 := VecWindow.window C2.a9 ![0, 0] S1x256.size inb_S1x256_S1x256_0_0
  let v113 : Vec F S1x256 .f32 := VecWindow.window C2.a10 ![0, 0] S1x256.size inb_S1x256_S1x256_0_0
  k0_pay25 v105 v109 v111 v113

/-- Value 1 returned by part 4. -/
def part4_r1 (i : grid0.Coords) (S : St F) (v93 : FVec F S576x256 .f32) (v96 : IVec S18x32x256 8) : IVec S18x32x256 8 :=
  let C1 : St F := S.put26 ![0, 18, 0, 0] S1x18x32x256.size (k0_pay23 v96)
  let C2 : St F := C1.put37 ![1, 19, 0, 0] S1x18x32x256.size (k0_pay24 v93)
  let v105 : Vec F S1x18x32x512 .i8 := VecWindow.window C2.a1 ![1, 0, 0, 0] S1x18x32x512.size inb_S2x36x32x512_S1x18x32x512_1_0_0_0
  let v109 : Vec F S512x256 .bf16 := VecWindow.window C2.a30 ![0, 0] S512x256.size inb_S512x256_S512x256_0_0
  let v111 : Vec F S1x256 .i32 := VecWindow.window C2.a9 ![0, 0] S1x256.size inb_S1x256_S1x256_0_0
  let v113 : Vec F S1x256 .f32 := VecWindow.window C2.a10 ![0, 0] S1x256.size inb_S1x256_S1x256_0_0
  k0_pay26 v105 v109 v111 v113

/-- The contents part 4 leaves. -/
def part4 (i : grid0.Coords) (S : St F) (v93 : FVec F S576x256 .f32) (v96 : IVec S18x32x256 8) : St F :=
  let C1 : St F := S.put26 ![0, 18, 0, 0] S1x18x32x256.size (k0_pay23 v96)
  let C2 : St F := C1.put37 ![1, 19, 0, 0] S1x18x32x256.size (k0_pay24 v93)
  C2

theorem run_part4 {c : Dev nD} {i : grid0.Coords} {B : Bufs} {S : St F} {v93 : FVec F S576x256 .f32} {v96 : IVec S18x32x256 8} {E : Set ℕ} {α : Type} {Q : α → sProp 𝕄}
    {κ : (Σ' (v128 : FVec F S576x256 .f32), IVec S18x32x256 8) → Prog (TpuEff nD τ sig (Elt F) Λ₀ .tc) α}
    (hk : (held (c : Thread nD τ) (cells B (part4 i S v93 v96)) : sProp 𝕄) ⊢ wp frame (wpE (defs₀ (F := F)) Variants.none c none) E (κ ⟨part4_r0 i S v93 v96, part4_r1 i S v93 v96⟩) Q) :
    (held (c : Thread nD τ) (cells B S) : sProp 𝕄) ⊢ wp frame (wpE (defs₀ (F := F)) Variants.none c none) E
      (k0_part4 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v93 v96 >>= κ) Q := by
  rw [k0_part4_eq_skeleton]
  unfold k0_part4_skel
  refine load 25 rfl ?_
  refine store 25 rfl _ (cells_put26 _ _ _ _ _) ?_
  refine load 36 rfl ?_
  refine store 36 rfl _ (cells_put37 _ _ _ _ _) ?_
  refine load 0 rfl ?_
  refine load 29 rfl ?_
  refine load 8 rfl ?_
  refine load 9 rfl ?_
  exact ret_bind hk

/-- Value 0 returned by part 5. -/
def part5_r0 (i : grid0.Coords) (S : St F) (v128 : FVec F S576x256 .f32) (v131 : IVec S18x32x256 8) : FVec F S576x256 .f32 :=
  let C1 : St F := S.put26 ![1, 0, 0, 0] S1x18x32x256.size (k0_pay27 v131)
  let C2 : St F := C1.put37 ![2, 1, 0, 0] S1x18x32x256.size (k0_pay28 v128)
  let v140 : Vec F S1x18x32x512 .i8 := VecWindow.window C2.a1 ![1, 18, 0, 0] S1x18x32x512.size inb_S2x36x32x512_S1x18x32x512_1_18_0_0
  let v144 : Vec F S512x256 .bf16 := VecWindow.window C2.a30 ![0, 0] S512x256.size inb_S512x256_S512x256_0_0
  let v146 : Vec F S1x256 .i32 := VecWindow.window C2.a9 ![0, 0] S1x256.size inb_S1x256_S1x256_0_0
  let v148 : Vec F S1x256 .f32 := VecWindow.window C2.a10 ![0, 0] S1x256.size inb_S1x256_S1x256_0_0
  k0_pay29 v140 v144 v146 v148

/-- Value 1 returned by part 5. -/
def part5_r1 (i : grid0.Coords) (S : St F) (v128 : FVec F S576x256 .f32) (v131 : IVec S18x32x256 8) : IVec S18x32x256 8 :=
  let C1 : St F := S.put26 ![1, 0, 0, 0] S1x18x32x256.size (k0_pay27 v131)
  let C2 : St F := C1.put37 ![2, 1, 0, 0] S1x18x32x256.size (k0_pay28 v128)
  let v140 : Vec F S1x18x32x512 .i8 := VecWindow.window C2.a1 ![1, 18, 0, 0] S1x18x32x512.size inb_S2x36x32x512_S1x18x32x512_1_18_0_0
  let v144 : Vec F S512x256 .bf16 := VecWindow.window C2.a30 ![0, 0] S512x256.size inb_S512x256_S512x256_0_0
  let v146 : Vec F S1x256 .i32 := VecWindow.window C2.a9 ![0, 0] S1x256.size inb_S1x256_S1x256_0_0
  let v148 : Vec F S1x256 .f32 := VecWindow.window C2.a10 ![0, 0] S1x256.size inb_S1x256_S1x256_0_0
  k0_pay30 v140 v144 v146 v148

/-- The contents part 5 leaves. -/
def part5 (i : grid0.Coords) (S : St F) (v128 : FVec F S576x256 .f32) (v131 : IVec S18x32x256 8) : St F :=
  let C1 : St F := S.put26 ![1, 0, 0, 0] S1x18x32x256.size (k0_pay27 v131)
  let C2 : St F := C1.put37 ![2, 1, 0, 0] S1x18x32x256.size (k0_pay28 v128)
  C2

theorem run_part5 {c : Dev nD} {i : grid0.Coords} {B : Bufs} {S : St F} {v128 : FVec F S576x256 .f32} {v131 : IVec S18x32x256 8} {E : Set ℕ} {α : Type} {Q : α → sProp 𝕄}
    {κ : (Σ' (v163 : FVec F S576x256 .f32), IVec S18x32x256 8) → Prog (TpuEff nD τ sig (Elt F) Λ₀ .tc) α}
    (hk : (held (c : Thread nD τ) (cells B (part5 i S v128 v131)) : sProp 𝕄) ⊢ wp frame (wpE (defs₀ (F := F)) Variants.none c none) E (κ ⟨part5_r0 i S v128 v131, part5_r1 i S v128 v131⟩) Q) :
    (held (c : Thread nD τ) (cells B S) : sProp 𝕄) ⊢ wp frame (wpE (defs₀ (F := F)) Variants.none c none) E
      (k0_part5 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v128 v131 >>= κ) Q := by
  rw [k0_part5_eq_skeleton]
  unfold k0_part5_skel
  refine load 25 rfl ?_
  refine store 25 rfl _ (cells_put26 _ _ _ _ _) ?_
  refine load 36 rfl ?_
  refine store 36 rfl _ (cells_put37 _ _ _ _ _) ?_
  refine load 0 rfl ?_
  refine load 29 rfl ?_
  refine load 8 rfl ?_
  refine load 9 rfl ?_
  exact ret_bind hk

/-- Value 0 returned by part 6. -/
def part6_r0 (i : grid0.Coords) (S : St F) (v163 : FVec F S576x256 .f32) (v166 : IVec S18x32x256 8) : FVec F S576x256 .bf16 :=
  let C1 : St F := S.put26 ![1, 18, 0, 0] S1x18x32x256.size (k0_pay31 v166)
  let C2 : St F := C1.put37 ![2, 19, 0, 0] S1x18x32x256.size (k0_pay32 v163)
  let v176 : Vec F S1x18x1x32x256 .bf16 := VecWindow.window (fun j => C2.a37 (Shape.reshapeEquiv reshapes_S3x38x32x256_S3x19x2x32x256.1 j)) ![0, 0, 0, 0, 0] S1x18x1x32x256.size inb_S3x19x2x32x256_S1x18x1x32x256_0_0_0_0_0
  k0_pay33 v176

/-- Value 1 returned by part 6. -/
def part6_r1 (i : grid0.Coords) (S : St F) (v163 : FVec F S576x256 .f32) (v166 : IVec S18x32x256 8) : FVec F S576x256 .bf16 :=
  let C1 : St F := S.put26 ![1, 18, 0, 0] S1x18x32x256.size (k0_pay31 v166)
  let C2 : St F := C1.put37 ![2, 19, 0, 0] S1x18x32x256.size (k0_pay32 v163)
  let v180 : Vec F S1x18x1x32x256 .bf16 := VecWindow.window (fun j => C2.a37 (Shape.reshapeEquiv reshapes_S3x38x32x256_S3x19x2x32x256.1 j)) ![0, 0, 1, 0, 0] S1x18x1x32x256.size inb_S3x19x2x32x256_S1x18x1x32x256_0_0_1_0_0
  k0_pay34 v180

/-- Value 2 returned by part 6. -/
def part6_r2 (i : grid0.Coords) (S : St F) (v163 : FVec F S576x256 .f32) (v166 : IVec S18x32x256 8) : FVec F S576x256 .bf16 :=
  let C1 : St F := S.put26 ![1, 18, 0, 0] S1x18x32x256.size (k0_pay31 v166)
  let C2 : St F := C1.put37 ![2, 19, 0, 0] S1x18x32x256.size (k0_pay32 v163)
  let v184 : Vec F S1x18x1x32x256 .bf16 := VecWindow.window (fun j => C2.a37 (Shape.reshapeEquiv reshapes_S3x38x32x256_S3x19x2x32x256.1 j)) ![0, 1, 0, 0, 0] S1x18x1x32x256.size inb_S3x19x2x32x256_S1x18x1x32x256_0_1_0_0_0
  k0_pay35 v184

/-- Value 3 returned by part 6. -/
def part6_r3 (i : grid0.Coords) (S : St F) (v163 : FVec F S576x256 .f32) (v166 : IVec S18x32x256 8) : FVec F S576x256 .bf16 :=
  let C1 : St F := S.put26 ![1, 18, 0, 0] S1x18x32x256.size (k0_pay31 v166)
  let C2 : St F := C1.put37 ![2, 19, 0, 0] S1x18x32x256.size (k0_pay32 v163)
  let v188 : Vec F S1x18x1x32x256 .bf16 := VecWindow.window (fun j => C2.a37 (Shape.reshapeEquiv reshapes_S3x38x32x256_S3x19x2x32x256.1 j)) ![1, 0, 0, 0, 0] S1x18x1x32x256.size inb_S3x19x2x32x256_S1x18x1x32x256_1_0_0_0_0
  k0_pay36 v188

/-- Value 4 returned by part 6. -/
def part6_r4 (i : grid0.Coords) (S : St F) (v163 : FVec F S576x256 .f32) (v166 : IVec S18x32x256 8) : FVec F S576x256 .bf16 :=
  let C1 : St F := S.put26 ![1, 18, 0, 0] S1x18x32x256.size (k0_pay31 v166)
  let C2 : St F := C1.put37 ![2, 19, 0, 0] S1x18x32x256.size (k0_pay32 v163)
  let v192 : Vec F S1x18x1x32x256 .bf16 := VecWindow.window (fun j => C2.a37 (Shape.reshapeEquiv reshapes_S3x38x32x256_S3x19x2x32x256.1 j)) ![1, 0, 1, 0, 0] S1x18x1x32x256.size inb_S3x19x2x32x256_S1x18x1x32x256_1_0_1_0_0
  k0_pay37 v192

/-- The contents part 6 leaves. -/
def part6 (i : grid0.Coords) (S : St F) (v163 : FVec F S576x256 .f32) (v166 : IVec S18x32x256 8) : St F :=
  let C1 : St F := S.put26 ![1, 18, 0, 0] S1x18x32x256.size (k0_pay31 v166)
  let C2 : St F := C1.put37 ![2, 19, 0, 0] S1x18x32x256.size (k0_pay32 v163)
  C2

theorem run_part6 {c : Dev nD} {i : grid0.Coords} {B : Bufs} {S : St F} {v163 : FVec F S576x256 .f32} {v166 : IVec S18x32x256 8} {E : Set ℕ} {α : Type} {Q : α → sProp 𝕄}
    {κ : (Σ' (v178 : FVec F S576x256 .bf16) (v182 : FVec F S576x256 .bf16) (v186 : FVec F S576x256 .bf16) (v190 : FVec F S576x256 .bf16), FVec F S576x256 .bf16) → Prog (TpuEff nD τ sig (Elt F) Λ₀ .tc) α}
    (hk : (held (c : Thread nD τ) (cells B (part6 i S v163 v166)) : sProp 𝕄) ⊢ wp frame (wpE (defs₀ (F := F)) Variants.none c none) E (κ ⟨part6_r0 i S v163 v166, part6_r1 i S v163 v166, part6_r2 i S v163 v166, part6_r3 i S v163 v166, part6_r4 i S v163 v166⟩) Q) :
    (held (c : Thread nD τ) (cells B S) : sProp 𝕄) ⊢ wp frame (wpE (defs₀ (F := F)) Variants.none c none) E
      (k0_part6 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v163 v166 >>= κ) Q := by
  rw [k0_part6_eq_skeleton]
  unfold k0_part6_skel
  refine load 25 rfl ?_
  refine store 25 rfl _ (cells_put26 _ _ _ _ _) ?_
  refine load 36 rfl ?_
  refine store 36 rfl _ (cells_put37 _ _ _ _ _) ?_
  refine load_reshape 36 rfl ?_
  refine load_reshape 36 rfl ?_
  refine load_reshape 36 rfl ?_
  refine load_reshape 36 rfl ?_
  refine load_reshape 36 rfl ?_
  exact ret_bind hk

/-- Value 0 returned by part 7. -/
def part7_r0 (i : grid0.Coords) (S : St F) (v178 : FVec F S576x256 .bf16) (v182 : FVec F S576x256 .bf16) (v186 : FVec F S576x256 .bf16) (v190 : FVec F S576x256 .bf16) (v194 : FVec F S576x256 .bf16) : FVec F S576x256 .f32 :=
  let v196 : Vec F S1x18x1x32x256 .bf16 := VecWindow.window (fun j => S.a37 (Shape.reshapeEquiv reshapes_S3x38x32x256_S3x19x2x32x256.1 j)) ![1, 1, 0, 0, 0] S1x18x1x32x256.size inb_S3x19x2x32x256_S1x18x1x32x256_1_1_0_0_0
  let v200 : Vec F S1x18x1x32x256 .bf16 := VecWindow.window (fun j => S.a37 (Shape.reshapeEquiv reshapes_S3x38x32x256_S3x19x2x32x256.1 j)) ![2, 0, 0, 0, 0] S1x18x1x32x256.size inb_S3x19x2x32x256_S1x18x1x32x256_2_0_0_0_0
  let v204 : Vec F S1x18x1x32x256 .bf16 := VecWindow.window (fun j => S.a37 (Shape.reshapeEquiv reshapes_S3x38x32x256_S3x19x2x32x256.1 j)) ![2, 0, 1, 0, 0] S1x18x1x32x256.size inb_S3x19x2x32x256_S1x18x1x32x256_2_0_1_0_0
  let v208 : Vec F S1x18x1x32x256 .bf16 := VecWindow.window (fun j => S.a37 (Shape.reshapeEquiv reshapes_S3x38x32x256_S3x19x2x32x256.1 j)) ![2, 1, 0, 0, 0] S1x18x1x32x256.size inb_S3x19x2x32x256_S1x18x1x32x256_2_1_0_0_0
  let v212 : Vec F S2304x256 .bf16 := VecWindow.window S.a31 ![0, 0] S2304x256.size inb_S2304x256_S2304x256_0_0
  let v214 : Vec F S1x256 .i32 := VecWindow.window S.a11 ![0, 0] S1x256.size inb_S1x256_S1x256_0_0
  let v216 : Vec F S1x256 .f32 := VecWindow.window S.a12 ![0, 0] S1x256.size inb_S1x256_S1x256_0_0
  k0_pay38 v178 v182 v186 v190 v194 v196 v200 v204 v208 v212 v214 v216

/-- Value 1 returned by part 7. -/
def part7_r1 (i : grid0.Coords) (S : St F) (v178 : FVec F S576x256 .bf16) (v182 : FVec F S576x256 .bf16) (v186 : FVec F S576x256 .bf16) (v190 : FVec F S576x256 .bf16) (v194 : FVec F S576x256 .bf16) : BitVec 32 :=
  255#32

/-- Value 2 returned by part 7. -/
def part7_r2 (i : grid0.Coords) (S : St F) (v178 : FVec F S576x256 .bf16) (v182 : FVec F S576x256 .bf16) (v186 : FVec F S576x256 .bf16) (v190 : FVec F S576x256 .bf16) (v194 : FVec F S576x256 .bf16) : F .f32 :=
  k0_pay39 (F := F)

theorem run_part7 {c : Dev nD} {i : grid0.Coords} {B : Bufs} {S : St F} {v178 : FVec F S576x256 .bf16} {v182 : FVec F S576x256 .bf16} {v186 : FVec F S576x256 .bf16} {v190 : FVec F S576x256 .bf16} {v194 : FVec F S576x256 .bf16} {E : Set ℕ} {α : Type} {Q : α → sProp 𝕄}
    {κ : (Σ' (v225 : FVec F S576x256 .f32) (c255_i32_163 : BitVec 32), F .f32) → Prog (TpuEff nD τ sig (Elt F) Λ₀ .tc) α}
    (hk : (held (c : Thread nD τ) (cells B S) : sProp 𝕄) ⊢ wp frame (wpE (defs₀ (F := F)) Variants.none c none) E (κ ⟨part7_r0 i S v178 v182 v186 v190 v194, part7_r1 i S v178 v182 v186 v190 v194, part7_r2 i S v178 v182 v186 v190 v194⟩) Q) :
    (held (c : Thread nD τ) (cells B S) : sProp 𝕄) ⊢ wp frame (wpE (defs₀ (F := F)) Variants.none c none) E
      (k0_part7 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v178 v182 v186 v190 v194 >>= κ) Q := by
  rw [k0_part7_eq_skeleton]
  unfold k0_part7_skel
  refine load_reshape 36 rfl ?_
  refine load_reshape 36 rfl ?_
  refine load_reshape 36 rfl ?_
  refine load_reshape 36 rfl ?_
  refine load 30 rfl ?_
  refine load 10 rfl ?_
  refine load 11 rfl ?_
  exact ret_bind hk

/-- Value 0 returned by part 8. -/
def part8_r0 (i : grid0.Coords) (S : St F) (v225 : FVec F S576x256 .f32) (c255_i32_163 : BitVec 32) (v226 : F .f32) : FVec F S576x512 .bf16 :=
  let C1 : St F := S.put27 ![0, 0, 0, 0] S1x18x32x256.size (k0_pay41 v225 c255_i32_163 v226)
  let C2 : St F := C1.put38 ![0, 0] S576x256.size (k0_pay42 v225 c255_i32_163 v226)
  let v243 : Vec F S1x18x1x32x512 .i8 := VecWindow.window (fun j => C2.a1 (Shape.reshapeEquiv reshapes_S2x36x32x512_S2x18x2x32x512.1 j)) ![0, 0, 0, 0, 0] S1x18x1x32x512.size inb_S2x18x2x32x512_S1x18x1x32x512_0_0_0_0_0
  k0_pay43 v243

/-- Value 1 returned by part 8. -/
def part8_r1 (i : grid0.Coords) (S : St F) (v225 : FVec F S576x256 .f32) (c255_i32_163 : BitVec 32) (v226 : F .f32) : FVec F S576x256 .f32 :=
  let C1 : St F := S.put27 ![0, 0, 0, 0] S1x18x32x256.size (k0_pay41 v225 c255_i32_163 v226)
  let C2 : St F := C1.put38 ![0, 0] S576x256.size (k0_pay42 v225 c255_i32_163 v226)
  let v247 : Vec F S576x256 .bf16 := VecWindow.window C2.a38 ![0, 0] S576x256.size inb_S576x256_S576x256_0_0
  let v248 : Vec F S256x256 .bf16 := VecWindow.window C2.a32 ![0, 0] S256x256.size inb_S256x1024_S256x256_0_0
  let v250 : Vec F S1x256 .i32 := VecWindow.window C2.a13 ![0, 0] S1x256.size inb_S1x1024_S1x256_0_0
  let v252 : Vec F S1x256 .f32 := VecWindow.window C2.a14 ![0, 0] S1x256.size inb_S1x1024_S1x256_0_0
  k0_pay44 v247 v248 v250 v252

/-- Value 2 returned by part 8. -/
def part8_r2 (i : grid0.Coords) (S : St F) (v225 : FVec F S576x256 .f32) (c255_i32_163 : BitVec 32) (v226 : F .f32) : Vec F S512x256 .bf16 :=
  let C1 : St F := S.put27 ![0, 0, 0, 0] S1x18x32x256.size (k0_pay41 v225 c255_i32_163 v226)
  let C2 : St F := C1.put38 ![0, 0] S576x256.size (k0_pay42 v225 c255_i32_163 v226)
  let v261 : Vec F S512x256 .bf16 := VecWindow.window C2.a33 ![0, 0] S512x256.size inb_S512x1024_S512x256_0_0
  v261

/-- Value 3 returned by part 8. -/
def part8_r3 (i : grid0.Coords) (S : St F) (v225 : FVec F S576x256 .f32) (c255_i32_163 : BitVec 32) (v226 : F .f32) : FVec F S576x256 .f32 :=
  let cst_186 : FVec F S576x256 .f32 := constant S576x256 .f32 0x00000000#32
  cst_186

/-- The contents part 8 leaves. -/
def part8 (i : grid0.Coords) (S : St F) (v225 : FVec F S576x256 .f32) (c255_i32_163 : BitVec 32) (v226 : F .f32) : St F :=
  let C1 : St F := S.put27 ![0, 0, 0, 0] S1x18x32x256.size (k0_pay41 v225 c255_i32_163 v226)
  let C2 : St F := C1.put38 ![0, 0] S576x256.size (k0_pay42 v225 c255_i32_163 v226)
  C2

theorem run_part8 {c : Dev nD} {i : grid0.Coords} {B : Bufs} {S : St F} {v225 : FVec F S576x256 .f32} {c255_i32_163 : BitVec 32} {v226 : F .f32} {E : Set ℕ} {α : Type} {Q : α → sProp 𝕄}
    {κ : (Σ' (v246 : FVec F S576x512 .bf16) (v260 : FVec F S576x256 .f32) (v261 : Vec F S512x256 .bf16), FVec F S576x256 .f32) → Prog (TpuEff nD τ sig (Elt F) Λ₀ .tc) α}
    (hk : (held (c : Thread nD τ) (cells B (part8 i S v225 c255_i32_163 v226)) : sProp 𝕄) ⊢ wp frame (wpE (defs₀ (F := F)) Variants.none c none) E (κ ⟨part8_r0 i S v225 c255_i32_163 v226, part8_r1 i S v225 c255_i32_163 v226, part8_r2 i S v225 c255_i32_163 v226, part8_r3 i S v225 c255_i32_163 v226⟩) Q) :
    (held (c : Thread nD τ) (cells B S) : sProp 𝕄) ⊢ wp frame (wpE (defs₀ (F := F)) Variants.none c none) E
      (k0_part8 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v225 c255_i32_163 v226 >>= κ) Q := by
  rw [k0_part8_eq_skeleton]
  unfold k0_part8_skel
  refine load 26 rfl ?_
  refine store 26 rfl _ (cells_put27 _ _ _ _ _) ?_
  refine load 37 rfl ?_
  refine store 37 rfl _ (cells_put38 _ _ _ _ _) ?_
  refine load_reshape 0 rfl ?_
  refine load 37 rfl ?_
  refine load 31 rfl ?_
  refine load 12 rfl ?_
  refine load 13 rfl ?_
  refine load 32 rfl ?_
  exact ret_bind hk

/-- Value 0 returned by part 9. -/
def part9_r0 (i : grid0.Coords) (S : St F) (arg0 : BitVec 32) (k0_h2 : k0_cond2 i = 1#1) (v246 : FVec F S576x512 .bf16) (v260 : FVec F S576x256 .f32) (v261 : Vec F S512x256 .bf16) (cst_186 : FVec F S576x256 .f32) : FVec F S1x576x256 .bf16 :=
  let v263 : Vec F S1x256 .i32 := VecWindow.window S.a15 ![0, 0] S1x256.size inb_S1x1024_S1x256_0_0
  let v265 : Vec F S1x256 .f32 := VecWindow.window S.a16 ![0, 0] S1x256.size inb_S1x1024_S1x256_0_0
  (k0_pay47 v246 v260 v261 cst_186 v263 v265)

/-- The contents part 9 leaves. -/
def part9 (i : grid0.Coords) (S : St F) (arg0 : BitVec 32) (k0_h2 : k0_cond2 i = 1#1) (v246 : FVec F S576x512 .bf16) (v260 : FVec F S576x256 .f32) (v261 : Vec F S512x256 .bf16) (cst_186 : FVec F S576x256 .f32) : St F :=
  let v263 : Vec F S1x256 .i32 := VecWindow.window S.a15 ![0, 0] S1x256.size inb_S1x1024_S1x256_0_0
  let v265 : Vec F S1x256 .f32 := VecWindow.window S.a16 ![0, 0] S1x256.size inb_S1x1024_S1x256_0_0
  let C1 : St F := S.put25 ![0, 0, 0, 0] S1x18x32x256.size (k0_pay46 v246 v260 v261 cst_186 v263 v265)
  C1

theorem run_part9 {c : Dev nD} {i : grid0.Coords} {B : Bufs} {S : St F} {arg0 : BitVec 32} {k0_h2 : k0_cond2 i = 1#1} {v246 : FVec F S576x512 .bf16} {v260 : FVec F S576x256 .f32} {v261 : Vec F S512x256 .bf16} {cst_186 : FVec F S576x256 .f32} {E : Set ℕ} {α : Type} {Q : α → sProp 𝕄}
    {κ : (FVec F S1x576x256 .bf16) → Prog (TpuEff nD τ sig (Elt F) Λ₀ .tc) α}
    (hk : (held (c : Thread nD τ) (cells B (part9 i S arg0 k0_h2 v246 v260 v261 cst_186)) : sProp 𝕄) ⊢ wp frame (wpE (defs₀ (F := F)) Variants.none c none) E (κ (part9_r0 i S arg0 k0_h2 v246 v260 v261 cst_186)) Q) :
    (held (c : Thread nD τ) (cells B S) : sProp 𝕄) ⊢ wp frame (wpE (defs₀ (F := F)) Variants.none c none) E
      (k0_part9 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h2 v246 v260 v261 cst_186 >>= κ) Q := by
  rw [k0_part9_eq_skeleton]
  unfold k0_part9_skel
  refine load 14 rfl ?_
  refine load 15 rfl ?_
  refine load 24 rfl ?_
  refine store 24 rfl _ (cells_put25 _ _ _ _ _) ?_
  refine load 38 rfl ?_
  exact ret_bind hk

/-- Value 0 returned by part 10. -/
def part10_r0 (i : grid0.Coords) (S : St F) (k0_h2 : k0_cond2 i = 1#1) (v246 : FVec F S576x512 .bf16) (v302 : FVec F S1x576x256 .bf16) : FVec F S576x256 .f32 :=
  let C1 : St F := S.put39 (k0_off1 i) S1x576x256.size v302
  let v303 : Vec F S576x256 .bf16 := VecWindow.window C1.a38 ![0, 0] S576x256.size inb_S576x256_S576x256_0_0
  let v304 : Vec F S256x256 .bf16 := VecWindow.window C1.a32 ![0, 256] S256x256.size inb_S256x1024_S256x256_0_256
  let v306 : Vec F S1x256 .i32 := VecWindow.window C1.a13 ![0, 256] S1x256.size inb_S1x1024_S1x256_0_256
  let v308 : Vec F S1x256 .f32 := VecWindow.window C1.a14 ![0, 256] S1x256.size inb_S1x1024_S1x256_0_256
  let v317 : Vec F S512x256 .bf16 := VecWindow.window C1.a33 ![0, 256] S512x256.size inb_S512x1024_S512x256_0_256
  let v319 : Vec F S1x256 .i32 := VecWindow.window C1.a15 ![0, 256] S1x256.size inb_S1x1024_S1x256_0_256
  let v321 : Vec F S1x256 .f32 := VecWindow.window C1.a16 ![0, 256] S1x256.size inb_S1x1024_S1x256_0_256
  k0_pay48 v246 v303 v304 v306 v308 v317 v319 v321

/-- Value 1 returned by part 10. -/
def part10_r1 (i : grid0.Coords) (S : St F) (k0_h2 : k0_cond2 i = 1#1) (v246 : FVec F S576x512 .bf16) (v302 : FVec F S1x576x256 .bf16) : IVec S18x32x256 8 :=
  let C1 : St F := S.put39 (k0_off1 i) S1x576x256.size v302
  let v303 : Vec F S576x256 .bf16 := VecWindow.window C1.a38 ![0, 0] S576x256.size inb_S576x256_S576x256_0_0
  let v304 : Vec F S256x256 .bf16 := VecWindow.window C1.a32 ![0, 256] S256x256.size inb_S256x1024_S256x256_0_256
  let v306 : Vec F S1x256 .i32 := VecWindow.window C1.a13 ![0, 256] S1x256.size inb_S1x1024_S1x256_0_256
  let v308 : Vec F S1x256 .f32 := VecWindow.window C1.a14 ![0, 256] S1x256.size inb_S1x1024_S1x256_0_256
  let v317 : Vec F S512x256 .bf16 := VecWindow.window C1.a33 ![0, 256] S512x256.size inb_S512x1024_S512x256_0_256
  let v319 : Vec F S1x256 .i32 := VecWindow.window C1.a15 ![0, 256] S1x256.size inb_S1x1024_S1x256_0_256
  let v321 : Vec F S1x256 .f32 := VecWindow.window C1.a16 ![0, 256] S1x256.size inb_S1x1024_S1x256_0_256
  k0_pay49 v246 v303 v304 v306 v308 v317 v319 v321

/-- The contents part 10 leaves. -/
def part10 (i : grid0.Coords) (S : St F) (k0_h2 : k0_cond2 i = 1#1) (v246 : FVec F S576x512 .bf16) (v302 : FVec F S1x576x256 .bf16) : St F :=
  let C1 : St F := S.put39 (k0_off1 i) S1x576x256.size v302
  C1

theorem run_part10 {c : Dev nD} {i : grid0.Coords} {B : Bufs} {S : St F} {k0_h2 : k0_cond2 i = 1#1} {v246 : FVec F S576x512 .bf16} {v302 : FVec F S1x576x256 .bf16} {E : Set ℕ} {α : Type} {Q : α → sProp 𝕄}
    {κ : (Σ' (v337 : FVec F S576x256 .f32), IVec S18x32x256 8) → Prog (TpuEff nD τ sig (Elt F) Λ₀ .tc) α}
    (hk : (held (c : Thread nD τ) (cells B (part10 i S k0_h2 v246 v302)) : sProp 𝕄) ⊢ wp frame (wpE (defs₀ (F := F)) Variants.none c none) E (κ ⟨part10_r0 i S k0_h2 v246 v302, part10_r1 i S k0_h2 v246 v302⟩) Q) :
    (held (c : Thread nD τ) (cells B S) : sProp 𝕄) ⊢ wp frame (wpE (defs₀ (F := F)) Variants.none c none) E
      (k0_part10 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 k0_h2 v246 v302 >>= κ) Q := by
  rw [k0_part10_eq_skeleton]
  unfold k0_part10_skel
  refine store 38 rfl _ (cells_put39 _ _ _ _ _) ?_
  refine load 37 rfl ?_
  refine load 31 rfl ?_
  refine load 12 rfl ?_
  refine load 13 rfl ?_
  refine load 32 rfl ?_
  refine load 14 rfl ?_
  refine load 15 rfl ?_
  exact ret_bind hk

/-- Value 0 returned by part 11. -/
def part11_r0 (i : grid0.Coords) (S : St F) (arg0 : BitVec 32) (k0_h2 : k0_cond2 i = 1#1) (v246 : FVec F S576x512 .bf16) (v337 : FVec F S576x256 .f32) (v340 : IVec S18x32x256 8) : FVec F S576x256 .f32 :=
  let C1 : St F := S.put25 ![0, 0, 0, 256] S1x18x32x256.size (k0_pay50 v340)
  let C2 : St F := C1.put39 (k0_off2 i) S1x576x256.size (k0_pay51 v337)
  let v359 : Vec F S576x256 .bf16 := VecWindow.window C2.a38 ![0, 0] S576x256.size inb_S576x256_S576x256_0_0
  let v360 : Vec F S256x256 .bf16 := VecWindow.window C2.a32 ![0, 512] S256x256.size inb_S256x1024_S256x256_0_512
  let v362 : Vec F S1x256 .i32 := VecWindow.window C2.a13 ![0, 512] S1x256.size inb_S1x1024_S1x256_0_512
  let v364 : Vec F S1x256 .f32 := VecWindow.window C2.a14 ![0, 512] S1x256.size inb_S1x1024_S1x256_0_512
  k0_pay52 v359 v360 v362 v364

/-- Value 1 returned by part 11. -/
def part11_r1 (i : grid0.Coords) (S : St F) (arg0 : BitVec 32) (k0_h2 : k0_cond2 i = 1#1) (v246 : FVec F S576x512 .bf16) (v337 : FVec F S576x256 .f32) (v340 : IVec S18x32x256 8) : FVec F S576x256 .f32 :=
  let C1 : St F := S.put25 ![0, 0, 0, 256] S1x18x32x256.size (k0_pay50 v340)
  let C2 : St F := C1.put39 (k0_off2 i) S1x576x256.size (k0_pay51 v337)
  let v373 : Vec F S512x256 .bf16 := VecWindow.window C2.a33 ![0, 512] S512x256.size inb_S512x1024_S512x256_0_512
  k0_pay53 v246 v373

/-- Value 2 returned by part 11. -/
def part11_r2 (i : grid0.Coords) (S : St F) (arg0 : BitVec 32) (k0_h2 : k0_cond2 i = 1#1) (v246 : FVec F S576x512 .bf16) (v337 : FVec F S576x256 .f32) (v340 : IVec S18x32x256 8) : Vec F S1x256 .i32 :=
  let C1 : St F := S.put25 ![0, 0, 0, 256] S1x18x32x256.size (k0_pay50 v340)
  let C2 : St F := C1.put39 (k0_off2 i) S1x576x256.size (k0_pay51 v337)
  let v375 : Vec F S1x256 .i32 := VecWindow.window C2.a15 ![0, 512] S1x256.size inb_S1x1024_S1x256_0_512
  v375

/-- The contents part 11 leaves. -/
def part11 (i : grid0.Coords) (S : St F) (arg0 : BitVec 32) (k0_h2 : k0_cond2 i = 1#1) (v246 : FVec F S576x512 .bf16) (v337 : FVec F S576x256 .f32) (v340 : IVec S18x32x256 8) : St F :=
  let C1 : St F := S.put25 ![0, 0, 0, 256] S1x18x32x256.size (k0_pay50 v340)
  let C2 : St F := C1.put39 (k0_off2 i) S1x576x256.size (k0_pay51 v337)
  C2

theorem run_part11 {c : Dev nD} {i : grid0.Coords} {B : Bufs} {S : St F} {arg0 : BitVec 32} {k0_h2 : k0_cond2 i = 1#1} {v246 : FVec F S576x512 .bf16} {v337 : FVec F S576x256 .f32} {v340 : IVec S18x32x256 8} {E : Set ℕ} {α : Type} {Q : α → sProp 𝕄}
    {κ : (Σ' (v372 : FVec F S576x256 .f32) (v374 : FVec F S576x256 .f32), Vec F S1x256 .i32) → Prog (TpuEff nD τ sig (Elt F) Λ₀ .tc) α}
    (hk : (held (c : Thread nD τ) (cells B (part11 i S arg0 k0_h2 v246 v337 v340)) : sProp 𝕄) ⊢ wp frame (wpE (defs₀ (F := F)) Variants.none c none) E (κ ⟨part11_r0 i S arg0 k0_h2 v246 v337 v340, part11_r1 i S arg0 k0_h2 v246 v337 v340, part11_r2 i S arg0 k0_h2 v246 v337 v340⟩) Q) :
    (held (c : Thread nD τ) (cells B S) : sProp 𝕄) ⊢ wp frame (wpE (defs₀ (F := F)) Variants.none c none) E
      (k0_part11 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h2 v246 v337 v340 >>= κ) Q := by
  rw [k0_part11_eq_skeleton]
  unfold k0_part11_skel
  refine load 24 rfl ?_
  refine store 24 rfl _ (cells_put25 _ _ _ _ _) ?_
  refine load 38 rfl ?_
  refine store 38 rfl _ (cells_put39 _ _ _ _ _) ?_
  refine load 37 rfl ?_
  refine load 31 rfl ?_
  refine load 12 rfl ?_
  refine load 13 rfl ?_
  refine load 32 rfl ?_
  refine load 14 rfl ?_
  exact ret_bind hk

/-- Value 0 returned by part 12. -/
def part12_r0 (i : grid0.Coords) (S : St F) (arg0 : BitVec 32) (k0_h2 : k0_cond2 i = 1#1) (v372 : FVec F S576x256 .f32) (v374 : FVec F S576x256 .f32) (v375 : Vec F S1x256 .i32) : Vec F S576x256 .bf16 :=
  let v377 : Vec F S1x256 .f32 := VecWindow.window S.a16 ![0, 512] S1x256.size inb_S1x1024_S1x256_0_512
  let C1 : St F := S.put25 ![0, 0, 0, 512] S1x18x32x256.size (k0_pay55 v372 v374 v375 v377)
  let C2 : St F := C1.put39 (k0_off3 i) S1x576x256.size (k0_pay56 v372 v374 v375 v377)
  let v415 : Vec F S576x256 .bf16 := VecWindow.window C2.a38 ![0, 0] S576x256.size inb_S576x256_S576x256_0_0
  v415

/-- The contents part 12 leaves. -/
def part12 (i : grid0.Coords) (S : St F) (arg0 : BitVec 32) (k0_h2 : k0_cond2 i = 1#1) (v372 : FVec F S576x256 .f32) (v374 : FVec F S576x256 .f32) (v375 : Vec F S1x256 .i32) : St F :=
  let v377 : Vec F S1x256 .f32 := VecWindow.window S.a16 ![0, 512] S1x256.size inb_S1x1024_S1x256_0_512
  let C1 : St F := S.put25 ![0, 0, 0, 512] S1x18x32x256.size (k0_pay55 v372 v374 v375 v377)
  let C2 : St F := C1.put39 (k0_off3 i) S1x576x256.size (k0_pay56 v372 v374 v375 v377)
  C2

theorem run_part12 {c : Dev nD} {i : grid0.Coords} {B : Bufs} {S : St F} {arg0 : BitVec 32} {k0_h2 : k0_cond2 i = 1#1} {v372 : FVec F S576x256 .f32} {v374 : FVec F S576x256 .f32} {v375 : Vec F S1x256 .i32} {E : Set ℕ} {α : Type} {Q : α → sProp 𝕄}
    {κ : (Vec F S576x256 .bf16) → Prog (TpuEff nD τ sig (Elt F) Λ₀ .tc) α}
    (hk : (held (c : Thread nD τ) (cells B (part12 i S arg0 k0_h2 v372 v374 v375)) : sProp 𝕄) ⊢ wp frame (wpE (defs₀ (F := F)) Variants.none c none) E (κ (part12_r0 i S arg0 k0_h2 v372 v374 v375)) Q) :
    (held (c : Thread nD τ) (cells B S) : sProp 𝕄) ⊢ wp frame (wpE (defs₀ (F := F)) Variants.none c none) E
      (k0_part12 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h2 v372 v374 v375 >>= κ) Q := by
  rw [k0_part12_eq_skeleton]
  unfold k0_part12_skel
  refine load 15 rfl ?_
  refine load 24 rfl ?_
  refine store 24 rfl _ (cells_put25 _ _ _ _ _) ?_
  refine load 38 rfl ?_
  refine store 38 rfl _ (cells_put39 _ _ _ _ _) ?_
  refine load 37 rfl ?_
  exact ret_bind hk

/-- Value 0 returned by part 13. -/
def part13_r0 (i : grid0.Coords) (S : St F) (v246 : FVec F S576x512 .bf16) (v415 : Vec F S576x256 .bf16) : FVec F S576x256 .f32 :=
  let v416 : Vec F S256x256 .bf16 := VecWindow.window S.a32 ![0, 768] S256x256.size inb_S256x1024_S256x256_0_768
  let v418 : Vec F S1x256 .i32 := VecWindow.window S.a13 ![0, 768] S1x256.size inb_S1x1024_S1x256_0_768
  let v420 : Vec F S1x256 .f32 := VecWindow.window S.a14 ![0, 768] S1x256.size inb_S1x1024_S1x256_0_768
  let v429 : Vec F S512x256 .bf16 := VecWindow.window S.a33 ![0, 768] S512x256.size inb_S512x1024_S512x256_0_768
  let v431 : Vec F S1x256 .i32 := VecWindow.window S.a15 ![0, 768] S1x256.size inb_S1x1024_S1x256_0_768
  let v433 : Vec F S1x256 .f32 := VecWindow.window S.a16 ![0, 768] S1x256.size inb_S1x1024_S1x256_0_768
  k0_pay57 v246 v415 v416 v418 v420 v429 v431 v433

/-- Value 1 returned by part 13. -/
def part13_r1 (i : grid0.Coords) (S : St F) (v246 : FVec F S576x512 .bf16) (v415 : Vec F S576x256 .bf16) : IVec S1x18x32x256 8 :=
  let v416 : Vec F S256x256 .bf16 := VecWindow.window S.a32 ![0, 768] S256x256.size inb_S256x1024_S256x256_0_768
  let v418 : Vec F S1x256 .i32 := VecWindow.window S.a13 ![0, 768] S1x256.size inb_S1x1024_S1x256_0_768
  let v420 : Vec F S1x256 .f32 := VecWindow.window S.a14 ![0, 768] S1x256.size inb_S1x1024_S1x256_0_768
  let v429 : Vec F S512x256 .bf16 := VecWindow.window S.a33 ![0, 768] S512x256.size inb_S512x1024_S512x256_0_768
  let v431 : Vec F S1x256 .i32 := VecWindow.window S.a15 ![0, 768] S1x256.size inb_S1x1024_S1x256_0_768
  let v433 : Vec F S1x256 .f32 := VecWindow.window S.a16 ![0, 768] S1x256.size inb_S1x1024_S1x256_0_768
  k0_pay58 v246 v415 v416 v418 v420 v429 v431 v433

theorem run_part13 {c : Dev nD} {i : grid0.Coords} {B : Bufs} {S : St F} {v246 : FVec F S576x512 .bf16} {v415 : Vec F S576x256 .bf16} {E : Set ℕ} {α : Type} {Q : α → sProp 𝕄}
    {κ : (Σ' (v449 : FVec F S576x256 .f32), IVec S1x18x32x256 8) → Prog (TpuEff nD τ sig (Elt F) Λ₀ .tc) α}
    (hk : (held (c : Thread nD τ) (cells B S) : sProp 𝕄) ⊢ wp frame (wpE (defs₀ (F := F)) Variants.none c none) E (κ ⟨part13_r0 i S v246 v415, part13_r1 i S v246 v415⟩) Q) :
    (held (c : Thread nD τ) (cells B S) : sProp 𝕄) ⊢ wp frame (wpE (defs₀ (F := F)) Variants.none c none) E
      (k0_part13 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v246 v415 >>= κ) Q := by
  rw [k0_part13_eq_skeleton]
  unfold k0_part13_skel
  refine load 31 rfl ?_
  refine load 12 rfl ?_
  refine load 13 rfl ?_
  refine load 32 rfl ?_
  refine load 14 rfl ?_
  refine load 15 rfl ?_
  refine load 24 rfl ?_
  exact ret_bind hk

/-- Value 0 returned by part 14. -/
def part14_r0 (i : grid0.Coords) (S : St F) (arg0 : BitVec 32) (k0_h2 : k0_cond2 i = 1#1) (v449 : FVec F S576x256 .f32) (v455 : IVec S1x18x32x256 8) : IVec S1x256 32 :=
  let C1 : St F := S.put25 ![0, 0, 0, 768] S1x18x32x256.size v455
  let C2 : St F := C1.put39 (k0_off4 i) S1x576x256.size (k0_pay59 v449)
  let v486 : Vec F S1x256 .i32 := VecWindow.window C2.a17 ![0, 0] S1x256.size inb_S1x256_S1x256_0_0
  k0_pay60 v486

/-- Value 1 returned by part 14. -/
def part14_r1 (i : grid0.Coords) (S : St F) (arg0 : BitVec 32) (k0_h2 : k0_cond2 i = 1#1) (v449 : FVec F S576x256 .f32) (v455 : IVec S1x18x32x256 8) : FVec F S1x256 .f32 :=
  let C1 : St F := S.put25 ![0, 0, 0, 768] S1x18x32x256.size v455
  let C2 : St F := C1.put39 (k0_off4 i) S1x576x256.size (k0_pay59 v449)
  let v488 : Vec F S1x256 .f32 := VecWindow.window C2.a18 ![0, 0] S1x256.size inb_S1x256_S1x256_0_0
  k0_pay61 v488

/-- Value 2 returned by part 14. -/
def part14_r2 (i : grid0.Coords) (S : St F) (arg0 : BitVec 32) (k0_h2 : k0_cond2 i = 1#1) (v449 : FVec F S576x256 .f32) (v455 : IVec S1x18x32x256 8) : FVec F S576x256 .f32 :=
  let C1 : St F := S.put25 ![0, 0, 0, 768] S1x18x32x256.size v455
  let C2 : St F := C1.put39 (k0_off4 i) S1x576x256.size (k0_pay59 v449)
  let v482 : Vec F S1x576x1024 .bf16 := VecWindow.window C2.a39 (k0_off5 i) S1x576x1024.size (k0_off5_inb i k0_h2)
  let v484 : Vec F S1024x256 .bf16 := VecWindow.window C2.a34 ![0, 0] S1024x256.size inb_S1024x256_S1024x256_0_0
  k0_pay62 v482 v484

/-- The contents part 14 leaves. -/
def part14 (i : grid0.Coords) (S : St F) (arg0 : BitVec 32) (k0_h2 : k0_cond2 i = 1#1) (v449 : FVec F S576x256 .f32) (v455 : IVec S1x18x32x256 8) : St F :=
  let C1 : St F := S.put25 ![0, 0, 0, 768] S1x18x32x256.size v455
  let C2 : St F := C1.put39 (k0_off4 i) S1x576x256.size (k0_pay59 v449)
  C2

theorem run_part14 {c : Dev nD} {i : grid0.Coords} {B : Bufs} {S : St F} {arg0 : BitVec 32} {k0_h2 : k0_cond2 i = 1#1} {v449 : FVec F S576x256 .f32} {v455 : IVec S1x18x32x256 8} {E : Set ℕ} {α : Type} {Q : α → sProp 𝕄}
    {κ : (Σ' (v487 : IVec S1x256 32) (v489 : FVec F S1x256 .f32), FVec F S576x256 .f32) → Prog (TpuEff nD τ sig (Elt F) Λ₀ .tc) α}
    (hk : (held (c : Thread nD τ) (cells B (part14 i S arg0 k0_h2 v449 v455)) : sProp 𝕄) ⊢ wp frame (wpE (defs₀ (F := F)) Variants.none c none) E (κ ⟨part14_r0 i S arg0 k0_h2 v449 v455, part14_r1 i S arg0 k0_h2 v449 v455, part14_r2 i S arg0 k0_h2 v449 v455⟩) Q) :
    (held (c : Thread nD τ) (cells B S) : sProp 𝕄) ⊢ wp frame (wpE (defs₀ (F := F)) Variants.none c none) E
      (k0_part14 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h2 v449 v455 >>= κ) Q := by
  rw [k0_part14_eq_skeleton]
  unfold k0_part14_skel
  refine store 24 rfl _ (cells_put25 _ _ _ _ _) ?_
  refine load 38 rfl ?_
  refine store 38 rfl _ (cells_put39 _ _ _ _ _) ?_
  refine load 38 rfl ?_
  refine load 33 rfl ?_
  refine load 16 rfl ?_
  refine load 17 rfl ?_
  exact ret_bind hk

/-- Value 0 returned by part 15. -/
def part15_r0 (i : grid0.Coords) (S : St F) (v0 : BitVec 32) : FVec F S576x256 .bf16 :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  let v35 : Vec F S1x18x32x256 .bf16 := VecWindow.window C1.a40 ![0, 0, 0, 0] S1x18x32x256.size inb_S4x20x32x256_S1x18x32x256_0_0_0_0
  k0_pay64 v35

/-- Value 1 returned by part 15. -/
def part15_r1 (i : grid0.Coords) (S : St F) (v0 : BitVec 32) : FVec F S576x256 .bf16 :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  let v38 : Vec F S1x18x32x256 .bf16 := VecWindow.window C1.a40 ![0, 1, 0, 0] S1x18x32x256.size inb_S4x20x32x256_S1x18x32x256_0_1_0_0
  k0_pay65 v38

/-- Value 2 returned by part 15. -/
def part15_r2 (i : grid0.Coords) (S : St F) (v0 : BitVec 32) : FVec F S576x256 .bf16 :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  let v41 : Vec F S1x18x32x256 .bf16 := VecWindow.window C1.a40 ![0, 2, 0, 0] S1x18x32x256.size inb_S4x20x32x256_S1x18x32x256_0_2_0_0
  k0_pay66 v41

/-- Value 3 returned by part 15. -/
def part15_r3 (i : grid0.Coords) (S : St F) (v0 : BitVec 32) : FVec F S576x256 .bf16 :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  let v44 : Vec F S1x18x32x256 .bf16 := VecWindow.window C1.a40 ![1, 0, 0, 0] S1x18x32x256.size inb_S4x20x32x256_S1x18x32x256_1_0_0_0
  k0_pay67 v44

/-- Value 4 returned by part 15. -/
def part15_r4 (i : grid0.Coords) (S : St F) (v0 : BitVec 32) : FVec F S576x256 .bf16 :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  let v47 : Vec F S1x18x32x256 .bf16 := VecWindow.window C1.a40 ![1, 1, 0, 0] S1x18x32x256.size inb_S4x20x32x256_S1x18x32x256_1_1_0_0
  k0_pay68 v47

/-- The contents part 15 leaves. -/
def part15 (i : grid0.Coords) (S : St F) (v0 : BitVec 32) : St F :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  C1

theorem run_part15 {c : Dev nD} {i : grid0.Coords} {B : Bufs} {S : St F} {v0 : BitVec 32} {E : Set ℕ} {α : Type} {Q : α → sProp 𝕄}
    {κ : (Σ' (v37 : FVec F S576x256 .bf16) (v40 : FVec F S576x256 .bf16) (v43 : FVec F S576x256 .bf16) (v46 : FVec F S576x256 .bf16), FVec F S576x256 .bf16) → Prog (TpuEff nD τ sig (Elt F) Λ₀ .tc) α}
    (hk : (held (c : Thread nD τ) (cells B (part15 i S v0)) : sProp 𝕄) ⊢ wp frame (wpE (defs₀ (F := F)) Variants.none c none) E (κ ⟨part15_r0 i S v0, part15_r1 i S v0, part15_r2 i S v0, part15_r3 i S v0, part15_r4 i S v0⟩) Q) :
    (held (c : Thread nD τ) (cells B S) : sProp 𝕄) ⊢ wp frame (wpE (defs₀ (F := F)) Variants.none c none) E
      (k0_part15 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v0 >>= κ) Q := by
  rw [k0_part15_eq_skeleton]
  unfold k0_part15_skel
  refine load 39 rfl ?_
  refine load 39 rfl ?_
  refine store 39 rfl _ (cells_put40 _ _ _ _ _) ?_
  refine load 39 rfl ?_
  refine load 39 rfl ?_
  refine load 39 rfl ?_
  refine load 39 rfl ?_
  refine load 39 rfl ?_
  exact ret_bind hk

/-- Value 0 returned by part 16. -/
def part16_r0 (i : grid0.Coords) (S : St F) (v37 : FVec F S576x256 .bf16) (v40 : FVec F S576x256 .bf16) (v43 : FVec F S576x256 .bf16) (v46 : FVec F S576x256 .bf16) (v49 : FVec F S576x256 .bf16) : FVec F S576x256 .f32 :=
  let v50 : Vec F S1x18x32x256 .bf16 := VecWindow.window S.a40 ![1, 2, 0, 0] S1x18x32x256.size inb_S4x20x32x256_S1x18x32x256_1_2_0_0
  let v53 : Vec F S1x18x32x256 .bf16 := VecWindow.window S.a40 ![2, 0, 0, 0] S1x18x32x256.size inb_S4x20x32x256_S1x18x32x256_2_0_0_0
  let v56 : Vec F S1x18x32x256 .bf16 := VecWindow.window S.a40 ![2, 1, 0, 0] S1x18x32x256.size inb_S4x20x32x256_S1x18x32x256_2_1_0_0
  let v59 : Vec F S1x18x32x256 .bf16 := VecWindow.window S.a40 ![2, 2, 0, 0] S1x18x32x256.size inb_S4x20x32x256_S1x18x32x256_2_2_0_0
  let v63 : Vec F S2304x256 .bf16 := VecWindow.window S.a35 ![0, 0] S2304x256.size inb_S2304x256_S2304x256_0_0
  let v65 : Vec F S1x256 .i32 := VecWindow.window S.a19 ![0, 0] S1x256.size inb_S1x256_S1x256_0_0
  let v67 : Vec F S1x256 .f32 := VecWindow.window S.a20 ![0, 0] S1x256.size inb_S1x256_S1x256_0_0
  k0_pay69 v37 v40 v43 v46 v49 v50 v53 v56 v59 v63 v65 v67

/-- Value 1 returned by part 16. -/
def part16_r1 (i : grid0.Coords) (S : St F) (v37 : FVec F S576x256 .bf16) (v40 : FVec F S576x256 .bf16) (v43 : FVec F S576x256 .bf16) (v46 : FVec F S576x256 .bf16) (v49 : FVec F S576x256 .bf16) : IVec S18x32x256 8 :=
  let v50 : Vec F S1x18x32x256 .bf16 := VecWindow.window S.a40 ![1, 2, 0, 0] S1x18x32x256.size inb_S4x20x32x256_S1x18x32x256_1_2_0_0
  let v53 : Vec F S1x18x32x256 .bf16 := VecWindow.window S.a40 ![2, 0, 0, 0] S1x18x32x256.size inb_S4x20x32x256_S1x18x32x256_2_0_0_0
  let v56 : Vec F S1x18x32x256 .bf16 := VecWindow.window S.a40 ![2, 1, 0, 0] S1x18x32x256.size inb_S4x20x32x256_S1x18x32x256_2_1_0_0
  let v59 : Vec F S1x18x32x256 .bf16 := VecWindow.window S.a40 ![2, 2, 0, 0] S1x18x32x256.size inb_S4x20x32x256_S1x18x32x256_2_2_0_0
  let v63 : Vec F S2304x256 .bf16 := VecWindow.window S.a35 ![0, 0] S2304x256.size inb_S2304x256_S2304x256_0_0
  let v65 : Vec F S1x256 .i32 := VecWindow.window S.a19 ![0, 0] S1x256.size inb_S1x256_S1x256_0_0
  let v67 : Vec F S1x256 .f32 := VecWindow.window S.a20 ![0, 0] S1x256.size inb_S1x256_S1x256_0_0
  k0_pay70 v37 v40 v43 v46 v49 v50 v53 v56 v59 v63 v65 v67

theorem run_part16 {c : Dev nD} {i : grid0.Coords} {B : Bufs} {S : St F} {v37 : FVec F S576x256 .bf16} {v40 : FVec F S576x256 .bf16} {v43 : FVec F S576x256 .bf16} {v46 : FVec F S576x256 .bf16} {v49 : FVec F S576x256 .bf16} {E : Set ℕ} {α : Type} {Q : α → sProp 𝕄}
    {κ : (Σ' (v82 : FVec F S576x256 .f32), IVec S18x32x256 8) → Prog (TpuEff nD τ sig (Elt F) Λ₀ .tc) α}
    (hk : (held (c : Thread nD τ) (cells B S) : sProp 𝕄) ⊢ wp frame (wpE (defs₀ (F := F)) Variants.none c none) E (κ ⟨part16_r0 i S v37 v40 v43 v46 v49, part16_r1 i S v37 v40 v43 v46 v49⟩) Q) :
    (held (c : Thread nD τ) (cells B S) : sProp 𝕄) ⊢ wp frame (wpE (defs₀ (F := F)) Variants.none c none) E
      (k0_part16 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v37 v40 v43 v46 v49 >>= κ) Q := by
  rw [k0_part16_eq_skeleton]
  unfold k0_part16_skel
  refine load 39 rfl ?_
  refine load 39 rfl ?_
  refine load 39 rfl ?_
  refine load 39 rfl ?_
  refine load 34 rfl ?_
  refine load 18 rfl ?_
  refine load 19 rfl ?_
  exact ret_bind hk

/-- Value 0 returned by part 17. -/
def part17_r0 (i : grid0.Coords) (S : St F) (arg0 : BitVec 32) (k0_h3 : k0_cond3 i = 1#1) (v82 : FVec F S576x256 .f32) (v85 : IVec S18x32x256 8) : Elt F .f32 :=
  let C1 : St F := S.put29 ![0, 0, 0, 0] S1x18x32x256.size (k0_pay71 v85)
  let C2 : St F := C1.put41 ![0, 0] S576x256.size (k0_pay72 v82)
  let v93 : Elt F .f32 := C2.a23 (Rect.emb (Rect.unit (s := S1) ![0] S1.size inb_S1_S1_0) (Shape.Idx.first (numel1_S1.symm ▸ Nat.one_pos)))
  v93

/-- Value 1 returned by part 17. -/
def part17_r1 (i : grid0.Coords) (S : St F) (arg0 : BitVec 32) (k0_h3 : k0_cond3 i = 1#1) (v82 : FVec F S576x256 .f32) (v85 : IVec S18x32x256 8) : FVec F S576x256 .f32 :=
  let C1 : St F := S.put29 ![0, 0, 0, 0] S1x18x32x256.size (k0_pay71 v85)
  let C2 : St F := C1.put41 ![0, 0] S576x256.size (k0_pay72 v82)
  let v94 : Vec F S576x256 .bf16 := VecWindow.window C2.a41 ![0, 0] S576x256.size inb_S576x256_S576x256_0_0
  let v95 : Vec F S256x256 .bf16 := VecWindow.window C2.a36 ![0, 0] S256x256.size inb_S256x1024_S256x256_0_0
  let v97 : Vec F S1x256 .i32 := VecWindow.window C2.a21 ![0, 0] S1x256.size inb_S1x1024_S1x256_0_0
  let v99 : Vec F S1x256 .f32 := VecWindow.window C2.a22 ![0, 0] S1x256.size inb_S1x1024_S1x256_0_0
  k0_pay73 v94 v95 v97 v99

/-- Value 2 returned by part 17. -/
def part17_r2 (i : grid0.Coords) (S : St F) (arg0 : BitVec 32) (k0_h3 : k0_cond3 i = 1#1) (v82 : FVec F S576x256 .f32) (v85 : IVec S18x32x256 8) : Vec F S1x576x256 .bf16 :=
  let C1 : St F := S.put29 ![0, 0, 0, 0] S1x18x32x256.size (k0_pay71 v85)
  let C2 : St F := C1.put41 ![0, 0] S576x256.size (k0_pay72 v82)
  let v120 : Vec F S1x576x256 .bf16 := VecWindow.window C2.a39 (k0_off6 i) S1x576x256.size (k0_off6_inb i k0_h3)
  v120

/-- The contents part 17 leaves. -/
def part17 (i : grid0.Coords) (S : St F) (arg0 : BitVec 32) (k0_h3 : k0_cond3 i = 1#1) (v82 : FVec F S576x256 .f32) (v85 : IVec S18x32x256 8) : St F :=
  let C1 : St F := S.put29 ![0, 0, 0, 0] S1x18x32x256.size (k0_pay71 v85)
  let C2 : St F := C1.put41 ![0, 0] S576x256.size (k0_pay72 v82)
  C2

theorem run_part17 {c : Dev nD} {i : grid0.Coords} {B : Bufs} {S : St F} {arg0 : BitVec 32} {k0_h3 : k0_cond3 i = 1#1} {v82 : FVec F S576x256 .f32} {v85 : IVec S18x32x256 8} {E : Set ℕ} {α : Type} {Q : α → sProp 𝕄}
    {κ : (Σ' (v93 : Elt F .f32) (v107 : FVec F S576x256 .f32), Vec F S1x576x256 .bf16) → Prog (TpuEff nD τ sig (Elt F) Λ₀ .tc) α}
    (hk : (held (c : Thread nD τ) (cells B (part17 i S arg0 k0_h3 v82 v85)) : sProp 𝕄) ⊢ wp frame (wpE (defs₀ (F := F)) Variants.none c none) E (κ ⟨part17_r0 i S arg0 k0_h3 v82 v85, part17_r1 i S arg0 k0_h3 v82 v85, part17_r2 i S arg0 k0_h3 v82 v85⟩) Q) :
    (held (c : Thread nD τ) (cells B S) : sProp 𝕄) ⊢ wp frame (wpE (defs₀ (F := F)) Variants.none c none) E
      (k0_part17 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h3 v82 v85 >>= κ) Q := by
  rw [k0_part17_eq_skeleton]
  unfold k0_part17_skel
  refine load 28 rfl ?_
  refine store 28 rfl _ (cells_put29 _ _ _ _ _) ?_
  refine load 40 rfl ?_
  refine store 40 rfl _ (cells_put41 _ _ _ _ _) ?_
  refine smem_load 22 rfl ?_
  refine load 40 rfl ?_
  refine load 35 rfl ?_
  refine load 20 rfl ?_
  refine load 21 rfl ?_
  refine load 38 rfl ?_
  exact ret_bind hk

/-- Value 0 returned by part 18. -/
def part18_r0 (i : grid0.Coords) (S : St F) (arg0 : BitVec 32) (v93 : Elt F .f32) (v107 : FVec F S576x256 .f32) (v120 : Vec F S1x576x256 .bf16) : FVec F S576x256 .f32 :=
  let C1 : St F := S.put24 ![0, 0, 0, 0] S1x18x32x256.size (k0_pay74 v93 v107 v120)
  let v139 : Vec F S576x256 .bf16 := VecWindow.window C1.a41 ![0, 0] S576x256.size inb_S576x256_S576x256_0_0
  let v140 : Vec F S256x256 .bf16 := VecWindow.window C1.a36 ![0, 256] S256x256.size inb_S256x1024_S256x256_0_256
  let v142 : Vec F S1x256 .i32 := VecWindow.window C1.a21 ![0, 256] S1x256.size inb_S1x1024_S1x256_0_256
  let v144 : Vec F S1x256 .f32 := VecWindow.window C1.a22 ![0, 256] S1x256.size inb_S1x1024_S1x256_0_256
  k0_pay75 v139 v140 v142 v144

/-- Value 1 returned by part 18. -/
def part18_r1 (i : grid0.Coords) (S : St F) (arg0 : BitVec 32) (v93 : Elt F .f32) (v107 : FVec F S576x256 .f32) (v120 : Vec F S1x576x256 .bf16) : BitVec 32 :=
  let v154 : BitVec 1 := Scalar.cmpi .eq 2#32 0#32
  let v155 : BitVec 32 := Scalar.select v154 1#32 2#32
  v155

/-- Value 2 returned by part 18. -/
def part18_r2 (i : grid0.Coords) (S : St F) (arg0 : BitVec 32) (v93 : Elt F .f32) (v107 : FVec F S576x256 .f32) (v120 : Vec F S1x576x256 .bf16) : BitVec 32 :=
  let v153 : BitVec 32 := Scalar.addi arg0 1#32
  let v154 : BitVec 1 := Scalar.cmpi .eq 2#32 0#32
  let v155 : BitVec 32 := Scalar.select v154 1#32 2#32
  let v156 : BitVec 32 := Scalar.remsi v153 v155
  v156

/-- Value 3 returned by part 18. -/
def part18_r3 (i : grid0.Coords) (S : St F) (arg0 : BitVec 32) (v93 : Elt F .f32) (v107 : FVec F S576x256 .f32) (v120 : Vec F S1x576x256 .bf16) : BitVec 1 :=
  let v153 : BitVec 32 := Scalar.addi arg0 1#32
  let v154 : BitVec 1 := Scalar.cmpi .eq 2#32 0#32
  let v155 : BitVec 32 := Scalar.select v154 1#32 2#32
  let v156 : BitVec 32 := Scalar.remsi v153 v155
  let v157 : BitVec 1 := Scalar.cmpi .ne v156 0#32
  v157

/-- Value 4 returned by part 18. -/
def part18_r4 (i : grid0.Coords) (S : St F) (arg0 : BitVec 32) (v93 : Elt F .f32) (v107 : FVec F S576x256 .f32) (v120 : Vec F S1x576x256 .bf16) : BitVec 1 :=
  let v153 : BitVec 32 := Scalar.addi arg0 1#32
  let v154 : BitVec 1 := Scalar.cmpi .eq 2#32 0#32
  let v155 : BitVec 32 := Scalar.select v154 1#32 2#32
  let v156 : BitVec 32 := Scalar.remsi v153 v155
  let v158 : BitVec 1 := Scalar.cmpi .slt v156 0#32
  v158

/-- The contents part 18 leaves. -/
def part18 (i : grid0.Coords) (S : St F) (arg0 : BitVec 32) (v93 : Elt F .f32) (v107 : FVec F S576x256 .f32) (v120 : Vec F S1x576x256 .bf16) : St F :=
  let C1 : St F := S.put24 ![0, 0, 0, 0] S1x18x32x256.size (k0_pay74 v93 v107 v120)
  C1

theorem run_part18 {c : Dev nD} {i : grid0.Coords} {B : Bufs} {S : St F} {arg0 : BitVec 32} {v93 : Elt F .f32} {v107 : FVec F S576x256 .f32} {v120 : Vec F S1x576x256 .bf16} {E : Set ℕ} {α : Type} {Q : α → sProp 𝕄}
    {κ : (Σ' (v152 : FVec F S576x256 .f32) (v155 : BitVec 32) (v156 : BitVec 32) (v157 : BitVec 1), BitVec 1) → Prog (TpuEff nD τ sig (Elt F) Λ₀ .tc) α}
    (hk : (held (c : Thread nD τ) (cells B (part18 i S arg0 v93 v107 v120)) : sProp 𝕄) ⊢ wp frame (wpE (defs₀ (F := F)) Variants.none c none) E (κ ⟨part18_r0 i S arg0 v93 v107 v120, part18_r1 i S arg0 v93 v107 v120, part18_r2 i S arg0 v93 v107 v120, part18_r3 i S arg0 v93 v107 v120, part18_r4 i S arg0 v93 v107 v120⟩) Q) :
    (held (c : Thread nD τ) (cells B S) : sProp 𝕄) ⊢ wp frame (wpE (defs₀ (F := F)) Variants.none c none) E
      (k0_part18 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 v93 v107 v120 >>= κ) Q := by
  rw [k0_part18_eq_skeleton]
  unfold k0_part18_skel
  refine load 23 rfl ?_
  refine store 23 rfl _ (cells_put24 _ _ _ _ _) ?_
  refine load 40 rfl ?_
  refine load 35 rfl ?_
  refine load 20 rfl ?_
  refine load 21 rfl ?_
  exact ret_bind hk

/-- Value 0 returned by part 19. -/
def part19_r0 (i : grid0.Coords) (S : St F) (arg0 : BitVec 32) (k0_h3 : k0_cond3 i = 1#1) (v93 : Elt F .f32) (v152 : FVec F S576x256 .f32) (v155 : BitVec 32) (v156 : BitVec 32) (v157 : BitVec 1) (v158 : BitVec 1) : FVec F S576x256 .f32 :=
  let v165 : Vec F S1x576x256 .bf16 := VecWindow.window S.a39 (k0_off7 i) S1x576x256.size (k0_off7_inb i k0_h3)
  let C1 : St F := S.put24 ![0, 0, 0, 256] S1x18x32x256.size (k0_pay76 v93 v152 v165)
  let v184 : Vec F S576x256 .bf16 := VecWindow.window C1.a41 ![0, 0] S576x256.size inb_S576x256_S576x256_0_0
  let v185 : Vec F S256x256 .bf16 := VecWindow.window C1.a36 ![0, 512] S256x256.size inb_S256x1024_S256x256_0_512
  let v187 : Vec F S1x256 .i32 := VecWindow.window C1.a21 ![0, 512] S1x256.size inb_S1x1024_S1x256_0_512
  let v189 : Vec F S1x256 .f32 := VecWindow.window C1.a22 ![0, 512] S1x256.size inb_S1x1024_S1x256_0_512
  k0_pay77 v184 v185 v187 v189

/-- Value 1 returned by part 19. -/
def part19_r1 (i : grid0.Coords) (S : St F) (arg0 : BitVec 32) (k0_h3 : k0_cond3 i = 1#1) (v93 : Elt F .f32) (v152 : FVec F S576x256 .f32) (v155 : BitVec 32) (v156 : BitVec 32) (v157 : BitVec 1) (v158 : BitVec 1) : BitVec 32 :=
  let v198 : BitVec 32 := Scalar.addi arg0 1#32
  v198

/-- The contents part 19 leaves. -/
def part19 (i : grid0.Coords) (S : St F) (arg0 : BitVec 32) (k0_h3 : k0_cond3 i = 1#1) (v93 : Elt F .f32) (v152 : FVec F S576x256 .f32) (v155 : BitVec 32) (v156 : BitVec 32) (v157 : BitVec 1) (v158 : BitVec 1) : St F :=
  let v165 : Vec F S1x576x256 .bf16 := VecWindow.window S.a39 (k0_off7 i) S1x576x256.size (k0_off7_inb i k0_h3)
  let C1 : St F := S.put24 ![0, 0, 0, 256] S1x18x32x256.size (k0_pay76 v93 v152 v165)
  C1

theorem run_part19 {c : Dev nD} {i : grid0.Coords} {B : Bufs} {S : St F} {arg0 : BitVec 32} {k0_h3 : k0_cond3 i = 1#1} {v93 : Elt F .f32} {v152 : FVec F S576x256 .f32} {v155 : BitVec 32} {v156 : BitVec 32} {v157 : BitVec 1} {v158 : BitVec 1} {E : Set ℕ} {α : Type} {Q : α → sProp 𝕄}
    {κ : (Σ' (v197 : FVec F S576x256 .f32), BitVec 32) → Prog (TpuEff nD τ sig (Elt F) Λ₀ .tc) α}
    (hk : (held (c : Thread nD τ) (cells B (part19 i S arg0 k0_h3 v93 v152 v155 v156 v157 v158)) : sProp 𝕄) ⊢ wp frame (wpE (defs₀ (F := F)) Variants.none c none) E (κ ⟨part19_r0 i S arg0 k0_h3 v93 v152 v155 v156 v157 v158, part19_r1 i S arg0 k0_h3 v93 v152 v155 v156 v157 v158⟩) Q) :
    (held (c : Thread nD τ) (cells B S) : sProp 𝕄) ⊢ wp frame (wpE (defs₀ (F := F)) Variants.none c none) E
      (k0_part19 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h3 v93 v152 v155 v156 v157 v158 >>= κ) Q := by
  rw [k0_part19_eq_skeleton]
  unfold k0_part19_skel
  refine load 38 rfl ?_
  refine load 23 rfl ?_
  refine store 23 rfl _ (cells_put24 _ _ _ _ _) ?_
  refine load 40 rfl ?_
  refine load 35 rfl ?_
  refine load 20 rfl ?_
  refine load 21 rfl ?_
  exact ret_bind hk

/-- Value 0 returned by part 20. -/
def part20_r0 (i : grid0.Coords) (S : St F) (k0_h3 : k0_cond3 i = 1#1) (v93 : Elt F .f32) (v197 : FVec F S576x256 .f32) (v198 : BitVec 32) : FVec F S576x256 .f32 :=
  let v210 : Vec F S1x576x256 .bf16 := VecWindow.window S.a39 (k0_off8 i) S1x576x256.size (k0_off8_inb i k0_h3)
  let C1 : St F := S.put24 ![0, 0, 0, 512] S1x18x32x256.size (k0_pay78 v93 v197 v210)
  let v229 : Vec F S576x256 .bf16 := VecWindow.window C1.a41 ![0, 0] S576x256.size inb_S576x256_S576x256_0_0
  let v230 : Vec F S256x256 .bf16 := VecWindow.window C1.a36 ![0, 768] S256x256.size inb_S256x1024_S256x256_0_768
  k0_pay79 v229 v230

/-- Value 1 returned by part 20. -/
def part20_r1 (i : grid0.Coords) (S : St F) (k0_h3 : k0_cond3 i = 1#1) (v93 : Elt F .f32) (v197 : FVec F S576x256 .f32) (v198 : BitVec 32) : IVec S1x256 32 :=
  let v210 : Vec F S1x576x256 .bf16 := VecWindow.window S.a39 (k0_off8 i) S1x576x256.size (k0_off8_inb i k0_h3)
  let C1 : St F := S.put24 ![0, 0, 0, 512] S1x18x32x256.size (k0_pay78 v93 v197 v210)
  let v232 : Vec F S1x256 .i32 := VecWindow.window C1.a21 ![0, 768] S1x256.size inb_S1x1024_S1x256_0_768
  k0_pay80 v232

/-- Value 2 returned by part 20. -/
def part20_r2 (i : grid0.Coords) (S : St F) (k0_h3 : k0_cond3 i = 1#1) (v93 : Elt F .f32) (v197 : FVec F S576x256 .f32) (v198 : BitVec 32) : Vec F S1x256 .f32 :=
  let v210 : Vec F S1x576x256 .bf16 := VecWindow.window S.a39 (k0_off8 i) S1x576x256.size (k0_off8_inb i k0_h3)
  let C1 : St F := S.put24 ![0, 0, 0, 512] S1x18x32x256.size (k0_pay78 v93 v197 v210)
  let v234 : Vec F S1x256 .f32 := VecWindow.window C1.a22 ![0, 768] S1x256.size inb_S1x1024_S1x256_0_768
  v234

/-- The contents part 20 leaves. -/
def part20 (i : grid0.Coords) (S : St F) (k0_h3 : k0_cond3 i = 1#1) (v93 : Elt F .f32) (v197 : FVec F S576x256 .f32) (v198 : BitVec 32) : St F :=
  let v210 : Vec F S1x576x256 .bf16 := VecWindow.window S.a39 (k0_off8 i) S1x576x256.size (k0_off8_inb i k0_h3)
  let C1 : St F := S.put24 ![0, 0, 0, 512] S1x18x32x256.size (k0_pay78 v93 v197 v210)
  C1

theorem run_part20 {c : Dev nD} {i : grid0.Coords} {B : Bufs} {S : St F} {k0_h3 : k0_cond3 i = 1#1} {v93 : Elt F .f32} {v197 : FVec F S576x256 .f32} {v198 : BitVec 32} {E : Set ℕ} {α : Type} {Q : α → sProp 𝕄}
    {κ : (Σ' (v231 : FVec F S576x256 .f32) (v233 : IVec S1x256 32), Vec F S1x256 .f32) → Prog (TpuEff nD τ sig (Elt F) Λ₀ .tc) α}
    (hk : (held (c : Thread nD τ) (cells B (part20 i S k0_h3 v93 v197 v198)) : sProp 𝕄) ⊢ wp frame (wpE (defs₀ (F := F)) Variants.none c none) E (κ ⟨part20_r0 i S k0_h3 v93 v197 v198, part20_r1 i S k0_h3 v93 v197 v198, part20_r2 i S k0_h3 v93 v197 v198⟩) Q) :
    (held (c : Thread nD τ) (cells B S) : sProp 𝕄) ⊢ wp frame (wpE (defs₀ (F := F)) Variants.none c none) E
      (k0_part20 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 k0_h3 v93 v197 v198 >>= κ) Q := by
  rw [k0_part20_eq_skeleton]
  unfold k0_part20_skel
  refine load 38 rfl ?_
  refine load 23 rfl ?_
  refine store 23 rfl _ (cells_put24 _ _ _ _ _) ?_
  refine load 40 rfl ?_
  refine load 35 rfl ?_
  refine load 20 rfl ?_
  refine load 21 rfl ?_
  exact ret_bind hk

/-- Value 0 returned by part 21. -/
def part21_r0 (i : grid0.Coords) (S : St F) (arg0 : BitVec 32) (v0 : BitVec 32) (k0_h3 : k0_cond3 i = 1#1) : IVec S1x18x32x256 8 :=
  let v37 : FVec F S576x256 .bf16 := part15_r0 i S v0
  let v40 : FVec F S576x256 .bf16 := part15_r1 i S v0
  let v43 : FVec F S576x256 .bf16 := part15_r2 i S v0
  let v46 : FVec F S576x256 .bf16 := part15_r3 i S v0
  let v49 : FVec F S576x256 .bf16 := part15_r4 i S v0
  let C1 : St F := part15 i S v0
  let v82 : FVec F S576x256 .f32 := part16_r0 i C1 v37 v40 v43 v46 v49
  let v85 : IVec S18x32x256 8 := part16_r1 i C1 v37 v40 v43 v46 v49
  let v93 : Elt F .f32 := part17_r0 i C1 arg0 k0_h3 v82 v85
  let v107 : FVec F S576x256 .f32 := part17_r1 i C1 arg0 k0_h3 v82 v85
  let v120 : Vec F S1x576x256 .bf16 := part17_r2 i C1 arg0 k0_h3 v82 v85
  let C2 : St F := part17 i C1 arg0 k0_h3 v82 v85
  let v152 : FVec F S576x256 .f32 := part18_r0 i C2 arg0 v93 v107 v120
  let v155 : BitVec 32 := part18_r1 i C2 arg0 v93 v107 v120
  let v156 : BitVec 32 := part18_r2 i C2 arg0 v93 v107 v120
  let v157 : BitVec 1 := part18_r3 i C2 arg0 v93 v107 v120
  let v158 : BitVec 1 := part18_r4 i C2 arg0 v93 v107 v120
  let C3 : St F := part18 i C2 arg0 v93 v107 v120
  let v197 : FVec F S576x256 .f32 := part19_r0 i C3 arg0 k0_h3 v93 v152 v155 v156 v157 v158
  let v198 : BitVec 32 := part19_r1 i C3 arg0 k0_h3 v93 v152 v155 v156 v157 v158
  let C4 : St F := part19 i C3 arg0 k0_h3 v93 v152 v155 v156 v157 v158
  let v231 : FVec F S576x256 .f32 := part20_r0 i C4 k0_h3 v93 v197 v198
  let v233 : IVec S1x256 32 := part20_r1 i C4 k0_h3 v93 v197 v198
  let v234 : Vec F S1x256 .f32 := part20_r2 i C4 k0_h3 v93 v197 v198
  let C5 : St F := part20 i C4 k0_h3 v93 v197 v198
  let v255 : Vec F S1x576x256 .bf16 := VecWindow.window C5.a39 (k0_off9 i) S1x576x256.size (k0_off9_inb i k0_h3)
  (k0_pay81 v93 v231 v233 v234 v255)

/-- The contents part 21 leaves. -/
def part21 (i : grid0.Coords) (S : St F) (arg0 : BitVec 32) (v0 : BitVec 32) (k0_h3 : k0_cond3 i = 1#1) : St F :=
  let v37 : FVec F S576x256 .bf16 := part15_r0 i S v0
  let v40 : FVec F S576x256 .bf16 := part15_r1 i S v0
  let v43 : FVec F S576x256 .bf16 := part15_r2 i S v0
  let v46 : FVec F S576x256 .bf16 := part15_r3 i S v0
  let v49 : FVec F S576x256 .bf16 := part15_r4 i S v0
  let C1 : St F := part15 i S v0
  let v82 : FVec F S576x256 .f32 := part16_r0 i C1 v37 v40 v43 v46 v49
  let v85 : IVec S18x32x256 8 := part16_r1 i C1 v37 v40 v43 v46 v49
  let v93 : Elt F .f32 := part17_r0 i C1 arg0 k0_h3 v82 v85
  let v107 : FVec F S576x256 .f32 := part17_r1 i C1 arg0 k0_h3 v82 v85
  let v120 : Vec F S1x576x256 .bf16 := part17_r2 i C1 arg0 k0_h3 v82 v85
  let C2 : St F := part17 i C1 arg0 k0_h3 v82 v85
  let v152 : FVec F S576x256 .f32 := part18_r0 i C2 arg0 v93 v107 v120
  let v155 : BitVec 32 := part18_r1 i C2 arg0 v93 v107 v120
  let v156 : BitVec 32 := part18_r2 i C2 arg0 v93 v107 v120
  let v157 : BitVec 1 := part18_r3 i C2 arg0 v93 v107 v120
  let v158 : BitVec 1 := part18_r4 i C2 arg0 v93 v107 v120
  let C3 : St F := part18 i C2 arg0 v93 v107 v120
  let v197 : FVec F S576x256 .f32 := part19_r0 i C3 arg0 k0_h3 v93 v152 v155 v156 v157 v158
  let v198 : BitVec 32 := part19_r1 i C3 arg0 k0_h3 v93 v152 v155 v156 v157 v158
  let C4 : St F := part19 i C3 arg0 k0_h3 v93 v152 v155 v156 v157 v158
  let C5 : St F := part20 i C4 k0_h3 v93 v197 v198
  C5

theorem run_part21 {c : Dev nD} {i : grid0.Coords} {B : Bufs} {S : St F} {arg0 : BitVec 32} {v0 : BitVec 32} {k0_h3 : k0_cond3 i = 1#1} {E : Set ℕ} {α : Type} {Q : α → sProp 𝕄}
    {κ : (IVec S1x18x32x256 8) → Prog (TpuEff nD τ sig (Elt F) Λ₀ .tc) α}
    (hk : (held (c : Thread nD τ) (cells B (part21 i S arg0 v0 k0_h3)) : sProp 𝕄) ⊢ wp frame (wpE (defs₀ (F := F)) Variants.none c none) E (κ (part21_r0 i S arg0 v0 k0_h3)) Q) :
    (held (c : Thread nD τ) (cells B S) : sProp 𝕄) ⊢ wp frame (wpE (defs₀ (F := F)) Variants.none c none) E
      (k0_part21 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 v0 k0_h3 >>= κ) Q := by
  rw [k0_part21_eq_skeleton]
  unfold k0_part21_skel
  refine assoc (run_part15 ?_)
  refine assoc (run_part16 ?_)
  refine assoc (run_part17 ?_)
  refine assoc (run_part18 ?_)
  refine assoc (run_part19 ?_)
  refine assoc (run_part20 ?_)
  refine load 38 rfl ?_
  refine load 23 rfl ?_
  exact ret_bind hk

end Cert.Kernel.Hand

end
-- ==== Proof.Kernel.Body.lean ====
/-
  THE BODY AS A FUNCTION OF THE CONTENTS: `step i S` is what the body at grid point `i` leaves of `S`, and `run_body` that it does.
-/
module

public import proofs.«01_k».proof.Proof.Kernel.Parts

@[expose] public section

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Gen Cert.Held

variable {F : FTy → Type} [FloatOps F]

local notation "𝕄" => MT nD τ sig Unit (Elt F) ℕ (UR sig nD τ) ℕ

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81

/-- The grid point is the first. -/
abbrev k0c0 (i : grid0.Coords) : Prop :=
  (Scalar.cmpi .ne (Scalar.extui (Scalar.cmpi .eq (BitVec.ofNat 32 (i 0).val) 0#32)) 0#32) = 1#1

/-- The first grid point: the weights are copied into scratch and the two line buffers are cleared. -/
def first (i : grid0.Coords) (S : St F)  : St F :=
  let v53 : FVec F S2304x256 .bf16 := part1_r0 i S
  let C1 : St F := part1 i S
  let C2 : St F := C1.put35 ![0, 0] S2304x256.size (k0_pay1 v53)
  let v57 : Vec F S256x1024 .i8 := VecWindow.window C2.a8 ![0, 0] S256x1024.size inb_S256x1024_S256x1024_0_0
  let C3 : St F := C2.put36 ![0, 0] S256x1024.size (k0_pay2 v57)
  let C4 : St F := C3.put37 ![0, 0, 0, 0] S3x38x32x256.size (k0_pay3 (F := F))
  let C5 : St F := C4.put40 ![0, 0, 0, 0] S4x20x32x256.size (k0_pay4 (F := F))
  C5

/-- The leading half of a step. -/
def lead (i : grid0.Coords) (S : St F) (k0_h2 : k0_cond2 i = 1#1) : St F :=
  let arg0 : BitVec 32 := BitVec.ofNat 32 (i 0).val
  let v0 : BitVec 32 := Scalar.remsi arg0 14#32
  let v58 : FVec F S576x256 .f32 := part2_r0 i S v0
  let v59 : IVec S576x256 32 := part2_r1 i S v0
  let C1 : St F := part2 i S v0
  let v93 : FVec F S576x256 .f32 := part3_r0 i C1 v58 v59
  let v96 : IVec S18x32x256 8 := part3_r1 i C1 v58 v59
  let C2 : St F := part3 i C1 v58 v59
  let v128 : FVec F S576x256 .f32 := part4_r0 i C2 v93 v96
  let v131 : IVec S18x32x256 8 := part4_r1 i C2 v93 v96
  let C3 : St F := part4 i C2 v93 v96
  let v163 : FVec F S576x256 .f32 := part5_r0 i C3 v128 v131
  let v166 : IVec S18x32x256 8 := part5_r1 i C3 v128 v131
  let C4 : St F := part5 i C3 v128 v131
  let v178 : FVec F S576x256 .bf16 := part6_r0 i C4 v163 v166
  let v182 : FVec F S576x256 .bf16 := part6_r1 i C4 v163 v166
  let v186 : FVec F S576x256 .bf16 := part6_r2 i C4 v163 v166
  let v190 : FVec F S576x256 .bf16 := part6_r3 i C4 v163 v166
  let v194 : FVec F S576x256 .bf16 := part6_r4 i C4 v163 v166
  let C5 : St F := part6 i C4 v163 v166
  let v225 : FVec F S576x256 .f32 := part7_r0 i C5 v178 v182 v186 v190 v194
  let c255_i32_163 : BitVec 32 := part7_r1 i C5 v178 v182 v186 v190 v194
  let v226 : F .f32 := part7_r2 i C5 v178 v182 v186 v190 v194
  let v246 : FVec F S576x512 .bf16 := part8_r0 i C5 v225 c255_i32_163 v226
  let v260 : FVec F S576x256 .f32 := part8_r1 i C5 v225 c255_i32_163 v226
  let v261 : Vec F S512x256 .bf16 := part8_r2 i C5 v225 c255_i32_163 v226
  let cst_186 : FVec F S576x256 .f32 := part8_r3 i C5 v225 c255_i32_163 v226
  let C6 : St F := part8 i C5 v225 c255_i32_163 v226
  let v302 : FVec F S1x576x256 .bf16 := part9_r0 i C6 arg0 k0_h2 v246 v260 v261 cst_186
  let C7 : St F := part9 i C6 arg0 k0_h2 v246 v260 v261 cst_186
  let v337 : FVec F S576x256 .f32 := part10_r0 i C7 k0_h2 v246 v302
  let v340 : IVec S18x32x256 8 := part10_r1 i C7 k0_h2 v246 v302
  let C8 : St F := part10 i C7 k0_h2 v246 v302
  let v372 : FVec F S576x256 .f32 := part11_r0 i C8 arg0 k0_h2 v246 v337 v340
  let v374 : FVec F S576x256 .f32 := part11_r1 i C8 arg0 k0_h2 v246 v337 v340
  let v375 : Vec F S1x256 .i32 := part11_r2 i C8 arg0 k0_h2 v246 v337 v340
  let C9 : St F := part11 i C8 arg0 k0_h2 v246 v337 v340
  let v415 : Vec F S576x256 .bf16 := part12_r0 i C9 arg0 k0_h2 v372 v374 v375
  let C10 : St F := part12 i C9 arg0 k0_h2 v372 v374 v375
  let v449 : FVec F S576x256 .f32 := part13_r0 i C10 v246 v415
  let v455 : IVec S1x18x32x256 8 := part13_r1 i C10 v246 v415
  let v487 : IVec S1x256 32 := part14_r0 i C10 arg0 k0_h2 v449 v455
  let v489 : FVec F S1x256 .f32 := part14_r1 i C10 arg0 k0_h2 v449 v455
  let v490 : FVec F S576x256 .f32 := part14_r2 i C10 arg0 k0_h2 v449 v455
  let C11 : St F := part14 i C10 arg0 k0_h2 v449 v455
  let C12 : St F := C11.put28 ![0, 0, 0, 0] S1x18x32x256.size (k0_pay6 v487 v489 v490)
  let C13 : St F := C12.put40 ![3, 1, 0, 0] S1x18x32x256.size (k0_pay7 v487 v489 v490)
  C13

/-- The trailing half of a step, which works on the rows the step before left. -/
def lag (i : grid0.Coords) (S : St F) (k0_h3 : k0_cond3 i = 1#1) : St F :=
  let arg0 : BitVec 32 := BitVec.ofNat 32 (i 0).val
  let v0 : BitVec 32 := Scalar.remsi arg0 14#32
  let v273 : IVec S1x18x32x256 8 := part21_r0 i S arg0 v0 k0_h3
  let C1 : St F := part21 i S arg0 v0 k0_h3
  let C2 : St F := C1.put24 ![0, 0, 0, 768] S1x18x32x256.size v273
  C2

/-- The end of every step: the line buffer of the last convolution is shifted. -/
def shift (i : grid0.Coords) (S : St F) : St F :=
  let v13 : Vec F S1x20x32x256 .bf16 := VecWindow.window S.a40 ![1, 0, 0, 0] S1x20x32x256.size inb_S4x20x32x256_S1x20x32x256_1_0_0_0
  let C1 : St F := S.put40 ![0, 0, 0, 0] S1x20x32x256.size (k0_pay8 i v13)
  let v20 : Vec F S1x20x32x256 .bf16 := VecWindow.window C1.a40 ![3, 0, 0, 0] S1x20x32x256.size inb_S4x20x32x256_S1x20x32x256_3_0_0_0
  let C2 : St F := C1.put40 ![1, 0, 0, 0] S1x20x32x256.size (k0_pay9 v20)
  C2

/-- What the body at a grid point leaves. -/
def step (i : grid0.Coords) (S : St F) : St F :=
  let S₁ := if h : k0c0 i then first i S else S
  let S₂ := if h : k0_cond2 i = 1#1 then lead i S₁ h else S₁
  let S₃ := if h : k0_cond3 i = 1#1 then lag i S₂ h else S₂
  shift i S₃

theorem run_body {c : Dev nD} {i : grid0.Coords} {B : Bufs} {S : St F} {E : Set ℕ} {Q : PUnit → sProp 𝕄}
    (hk : (held (c : Thread nD τ) (cells B (step i S)) : sProp 𝕄) ⊢ Q ⟨⟩) :
    (held (c : Thread nD τ) (cells B S) : sProp 𝕄) ⊢ wp frame (wpE (defs₀ (F := F)) Variants.none c none) E
      (cc0__body i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41) Q := by
  rw [cc0__body_eq_skeleton, ← bind_pure (cc0__body_skel _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold cc0__body_skel
  dsimp only
  refine branch (c := (c : Thread nD τ)) (cells B (if h : k0c0 i then first i S else S)) ?_ (fun h => by rw [dif_neg h]) ?_
  · intro h hk
    rw [dif_pos h] at hk
    refine assoc (run_part1 ?_)
    refine store 34 rfl _ (cells_put35 _ _ _ _ _) ?_
    refine load 7 rfl ?_
    refine load 35 rfl ?_
    refine store 35 rfl _ (cells_put36 _ _ _ _ _) ?_
    refine load 36 rfl ?_
    refine store 36 rfl _ (cells_put37 _ _ _ _ _) ?_
    refine load 39 rfl ?_
    refine store 39 rfl _ (cells_put40 _ _ _ _ _) ?_
    exact hk
  refine branch (c := (c : Thread nD τ)) (cells B (if h : k0_cond2 i = 1#1 then lead i (if h : k0c0 i then first i S else S) h else (if h : k0c0 i then first i S else S))) ?_ (fun h => by rw [dif_neg h]) ?_
  · intro h hk
    rw [dif_pos h] at hk
    refine assoc (run_part2 ?_)
    refine assoc (run_part3 ?_)
    refine assoc (run_part4 ?_)
    refine assoc (run_part5 ?_)
    refine assoc (run_part6 ?_)
    refine assoc (run_part7 ?_)
    refine assoc (run_part8 ?_)
    refine assoc (run_part9 ?_)
    refine assoc (run_part10 ?_)
    refine assoc (run_part11 ?_)
    refine assoc (run_part12 ?_)
    refine assoc (run_part13 ?_)
    refine assoc (run_part14 ?_)
    refine load 27 rfl ?_
    refine store 27 rfl _ (cells_put28 _ _ _ _ _) ?_
    refine load 39 rfl ?_
    refine store 39 rfl _ (cells_put40 _ _ _ _ _) ?_
    exact hk
  refine branch (c := (c : Thread nD τ)) (cells B (if h : k0_cond3 i = 1#1 then lag i (if h : k0_cond2 i = 1#1 then lead i (if h : k0c0 i then first i S else S) h else (if h : k0c0 i then first i S else S)) h else (if h : k0_cond2 i = 1#1 then lead i (if h : k0c0 i then first i S else S) h else (if h : k0c0 i then first i S else S)))) ?_ (fun h => by rw [dif_neg h]) ?_
  · intro h hk
    rw [dif_pos h] at hk
    refine assoc (run_part21 ?_)
    refine store 23 rfl _ (cells_put24 _ _ _ _ _) ?_
    exact hk
  refine load 39 rfl ?_
  refine load 39 rfl ?_
  refine store 39 rfl _ (cells_put40 _ _ _ _ _) ?_
  refine load 39 rfl ?_
  refine load 39 rfl ?_
  refine store 39 rfl _ (cells_put40 _ _ _ _ _) ?_
  exact ret_bind (hk.trans (le_wp_ret _ _ _ _ _))

end Cert.Kernel.Hand

end
-- ==== Proof.Kernel.Track.lean ====
/-
  THE RUN OF THE KERNEL, FOR ANY INVARIANT. `Inv c n R` is what the scratch contents `R` meet before grid point `n`, `Rl w t X` what
  the block `X` that output `w` is left with at point `t` meets; whenever the body's step keeps both (`Keeps`), the kernel runs and every
  result is assembled from blocks meeting `Rl` (`run_track`). With nothing demanded of either this is the frame (`frame`).
-/
module

public import proofs.«01_k».proof.Proof.Kernel.Body
public import Idealize.ShloMosaic.Lib.Pipeline.DatRel

@[expose] public section

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel.Gen Cert.Held

variable {F : FTy → Type} [FloatOps F]

local notation "𝕄" => MT nD τ sig Unit (Elt F) ℕ (UR sig nD τ) ℕ

/-- Contents of the inputs. -/
@[ext]
structure Ins (F : FTy → Type) where
  a1 : Shape.Idx S2x36x32x512 → Elt F .i8
  a2 : Shape.Idx S512x256 → Elt F .i8
  a3 : Shape.Idx S2304x256 → Elt F .i8
  a4 : Shape.Idx S256x1024 → Elt F .i8
  a5 : Shape.Idx S512x1024 → Elt F .i8
  a6 : Shape.Idx S1024x256 → Elt F .i8
  a7 : Shape.Idx S2304x256 → Elt F .i8
  a8 : Shape.Idx S256x1024 → Elt F .i8
  a9 : Shape.Idx S1x256 → Elt F .i32
  a10 : Shape.Idx S1x256 → Elt F .f32
  a11 : Shape.Idx S1x256 → Elt F .i32
  a12 : Shape.Idx S1x256 → Elt F .f32
  a13 : Shape.Idx S1x1024 → Elt F .i32
  a14 : Shape.Idx S1x1024 → Elt F .f32
  a15 : Shape.Idx S1x1024 → Elt F .i32
  a16 : Shape.Idx S1x1024 → Elt F .f32
  a17 : Shape.Idx S1x256 → Elt F .i32
  a18 : Shape.Idx S1x256 → Elt F .f32
  a19 : Shape.Idx S1x256 → Elt F .i32
  a20 : Shape.Idx S1x256 → Elt F .f32
  a21 : Shape.Idx S1x1024 → Elt F .i32
  a22 : Shape.Idx S1x1024 → Elt F .f32
  a23 : Shape.Idx S1 → Elt F .f32

/-- Contents of the outputs. -/
@[ext]
structure Outs (F : FTy → Type) where
  a24 : Shape.Idx S1x18x32x1024 → Elt F .i8
  a25 : Shape.Idx S1x18x32x1024 → Elt F .i8
  a26 : Shape.Idx S2x36x32x256 → Elt F .i8
  a27 : Shape.Idx S1x18x32x256 → Elt F .i8
  a28 : Shape.Idx S1x18x32x256 → Elt F .i8
  a29 : Shape.Idx S1x18x32x256 → Elt F .i8

/-- Contents of the scratch. -/
@[ext]
structure Scr (F : FTy → Type) where
  a30 : Shape.Idx S512x256 → Elt F .bf16
  a31 : Shape.Idx S2304x256 → Elt F .bf16
  a32 : Shape.Idx S256x1024 → Elt F .bf16
  a33 : Shape.Idx S512x1024 → Elt F .bf16
  a34 : Shape.Idx S1024x256 → Elt F .bf16
  a35 : Shape.Idx S2304x256 → Elt F .bf16
  a36 : Shape.Idx S256x1024 → Elt F .bf16
  a37 : Shape.Idx S3x38x32x256 → Elt F .bf16
  a38 : Shape.Idx S576x256 → Elt F .bf16
  a39 : Shape.Idx S2x576x1024 → Elt F .bf16
  a40 : Shape.Idx S4x20x32x256 → Elt F .bf16
  a41 : Shape.Idx S576x256 → Elt F .bf16

def St.ins (S : St F) : Ins F := ⟨S.a1, S.a2, S.a3, S.a4, S.a5, S.a6, S.a7, S.a8, S.a9, S.a10, S.a11, S.a12, S.a13, S.a14, S.a15, S.a16, S.a17, S.a18, S.a19, S.a20, S.a21, S.a22, S.a23⟩
def St.outs (S : St F) : Outs F := ⟨S.a24, S.a25, S.a26, S.a27, S.a28, S.a29⟩
def St.scr (S : St F) : Scr F := ⟨S.a30, S.a31, S.a32, S.a33, S.a34, S.a35, S.a36, S.a37, S.a38, S.a39, S.a40, S.a41⟩

/-- Contents of every buffer, from those of the inputs, the outputs and the scratch. -/
def mk (I : Ins F) (O : Outs F) (R : Scr F) : St F :=
  ⟨I.a1, I.a2, I.a3, I.a4, I.a5, I.a6, I.a7, I.a8, I.a9, I.a10, I.a11, I.a12, I.a13, I.a14, I.a15, I.a16, I.a17, I.a18, I.a19, I.a20, I.a21, I.a22, I.a23, O.a24, O.a25, O.a26, O.a27, O.a28, O.a29, R.a30, R.a31, R.a32, R.a33, R.a34, R.a35, R.a36, R.a37, R.a38, R.a39, R.a40, R.a41⟩

theorem ins_put24 (S : St F) (off size : Fin (Shape.rank S1x18x32x1024) → ℕ) (w : ((a : Fin (Shape.rank S1x18x32x1024)) → Fin (size a)) → Elt F .i8) : (S.put24 off size w).ins = S.ins := rfl
theorem ins_put25 (S : St F) (off size : Fin (Shape.rank S1x18x32x1024) → ℕ) (w : ((a : Fin (Shape.rank S1x18x32x1024)) → Fin (size a)) → Elt F .i8) : (S.put25 off size w).ins = S.ins := rfl
theorem ins_put26 (S : St F) (off size : Fin (Shape.rank S2x36x32x256) → ℕ) (w : ((a : Fin (Shape.rank S2x36x32x256)) → Fin (size a)) → Elt F .i8) : (S.put26 off size w).ins = S.ins := rfl
theorem ins_put27 (S : St F) (off size : Fin (Shape.rank S1x18x32x256) → ℕ) (w : ((a : Fin (Shape.rank S1x18x32x256)) → Fin (size a)) → Elt F .i8) : (S.put27 off size w).ins = S.ins := rfl
theorem ins_put28 (S : St F) (off size : Fin (Shape.rank S1x18x32x256) → ℕ) (w : ((a : Fin (Shape.rank S1x18x32x256)) → Fin (size a)) → Elt F .i8) : (S.put28 off size w).ins = S.ins := rfl
theorem ins_put29 (S : St F) (off size : Fin (Shape.rank S1x18x32x256) → ℕ) (w : ((a : Fin (Shape.rank S1x18x32x256)) → Fin (size a)) → Elt F .i8) : (S.put29 off size w).ins = S.ins := rfl
theorem ins_put30 (S : St F) (off size : Fin (Shape.rank S512x256) → ℕ) (w : ((a : Fin (Shape.rank S512x256)) → Fin (size a)) → Elt F .bf16) : (S.put30 off size w).ins = S.ins := rfl
theorem ins_put31 (S : St F) (off size : Fin (Shape.rank S2304x256) → ℕ) (w : ((a : Fin (Shape.rank S2304x256)) → Fin (size a)) → Elt F .bf16) : (S.put31 off size w).ins = S.ins := rfl
theorem ins_put32 (S : St F) (off size : Fin (Shape.rank S256x1024) → ℕ) (w : ((a : Fin (Shape.rank S256x1024)) → Fin (size a)) → Elt F .bf16) : (S.put32 off size w).ins = S.ins := rfl
theorem ins_put33 (S : St F) (off size : Fin (Shape.rank S512x1024) → ℕ) (w : ((a : Fin (Shape.rank S512x1024)) → Fin (size a)) → Elt F .bf16) : (S.put33 off size w).ins = S.ins := rfl
theorem ins_put34 (S : St F) (off size : Fin (Shape.rank S1024x256) → ℕ) (w : ((a : Fin (Shape.rank S1024x256)) → Fin (size a)) → Elt F .bf16) : (S.put34 off size w).ins = S.ins := rfl
theorem ins_put35 (S : St F) (off size : Fin (Shape.rank S2304x256) → ℕ) (w : ((a : Fin (Shape.rank S2304x256)) → Fin (size a)) → Elt F .bf16) : (S.put35 off size w).ins = S.ins := rfl
theorem ins_put36 (S : St F) (off size : Fin (Shape.rank S256x1024) → ℕ) (w : ((a : Fin (Shape.rank S256x1024)) → Fin (size a)) → Elt F .bf16) : (S.put36 off size w).ins = S.ins := rfl
theorem ins_put37 (S : St F) (off size : Fin (Shape.rank S3x38x32x256) → ℕ) (w : ((a : Fin (Shape.rank S3x38x32x256)) → Fin (size a)) → Elt F .bf16) : (S.put37 off size w).ins = S.ins := rfl
theorem ins_put38 (S : St F) (off size : Fin (Shape.rank S576x256) → ℕ) (w : ((a : Fin (Shape.rank S576x256)) → Fin (size a)) → Elt F .bf16) : (S.put38 off size w).ins = S.ins := rfl
theorem ins_put39 (S : St F) (off size : Fin (Shape.rank S2x576x1024) → ℕ) (w : ((a : Fin (Shape.rank S2x576x1024)) → Fin (size a)) → Elt F .bf16) : (S.put39 off size w).ins = S.ins := rfl
theorem ins_put40 (S : St F) (off size : Fin (Shape.rank S4x20x32x256) → ℕ) (w : ((a : Fin (Shape.rank S4x20x32x256)) → Fin (size a)) → Elt F .bf16) : (S.put40 off size w).ins = S.ins := rfl
theorem ins_put41 (S : St F) (off size : Fin (Shape.rank S576x256) → ℕ) (w : ((a : Fin (Shape.rank S576x256)) → Fin (size a)) → Elt F .bf16) : (S.put41 off size w).ins = S.ins := rfl
theorem ins_part1 (i : grid0.Coords) (S : St F)  : (part1 i S).ins = S.ins := by
  unfold part1; extract_lets; exact (ins_put34 _ _ _ _).trans <| (ins_put33 _ _ _ _).trans <| (ins_put32 _ _ _ _).trans <| (ins_put31 _ _ _ _).trans <| ins_put30 _ _ _ _
theorem ins_part2 (i : grid0.Coords) (S : St F) (v0 : BitVec 32) : (part2 i S v0).ins = S.ins := by
  unfold part2; extract_lets; exact ins_put37 _ _ _ _
theorem ins_part3 (i : grid0.Coords) (S : St F) (v58 : FVec F S576x256 .f32) (v59 : IVec S576x256 32) : (part3 i S v58 v59).ins = S.ins := by
  unfold part3; extract_lets; exact (ins_put37 _ _ _ _).trans <| ins_put26 _ _ _ _
theorem ins_part4 (i : grid0.Coords) (S : St F) (v93 : FVec F S576x256 .f32) (v96 : IVec S18x32x256 8) : (part4 i S v93 v96).ins = S.ins := by
  unfold part4; extract_lets; exact (ins_put37 _ _ _ _).trans <| ins_put26 _ _ _ _
theorem ins_part5 (i : grid0.Coords) (S : St F) (v128 : FVec F S576x256 .f32) (v131 : IVec S18x32x256 8) : (part5 i S v128 v131).ins = S.ins := by
  unfold part5; extract_lets; exact (ins_put37 _ _ _ _).trans <| ins_put26 _ _ _ _
theorem ins_part6 (i : grid0.Coords) (S : St F) (v163 : FVec F S576x256 .f32) (v166 : IVec S18x32x256 8) : (part6 i S v163 v166).ins = S.ins := by
  unfold part6; extract_lets; exact (ins_put37 _ _ _ _).trans <| ins_put26 _ _ _ _
theorem ins_part8 (i : grid0.Coords) (S : St F) (v225 : FVec F S576x256 .f32) (c255_i32_163 : BitVec 32) (v226 : F .f32) : (part8 i S v225 c255_i32_163 v226).ins = S.ins := by
  unfold part8; extract_lets; exact (ins_put38 _ _ _ _).trans <| ins_put27 _ _ _ _
theorem ins_part9 (i : grid0.Coords) (S : St F) (arg0 : BitVec 32) (k0_h2 : k0_cond2 i = 1#1) (v246 : FVec F S576x512 .bf16) (v260 : FVec F S576x256 .f32) (v261 : Vec F S512x256 .bf16) (cst_186 : FVec F S576x256 .f32) : (part9 i S arg0 k0_h2 v246 v260 v261 cst_186).ins = S.ins := by
  unfold part9; extract_lets; exact ins_put25 _ _ _ _
theorem ins_part10 (i : grid0.Coords) (S : St F) (k0_h2 : k0_cond2 i = 1#1) (v246 : FVec F S576x512 .bf16) (v302 : FVec F S1x576x256 .bf16) : (part10 i S k0_h2 v246 v302).ins = S.ins := by
  unfold part10; extract_lets; exact ins_put39 _ _ _ _
theorem ins_part11 (i : grid0.Coords) (S : St F) (arg0 : BitVec 32) (k0_h2 : k0_cond2 i = 1#1) (v246 : FVec F S576x512 .bf16) (v337 : FVec F S576x256 .f32) (v340 : IVec S18x32x256 8) : (part11 i S arg0 k0_h2 v246 v337 v340).ins = S.ins := by
  unfold part11; extract_lets; exact (ins_put39 _ _ _ _).trans <| ins_put25 _ _ _ _
theorem ins_part12 (i : grid0.Coords) (S : St F) (arg0 : BitVec 32) (k0_h2 : k0_cond2 i = 1#1) (v372 : FVec F S576x256 .f32) (v374 : FVec F S576x256 .f32) (v375 : Vec F S1x256 .i32) : (part12 i S arg0 k0_h2 v372 v374 v375).ins = S.ins := by
  unfold part12; extract_lets; exact (ins_put39 _ _ _ _).trans <| ins_put25 _ _ _ _
theorem ins_part14 (i : grid0.Coords) (S : St F) (arg0 : BitVec 32) (k0_h2 : k0_cond2 i = 1#1) (v449 : FVec F S576x256 .f32) (v455 : IVec S1x18x32x256 8) : (part14 i S arg0 k0_h2 v449 v455).ins = S.ins := by
  unfold part14; extract_lets; exact (ins_put39 _ _ _ _).trans <| ins_put25 _ _ _ _
theorem ins_part15 (i : grid0.Coords) (S : St F) (v0 : BitVec 32) : (part15 i S v0).ins = S.ins := by
  unfold part15; extract_lets; exact ins_put40 _ _ _ _
theorem ins_part17 (i : grid0.Coords) (S : St F) (arg0 : BitVec 32) (k0_h3 : k0_cond3 i = 1#1) (v82 : FVec F S576x256 .f32) (v85 : IVec S18x32x256 8) : (part17 i S arg0 k0_h3 v82 v85).ins = S.ins := by
  unfold part17; extract_lets; exact (ins_put41 _ _ _ _).trans <| ins_put29 _ _ _ _
theorem ins_part18 (i : grid0.Coords) (S : St F) (arg0 : BitVec 32) (v93 : Elt F .f32) (v107 : FVec F S576x256 .f32) (v120 : Vec F S1x576x256 .bf16) : (part18 i S arg0 v93 v107 v120).ins = S.ins := by
  unfold part18; extract_lets; exact ins_put24 _ _ _ _
theorem ins_part19 (i : grid0.Coords) (S : St F) (arg0 : BitVec 32) (k0_h3 : k0_cond3 i = 1#1) (v93 : Elt F .f32) (v152 : FVec F S576x256 .f32) (v155 : BitVec 32) (v156 : BitVec 32) (v157 : BitVec 1) (v158 : BitVec 1) : (part19 i S arg0 k0_h3 v93 v152 v155 v156 v157 v158).ins = S.ins := by
  unfold part19; extract_lets; exact ins_put24 _ _ _ _
theorem ins_part20 (i : grid0.Coords) (S : St F) (k0_h3 : k0_cond3 i = 1#1) (v93 : Elt F .f32) (v197 : FVec F S576x256 .f32) (v198 : BitVec 32) : (part20 i S k0_h3 v93 v197 v198).ins = S.ins := by
  unfold part20; extract_lets; exact ins_put24 _ _ _ _
theorem ins_part21 (i : grid0.Coords) (S : St F) (arg0 : BitVec 32) (v0 : BitVec 32) (k0_h3 : k0_cond3 i = 1#1) : (part21 i S arg0 v0 k0_h3).ins = S.ins := by
  unfold part21; extract_lets; exact (ins_part20 _ _ _ _ _ _).trans <| (ins_part19 _ _ _ _ _ _ _ _ _ _).trans <| (ins_part18 _ _ _ _ _ _).trans <| (ins_part17 _ _ _ _ _ _).trans <| ins_part15 _ _ _
theorem ins_first (i : grid0.Coords) (S : St F)  : (first i S).ins = S.ins := by
  unfold first; extract_lets; exact (ins_put40 _ _ _ _).trans <| (ins_put37 _ _ _ _).trans <| (ins_put36 _ _ _ _).trans <| (ins_put35 _ _ _ _).trans <| ins_part1 _ _
theorem ins_lead (i : grid0.Coords) (S : St F) (k0_h2 : k0_cond2 i = 1#1) : (lead i S k0_h2).ins = S.ins := by
  unfold lead; extract_lets; exact (ins_put40 _ _ _ _).trans <| (ins_put28 _ _ _ _).trans <| (ins_part14 _ _ _ _ _ _).trans <| (ins_part12 _ _ _ _ _ _ _).trans <| (ins_part11 _ _ _ _ _ _ _).trans <| (ins_part10 _ _ _ _ _).trans <| (ins_part9 _ _ _ _ _ _ _ _).trans <| (ins_part8 _ _ _ _ _).trans <| (ins_part6 _ _ _ _).trans <| (ins_part5 _ _ _ _).trans <| (ins_part4 _ _ _ _).trans <| (ins_part3 _ _ _ _).trans <| ins_part2 _ _ _
theorem ins_lag (i : grid0.Coords) (S : St F) (k0_h3 : k0_cond3 i = 1#1) : (lag i S k0_h3).ins = S.ins := by
  unfold lag; extract_lets; exact (ins_put24 _ _ _ _).trans <| ins_part21 _ _ _ _ _
theorem ins_shift (i : grid0.Coords) (S : St F) : (shift i S).ins = S.ins := by
  unfold shift; extract_lets; exact (ins_put40 _ _ _ _).trans <| ins_put40 _ _ _ _

/-- The body leaves the inputs. -/
theorem ins_step (i : grid0.Coords) (S : St F) : (step i S).ins = S.ins := by
  unfold step
  dsimp only
  rw [ins_shift]
  split
  · rw [ins_lag]; split
    · rw [ins_lead]; split
      · rw [ins_first]
      · rfl
    · split
      · rw [ins_first]
      · rfl
  · split
    · rw [ins_lead]; split
      · rw [ins_first]
      · rfl
    · split
      · rw [ins_first]
      · rfl

abbrev ms0_0 (t : Fin cfg0.N) : Memref sig .tc .vmem S2x36x32x512 .i8 := win0_0.stage (cfg0.slots t 0)
abbrev ms0_1 (t : Fin cfg0.N) : Memref sig .tc .vmem S512x256 .i8 := win0_1.stage (cfg0.slots t 1)
abbrev ms0_2 (t : Fin cfg0.N) : Memref sig .tc .vmem S2304x256 .i8 := win0_2.stage (cfg0.slots t 2)
abbrev ms0_3 (t : Fin cfg0.N) : Memref sig .tc .vmem S256x1024 .i8 := win0_3.stage (cfg0.slots t 3)
abbrev ms0_4 (t : Fin cfg0.N) : Memref sig .tc .vmem S512x1024 .i8 := win0_4.stage (cfg0.slots t 4)
abbrev ms0_5 (t : Fin cfg0.N) : Memref sig .tc .vmem S1024x256 .i8 := win0_5.stage (cfg0.slots t 5)
abbrev ms0_6 (t : Fin cfg0.N) : Memref sig .tc .vmem S2304x256 .i8 := win0_6.stage (cfg0.slots t 6)
abbrev ms0_7 (t : Fin cfg0.N) : Memref sig .tc .vmem S256x1024 .i8 := win0_7.stage (cfg0.slots t 7)
abbrev ms0_8 (t : Fin cfg0.N) : Memref sig .tc .vmem S1x256 .i32 := win0_8.stage (cfg0.slots t 8)
abbrev ms0_9 (t : Fin cfg0.N) : Memref sig .tc .vmem S1x256 .f32 := win0_9.stage (cfg0.slots t 9)
abbrev ms0_10 (t : Fin cfg0.N) : Memref sig .tc .vmem S1x256 .i32 := win0_10.stage (cfg0.slots t 10)
abbrev ms0_11 (t : Fin cfg0.N) : Memref sig .tc .vmem S1x256 .f32 := win0_11.stage (cfg0.slots t 11)
abbrev ms0_12 (t : Fin cfg0.N) : Memref sig .tc .vmem S1x1024 .i32 := win0_12.stage (cfg0.slots t 12)
abbrev ms0_13 (t : Fin cfg0.N) : Memref sig .tc .vmem S1x1024 .f32 := win0_13.stage (cfg0.slots t 13)
abbrev ms0_14 (t : Fin cfg0.N) : Memref sig .tc .vmem S1x1024 .i32 := win0_14.stage (cfg0.slots t 14)
abbrev ms0_15 (t : Fin cfg0.N) : Memref sig .tc .vmem S1x1024 .f32 := win0_15.stage (cfg0.slots t 15)
abbrev ms0_16 (t : Fin cfg0.N) : Memref sig .tc .vmem S1x256 .i32 := win0_16.stage (cfg0.slots t 16)
abbrev ms0_17 (t : Fin cfg0.N) : Memref sig .tc .vmem S1x256 .f32 := win0_17.stage (cfg0.slots t 17)
abbrev ms0_18 (t : Fin cfg0.N) : Memref sig .tc .vmem S1x256 .i32 := win0_18.stage (cfg0.slots t 18)
abbrev ms0_19 (t : Fin cfg0.N) : Memref sig .tc .vmem S1x256 .f32 := win0_19.stage (cfg0.slots t 19)
abbrev ms0_20 (t : Fin cfg0.N) : Memref sig .tc .vmem S1x1024 .i32 := win0_20.stage (cfg0.slots t 20)
abbrev ms0_21 (t : Fin cfg0.N) : Memref sig .tc .vmem S1x1024 .f32 := win0_21.stage (cfg0.slots t 21)
abbrev ms0_22 (t : Fin cfg0.N) : Memref sig .tc .smem S1 .f32 := win0_22.stage (cfg0.slots t 22)
abbrev ms0_23 (t : Fin cfg0.N) : Memref sig .tc .vmem S1x18x32x1024 .i8 := win0_23.stage (cfg0.slots t 23)
abbrev ms0_24 (t : Fin cfg0.N) : Memref sig .tc .vmem S1x18x32x1024 .i8 := win0_24.stage (cfg0.slots t 24)
abbrev ms0_25 (t : Fin cfg0.N) : Memref sig .tc .vmem S2x36x32x256 .i8 := win0_25.stage (cfg0.slots t 25)
abbrev ms0_26 (t : Fin cfg0.N) : Memref sig .tc .vmem S1x18x32x256 .i8 := win0_26.stage (cfg0.slots t 26)
abbrev ms0_27 (t : Fin cfg0.N) : Memref sig .tc .vmem S1x18x32x256 .i8 := win0_27.stage (cfg0.slots t 27)
abbrev ms0_28 (t : Fin cfg0.N) : Memref sig .tc .vmem S1x18x32x256 .i8 := win0_28.stage (cfg0.slots t 28)
abbrev scM0_0 : Memref sig .tc .vmem S512x256 .bf16 := Memref.whole cc0_scratch0
abbrev scM0_1 : Memref sig .tc .vmem S2304x256 .bf16 := Memref.whole cc0_scratch1
abbrev scM0_2 : Memref sig .tc .vmem S256x1024 .bf16 := Memref.whole cc0_scratch2
abbrev scM0_3 : Memref sig .tc .vmem S512x1024 .bf16 := Memref.whole cc0_scratch3
abbrev scM0_4 : Memref sig .tc .vmem S1024x256 .bf16 := Memref.whole cc0_scratch4
abbrev scM0_5 : Memref sig .tc .vmem S2304x256 .bf16 := Memref.whole cc0_scratch5
abbrev scM0_6 : Memref sig .tc .vmem S256x1024 .bf16 := Memref.whole cc0_scratch6
abbrev scM0_7 : Memref sig .tc .vmem S3x38x32x256 .bf16 := Memref.whole cc0_scratch7
abbrev scM0_8 : Memref sig .tc .vmem S576x256 .bf16 := Memref.whole cc0_scratch8
abbrev scM0_9 : Memref sig .tc .vmem S2x576x1024 .bf16 := Memref.whole cc0_scratch9
abbrev scM0_10 : Memref sig .tc .vmem S4x20x32x256 .bf16 := Memref.whole cc0_scratch10
abbrev scM0_11 : Memref sig .tc .vmem S576x256 .bf16 := Memref.whole cc0_scratch11

/-- The buffers the body is handed at point `t`. -/
def bufs (t : Fin cfg0.N) : Bufs where
  arg1 := ms0_0 t
  harg1 := hstage0_0 ((cfg0.slots t 0).cast nbuf0_0)
  arg2 := ms0_1 t
  harg2 := hstage0_1 ((cfg0.slots t 1).cast nbuf0_1)
  arg3 := ms0_2 t
  harg3 := hstage0_2 ((cfg0.slots t 2).cast nbuf0_2)
  arg4 := ms0_3 t
  harg4 := hstage0_3 ((cfg0.slots t 3).cast nbuf0_3)
  arg5 := ms0_4 t
  harg5 := hstage0_4 ((cfg0.slots t 4).cast nbuf0_4)
  arg6 := ms0_5 t
  harg6 := hstage0_5 ((cfg0.slots t 5).cast nbuf0_5)
  arg7 := ms0_6 t
  harg7 := hstage0_6 ((cfg0.slots t 6).cast nbuf0_6)
  arg8 := ms0_7 t
  harg8 := hstage0_7 ((cfg0.slots t 7).cast nbuf0_7)
  arg9 := ms0_8 t
  harg9 := hstage0_8 ((cfg0.slots t 8).cast nbuf0_8)
  arg10 := ms0_9 t
  harg10 := hstage0_9 ((cfg0.slots t 9).cast nbuf0_9)
  arg11 := ms0_10 t
  harg11 := hstage0_10 ((cfg0.slots t 10).cast nbuf0_10)
  arg12 := ms0_11 t
  harg12 := hstage0_11 ((cfg0.slots t 11).cast nbuf0_11)
  arg13 := ms0_12 t
  harg13 := hstage0_12 ((cfg0.slots t 12).cast nbuf0_12)
  arg14 := ms0_13 t
  harg14 := hstage0_13 ((cfg0.slots t 13).cast nbuf0_13)
  arg15 := ms0_14 t
  harg15 := hstage0_14 ((cfg0.slots t 14).cast nbuf0_14)
  arg16 := ms0_15 t
  harg16 := hstage0_15 ((cfg0.slots t 15).cast nbuf0_15)
  arg17 := ms0_16 t
  harg17 := hstage0_16 ((cfg0.slots t 16).cast nbuf0_16)
  arg18 := ms0_17 t
  harg18 := hstage0_17 ((cfg0.slots t 17).cast nbuf0_17)
  arg19 := ms0_18 t
  harg19 := hstage0_18 ((cfg0.slots t 18).cast nbuf0_18)
  arg20 := ms0_19 t
  harg20 := hstage0_19 ((cfg0.slots t 19).cast nbuf0_19)
  arg21 := ms0_20 t
  harg21 := hstage0_20 ((cfg0.slots t 20).cast nbuf0_20)
  arg22 := ms0_21 t
  harg22 := hstage0_21 ((cfg0.slots t 21).cast nbuf0_21)
  arg23 := ms0_22 t
  harg23 := hstage0_22 ((cfg0.slots t 22).cast nbuf0_22)
  arg24 := ms0_23 t
  harg24 := hstage0_23 ((cfg0.slots t 23).cast nbuf0_23)
  arg25 := ms0_24 t
  harg25 := hstage0_24 ((cfg0.slots t 24).cast nbuf0_24)
  arg26 := ms0_25 t
  harg26 := hstage0_25 ((cfg0.slots t 25).cast nbuf0_25)
  arg27 := ms0_26 t
  harg27 := hstage0_26 ((cfg0.slots t 26).cast nbuf0_26)
  arg28 := ms0_27 t
  harg28 := hstage0_27 ((cfg0.slots t 27).cast nbuf0_27)
  arg29 := ms0_28 t
  harg29 := hstage0_28 ((cfg0.slots t 28).cast nbuf0_28)
  arg30 := scM0_0
  harg30 := Memref.isWhole_whole _
  arg31 := scM0_1
  harg31 := Memref.isWhole_whole _
  arg32 := scM0_2
  harg32 := Memref.isWhole_whole _
  arg33 := scM0_3
  harg33 := Memref.isWhole_whole _
  arg34 := scM0_4
  harg34 := Memref.isWhole_whole _
  arg35 := scM0_5
  harg35 := Memref.isWhole_whole _
  arg36 := scM0_6
  harg36 := Memref.isWhole_whole _
  arg37 := scM0_7
  harg37 := Memref.isWhole_whole _
  arg38 := scM0_8
  harg38 := Memref.isWhole_whole _
  arg39 := scM0_9
  harg39 := Memref.isWhole_whole _
  arg40 := scM0_10
  harg40 := Memref.isWhole_whole _
  arg41 := scM0_11
  harg41 := Memref.isWhole_whole _

variable (m : (ℓ : Loc nD τ sig) → Buf (Elt F) ℓ) (ρ : Dev nD → PrngReg)

/-- The scratch at contents `R`. -/
def scrOwn (c : Dev nD) (R : Scr F) : sProp 𝕄 :=
  iprop(owns (c : Thread nD τ) scM0_0 fullShare R.a30 ∗ owns (c : Thread nD τ) scM0_1 fullShare R.a31 ∗ owns (c : Thread nD τ) scM0_2 fullShare R.a32 ∗ owns (c : Thread nD τ) scM0_3 fullShare R.a33 ∗ owns (c : Thread nD τ) scM0_4 fullShare R.a34 ∗ owns (c : Thread nD τ) scM0_5 fullShare R.a35 ∗ owns (c : Thread nD τ) scM0_6 fullShare R.a36 ∗ owns (c : Thread nD τ) scM0_7 fullShare R.a37 ∗ owns (c : Thread nD τ) scM0_8 fullShare R.a38 ∗ owns (c : Thread nD τ) scM0_9 fullShare R.a39 ∗ owns (c : Thread nD τ) scM0_10 fullShare R.a40 ∗ owns (c : Thread nD τ) scM0_11 fullShare R.a41)

/-- What holds before a grid point: the scratch at contents meeting the invariant, and the generator's register. -/
def Phi (Inv : Dev nD → ℕ → Scr F → Prop) (c : Dev nD) (n : ℕ) : sProp 𝕄 :=
  iprop((∃ R, ⌜Inv c n R⌝ ∗ scrOwn c R) ∗ (∃ r, prngReg c r))

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, owns_whole]; try rfl

/-- The input blocks at point `t`. -/
def insAt (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t⟩

/-- The proof data: each input's block stays, the outputs' are described by `Rl`. -/
def dat (Inv : Dev nD → ℕ → Scr F → Prop) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨_ + 29, h⟩ => absurd h (Nat.not_lt.2 (Nat.le_add_left _ _))
  Φ t := Phi Inv c t.val
  q _ := fullShare
  owed _ := 0

theorem dat_A (Inv : Dev nD → ℕ → Scr F → Prop) (c : Dev nD) (w : Fin cfg0.W) : (dat m Inv c).A w = V m c (Pipeline.arrRef spec0 w) := by
  dsimp only [dat]

theorem after0_0 (Inv : Dev nD → ℕ → Scr F → Prop) (c : Dev nD) (t : Fin cfg0.N) : (dat m Inv c).after 0 t = iblk m c 0 t := by dsimp only [dat]
theorem before0_0 (Inv : Dev nD → ℕ → Scr F → Prop) (c : Dev nD) (t : Fin cfg0.N) (d) : (dat m Inv c).before 0 t d = iblk m c 0 t :=
  before0_0_of m (dat m Inv c) (dat_A m Inv c 0) (after0_0 m Inv c) t d
theorem after0_1 (Inv : Dev nD → ℕ → Scr F → Prop) (c : Dev nD) (t : Fin cfg0.N) : (dat m Inv c).after 1 t = iblk m c 1 t := by dsimp only [dat]
theorem before0_1 (Inv : Dev nD → ℕ → Scr F → Prop) (c : Dev nD) (t : Fin cfg0.N) (d) : (dat m Inv c).before 1 t d = iblk m c 1 t :=
  before0_1_of m (dat m Inv c) (dat_A m Inv c 1) (after0_1 m Inv c) t d
theorem after0_2 (Inv : Dev nD → ℕ → Scr F → Prop) (c : Dev nD) (t : Fin cfg0.N) : (dat m Inv c).after 2 t = iblk m c 2 t := by dsimp only [dat]
theorem before0_2 (Inv : Dev nD → ℕ → Scr F → Prop) (c : Dev nD) (t : Fin cfg0.N) (d) : (dat m Inv c).before 2 t d = iblk m c 2 t :=
  before0_2_of m (dat m Inv c) (dat_A m Inv c 2) (after0_2 m Inv c) t d
theorem after0_3 (Inv : Dev nD → ℕ → Scr F → Prop) (c : Dev nD) (t : Fin cfg0.N) : (dat m Inv c).after 3 t = iblk m c 3 t := by dsimp only [dat]
theorem before0_3 (Inv : Dev nD → ℕ → Scr F → Prop) (c : Dev nD) (t : Fin cfg0.N) (d) : (dat m Inv c).before 3 t d = iblk m c 3 t :=
  before0_3_of m (dat m Inv c) (dat_A m Inv c 3) (after0_3 m Inv c) t d
theorem after0_4 (Inv : Dev nD → ℕ → Scr F → Prop) (c : Dev nD) (t : Fin cfg0.N) : (dat m Inv c).after 4 t = iblk m c 4 t := by dsimp only [dat]
theorem before0_4 (Inv : Dev nD → ℕ → Scr F → Prop) (c : Dev nD) (t : Fin cfg0.N) (d) : (dat m Inv c).before 4 t d = iblk m c 4 t :=
  before0_4_of m (dat m Inv c) (dat_A m Inv c 4) (after0_4 m Inv c) t d
theorem after0_5 (Inv : Dev nD → ℕ → Scr F → Prop) (c : Dev nD) (t : Fin cfg0.N) : (dat m Inv c).after 5 t = iblk m c 5 t := by dsimp only [dat]
theorem before0_5 (Inv : Dev nD → ℕ → Scr F → Prop) (c : Dev nD) (t : Fin cfg0.N) (d) : (dat m Inv c).before 5 t d = iblk m c 5 t :=
  before0_5_of m (dat m Inv c) (dat_A m Inv c 5) (after0_5 m Inv c) t d
theorem after0_6 (Inv : Dev nD → ℕ → Scr F → Prop) (c : Dev nD) (t : Fin cfg0.N) : (dat m Inv c).after 6 t = iblk m c 6 t := by dsimp only [dat]
theorem before0_6 (Inv : Dev nD → ℕ → Scr F → Prop) (c : Dev nD) (t : Fin cfg0.N) (d) : (dat m Inv c).before 6 t d = iblk m c 6 t :=
  before0_6_of m (dat m Inv c) (dat_A m Inv c 6) (after0_6 m Inv c) t d
theorem after0_7 (Inv : Dev nD → ℕ → Scr F → Prop) (c : Dev nD) (t : Fin cfg0.N) : (dat m Inv c).after 7 t = iblk m c 7 t := by dsimp only [dat]
theorem before0_7 (Inv : Dev nD → ℕ → Scr F → Prop) (c : Dev nD) (t : Fin cfg0.N) (d) : (dat m Inv c).before 7 t d = iblk m c 7 t :=
  before0_7_of m (dat m Inv c) (dat_A m Inv c 7) (after0_7 m Inv c) t d
theorem after0_8 (Inv : Dev nD → ℕ → Scr F → Prop) (c : Dev nD) (t : Fin cfg0.N) : (dat m Inv c).after 8 t = iblk m c 8 t := by dsimp only [dat]
theorem before0_8 (Inv : Dev nD → ℕ → Scr F → Prop) (c : Dev nD) (t : Fin cfg0.N) (d) : (dat m Inv c).before 8 t d = iblk m c 8 t :=
  before0_8_of m (dat m Inv c) (dat_A m Inv c 8) (after0_8 m Inv c) t d
theorem after0_9 (Inv : Dev nD → ℕ → Scr F → Prop) (c : Dev nD) (t : Fin cfg0.N) : (dat m Inv c).after 9 t = iblk m c 9 t := by dsimp only [dat]
theorem before0_9 (Inv : Dev nD → ℕ → Scr F → Prop) (c : Dev nD) (t : Fin cfg0.N) (d) : (dat m Inv c).before 9 t d = iblk m c 9 t :=
  before0_9_of m (dat m Inv c) (dat_A m Inv c 9) (after0_9 m Inv c) t d
theorem after0_10 (Inv : Dev nD → ℕ → Scr F → Prop) (c : Dev nD) (t : Fin cfg0.N) : (dat m Inv c).after 10 t = iblk m c 10 t := by dsimp only [dat]
theorem before0_10 (Inv : Dev nD → ℕ → Scr F → Prop) (c : Dev nD) (t : Fin cfg0.N) (d) : (dat m Inv c).before 10 t d = iblk m c 10 t :=
  before0_10_of m (dat m Inv c) (dat_A m Inv c 10) (after0_10 m Inv c) t d
theorem after0_11 (Inv : Dev nD → ℕ → Scr F → Prop) (c : Dev nD) (t : Fin cfg0.N) : (dat m Inv c).after 11 t = iblk m c 11 t := by dsimp only [dat]
theorem before0_11 (Inv : Dev nD → ℕ → Scr F → Prop) (c : Dev nD) (t : Fin cfg0.N) (d) : (dat m Inv c).before 11 t d = iblk m c 11 t :=
  before0_11_of m (dat m Inv c) (dat_A m Inv c 11) (after0_11 m Inv c) t d
theorem after0_12 (Inv : Dev nD → ℕ → Scr F → Prop) (c : Dev nD) (t : Fin cfg0.N) : (dat m Inv c).after 12 t = iblk m c 12 t := by dsimp only [dat]
theorem before0_12 (Inv : Dev nD → ℕ → Scr F → Prop) (c : Dev nD) (t : Fin cfg0.N) (d) : (dat m Inv c).before 12 t d = iblk m c 12 t :=
  before0_12_of m (dat m Inv c) (dat_A m Inv c 12) (after0_12 m Inv c) t d
theorem after0_13 (Inv : Dev nD → ℕ → Scr F → Prop) (c : Dev nD) (t : Fin cfg0.N) : (dat m Inv c).after 13 t = iblk m c 13 t := by dsimp only [dat]
theorem before0_13 (Inv : Dev nD → ℕ → Scr F → Prop) (c : Dev nD) (t : Fin cfg0.N) (d) : (dat m Inv c).before 13 t d = iblk m c 13 t :=
  before0_13_of m (dat m Inv c) (dat_A m Inv c 13) (after0_13 m Inv c) t d
theorem after0_14 (Inv : Dev nD → ℕ → Scr F → Prop) (c : Dev nD) (t : Fin cfg0.N) : (dat m Inv c).after 14 t = iblk m c 14 t := by dsimp only [dat]
theorem before0_14 (Inv : Dev nD → ℕ → Scr F → Prop) (c : Dev nD) (t : Fin cfg0.N) (d) : (dat m Inv c).before 14 t d = iblk m c 14 t :=
  before0_14_of m (dat m Inv c) (dat_A m Inv c 14) (after0_14 m Inv c) t d
theorem after0_15 (Inv : Dev nD → ℕ → Scr F → Prop) (c : Dev nD) (t : Fin cfg0.N) : (dat m Inv c).after 15 t = iblk m c 15 t := by dsimp only [dat]
theorem before0_15 (Inv : Dev nD → ℕ → Scr F → Prop) (c : Dev nD) (t : Fin cfg0.N) (d) : (dat m Inv c).before 15 t d = iblk m c 15 t :=
  before0_15_of m (dat m Inv c) (dat_A m Inv c 15) (after0_15 m Inv c) t d
theorem after0_16 (Inv : Dev nD → ℕ → Scr F → Prop) (c : Dev nD) (t : Fin cfg0.N) : (dat m Inv c).after 16 t = iblk m c 16 t := by dsimp only [dat]
theorem before0_16 (Inv : Dev nD → ℕ → Scr F → Prop) (c : Dev nD) (t : Fin cfg0.N) (d) : (dat m Inv c).before 16 t d = iblk m c 16 t :=
  before0_16_of m (dat m Inv c) (dat_A m Inv c 16) (after0_16 m Inv c) t d
theorem after0_17 (Inv : Dev nD → ℕ → Scr F → Prop) (c : Dev nD) (t : Fin cfg0.N) : (dat m Inv c).after 17 t = iblk m c 17 t := by dsimp only [dat]
theorem before0_17 (Inv : Dev nD → ℕ → Scr F → Prop) (c : Dev nD) (t : Fin cfg0.N) (d) : (dat m Inv c).before 17 t d = iblk m c 17 t :=
  before0_17_of m (dat m Inv c) (dat_A m Inv c 17) (after0_17 m Inv c) t d
theorem after0_18 (Inv : Dev nD → ℕ → Scr F → Prop) (c : Dev nD) (t : Fin cfg0.N) : (dat m Inv c).after 18 t = iblk m c 18 t := by dsimp only [dat]
theorem before0_18 (Inv : Dev nD → ℕ → Scr F → Prop) (c : Dev nD) (t : Fin cfg0.N) (d) : (dat m Inv c).before 18 t d = iblk m c 18 t :=
  before0_18_of m (dat m Inv c) (dat_A m Inv c 18) (after0_18 m Inv c) t d
theorem after0_19 (Inv : Dev nD → ℕ → Scr F → Prop) (c : Dev nD) (t : Fin cfg0.N) : (dat m Inv c).after 19 t = iblk m c 19 t := by dsimp only [dat]
theorem before0_19 (Inv : Dev nD → ℕ → Scr F → Prop) (c : Dev nD) (t : Fin cfg0.N) (d) : (dat m Inv c).before 19 t d = iblk m c 19 t :=
  before0_19_of m (dat m Inv c) (dat_A m Inv c 19) (after0_19 m Inv c) t d
theorem after0_20 (Inv : Dev nD → ℕ → Scr F → Prop) (c : Dev nD) (t : Fin cfg0.N) : (dat m Inv c).after 20 t = iblk m c 20 t := by dsimp only [dat]
theorem before0_20 (Inv : Dev nD → ℕ → Scr F → Prop) (c : Dev nD) (t : Fin cfg0.N) (d) : (dat m Inv c).before 20 t d = iblk m c 20 t :=
  before0_20_of m (dat m Inv c) (dat_A m Inv c 20) (after0_20 m Inv c) t d
theorem after0_21 (Inv : Dev nD → ℕ → Scr F → Prop) (c : Dev nD) (t : Fin cfg0.N) : (dat m Inv c).after 21 t = iblk m c 21 t := by dsimp only [dat]
theorem before0_21 (Inv : Dev nD → ℕ → Scr F → Prop) (c : Dev nD) (t : Fin cfg0.N) (d) : (dat m Inv c).before 21 t d = iblk m c 21 t :=
  before0_21_of m (dat m Inv c) (dat_A m Inv c 21) (after0_21 m Inv c) t d
theorem after0_22 (Inv : Dev nD → ℕ → Scr F → Prop) (c : Dev nD) (t : Fin cfg0.N) : (dat m Inv c).after 22 t = iblk m c 22 t := by dsimp only [dat]
theorem before0_22 (Inv : Dev nD → ℕ → Scr F → Prop) (c : Dev nD) (t : Fin cfg0.N) (d) : (dat m Inv c).before 22 t d = iblk m c 22 t :=
  before0_22_of m (dat m Inv c) (dat_A m Inv c 22) (after0_22 m Inv c) t d

/-- The windows of the results. -/
def isOut (w : Fin cfg0.W) : Bool := decide (23 ≤ w.val)

/-- A predicate on the block a window holds at each point. -/
abbrev BlockRel (F : FTy → Type) := (w : Fin cfg0.W) → Fin cfg0.N → ((cfg0.win w).block.Idx → Elt F (cfg0.win w).elt) → Prop

/-- The relational proof data. -/
abbrev rdat (Inv : Dev nD → ℕ → Scr F → Prop) (Rl : Dev nD → BlockRel F) (c : Dev nD) : RDat τ (Elt F) Unit ℕ (UR sig nD τ) ℕ cfg0 c :=
  (dat m Inv c).toRRel isOut (Rl c)

/-- A relation between the outputs' blocks at a point. -/
def OutsRel (P : (w : Fin cfg0.W) → ((cfg0.win w).block.Idx → Elt F (cfg0.win w).elt) → Prop) (O : Outs F) : Prop :=
  P 23 O.a24 ∧ P 24 O.a25 ∧ P 25 O.a26 ∧ P 26 O.a27 ∧ P 27 O.a28 ∧ P 28 O.a29

/-- The step keeps the invariant and leaves each output's block as `Rl` says. -/
def Keeps (Inv : Dev nD → ℕ → Scr F → Prop) (Rl : Dev nD → BlockRel F) : Prop :=
  ∀ (c : Dev nD) (t : Fin cfg0.N) (O : Outs F) (R : Scr F), Inv c t.val R →
    OutsRel (fun w X => (rdat m Inv Rl c).Finds w t X) O →
    Inv c (t.val + 1) (step (grid0.coords t) (mk (insAt m c t) O R)).scr ∧
      OutsRel (fun w X => Rl c w t X) (step (grid0.coords t) (mk (insAt m c t) O R)).outs

/-- What the body is called with at point `t`. -/
def bodyPre (Inv : Dev nD → ℕ → Scr F → Prop) (Rl : Dev nD → BlockRel F) (c : Dev nD) (t : Fin cfg0.N) : sProp 𝕄 :=
  iprop((dat m Inv c).Φ t.castSucc ∗ (dat m Inv c).owesAt () t.castSucc ∗ (∃ d, owns (c : Thread nD τ) (ms0_0 t) fullShare ((dat m Inv c).before 0 t d)) ∗ (∃ d, owns (c : Thread nD τ) (ms0_1 t) fullShare ((dat m Inv c).before 1 t d)) ∗ (∃ d, owns (c : Thread nD τ) (ms0_2 t) fullShare ((dat m Inv c).before 2 t d)) ∗ (∃ d, owns (c : Thread nD τ) (ms0_3 t) fullShare ((dat m Inv c).before 3 t d)) ∗ (∃ d, owns (c : Thread nD τ) (ms0_4 t) fullShare ((dat m Inv c).before 4 t d)) ∗ (∃ d, owns (c : Thread nD τ) (ms0_5 t) fullShare ((dat m Inv c).before 5 t d)) ∗ (∃ d, owns (c : Thread nD τ) (ms0_6 t) fullShare ((dat m Inv c).before 6 t d)) ∗ (∃ d, owns (c : Thread nD τ) (ms0_7 t) fullShare ((dat m Inv c).before 7 t d)) ∗ (∃ d, owns (c : Thread nD τ) (ms0_8 t) fullShare ((dat m Inv c).before 8 t d)) ∗ (∃ d, owns (c : Thread nD τ) (ms0_9 t) fullShare ((dat m Inv c).before 9 t d)) ∗ (∃ d, owns (c : Thread nD τ) (ms0_10 t) fullShare ((dat m Inv c).before 10 t d)) ∗ (∃ d, owns (c : Thread nD τ) (ms0_11 t) fullShare ((dat m Inv c).before 11 t d)) ∗ (∃ d, owns (c : Thread nD τ) (ms0_12 t) fullShare ((dat m Inv c).before 12 t d)) ∗ (∃ d, owns (c : Thread nD τ) (ms0_13 t) fullShare ((dat m Inv c).before 13 t d)) ∗ (∃ d, owns (c : Thread nD τ) (ms0_14 t) fullShare ((dat m Inv c).before 14 t d)) ∗ (∃ d, owns (c : Thread nD τ) (ms0_15 t) fullShare ((dat m Inv c).before 15 t d)) ∗ (∃ d, owns (c : Thread nD τ) (ms0_16 t) fullShare ((dat m Inv c).before 16 t d)) ∗ (∃ d, owns (c : Thread nD τ) (ms0_17 t) fullShare ((dat m Inv c).before 17 t d)) ∗ (∃ d, owns (c : Thread nD τ) (ms0_18 t) fullShare ((dat m Inv c).before 18 t d)) ∗ (∃ d, owns (c : Thread nD τ) (ms0_19 t) fullShare ((dat m Inv c).before 19 t d)) ∗ (∃ d, owns (c : Thread nD τ) (ms0_20 t) fullShare ((dat m Inv c).before 20 t d)) ∗ (∃ d, owns (c : Thread nD τ) (ms0_21 t) fullShare ((dat m Inv c).before 21 t d)) ∗ (∃ d, owns (c : Thread nD τ) (ms0_22 t) fullShare ((dat m Inv c).before 22 t d)) ∗ (∃ Y, ⌜(rdat m Inv Rl c).Finds 23 t Y⌝ ∗ owns (c : Thread nD τ) (ms0_23 t) fullShare Y) ∗ (∃ Y, ⌜(rdat m Inv Rl c).Finds 24 t Y⌝ ∗ owns (c : Thread nD τ) (ms0_24 t) fullShare Y) ∗ (∃ Y, ⌜(rdat m Inv Rl c).Finds 25 t Y⌝ ∗ owns (c : Thread nD τ) (ms0_25 t) fullShare Y) ∗ (∃ Y, ⌜(rdat m Inv Rl c).Finds 26 t Y⌝ ∗ owns (c : Thread nD τ) (ms0_26 t) fullShare Y) ∗ (∃ Y, ⌜(rdat m Inv Rl c).Finds 27 t Y⌝ ∗ owns (c : Thread nD τ) (ms0_27 t) fullShare Y) ∗ (∃ Y, ⌜(rdat m Inv Rl c).Finds 28 t Y⌝ ∗ owns (c : Thread nD τ) (ms0_28 t) fullShare Y))

/-- And what it returns. -/
def bodyPost (Inv : Dev nD → ℕ → Scr F → Prop) (Rl : Dev nD → BlockRel F) (c : Dev nD) (t : Fin cfg0.N) : sProp 𝕄 :=
  iprop((dat m Inv c).Φ t.succ ∗ (dat m Inv c).owesAt () t.succ ∗ owns (c : Thread nD τ) (ms0_0 t) fullShare ((dat m Inv c).after 0 t) ∗ owns (c : Thread nD τ) (ms0_1 t) fullShare ((dat m Inv c).after 1 t) ∗ owns (c : Thread nD τ) (ms0_2 t) fullShare ((dat m Inv c).after 2 t) ∗ owns (c : Thread nD τ) (ms0_3 t) fullShare ((dat m Inv c).after 3 t) ∗ owns (c : Thread nD τ) (ms0_4 t) fullShare ((dat m Inv c).after 4 t) ∗ owns (c : Thread nD τ) (ms0_5 t) fullShare ((dat m Inv c).after 5 t) ∗ owns (c : Thread nD τ) (ms0_6 t) fullShare ((dat m Inv c).after 6 t) ∗ owns (c : Thread nD τ) (ms0_7 t) fullShare ((dat m Inv c).after 7 t) ∗ owns (c : Thread nD τ) (ms0_8 t) fullShare ((dat m Inv c).after 8 t) ∗ owns (c : Thread nD τ) (ms0_9 t) fullShare ((dat m Inv c).after 9 t) ∗ owns (c : Thread nD τ) (ms0_10 t) fullShare ((dat m Inv c).after 10 t) ∗ owns (c : Thread nD τ) (ms0_11 t) fullShare ((dat m Inv c).after 11 t) ∗ owns (c : Thread nD τ) (ms0_12 t) fullShare ((dat m Inv c).after 12 t) ∗ owns (c : Thread nD τ) (ms0_13 t) fullShare ((dat m Inv c).after 13 t) ∗ owns (c : Thread nD τ) (ms0_14 t) fullShare ((dat m Inv c).after 14 t) ∗ owns (c : Thread nD τ) (ms0_15 t) fullShare ((dat m Inv c).after 15 t) ∗ owns (c : Thread nD τ) (ms0_16 t) fullShare ((dat m Inv c).after 16 t) ∗ owns (c : Thread nD τ) (ms0_17 t) fullShare ((dat m Inv c).after 17 t) ∗ owns (c : Thread nD τ) (ms0_18 t) fullShare ((dat m Inv c).after 18 t) ∗ owns (c : Thread nD τ) (ms0_19 t) fullShare ((dat m Inv c).after 19 t) ∗ owns (c : Thread nD τ) (ms0_20 t) fullShare ((dat m Inv c).after 20 t) ∗ owns (c : Thread nD τ) (ms0_21 t) fullShare ((dat m Inv c).after 21 t) ∗ owns (c : Thread nD τ) (ms0_22 t) fullShare ((dat m Inv c).after 22 t) ∗ (∃ X, ⌜Rl c 23 t X⌝ ∗ owns (c : Thread nD τ) (ms0_23 t) fullShare X) ∗ (∃ X, ⌜Rl c 24 t X⌝ ∗ owns (c : Thread nD τ) (ms0_24 t) fullShare X) ∗ (∃ X, ⌜Rl c 25 t X⌝ ∗ owns (c : Thread nD τ) (ms0_25 t) fullShare X) ∗ (∃ X, ⌜Rl c 26 t X⌝ ∗ owns (c : Thread nD τ) (ms0_26 t) fullShare X) ∗ (∃ X, ⌜Rl c 27 t X⌝ ∗ owns (c : Thread nD τ) (ms0_27 t) fullShare X) ∗ (∃ X, ⌜Rl c 28 t X⌝ ∗ owns (c : Thread nD τ) (ms0_28 t) fullShare X))

/-- The body with the rest of the world. -/
theorem run_body_frame (c : Dev nD) (t : Fin cfg0.N) (S : St F) (P : sProp 𝕄) {Q : PUnit → sProp 𝕄}
    (hk : iprop(held (c : Thread nD τ) (cells (bufs t) (step (grid0.coords t) S)) ∗ P) ⊢ Q ⟨⟩) :
    iprop(held (c : Thread nD τ) (cells (bufs t) S) ∗ P)
      ⊢ wp frame (wpE (defs₀ (F := F)) Variants.none c none) Set.univ (bodyAt0 t) Q :=
  (sep_mono_left (run_body (B := bufs t) (Q := fun _ => held (c : Thread nD τ) (cells (bufs t) (step (grid0.coords t) S))) .rfl)).trans
    ((wp_frame_r _ _ _).trans (wp_mono _ _ _ fun _ => hk))

theorem held_cells (c : Dev nD) (B : Bufs) (S : St F) :
    (held (c : Thread nD τ) (cells B S) : sProp 𝕄) = iprop(owns (c : Thread nD τ) B.arg1 fullShare S.a1 ∗ owns (c : Thread nD τ) B.arg2 fullShare S.a2 ∗ owns (c : Thread nD τ) B.arg3 fullShare S.a3 ∗ owns (c : Thread nD τ) B.arg4 fullShare S.a4 ∗ owns (c : Thread nD τ) B.arg5 fullShare S.a5 ∗ owns (c : Thread nD τ) B.arg6 fullShare S.a6 ∗ owns (c : Thread nD τ) B.arg7 fullShare S.a7 ∗ owns (c : Thread nD τ) B.arg8 fullShare S.a8 ∗ owns (c : Thread nD τ) B.arg9 fullShare S.a9 ∗ owns (c : Thread nD τ) B.arg10 fullShare S.a10 ∗ owns (c : Thread nD τ) B.arg11 fullShare S.a11 ∗ owns (c : Thread nD τ) B.arg12 fullShare S.a12 ∗ owns (c : Thread nD τ) B.arg13 fullShare S.a13 ∗ owns (c : Thread nD τ) B.arg14 fullShare S.a14 ∗ owns (c : Thread nD τ) B.arg15 fullShare S.a15 ∗ owns (c : Thread nD τ) B.arg16 fullShare S.a16 ∗ owns (c : Thread nD τ) B.arg17 fullShare S.a17 ∗ owns (c : Thread nD τ) B.arg18 fullShare S.a18 ∗ owns (c : Thread nD τ) B.arg19 fullShare S.a19 ∗ owns (c : Thread nD τ) B.arg20 fullShare S.a20 ∗ owns (c : Thread nD τ) B.arg21 fullShare S.a21 ∗ owns (c : Thread nD τ) B.arg22 fullShare S.a22 ∗ owns (c : Thread nD τ) B.arg23 fullShare S.a23 ∗ owns (c : Thread nD τ) B.arg24 fullShare S.a24 ∗ owns (c : Thread nD τ) B.arg25 fullShare S.a25 ∗ owns (c : Thread nD τ) B.arg26 fullShare S.a26 ∗ owns (c : Thread nD τ) B.arg27 fullShare S.a27 ∗ owns (c : Thread nD τ) B.arg28 fullShare S.a28 ∗ owns (c : Thread nD τ) B.arg29 fullShare S.a29 ∗ owns (c : Thread nD τ) B.arg30 fullShare S.a30 ∗ owns (c : Thread nD τ) B.arg31 fullShare S.a31 ∗ owns (c : Thread nD τ) B.arg32 fullShare S.a32 ∗ owns (c : Thread nD τ) B.arg33 fullShare S.a33 ∗ owns (c : Thread nD τ) B.arg34 fullShare S.a34 ∗ owns (c : Thread nD τ) B.arg35 fullShare S.a35 ∗ owns (c : Thread nD τ) B.arg36 fullShare S.a36 ∗ owns (c : Thread nD τ) B.arg37 fullShare S.a37 ∗ owns (c : Thread nD τ) B.arg38 fullShare S.a38 ∗ owns (c : Thread nD τ) B.arg39 fullShare S.a39 ∗ owns (c : Thread nD τ) B.arg40 fullShare S.a40 ∗ owns (c : Thread nD τ) B.arg41 fullShare S.a41 ∗ emp) := rfl

set_option maxHeartbeats 4000000 in
theorem sound_body (Inv : Dev nD → ℕ → Scr F → Prop) (Rl : Dev nD → BlockRel F) (hK : Keeps m Inv Rl) (c : Dev nD) (t : Fin cfg0.N) :
    bodyPre m Inv Rl c t ⊢ wp frame (wpE (defs₀ (F := F)) Variants.none c none) Set.univ (bodyAt0 t) (fun _ => bodyPost m Inv Rl c t) := by
  unfold bodyPre bodyPost
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, before0_12, after0_12, before0_13, after0_13, before0_14, after0_14, before0_15, after0_15, before0_16, after0_16, before0_17, after0_17, before0_18, after0_18, before0_19, after0_19, before0_20, after0_20, before0_21, after0_21, before0_22, after0_22]
  rw [show (dat m Inv c).owesAt () t.succ = (dat m Inv c).owesAt () t.castSucc from rfl,
    show (dat m Inv c).Φ t.succ = Phi Inv c (t.val + 1) from rfl, show (dat m Inv c).Φ t.castSucc = Phi Inv c t.val from rfl]
  unfold Phi scrOwn
  iintro ⟨⟨⟨%R, %hR, HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%Y23, %hY23, H23⟩, ⟨%Y24, %hY24, H24⟩, ⟨%Y25, %hY25, H25⟩, ⟨%Y26, %hY26, H26⟩, ⟨%Y27, %hY27, H27⟩, ⟨%Y28, %hY28, H28⟩⟩
  have hk := hK c t ⟨Y23, Y24, Y25, Y26, Y27, Y28⟩ R hR ⟨hY23, hY24, hY25, hY26, hY27, hY28⟩
  have hi := ins_step (grid0.coords t) (mk (insAt m c t) ⟨Y23, Y24, Y25, Y26, Y27, Y28⟩ R)
  generalize hS : step (grid0.coords t) (mk (insAt m c t) ⟨Y23, Y24, Y25, Y26, Y27, Y28⟩ R) = S at hk hi
  iapply (run_body_frame c t (mk (insAt m c t) ⟨Y23, Y24, Y25, Y26, Y27, Y28⟩ R)
    iprop((dat m Inv c).owesAt () t.castSucc ∗ (∃ r, prngReg c r)) (Q := fun _ => _) ?hk) $$ [-]
  case hk =>
    rw [hS, held_cells]
    iintro ⟨⟨H0, H1, H2, H3, H4, H5, H6, H7, H8, H9, H10, H11, H12, H13, H14, H15, H16, H17, H18, H19, H20, H21, H22, H23, H24, H25, H26, H27, H28, HS0, HS1, HS2, HS3, HS4, HS5, HS6, HS7, HS8, HS9, HS10, HS11, He⟩, Ho, Hg⟩
    isplitl [HS0 HS1 HS2 HS3 HS4 HS5 HS6 HS7 HS8 HS9 HS10 HS11 Hg]
    · isplitl [HS0 HS1 HS2 HS3 HS4 HS5 HS6 HS7 HS8 HS9 HS10 HS11]
      · iexists S.scr; isplitr
        · ipureintro; exact hk.1
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        iexact HS11
      · iexact Hg
    isplitl [Ho]; · iexact Ho
    isplitl [H0]; · rw [show iblk m c 0 t = S.a1 from (congrArg Ins.a1 hi).symm]; iexact H0
    isplitl [H1]; · rw [show iblk m c 1 t = S.a2 from (congrArg Ins.a2 hi).symm]; iexact H1
    isplitl [H2]; · rw [show iblk m c 2 t = S.a3 from (congrArg Ins.a3 hi).symm]; iexact H2
    isplitl [H3]; · rw [show iblk m c 3 t = S.a4 from (congrArg Ins.a4 hi).symm]; iexact H3
    isplitl [H4]; · rw [show iblk m c 4 t = S.a5 from (congrArg Ins.a5 hi).symm]; iexact H4
    isplitl [H5]; · rw [show iblk m c 5 t = S.a6 from (congrArg Ins.a6 hi).symm]; iexact H5
    isplitl [H6]; · rw [show iblk m c 6 t = S.a7 from (congrArg Ins.a7 hi).symm]; iexact H6
    isplitl [H7]; · rw [show iblk m c 7 t = S.a8 from (congrArg Ins.a8 hi).symm]; iexact H7
    isplitl [H8]; · rw [show iblk m c 8 t = S.a9 from (congrArg Ins.a9 hi).symm]; iexact H8
    isplitl [H9]; · rw [show iblk m c 9 t = S.a10 from (congrArg Ins.a10 hi).symm]; iexact H9
    isplitl [H10]; · rw [show iblk m c 10 t = S.a11 from (congrArg Ins.a11 hi).symm]; iexact H10
    isplitl [H11]; · rw [show iblk m c 11 t = S.a12 from (congrArg Ins.a12 hi).symm]; iexact H11
    isplitl [H12]; · rw [show iblk m c 12 t = S.a13 from (congrArg Ins.a13 hi).symm]; iexact H12
    isplitl [H13]; · rw [show iblk m c 13 t = S.a14 from (congrArg Ins.a14 hi).symm]; iexact H13
    isplitl [H14]; · rw [show iblk m c 14 t = S.a15 from (congrArg Ins.a15 hi).symm]; iexact H14
    isplitl [H15]; · rw [show iblk m c 15 t = S.a16 from (congrArg Ins.a16 hi).symm]; iexact H15
    isplitl [H16]; · rw [show iblk m c 16 t = S.a17 from (congrArg Ins.a17 hi).symm]; iexact H16
    isplitl [H17]; · rw [show iblk m c 17 t = S.a18 from (congrArg Ins.a18 hi).symm]; iexact H17
    isplitl [H18]; · rw [show iblk m c 18 t = S.a19 from (congrArg Ins.a19 hi).symm]; iexact H18
    isplitl [H19]; · rw [show iblk m c 19 t = S.a20 from (congrArg Ins.a20 hi).symm]; iexact H19
    isplitl [H20]; · rw [show iblk m c 20 t = S.a21 from (congrArg Ins.a21 hi).symm]; iexact H20
    isplitl [H21]; · rw [show iblk m c 21 t = S.a22 from (congrArg Ins.a22 hi).symm]; iexact H21
    isplitl [H22]; · rw [show iblk m c 22 t = S.a23 from (congrArg Ins.a23 hi).symm]; iexact H22
    isplitl [H23]
    · iexists S.a24; isplitr
      · ipureintro; exact hk.2.1
      · iexact H23
    isplitl [H24]
    · iexists S.a25; isplitr
      · ipureintro; exact hk.2.2.1
      · iexact H24
    isplitl [H25]
    · iexists S.a26; isplitr
      · ipureintro; exact hk.2.2.2.1
      · iexact H25
    isplitl [H26]
    · iexists S.a27; isplitr
      · ipureintro; exact hk.2.2.2.2.1
      · iexact H26
    isplitl [H27]
    · iexists S.a28; isplitr
      · ipureintro; exact hk.2.2.2.2.2.1
      · iexact H27
    iexists S.a29; isplitr
    · ipureintro; exact hk.2.2.2.2.2.2
    · iexact H28
  isplitl [H0 H1 H2 H3 H4 H5 H6 H7 H8 H9 H10 H11 H12 H13 H14 H15 H16 H17 H18 H19 H20 H21 H22 H23 H24 H25 H26 H27 H28 HS0 HS1 HS2 HS3 HS4 HS5 HS6 HS7 HS8 HS9 HS10 HS11]
  · rw [held_cells]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iempintro
  isplitl [Ho]; · iexact Ho
  iexact Hg

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body obligation at every grid point. -/
theorem body_obligation (Inv : Dev nD → ℕ → Scr F → Prop) (Rl : Dev nD → BlockRel F) (hK : Keeps m Inv Rl) (c : Dev nD) :
    BodyObligationRel (dat m Inv c) (defs₀ (F := F)) Variants.none () Set.univ isOut (Rl c) := fun t => by
  rw [bigSep_W0, bigSep_W0, defs₀_row]
  exact triple_restated (sound_body m Inv Rl hK c t) rfl .rfl fun _ => .rfl

set_option maxHeartbeats 4000000 in
theorem hin (Inv : Dev nD → ℕ → Scr F → Prop) (h0 : ∀ c R, Inv c 0 R) (c : Dev nD) : Pipeline.ΦA spec0 c ⊢ (dat m Inv c).Φ 0 := by
  rw [show (dat m Inv c).Φ 0 = Phi Inv c 0 from rfl, PhiA0_eq]
  unfold Phi scrOwn
  iintro ⟨⟨⟨%Z0, HS0⟩, ⟨%Z1, HS1⟩, ⟨%Z2, HS2⟩, ⟨%Z3, HS3⟩, ⟨%Z4, HS4⟩, ⟨%Z5, HS5⟩, ⟨%Z6, HS6⟩, ⟨%Z7, HS7⟩, ⟨%Z8, HS8⟩, ⟨%Z9, HS9⟩, ⟨%Z10, HS10⟩, ⟨%Z11, HS11⟩⟩, Hg⟩
  isplitl [HS0 HS1 HS2 HS3 HS4 HS5 HS6 HS7 HS8 HS9 HS10 HS11]
  · iexists (⟨Z0, Z1, Z2, Z3, Z4, Z5, Z6, Z7, Z8, Z9, Z10, Z11⟩ : Scr F); isplitr
    · ipureintro; exact h0 c _
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iexact HS11
  iexact Hg

set_option maxHeartbeats 4000000 in
theorem hout (Inv : Dev nD → ℕ → Scr F → Prop) (c : Dev nD) : (dat m Inv c).Φ (Fin.last cfg0.N) ⊢ Pipeline.ΦA spec0 c := by
  rw [show (dat m Inv c).Φ (Fin.last cfg0.N) = Phi Inv c (Fin.last cfg0.N).val from rfl, PhiA0_eq]
  unfold Phi scrOwn
  iintro ⟨⟨%R, %hR, HS0, HS1, HS2, HS3, HS4, HS5, HS6, HS7, HS8, HS9, HS10, HS11⟩, Hg⟩
  isplitl [HS0 HS1 HS2 HS3 HS4 HS5 HS6 HS7 HS8 HS9 HS10 HS11]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    iexists _; iexact HS11
  iexact Hg

set_option backward.isDefEq.respectTransparency.types false in
/-- The kernel runs, and its results are assembled from blocks meeting `Rl`. -/
theorem run_track (Inv : Dev nD → ℕ → Scr F → Prop) (Rl : Dev nD → BlockRel F) (h0 : ∀ c R, Inv c 0 R) (hK : Keeps m Inv Rl) :
    θ_run defs (onTc (τ := τ) (main (F := F))) (s₀ m ρ)
      (fun r => RDat.FramePost cfg0 (rdat m Inv Rl) (V m) r ∧ r.2.sem = fun _ => 0) :=
  RDat.θ_run_frame_track (Q' := _) cfgs (0 : Fin 1) launch0 defs₀ Variants.none (rdat m Inv Rl) m ρ main
    (hbody := fun c => (body_obligation m Inv Rl hK c).toRRel) (hshare := fun c => (dat m Inv c).share_full fun _ => rfl)
    (howed := fun _ _ => rfl) (V := V m) (hmain := hmain m Variants.none) (hA := dat_A m Inv) (hin := hin m Inv h0) (hout := hout m Inv)

set_option maxHeartbeats 1740000 in
/-- Such a run leaves the arguments. -/
theorem args_kept (Inv : Dev nD → ℕ → Scr F → Prop) (Rl : Dev nD → BlockRel F) (r : PUnit × MemSt nD τ sig (Elt F))
    (h : RDat.FramePost cfg0 (rdat m Inv Rl) (V m) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  fun c => ⟨((h c).2 main_arg0 (Pipeline.mem_restRefs_of main_arg0 (by decide) (by decide))).trans (V_main_arg0 m c),
      (h.arr_in c 1 rfl).trans (((dat_A m Inv c 1)).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (h.arr_in c 3 rfl).trans (((dat_A m Inv c 3)).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (h.arr_in c 4 rfl).trans (((dat_A m Inv c 4)).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      (h.arr_in c 5 rfl).trans (((dat_A m Inv c 5)).trans (V_main_arg13 m c)),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      (h.arr_in c 7 rfl).trans (((dat_A m Inv c 7)).trans (V_main_arg19 m c)),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      (h.arr_in c 22 rfl).trans (((dat_A m Inv c 22)).trans (V_main_arg22 m c))⟩

/-- THE FRAME: the kernel terminates, leaves its arguments and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun r h => ⟨args_kept m _ _ r h.1, h.2⟩)
    (run_track m ρ (fun _ _ _ => True) (fun _ _ _ _ => True) (fun _ _ => trivial) (fun _ _ _ _ _ _ => ⟨trivial, trivial, trivial, trivial, trivial, trivial, trivial⟩))

end Cert.Kernel.Hand

end
-- ==== Proof.KernelIdeal.State.lean ====
/-
  THE BUFFERS THE BODY SEES AND WHAT THEY HOLD. `Bufs` names the forty-one buffers handed to the body (the inputs'
  blocks, the outputs' blocks, the scratch), `St` gives contents for each, `cells` pairs them; `put24` … `put41` store a
  window into one of the buffers the body writes.
-/
module

public import proofs.«01_k».proof.Proof.Held
public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Held

variable {F : FTy → Type} [FloatOps F]

local notation "𝕄" => MT nD τ sig Unit (Elt F) ℕ (UR sig nD τ) ℕ

/-- The buffers handed to the body, each a whole buffer. -/
structure Bufs where
  arg1 : Memref sig .tc .vmem S2x36x32x512 .i8
  harg1 : arg1.IsWhole
  arg2 : Memref sig .tc .vmem S512x256 .i8
  harg2 : arg2.IsWhole
  arg3 : Memref sig .tc .vmem S2304x256 .i8
  harg3 : arg3.IsWhole
  arg4 : Memref sig .tc .vmem S256x1024 .i8
  harg4 : arg4.IsWhole
  arg5 : Memref sig .tc .vmem S512x1024 .i8
  harg5 : arg5.IsWhole
  arg6 : Memref sig .tc .vmem S1024x256 .i8
  harg6 : arg6.IsWhole
  arg7 : Memref sig .tc .vmem S2304x256 .i8
  harg7 : arg7.IsWhole
  arg8 : Memref sig .tc .vmem S256x1024 .i8
  harg8 : arg8.IsWhole
  arg9 : Memref sig .tc .vmem S1x256 .i32
  harg9 : arg9.IsWhole
  arg10 : Memref sig .tc .vmem S1x256 .f32
  harg10 : arg10.IsWhole
  arg11 : Memref sig .tc .vmem S1x256 .i32
  harg11 : arg11.IsWhole
  arg12 : Memref sig .tc .vmem S1x256 .f32
  harg12 : arg12.IsWhole
  arg13 : Memref sig .tc .vmem S1x1024 .i32
  harg13 : arg13.IsWhole
  arg14 : Memref sig .tc .vmem S1x1024 .f32
  harg14 : arg14.IsWhole
  arg15 : Memref sig .tc .vmem S1x1024 .i32
  harg15 : arg15.IsWhole
  arg16 : Memref sig .tc .vmem S1x1024 .f32
  harg16 : arg16.IsWhole
  arg17 : Memref sig .tc .vmem S1x256 .i32
  harg17 : arg17.IsWhole
  arg18 : Memref sig .tc .vmem S1x256 .f32
  harg18 : arg18.IsWhole
  arg19 : Memref sig .tc .vmem S1x256 .i32
  harg19 : arg19.IsWhole
  arg20 : Memref sig .tc .vmem S1x256 .f32
  harg20 : arg20.IsWhole
  arg21 : Memref sig .tc .vmem S1x1024 .i32
  harg21 : arg21.IsWhole
  arg22 : Memref sig .tc .vmem S1x1024 .f32
  harg22 : arg22.IsWhole
  arg23 : Memref sig .tc .smem S1 .f32
  harg23 : arg23.IsWhole
  arg24 : Memref sig .tc .vmem S1x18x32x1024 .i8
  harg24 : arg24.IsWhole
  arg25 : Memref sig .tc .vmem S1x18x32x1024 .i8
  harg25 : arg25.IsWhole
  arg26 : Memref sig .tc .vmem S2x36x32x256 .i8
  harg26 : arg26.IsWhole
  arg27 : Memref sig .tc .vmem S1x18x32x256 .i8
  harg27 : arg27.IsWhole
  arg28 : Memref sig .tc .vmem S1x18x32x256 .i8
  harg28 : arg28.IsWhole
  arg29 : Memref sig .tc .vmem S1x18x32x256 .i8
  harg29 : arg29.IsWhole
  arg30 : Memref sig .tc .vmem S512x256 .bf16
  harg30 : arg30.IsWhole
  arg31 : Memref sig .tc .vmem S2304x256 .bf16
  harg31 : arg31.IsWhole
  arg32 : Memref sig .tc .vmem S256x1024 .bf16
  harg32 : arg32.IsWhole
  arg33 : Memref sig .tc .vmem S512x1024 .bf16
  harg33 : arg33.IsWhole
  arg34 : Memref sig .tc .vmem S1024x256 .bf16
  harg34 : arg34.IsWhole
  arg35 : Memref sig .tc .vmem S2304x256 .bf16
  harg35 : arg35.IsWhole
  arg36 : Memref sig .tc .vmem S256x1024 .bf16
  harg36 : arg36.IsWhole
  arg37 : Memref sig .tc .vmem S3x38x32x256 .bf16
  harg37 : arg37.IsWhole
  arg38 : Memref sig .tc .vmem S576x256 .bf16
  harg38 : arg38.IsWhole
  arg39 : Memref sig .tc .vmem S2x576x1024 .bf16
  harg39 : arg39.IsWhole
  arg40 : Memref sig .tc .vmem S4x20x32x256 .bf16
  harg40 : arg40.IsWhole
  arg41 : Memref sig .tc .vmem S576x256 .bf16
  harg41 : arg41.IsWhole

/-- Contents for each of them. -/
@[ext]
structure St (F : FTy → Type) where
  a1 : Shape.Idx S2x36x32x512 → Elt F .i8
  a2 : Shape.Idx S512x256 → Elt F .i8
  a3 : Shape.Idx S2304x256 → Elt F .i8
  a4 : Shape.Idx S256x1024 → Elt F .i8
  a5 : Shape.Idx S512x1024 → Elt F .i8
  a6 : Shape.Idx S1024x256 → Elt F .i8
  a7 : Shape.Idx S2304x256 → Elt F .i8
  a8 : Shape.Idx S256x1024 → Elt F .i8
  a9 : Shape.Idx S1x256 → Elt F .i32
  a10 : Shape.Idx S1x256 → Elt F .f32
  a11 : Shape.Idx S1x256 → Elt F .i32
  a12 : Shape.Idx S1x256 → Elt F .f32
  a13 : Shape.Idx S1x1024 → Elt F .i32
  a14 : Shape.Idx S1x1024 → Elt F .f32
  a15 : Shape.Idx S1x1024 → Elt F .i32
  a16 : Shape.Idx S1x1024 → Elt F .f32
  a17 : Shape.Idx S1x256 → Elt F .i32
  a18 : Shape.Idx S1x256 → Elt F .f32
  a19 : Shape.Idx S1x256 → Elt F .i32
  a20 : Shape.Idx S1x256 → Elt F .f32
  a21 : Shape.Idx S1x1024 → Elt F .i32
  a22 : Shape.Idx S1x1024 → Elt F .f32
  a23 : Shape.Idx S1 → Elt F .f32
  a24 : Shape.Idx S1x18x32x1024 → Elt F .i8
  a25 : Shape.Idx S1x18x32x1024 → Elt F .i8
  a26 : Shape.Idx S2x36x32x256 → Elt F .i8
  a27 : Shape.Idx S1x18x32x256 → Elt F .i8
  a28 : Shape.Idx S1x18x32x256 → Elt F .i8
  a29 : Shape.Idx S1x18x32x256 → Elt F .i8
  a30 : Shape.Idx S512x256 → Elt F .bf16
  a31 : Shape.Idx S2304x256 → Elt F .bf16
  a32 : Shape.Idx S256x1024 → Elt F .bf16
  a33 : Shape.Idx S512x1024 → Elt F .bf16
  a34 : Shape.Idx S1024x256 → Elt F .bf16
  a35 : Shape.Idx S2304x256 → Elt F .bf16
  a36 : Shape.Idx S256x1024 → Elt F .bf16
  a37 : Shape.Idx S3x38x32x256 → Elt F .bf16
  a38 : Shape.Idx S576x256 → Elt F .bf16
  a39 : Shape.Idx S2x576x1024 → Elt F .bf16
  a40 : Shape.Idx S4x20x32x256 → Elt F .bf16
  a41 : Shape.Idx S576x256 → Elt F .bf16

/-- The buffers paired with their contents. -/
def cells (B : Bufs) (S : St F) : List (Cell .tc sig (Elt F)) :=
  [⟨B.arg1, S.a1⟩,
   ⟨B.arg2, S.a2⟩,
   ⟨B.arg3, S.a3⟩,
   ⟨B.arg4, S.a4⟩,
   ⟨B.arg5, S.a5⟩,
   ⟨B.arg6, S.a6⟩,
   ⟨B.arg7, S.a7⟩,
   ⟨B.arg8, S.a8⟩,
   ⟨B.arg9, S.a9⟩,
   ⟨B.arg10, S.a10⟩,
   ⟨B.arg11, S.a11⟩,
   ⟨B.arg12, S.a12⟩,
   ⟨B.arg13, S.a13⟩,
   ⟨B.arg14, S.a14⟩,
   ⟨B.arg15, S.a15⟩,
   ⟨B.arg16, S.a16⟩,
   ⟨B.arg17, S.a17⟩,
   ⟨B.arg18, S.a18⟩,
   ⟨B.arg19, S.a19⟩,
   ⟨B.arg20, S.a20⟩,
   ⟨B.arg21, S.a21⟩,
   ⟨B.arg22, S.a22⟩,
   ⟨B.arg23, S.a23⟩,
   ⟨B.arg24, S.a24⟩,
   ⟨B.arg25, S.a25⟩,
   ⟨B.arg26, S.a26⟩,
   ⟨B.arg27, S.a27⟩,
   ⟨B.arg28, S.a28⟩,
   ⟨B.arg29, S.a29⟩,
   ⟨B.arg30, S.a30⟩,
   ⟨B.arg31, S.a31⟩,
   ⟨B.arg32, S.a32⟩,
   ⟨B.arg33, S.a33⟩,
   ⟨B.arg34, S.a34⟩,
   ⟨B.arg35, S.a35⟩,
   ⟨B.arg36, S.a36⟩,
   ⟨B.arg37, S.a37⟩,
   ⟨B.arg38, S.a38⟩,
   ⟨B.arg39, S.a39⟩,
   ⟨B.arg40, S.a40⟩,
   ⟨B.arg41, S.a41⟩]

/-- A window of buffer 24 overwritten. -/
def St.put24 (S : St F) (off size : Fin (Shape.rank S1x18x32x1024) → ℕ) (w : ((a : Fin (Shape.rank S1x18x32x1024)) → Fin (size a)) → Elt F .i8) : St F :=
  { S with a24 := VecWindow.put S.a24 off size w }

theorem cells_put24 (B : Bufs) (S : St F) (off size : Fin (Shape.rank S1x18x32x1024) → ℕ) (w : ((a : Fin (Shape.rank S1x18x32x1024)) → Fin (size a)) → Elt F .i8) :
    (cells B S).set 23 ⟨B.arg24, VecWindow.put S.a24 off size w⟩ = cells B (S.put24 off size w) := rfl

/-- A window of buffer 25 overwritten. -/
def St.put25 (S : St F) (off size : Fin (Shape.rank S1x18x32x1024) → ℕ) (w : ((a : Fin (Shape.rank S1x18x32x1024)) → Fin (size a)) → Elt F .i8) : St F :=
  { S with a25 := VecWindow.put S.a25 off size w }

theorem cells_put25 (B : Bufs) (S : St F) (off size : Fin (Shape.rank S1x18x32x1024) → ℕ) (w : ((a : Fin (Shape.rank S1x18x32x1024)) → Fin (size a)) → Elt F .i8) :
    (cells B S).set 24 ⟨B.arg25, VecWindow.put S.a25 off size w⟩ = cells B (S.put25 off size w) := rfl

/-- A window of buffer 26 overwritten. -/
def St.put26 (S : St F) (off size : Fin (Shape.rank S2x36x32x256) → ℕ) (w : ((a : Fin (Shape.rank S2x36x32x256)) → Fin (size a)) → Elt F .i8) : St F :=
  { S with a26 := VecWindow.put S.a26 off size w }

theorem cells_put26 (B : Bufs) (S : St F) (off size : Fin (Shape.rank S2x36x32x256) → ℕ) (w : ((a : Fin (Shape.rank S2x36x32x256)) → Fin (size a)) → Elt F .i8) :
    (cells B S).set 25 ⟨B.arg26, VecWindow.put S.a26 off size w⟩ = cells B (S.put26 off size w) := rfl

/-- A window of buffer 27 overwritten. -/
def St.put27 (S : St F) (off size : Fin (Shape.rank S1x18x32x256) → ℕ) (w : ((a : Fin (Shape.rank S1x18x32x256)) → Fin (size a)) → Elt F .i8) : St F :=
  { S with a27 := VecWindow.put S.a27 off size w }

theorem cells_put27 (B : Bufs) (S : St F) (off size : Fin (Shape.rank S1x18x32x256) → ℕ) (w : ((a : Fin (Shape.rank S1x18x32x256)) → Fin (size a)) → Elt F .i8) :
    (cells B S).set 26 ⟨B.arg27, VecWindow.put S.a27 off size w⟩ = cells B (S.put27 off size w) := rfl

/-- A window of buffer 28 overwritten. -/
def St.put28 (S : St F) (off size : Fin (Shape.rank S1x18x32x256) → ℕ) (w : ((a : Fin (Shape.rank S1x18x32x256)) → Fin (size a)) → Elt F .i8) : St F :=
  { S with a28 := VecWindow.put S.a28 off size w }

theorem cells_put28 (B : Bufs) (S : St F) (off size : Fin (Shape.rank S1x18x32x256) → ℕ) (w : ((a : Fin (Shape.rank S1x18x32x256)) → Fin (size a)) → Elt F .i8) :
    (cells B S).set 27 ⟨B.arg28, VecWindow.put S.a28 off size w⟩ = cells B (S.put28 off size w) := rfl

/-- A window of buffer 29 overwritten. -/
def St.put29 (S : St F) (off size : Fin (Shape.rank S1x18x32x256) → ℕ) (w : ((a : Fin (Shape.rank S1x18x32x256)) → Fin (size a)) → Elt F .i8) : St F :=
  { S with a29 := VecWindow.put S.a29 off size w }

theorem cells_put29 (B : Bufs) (S : St F) (off size : Fin (Shape.rank S1x18x32x256) → ℕ) (w : ((a : Fin (Shape.rank S1x18x32x256)) → Fin (size a)) → Elt F .i8) :
    (cells B S).set 28 ⟨B.arg29, VecWindow.put S.a29 off size w⟩ = cells B (S.put29 off size w) := rfl

/-- A window of buffer 30 overwritten. -/
def St.put30 (S : St F) (off size : Fin (Shape.rank S512x256) → ℕ) (w : ((a : Fin (Shape.rank S512x256)) → Fin (size a)) → Elt F .bf16) : St F :=
  { S with a30 := VecWindow.put S.a30 off size w }

theorem cells_put30 (B : Bufs) (S : St F) (off size : Fin (Shape.rank S512x256) → ℕ) (w : ((a : Fin (Shape.rank S512x256)) → Fin (size a)) → Elt F .bf16) :
    (cells B S).set 29 ⟨B.arg30, VecWindow.put S.a30 off size w⟩ = cells B (S.put30 off size w) := rfl

/-- A window of buffer 31 overwritten. -/
def St.put31 (S : St F) (off size : Fin (Shape.rank S2304x256) → ℕ) (w : ((a : Fin (Shape.rank S2304x256)) → Fin (size a)) → Elt F .bf16) : St F :=
  { S with a31 := VecWindow.put S.a31 off size w }

theorem cells_put31 (B : Bufs) (S : St F) (off size : Fin (Shape.rank S2304x256) → ℕ) (w : ((a : Fin (Shape.rank S2304x256)) → Fin (size a)) → Elt F .bf16) :
    (cells B S).set 30 ⟨B.arg31, VecWindow.put S.a31 off size w⟩ = cells B (S.put31 off size w) := rfl

/-- A window of buffer 32 overwritten. -/
def St.put32 (S : St F) (off size : Fin (Shape.rank S256x1024) → ℕ) (w : ((a : Fin (Shape.rank S256x1024)) → Fin (size a)) → Elt F .bf16) : St F :=
  { S with a32 := VecWindow.put S.a32 off size w }

theorem cells_put32 (B : Bufs) (S : St F) (off size : Fin (Shape.rank S256x1024) → ℕ) (w : ((a : Fin (Shape.rank S256x1024)) → Fin (size a)) → Elt F .bf16) :
    (cells B S).set 31 ⟨B.arg32, VecWindow.put S.a32 off size w⟩ = cells B (S.put32 off size w) := rfl

/-- A window of buffer 33 overwritten. -/
def St.put33 (S : St F) (off size : Fin (Shape.rank S512x1024) → ℕ) (w : ((a : Fin (Shape.rank S512x1024)) → Fin (size a)) → Elt F .bf16) : St F :=
  { S with a33 := VecWindow.put S.a33 off size w }

theorem cells_put33 (B : Bufs) (S : St F) (off size : Fin (Shape.rank S512x1024) → ℕ) (w : ((a : Fin (Shape.rank S512x1024)) → Fin (size a)) → Elt F .bf16) :
    (cells B S).set 32 ⟨B.arg33, VecWindow.put S.a33 off size w⟩ = cells B (S.put33 off size w) := rfl

/-- A window of buffer 34 overwritten. -/
def St.put34 (S : St F) (off size : Fin (Shape.rank S1024x256) → ℕ) (w : ((a : Fin (Shape.rank S1024x256)) → Fin (size a)) → Elt F .bf16) : St F :=
  { S with a34 := VecWindow.put S.a34 off size w }

theorem cells_put34 (B : Bufs) (S : St F) (off size : Fin (Shape.rank S1024x256) → ℕ) (w : ((a : Fin (Shape.rank S1024x256)) → Fin (size a)) → Elt F .bf16) :
    (cells B S).set 33 ⟨B.arg34, VecWindow.put S.a34 off size w⟩ = cells B (S.put34 off size w) := rfl

/-- A window of buffer 35 overwritten. -/
def St.put35 (S : St F) (off size : Fin (Shape.rank S2304x256) → ℕ) (w : ((a : Fin (Shape.rank S2304x256)) → Fin (size a)) → Elt F .bf16) : St F :=
  { S with a35 := VecWindow.put S.a35 off size w }

theorem cells_put35 (B : Bufs) (S : St F) (off size : Fin (Shape.rank S2304x256) → ℕ) (w : ((a : Fin (Shape.rank S2304x256)) → Fin (size a)) → Elt F .bf16) :
    (cells B S).set 34 ⟨B.arg35, VecWindow.put S.a35 off size w⟩ = cells B (S.put35 off size w) := rfl

/-- A window of buffer 36 overwritten. -/
def St.put36 (S : St F) (off size : Fin (Shape.rank S256x1024) → ℕ) (w : ((a : Fin (Shape.rank S256x1024)) → Fin (size a)) → Elt F .bf16) : St F :=
  { S with a36 := VecWindow.put S.a36 off size w }

theorem cells_put36 (B : Bufs) (S : St F) (off size : Fin (Shape.rank S256x1024) → ℕ) (w : ((a : Fin (Shape.rank S256x1024)) → Fin (size a)) → Elt F .bf16) :
    (cells B S).set 35 ⟨B.arg36, VecWindow.put S.a36 off size w⟩ = cells B (S.put36 off size w) := rfl

/-- A window of buffer 37 overwritten. -/
def St.put37 (S : St F) (off size : Fin (Shape.rank S3x38x32x256) → ℕ) (w : ((a : Fin (Shape.rank S3x38x32x256)) → Fin (size a)) → Elt F .bf16) : St F :=
  { S with a37 := VecWindow.put S.a37 off size w }

theorem cells_put37 (B : Bufs) (S : St F) (off size : Fin (Shape.rank S3x38x32x256) → ℕ) (w : ((a : Fin (Shape.rank S3x38x32x256)) → Fin (size a)) → Elt F .bf16) :
    (cells B S).set 36 ⟨B.arg37, VecWindow.put S.a37 off size w⟩ = cells B (S.put37 off size w) := rfl

/-- A window of buffer 38 overwritten. -/
def St.put38 (S : St F) (off size : Fin (Shape.rank S576x256) → ℕ) (w : ((a : Fin (Shape.rank S576x256)) → Fin (size a)) → Elt F .bf16) : St F :=
  { S with a38 := VecWindow.put S.a38 off size w }

theorem cells_put38 (B : Bufs) (S : St F) (off size : Fin (Shape.rank S576x256) → ℕ) (w : ((a : Fin (Shape.rank S576x256)) → Fin (size a)) → Elt F .bf16) :
    (cells B S).set 37 ⟨B.arg38, VecWindow.put S.a38 off size w⟩ = cells B (S.put38 off size w) := rfl

/-- A window of buffer 39 overwritten. -/
def St.put39 (S : St F) (off size : Fin (Shape.rank S2x576x1024) → ℕ) (w : ((a : Fin (Shape.rank S2x576x1024)) → Fin (size a)) → Elt F .bf16) : St F :=
  { S with a39 := VecWindow.put S.a39 off size w }

theorem cells_put39 (B : Bufs) (S : St F) (off size : Fin (Shape.rank S2x576x1024) → ℕ) (w : ((a : Fin (Shape.rank S2x576x1024)) → Fin (size a)) → Elt F .bf16) :
    (cells B S).set 38 ⟨B.arg39, VecWindow.put S.a39 off size w⟩ = cells B (S.put39 off size w) := rfl

/-- A window of buffer 40 overwritten. -/
def St.put40 (S : St F) (off size : Fin (Shape.rank S4x20x32x256) → ℕ) (w : ((a : Fin (Shape.rank S4x20x32x256)) → Fin (size a)) → Elt F .bf16) : St F :=
  { S with a40 := VecWindow.put S.a40 off size w }

theorem cells_put40 (B : Bufs) (S : St F) (off size : Fin (Shape.rank S4x20x32x256) → ℕ) (w : ((a : Fin (Shape.rank S4x20x32x256)) → Fin (size a)) → Elt F .bf16) :
    (cells B S).set 39 ⟨B.arg40, VecWindow.put S.a40 off size w⟩ = cells B (S.put40 off size w) := rfl

/-- A window of buffer 41 overwritten. -/
def St.put41 (S : St F) (off size : Fin (Shape.rank S576x256) → ℕ) (w : ((a : Fin (Shape.rank S576x256)) → Fin (size a)) → Elt F .bf16) : St F :=
  { S with a41 := VecWindow.put S.a41 off size w }

theorem cells_put41 (B : Bufs) (S : St F) (off size : Fin (Shape.rank S576x256) → ℕ) (w : ((a : Fin (Shape.rank S576x256)) → Fin (size a)) → Elt F .bf16) :
    (cells B S).set 40 ⟨B.arg41, VecWindow.put S.a41 off size w⟩ = cells B (S.put41 off size w) := rfl

end Cert.KernelIdeal.Hand

end
-- ==== Proof.KernelIdeal.Parts.lean ====
/-
  THE PARTS OF THE BODY AS FUNCTIONS OF THE CONTENTS. For each part: `partN`, the contents it leaves; `partN_r…`, the values it
  returns; and `run_partN`, that running the part from the given contents goes on with exactly those.
-/
module

public import proofs.«01_k».proof.Proof.KernelIdeal.State

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Held

variable {F : FTy → Type} [FloatOps F]

local notation "𝕄" => MT nD τ sig Unit (Elt F) ℕ (UR sig nD τ) ℕ

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81

/-- Value 0 returned by part 1. -/
def part1_r0 (i : grid0.Coords) (S : St F)  : FVec F S2304x256 .bf16 :=
  let v25 : Vec F S512x256 .i8 := VecWindow.window S.a2 ![0, 0] S512x256.size inb_S512x256_S512x256_0_0
  let C1 : St F := S.put30 ![0, 0] S512x256.size (k0_pay10 v25)
  let v30 : Vec F S2304x256 .i8 := VecWindow.window C1.a3 ![0, 0] S2304x256.size inb_S2304x256_S2304x256_0_0
  let C2 : St F := C1.put31 ![0, 0] S2304x256.size (k0_pay11 v30)
  let v36 : Vec F S256x1024 .i8 := VecWindow.window C2.a4 ![0, 0] S256x1024.size inb_S256x1024_S256x1024_0_0
  let C3 : St F := C2.put32 ![0, 0] S256x1024.size (k0_pay12 v36)
  let v41 : Vec F S512x1024 .i8 := VecWindow.window C3.a5 ![0, 0] S512x1024.size inb_S512x1024_S512x1024_0_0
  let C4 : St F := C3.put33 ![0, 0] S512x1024.size (k0_pay13 v41)
  let v46 : Vec F S1024x256 .i8 := VecWindow.window C4.a6 ![0, 0] S1024x256.size inb_S1024x256_S1024x256_0_0
  let C5 : St F := C4.put34 ![0, 0] S1024x256.size (k0_pay14 v46)
  let v51 : Vec F S2304x256 .i8 := VecWindow.window C5.a7 ![0, 0] S2304x256.size inb_S2304x256_S2304x256_0_0
  (k0_pay15 v51)

/-- The contents part 1 leaves. -/
def part1 (i : grid0.Coords) (S : St F)  : St F :=
  let v25 : Vec F S512x256 .i8 := VecWindow.window S.a2 ![0, 0] S512x256.size inb_S512x256_S512x256_0_0
  let C1 : St F := S.put30 ![0, 0] S512x256.size (k0_pay10 v25)
  let v30 : Vec F S2304x256 .i8 := VecWindow.window C1.a3 ![0, 0] S2304x256.size inb_S2304x256_S2304x256_0_0
  let C2 : St F := C1.put31 ![0, 0] S2304x256.size (k0_pay11 v30)
  let v36 : Vec F S256x1024 .i8 := VecWindow.window C2.a4 ![0, 0] S256x1024.size inb_S256x1024_S256x1024_0_0
  let C3 : St F := C2.put32 ![0, 0] S256x1024.size (k0_pay12 v36)
  let v41 : Vec F S512x1024 .i8 := VecWindow.window C3.a5 ![0, 0] S512x1024.size inb_S512x1024_S512x1024_0_0
  let C4 : St F := C3.put33 ![0, 0] S512x1024.size (k0_pay13 v41)
  let v46 : Vec F S1024x256 .i8 := VecWindow.window C4.a6 ![0, 0] S1024x256.size inb_S1024x256_S1024x256_0_0
  let C5 : St F := C4.put34 ![0, 0] S1024x256.size (k0_pay14 v46)
  C5

theorem run_part1 {c : Dev nD} {i : grid0.Coords} {B : Bufs} {S : St F}  {E : Set ℕ} {α : Type} {Q : α → sProp 𝕄}
    {κ : (FVec F S2304x256 .bf16) → Prog (TpuEff nD τ sig (Elt F) Λ₀ .tc) α}
    (hk : (held (c : Thread nD τ) (cells B (part1 i S )) : sProp 𝕄) ⊢ wp frame (wpE (defs₀ (F := F)) Variants.none c none) E (κ (part1_r0 i S)) Q) :
    (held (c : Thread nD τ) (cells B S) : sProp 𝕄) ⊢ wp frame (wpE (defs₀ (F := F)) Variants.none c none) E
      (k0_part1 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41  >>= κ) Q := by
  rw [k0_part1_eq_skeleton]
  unfold k0_part1_skel
  refine load 1 rfl ?_
  refine load 29 rfl ?_
  refine store 29 rfl _ (cells_put30 _ _ _ _ _) ?_
  refine load 2 rfl ?_
  refine load 30 rfl ?_
  refine store 30 rfl _ (cells_put31 _ _ _ _ _) ?_
  refine load 3 rfl ?_
  refine load 31 rfl ?_
  refine store 31 rfl _ (cells_put32 _ _ _ _ _) ?_
  refine load 4 rfl ?_
  refine load 32 rfl ?_
  refine store 32 rfl _ (cells_put33 _ _ _ _ _) ?_
  refine load 5 rfl ?_
  refine load 33 rfl ?_
  refine store 33 rfl _ (cells_put34 _ _ _ _ _) ?_
  refine load 6 rfl ?_
  refine load 34 rfl ?_
  exact ret_bind hk

/-- Value 0 returned by part 2. -/
def part2_r0 (i : grid0.Coords) (S : St F) (v0 : BitVec 32) : FVec F S576x256 .f32 :=
  let v28 : Vec F S1x37x32x256 .bf16 := VecWindow.window S.a37 ![2, 1, 0, 0] S1x37x32x256.size inb_S3x38x32x256_S1x37x32x256_2_1_0_0
  let C1 : St F := S.put37 ![0, 1, 0, 0] S1x37x32x256.size (k0_pay16 v0 v28)
  let v35 : Vec F S1x18x32x512 .i8 := VecWindow.window C1.a1 ![0, 0, 0, 0] S1x18x32x512.size inb_S2x36x32x512_S1x18x32x512_0_0_0_0
  let v39 : Vec F S512x256 .bf16 := VecWindow.window C1.a30 ![0, 0] S512x256.size inb_S512x256_S512x256_0_0
  let v41 : Vec F S1x256 .i32 := VecWindow.window C1.a9 ![0, 0] S1x256.size inb_S1x256_S1x256_0_0
  let v43 : Vec F S1x256 .f32 := VecWindow.window C1.a10 ![0, 0] S1x256.size inb_S1x256_S1x256_0_0
  k0_pay17 v35 v39 v41 v43

/-- Value 1 returned by part 2. -/
def part2_r1 (i : grid0.Coords) (S : St F) (v0 : BitVec 32) : IVec S576x256 32 :=
  let v28 : Vec F S1x37x32x256 .bf16 := VecWindow.window S.a37 ![2, 1, 0, 0] S1x37x32x256.size inb_S3x38x32x256_S1x37x32x256_2_1_0_0
  let C1 : St F := S.put37 ![0, 1, 0, 0] S1x37x32x256.size (k0_pay16 v0 v28)
  let v35 : Vec F S1x18x32x512 .i8 := VecWindow.window C1.a1 ![0, 0, 0, 0] S1x18x32x512.size inb_S2x36x32x512_S1x18x32x512_0_0_0_0
  let v39 : Vec F S512x256 .bf16 := VecWindow.window C1.a30 ![0, 0] S512x256.size inb_S512x256_S512x256_0_0
  let v41 : Vec F S1x256 .i32 := VecWindow.window C1.a9 ![0, 0] S1x256.size inb_S1x256_S1x256_0_0
  let v43 : Vec F S1x256 .f32 := VecWindow.window C1.a10 ![0, 0] S1x256.size inb_S1x256_S1x256_0_0
  k0_pay18 v35 v39 v41 v43

/-- The contents part 2 leaves. -/
def part2 (i : grid0.Coords) (S : St F) (v0 : BitVec 32) : St F :=
  let v28 : Vec F S1x37x32x256 .bf16 := VecWindow.window S.a37 ![2, 1, 0, 0] S1x37x32x256.size inb_S3x38x32x256_S1x37x32x256_2_1_0_0
  let C1 : St F := S.put37 ![0, 1, 0, 0] S1x37x32x256.size (k0_pay16 v0 v28)
  C1

theorem run_part2 {c : Dev nD} {i : grid0.Coords} {B : Bufs} {S : St F} {v0 : BitVec 32} {E : Set ℕ} {α : Type} {Q : α → sProp 𝕄}
    {κ : (Σ' (v58 : FVec F S576x256 .f32), IVec S576x256 32) → Prog (TpuEff nD τ sig (Elt F) Λ₀ .tc) α}
    (hk : (held (c : Thread nD τ) (cells B (part2 i S v0)) : sProp 𝕄) ⊢ wp frame (wpE (defs₀ (F := F)) Variants.none c none) E (κ ⟨part2_r0 i S v0, part2_r1 i S v0⟩) Q) :
    (held (c : Thread nD τ) (cells B S) : sProp 𝕄) ⊢ wp frame (wpE (defs₀ (F := F)) Variants.none c none) E
      (k0_part2 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v0 >>= κ) Q := by
  rw [k0_part2_eq_skeleton]
  unfold k0_part2_skel
  refine load 36 rfl ?_
  refine load 36 rfl ?_
  refine store 36 rfl _ (cells_put37 _ _ _ _ _) ?_
  refine load 0 rfl ?_
  refine load 29 rfl ?_
  refine load 8 rfl ?_
  refine load 9 rfl ?_
  exact ret_bind hk

/-- Value 0 returned by part 3. -/
def part3_r0 (i : grid0.Coords) (S : St F) (v58 : FVec F S576x256 .f32) (v59 : IVec S576x256 32) : FVec F S576x256 .f32 :=
  let C1 : St F := S.put26 ![0, 0, 0, 0] S1x18x32x256.size (k0_pay19 v59)
  let C2 : St F := C1.put37 ![1, 1, 0, 0] S1x18x32x256.size (k0_pay20 v58)
  let v70 : Vec F S1x18x32x512 .i8 := VecWindow.window C2.a1 ![0, 18, 0, 0] S1x18x32x512.size inb_S2x36x32x512_S1x18x32x512_0_18_0_0
  let v74 : Vec F S512x256 .bf16 := VecWindow.window C2.a30 ![0, 0] S512x256.size inb_S512x256_S512x256_0_0
  let v76 : Vec F S1x256 .i32 := VecWindow.window C2.a9 ![0, 0] S1x256.size inb_S1x256_S1x256_0_0
  let v78 : Vec F S1x256 .f32 := VecWindow.window C2.a10 ![0, 0] S1x256.size inb_S1x256_S1x256_0_0
  k0_pay21 v70 v74 v76 v78

/-- Value 1 returned by part 3. -/
def part3_r1 (i : grid0.Coords) (S : St F) (v58 : FVec F S576x256 .f32) (v59 : IVec S576x256 32) : IVec S18x32x256 8 :=
  let C1 : St F := S.put26 ![0, 0, 0, 0] S1x18x32x256.size (k0_pay19 v59)
  let C2 : St F := C1.put37 ![1, 1, 0, 0] S1x18x32x256.size (k0_pay20 v58)
  let v70 : Vec F S1x18x32x512 .i8 := VecWindow.window C2.a1 ![0, 18, 0, 0] S1x18x32x512.size inb_S2x36x32x512_S1x18x32x512_0_18_0_0
  let v74 : Vec F S512x256 .bf16 := VecWindow.window C2.a30 ![0, 0] S512x256.size inb_S512x256_S512x256_0_0
  let v76 : Vec F S1x256 .i32 := VecWindow.window C2.a9 ![0, 0] S1x256.size inb_S1x256_S1x256_0_0
  let v78 : Vec F S1x256 .f32 := VecWindow.window C2.a10 ![0, 0] S1x256.size inb_S1x256_S1x256_0_0
  k0_pay22 v70 v74 v76 v78

/-- The contents part 3 leaves. -/
def part3 (i : grid0.Coords) (S : St F) (v58 : FVec F S576x256 .f32) (v59 : IVec S576x256 32) : St F :=
  let C1 : St F := S.put26 ![0, 0, 0, 0] S1x18x32x256.size (k0_pay19 v59)
  let C2 : St F := C1.put37 ![1, 1, 0, 0] S1x18x32x256.size (k0_pay20 v58)
  C2

theorem run_part3 {c : Dev nD} {i : grid0.Coords} {B : Bufs} {S : St F} {v58 : FVec F S576x256 .f32} {v59 : IVec S576x256 32} {E : Set ℕ} {α : Type} {Q : α → sProp 𝕄}
    {κ : (Σ' (v93 : FVec F S576x256 .f32), IVec S18x32x256 8) → Prog (TpuEff nD τ sig (Elt F) Λ₀ .tc) α}
    (hk : (held (c : Thread nD τ) (cells B (part3 i S v58 v59)) : sProp 𝕄) ⊢ wp frame (wpE (defs₀ (F := F)) Variants.none c none) E (κ ⟨part3_r0 i S v58 v59, part3_r1 i S v58 v59⟩) Q) :
    (held (c : Thread nD τ) (cells B S) : sProp 𝕄) ⊢ wp frame (wpE (defs₀ (F := F)) Variants.none c none) E
      (k0_part3 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v58 v59 >>= κ) Q := by
  rw [k0_part3_eq_skeleton]
  unfold k0_part3_skel
  refine load 25 rfl ?_
  refine store 25 rfl _ (cells_put26 _ _ _ _ _) ?_
  refine load 36 rfl ?_
  refine store 36 rfl _ (cells_put37 _ _ _ _ _) ?_
  refine load 0 rfl ?_
  refine load 29 rfl ?_
  refine load 8 rfl ?_
  refine load 9 rfl ?_
  exact ret_bind hk

/-- Value 0 returned by part 4. -/
def part4_r0 (i : grid0.Coords) (S : St F) (v93 : FVec F S576x256 .f32) (v96 : IVec S18x32x256 8) : FVec F S576x256 .f32 :=
  let C1 : St F := S.put26 ![0, 18, 0, 0] S1x18x32x256.size (k0_pay23 v96)
  let C2 : St F := C1.put37 ![1, 19, 0, 0] S1x18x32x256.size (k0_pay24 v93)
  let v105 : Vec F S1x18x32x512 .i8 := VecWindow.window C2.a1 ![1, 0, 0, 0] S1x18x32x512.size inb_S2x36x32x512_S1x18x32x512_1_0_0_0
  let v109 : Vec F S512x256 .bf16 := VecWindow.window C2.a30 ![0, 0] S512x256.size inb_S512x256_S512x256_0_0
  let v111 : Vec F S1x256 .i32 := VecWindow.window C2.a9 ![0, 0] S1x256.size inb_S1x256_S1x256_0_0
  let v113 : Vec F S1x256 .f32 := VecWindow.window C2.a10 ![0, 0] S1x256.size inb_S1x256_S1x256_0_0
  k0_pay25 v105 v109 v111 v113

/-- Value 1 returned by part 4. -/
def part4_r1 (i : grid0.Coords) (S : St F) (v93 : FVec F S576x256 .f32) (v96 : IVec S18x32x256 8) : IVec S18x32x256 8 :=
  let C1 : St F := S.put26 ![0, 18, 0, 0] S1x18x32x256.size (k0_pay23 v96)
  let C2 : St F := C1.put37 ![1, 19, 0, 0] S1x18x32x256.size (k0_pay24 v93)
  let v105 : Vec F S1x18x32x512 .i8 := VecWindow.window C2.a1 ![1, 0, 0, 0] S1x18x32x512.size inb_S2x36x32x512_S1x18x32x512_1_0_0_0
  let v109 : Vec F S512x256 .bf16 := VecWindow.window C2.a30 ![0, 0] S512x256.size inb_S512x256_S512x256_0_0
  let v111 : Vec F S1x256 .i32 := VecWindow.window C2.a9 ![0, 0] S1x256.size inb_S1x256_S1x256_0_0
  let v113 : Vec F S1x256 .f32 := VecWindow.window C2.a10 ![0, 0] S1x256.size inb_S1x256_S1x256_0_0
  k0_pay26 v105 v109 v111 v113

/-- The contents part 4 leaves. -/
def part4 (i : grid0.Coords) (S : St F) (v93 : FVec F S576x256 .f32) (v96 : IVec S18x32x256 8) : St F :=
  let C1 : St F := S.put26 ![0, 18, 0, 0] S1x18x32x256.size (k0_pay23 v96)
  let C2 : St F := C1.put37 ![1, 19, 0, 0] S1x18x32x256.size (k0_pay24 v93)
  C2

theorem run_part4 {c : Dev nD} {i : grid0.Coords} {B : Bufs} {S : St F} {v93 : FVec F S576x256 .f32} {v96 : IVec S18x32x256 8} {E : Set ℕ} {α : Type} {Q : α → sProp 𝕄}
    {κ : (Σ' (v128 : FVec F S576x256 .f32), IVec S18x32x256 8) → Prog (TpuEff nD τ sig (Elt F) Λ₀ .tc) α}
    (hk : (held (c : Thread nD τ) (cells B (part4 i S v93 v96)) : sProp 𝕄) ⊢ wp frame (wpE (defs₀ (F := F)) Variants.none c none) E (κ ⟨part4_r0 i S v93 v96, part4_r1 i S v93 v96⟩) Q) :
    (held (c : Thread nD τ) (cells B S) : sProp 𝕄) ⊢ wp frame (wpE (defs₀ (F := F)) Variants.none c none) E
      (k0_part4 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v93 v96 >>= κ) Q := by
  rw [k0_part4_eq_skeleton]
  unfold k0_part4_skel
  refine load 25 rfl ?_
  refine store 25 rfl _ (cells_put26 _ _ _ _ _) ?_
  refine load 36 rfl ?_
  refine store 36 rfl _ (cells_put37 _ _ _ _ _) ?_
  refine load 0 rfl ?_
  refine load 29 rfl ?_
  refine load 8 rfl ?_
  refine load 9 rfl ?_
  exact ret_bind hk

/-- Value 0 returned by part 5. -/
def part5_r0 (i : grid0.Coords) (S : St F) (v128 : FVec F S576x256 .f32) (v131 : IVec S18x32x256 8) : FVec F S576x256 .f32 :=
  let C1 : St F := S.put26 ![1, 0, 0, 0] S1x18x32x256.size (k0_pay27 v131)
  let C2 : St F := C1.put37 ![2, 1, 0, 0] S1x18x32x256.size (k0_pay28 v128)
  let v140 : Vec F S1x18x32x512 .i8 := VecWindow.window C2.a1 ![1, 18, 0, 0] S1x18x32x512.size inb_S2x36x32x512_S1x18x32x512_1_18_0_0
  let v144 : Vec F S512x256 .bf16 := VecWindow.window C2.a30 ![0, 0] S512x256.size inb_S512x256_S512x256_0_0
  let v146 : Vec F S1x256 .i32 := VecWindow.window C2.a9 ![0, 0] S1x256.size inb_S1x256_S1x256_0_0
  let v148 : Vec F S1x256 .f32 := VecWindow.window C2.a10 ![0, 0] S1x256.size inb_S1x256_S1x256_0_0
  k0_pay29 v140 v144 v146 v148

/-- Value 1 returned by part 5. -/
def part5_r1 (i : grid0.Coords) (S : St F) (v128 : FVec F S576x256 .f32) (v131 : IVec S18x32x256 8) : IVec S18x32x256 8 :=
  let C1 : St F := S.put26 ![1, 0, 0, 0] S1x18x32x256.size (k0_pay27 v131)
  let C2 : St F := C1.put37 ![2, 1, 0, 0] S1x18x32x256.size (k0_pay28 v128)
  let v140 : Vec F S1x18x32x512 .i8 := VecWindow.window C2.a1 ![1, 18, 0, 0] S1x18x32x512.size inb_S2x36x32x512_S1x18x32x512_1_18_0_0
  let v144 : Vec F S512x256 .bf16 := VecWindow.window C2.a30 ![0, 0] S512x256.size inb_S512x256_S512x256_0_0
  let v146 : Vec F S1x256 .i32 := VecWindow.window C2.a9 ![0, 0] S1x256.size inb_S1x256_S1x256_0_0
  let v148 : Vec F S1x256 .f32 := VecWindow.window C2.a10 ![0, 0] S1x256.size inb_S1x256_S1x256_0_0
  k0_pay30 v140 v144 v146 v148

/-- The contents part 5 leaves. -/
def part5 (i : grid0.Coords) (S : St F) (v128 : FVec F S576x256 .f32) (v131 : IVec S18x32x256 8) : St F :=
  let C1 : St F := S.put26 ![1, 0, 0, 0] S1x18x32x256.size (k0_pay27 v131)
  let C2 : St F := C1.put37 ![2, 1, 0, 0] S1x18x32x256.size (k0_pay28 v128)
  C2

theorem run_part5 {c : Dev nD} {i : grid0.Coords} {B : Bufs} {S : St F} {v128 : FVec F S576x256 .f32} {v131 : IVec S18x32x256 8} {E : Set ℕ} {α : Type} {Q : α → sProp 𝕄}
    {κ : (Σ' (v163 : FVec F S576x256 .f32), IVec S18x32x256 8) → Prog (TpuEff nD τ sig (Elt F) Λ₀ .tc) α}
    (hk : (held (c : Thread nD τ) (cells B (part5 i S v128 v131)) : sProp 𝕄) ⊢ wp frame (wpE (defs₀ (F := F)) Variants.none c none) E (κ ⟨part5_r0 i S v128 v131, part5_r1 i S v128 v131⟩) Q) :
    (held (c : Thread nD τ) (cells B S) : sProp 𝕄) ⊢ wp frame (wpE (defs₀ (F := F)) Variants.none c none) E
      (k0_part5 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v128 v131 >>= κ) Q := by
  rw [k0_part5_eq_skeleton]
  unfold k0_part5_skel
  refine load 25 rfl ?_
  refine store 25 rfl _ (cells_put26 _ _ _ _ _) ?_
  refine load 36 rfl ?_
  refine store 36 rfl _ (cells_put37 _ _ _ _ _) ?_
  refine load 0 rfl ?_
  refine load 29 rfl ?_
  refine load 8 rfl ?_
  refine load 9 rfl ?_
  exact ret_bind hk

/-- Value 0 returned by part 6. -/
def part6_r0 (i : grid0.Coords) (S : St F) (v163 : FVec F S576x256 .f32) (v166 : IVec S18x32x256 8) : FVec F S576x256 .bf16 :=
  let C1 : St F := S.put26 ![1, 18, 0, 0] S1x18x32x256.size (k0_pay31 v166)
  let C2 : St F := C1.put37 ![2, 19, 0, 0] S1x18x32x256.size (k0_pay32 v163)
  let v176 : Vec F S1x18x1x32x256 .bf16 := VecWindow.window (fun j => C2.a37 (Shape.reshapeEquiv reshapes_S3x38x32x256_S3x19x2x32x256.1 j)) ![0, 0, 0, 0, 0] S1x18x1x32x256.size inb_S3x19x2x32x256_S1x18x1x32x256_0_0_0_0_0
  k0_pay33 v176

/-- Value 1 returned by part 6. -/
def part6_r1 (i : grid0.Coords) (S : St F) (v163 : FVec F S576x256 .f32) (v166 : IVec S18x32x256 8) : FVec F S576x256 .bf16 :=
  let C1 : St F := S.put26 ![1, 18, 0, 0] S1x18x32x256.size (k0_pay31 v166)
  let C2 : St F := C1.put37 ![2, 19, 0, 0] S1x18x32x256.size (k0_pay32 v163)
  let v180 : Vec F S1x18x1x32x256 .bf16 := VecWindow.window (fun j => C2.a37 (Shape.reshapeEquiv reshapes_S3x38x32x256_S3x19x2x32x256.1 j)) ![0, 0, 1, 0, 0] S1x18x1x32x256.size inb_S3x19x2x32x256_S1x18x1x32x256_0_0_1_0_0
  k0_pay34 v180

/-- Value 2 returned by part 6. -/
def part6_r2 (i : grid0.Coords) (S : St F) (v163 : FVec F S576x256 .f32) (v166 : IVec S18x32x256 8) : FVec F S576x256 .bf16 :=
  let C1 : St F := S.put26 ![1, 18, 0, 0] S1x18x32x256.size (k0_pay31 v166)
  let C2 : St F := C1.put37 ![2, 19, 0, 0] S1x18x32x256.size (k0_pay32 v163)
  let v184 : Vec F S1x18x1x32x256 .bf16 := VecWindow.window (fun j => C2.a37 (Shape.reshapeEquiv reshapes_S3x38x32x256_S3x19x2x32x256.1 j)) ![0, 1, 0, 0, 0] S1x18x1x32x256.size inb_S3x19x2x32x256_S1x18x1x32x256_0_1_0_0_0
  k0_pay35 v184

/-- Value 3 returned by part 6. -/
def part6_r3 (i : grid0.Coords) (S : St F) (v163 : FVec F S576x256 .f32) (v166 : IVec S18x32x256 8) : FVec F S576x256 .bf16 :=
  let C1 : St F := S.put26 ![1, 18, 0, 0] S1x18x32x256.size (k0_pay31 v166)
  let C2 : St F := C1.put37 ![2, 19, 0, 0] S1x18x32x256.size (k0_pay32 v163)
  let v188 : Vec F S1x18x1x32x256 .bf16 := VecWindow.window (fun j => C2.a37 (Shape.reshapeEquiv reshapes_S3x38x32x256_S3x19x2x32x256.1 j)) ![1, 0, 0, 0, 0] S1x18x1x32x256.size inb_S3x19x2x32x256_S1x18x1x32x256_1_0_0_0_0
  k0_pay36 v188

/-- Value 4 returned by part 6. -/
def part6_r4 (i : grid0.Coords) (S : St F) (v163 : FVec F S576x256 .f32) (v166 : IVec S18x32x256 8) : FVec F S576x256 .bf16 :=
  let C1 : St F := S.put26 ![1, 18, 0, 0] S1x18x32x256.size (k0_pay31 v166)
  let C2 : St F := C1.put37 ![2, 19, 0, 0] S1x18x32x256.size (k0_pay32 v163)
  let v192 : Vec F S1x18x1x32x256 .bf16 := VecWindow.window (fun j => C2.a37 (Shape.reshapeEquiv reshapes_S3x38x32x256_S3x19x2x32x256.1 j)) ![1, 0, 1, 0, 0] S1x18x1x32x256.size inb_S3x19x2x32x256_S1x18x1x32x256_1_0_1_0_0
  k0_pay37 v192

/-- The contents part 6 leaves. -/
def part6 (i : grid0.Coords) (S : St F) (v163 : FVec F S576x256 .f32) (v166 : IVec S18x32x256 8) : St F :=
  let C1 : St F := S.put26 ![1, 18, 0, 0] S1x18x32x256.size (k0_pay31 v166)
  let C2 : St F := C1.put37 ![2, 19, 0, 0] S1x18x32x256.size (k0_pay32 v163)
  C2

theorem run_part6 {c : Dev nD} {i : grid0.Coords} {B : Bufs} {S : St F} {v163 : FVec F S576x256 .f32} {v166 : IVec S18x32x256 8} {E : Set ℕ} {α : Type} {Q : α → sProp 𝕄}
    {κ : (Σ' (v178 : FVec F S576x256 .bf16) (v182 : FVec F S576x256 .bf16) (v186 : FVec F S576x256 .bf16) (v190 : FVec F S576x256 .bf16), FVec F S576x256 .bf16) → Prog (TpuEff nD τ sig (Elt F) Λ₀ .tc) α}
    (hk : (held (c : Thread nD τ) (cells B (part6 i S v163 v166)) : sProp 𝕄) ⊢ wp frame (wpE (defs₀ (F := F)) Variants.none c none) E (κ ⟨part6_r0 i S v163 v166, part6_r1 i S v163 v166, part6_r2 i S v163 v166, part6_r3 i S v163 v166, part6_r4 i S v163 v166⟩) Q) :
    (held (c : Thread nD τ) (cells B S) : sProp 𝕄) ⊢ wp frame (wpE (defs₀ (F := F)) Variants.none c none) E
      (k0_part6 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v163 v166 >>= κ) Q := by
  rw [k0_part6_eq_skeleton]
  unfold k0_part6_skel
  refine load 25 rfl ?_
  refine store 25 rfl _ (cells_put26 _ _ _ _ _) ?_
  refine load 36 rfl ?_
  refine store 36 rfl _ (cells_put37 _ _ _ _ _) ?_
  refine load_reshape 36 rfl ?_
  refine load_reshape 36 rfl ?_
  refine load_reshape 36 rfl ?_
  refine load_reshape 36 rfl ?_
  refine load_reshape 36 rfl ?_
  exact ret_bind hk

/-- Value 0 returned by part 7. -/
def part7_r0 (i : grid0.Coords) (S : St F) (v178 : FVec F S576x256 .bf16) (v182 : FVec F S576x256 .bf16) (v186 : FVec F S576x256 .bf16) (v190 : FVec F S576x256 .bf16) (v194 : FVec F S576x256 .bf16) : FVec F S576x256 .f32 :=
  let v196 : Vec F S1x18x1x32x256 .bf16 := VecWindow.window (fun j => S.a37 (Shape.reshapeEquiv reshapes_S3x38x32x256_S3x19x2x32x256.1 j)) ![1, 1, 0, 0, 0] S1x18x1x32x256.size inb_S3x19x2x32x256_S1x18x1x32x256_1_1_0_0_0
  let v200 : Vec F S1x18x1x32x256 .bf16 := VecWindow.window (fun j => S.a37 (Shape.reshapeEquiv reshapes_S3x38x32x256_S3x19x2x32x256.1 j)) ![2, 0, 0, 0, 0] S1x18x1x32x256.size inb_S3x19x2x32x256_S1x18x1x32x256_2_0_0_0_0
  let v204 : Vec F S1x18x1x32x256 .bf16 := VecWindow.window (fun j => S.a37 (Shape.reshapeEquiv reshapes_S3x38x32x256_S3x19x2x32x256.1 j)) ![2, 0, 1, 0, 0] S1x18x1x32x256.size inb_S3x19x2x32x256_S1x18x1x32x256_2_0_1_0_0
  let v208 : Vec F S1x18x1x32x256 .bf16 := VecWindow.window (fun j => S.a37 (Shape.reshapeEquiv reshapes_S3x38x32x256_S3x19x2x32x256.1 j)) ![2, 1, 0, 0, 0] S1x18x1x32x256.size inb_S3x19x2x32x256_S1x18x1x32x256_2_1_0_0_0
  let v212 : Vec F S2304x256 .bf16 := VecWindow.window S.a31 ![0, 0] S2304x256.size inb_S2304x256_S2304x256_0_0
  let v214 : Vec F S1x256 .i32 := VecWindow.window S.a11 ![0, 0] S1x256.size inb_S1x256_S1x256_0_0
  let v216 : Vec F S1x256 .f32 := VecWindow.window S.a12 ![0, 0] S1x256.size inb_S1x256_S1x256_0_0
  k0_pay38 v178 v182 v186 v190 v194 v196 v200 v204 v208 v212 v214 v216

/-- Value 1 returned by part 7. -/
def part7_r1 (i : grid0.Coords) (S : St F) (v178 : FVec F S576x256 .bf16) (v182 : FVec F S576x256 .bf16) (v186 : FVec F S576x256 .bf16) (v190 : FVec F S576x256 .bf16) (v194 : FVec F S576x256 .bf16) : BitVec 32 :=
  255#32

/-- Value 2 returned by part 7. -/
def part7_r2 (i : grid0.Coords) (S : St F) (v178 : FVec F S576x256 .bf16) (v182 : FVec F S576x256 .bf16) (v186 : FVec F S576x256 .bf16) (v190 : FVec F S576x256 .bf16) (v194 : FVec F S576x256 .bf16) : F .f32 :=
  k0_pay39 (F := F)

theorem run_part7 {c : Dev nD} {i : grid0.Coords} {B : Bufs} {S : St F} {v178 : FVec F S576x256 .bf16} {v182 : FVec F S576x256 .bf16} {v186 : FVec F S576x256 .bf16} {v190 : FVec F S576x256 .bf16} {v194 : FVec F S576x256 .bf16} {E : Set ℕ} {α : Type} {Q : α → sProp 𝕄}
    {κ : (Σ' (v225 : FVec F S576x256 .f32) (c255_i32_163 : BitVec 32), F .f32) → Prog (TpuEff nD τ sig (Elt F) Λ₀ .tc) α}
    (hk : (held (c : Thread nD τ) (cells B S) : sProp 𝕄) ⊢ wp frame (wpE (defs₀ (F := F)) Variants.none c none) E (κ ⟨part7_r0 i S v178 v182 v186 v190 v194, part7_r1 i S v178 v182 v186 v190 v194, part7_r2 i S v178 v182 v186 v190 v194⟩) Q) :
    (held (c : Thread nD τ) (cells B S) : sProp 𝕄) ⊢ wp frame (wpE (defs₀ (F := F)) Variants.none c none) E
      (k0_part7 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v178 v182 v186 v190 v194 >>= κ) Q := by
  rw [k0_part7_eq_skeleton]
  unfold k0_part7_skel
  refine load_reshape 36 rfl ?_
  refine load_reshape 36 rfl ?_
  refine load_reshape 36 rfl ?_
  refine load_reshape 36 rfl ?_
  refine load 30 rfl ?_
  refine load 10 rfl ?_
  refine load 11 rfl ?_
  exact ret_bind hk

/-- Value 0 returned by part 8. -/
def part8_r0 (i : grid0.Coords) (S : St F) (v225 : FVec F S576x256 .f32) (c255_i32_163 : BitVec 32) (v226 : F .f32) : FVec F S576x512 .bf16 :=
  let C1 : St F := S.put27 ![0, 0, 0, 0] S1x18x32x256.size (k0_pay41 v225 c255_i32_163 v226)
  let C2 : St F := C1.put38 ![0, 0] S576x256.size (k0_pay42 v225 c255_i32_163 v226)
  let v243 : Vec F S1x18x1x32x512 .i8 := VecWindow.window (fun j => C2.a1 (Shape.reshapeEquiv reshapes_S2x36x32x512_S2x18x2x32x512.1 j)) ![0, 0, 0, 0, 0] S1x18x1x32x512.size inb_S2x18x2x32x512_S1x18x1x32x512_0_0_0_0_0
  k0_pay43 v243

/-- Value 1 returned by part 8. -/
def part8_r1 (i : grid0.Coords) (S : St F) (v225 : FVec F S576x256 .f32) (c255_i32_163 : BitVec 32) (v226 : F .f32) : FVec F S576x256 .f32 :=
  let C1 : St F := S.put27 ![0, 0, 0, 0] S1x18x32x256.size (k0_pay41 v225 c255_i32_163 v226)
  let C2 : St F := C1.put38 ![0, 0] S576x256.size (k0_pay42 v225 c255_i32_163 v226)
  let v247 : Vec F S576x256 .bf16 := VecWindow.window C2.a38 ![0, 0] S576x256.size inb_S576x256_S576x256_0_0
  let v248 : Vec F S256x256 .bf16 := VecWindow.window C2.a32 ![0, 0] S256x256.size inb_S256x1024_S256x256_0_0
  let v250 : Vec F S1x256 .i32 := VecWindow.window C2.a13 ![0, 0] S1x256.size inb_S1x1024_S1x256_0_0
  let v252 : Vec F S1x256 .f32 := VecWindow.window C2.a14 ![0, 0] S1x256.size inb_S1x1024_S1x256_0_0
  k0_pay44 v247 v248 v250 v252

/-- Value 2 returned by part 8. -/
def part8_r2 (i : grid0.Coords) (S : St F) (v225 : FVec F S576x256 .f32) (c255_i32_163 : BitVec 32) (v226 : F .f32) : Vec F S512x256 .bf16 :=
  let C1 : St F := S.put27 ![0, 0, 0, 0] S1x18x32x256.size (k0_pay41 v225 c255_i32_163 v226)
  let C2 : St F := C1.put38 ![0, 0] S576x256.size (k0_pay42 v225 c255_i32_163 v226)
  let v261 : Vec F S512x256 .bf16 := VecWindow.window C2.a33 ![0, 0] S512x256.size inb_S512x1024_S512x256_0_0
  v261

/-- Value 3 returned by part 8. -/
def part8_r3 (i : grid0.Coords) (S : St F) (v225 : FVec F S576x256 .f32) (c255_i32_163 : BitVec 32) (v226 : F .f32) : FVec F S576x256 .f32 :=
  let cst_186 : FVec F S576x256 .f32 := constant S576x256 .f32 0x00000000#32
  cst_186

/-- The contents part 8 leaves. -/
def part8 (i : grid0.Coords) (S : St F) (v225 : FVec F S576x256 .f32) (c255_i32_163 : BitVec 32) (v226 : F .f32) : St F :=
  let C1 : St F := S.put27 ![0, 0, 0, 0] S1x18x32x256.size (k0_pay41 v225 c255_i32_163 v226)
  let C2 : St F := C1.put38 ![0, 0] S576x256.size (k0_pay42 v225 c255_i32_163 v226)
  C2

theorem run_part8 {c : Dev nD} {i : grid0.Coords} {B : Bufs} {S : St F} {v225 : FVec F S576x256 .f32} {c255_i32_163 : BitVec 32} {v226 : F .f32} {E : Set ℕ} {α : Type} {Q : α → sProp 𝕄}
    {κ : (Σ' (v246 : FVec F S576x512 .bf16) (v260 : FVec F S576x256 .f32) (v261 : Vec F S512x256 .bf16), FVec F S576x256 .f32) → Prog (TpuEff nD τ sig (Elt F) Λ₀ .tc) α}
    (hk : (held (c : Thread nD τ) (cells B (part8 i S v225 c255_i32_163 v226)) : sProp 𝕄) ⊢ wp frame (wpE (defs₀ (F := F)) Variants.none c none) E (κ ⟨part8_r0 i S v225 c255_i32_163 v226, part8_r1 i S v225 c255_i32_163 v226, part8_r2 i S v225 c255_i32_163 v226, part8_r3 i S v225 c255_i32_163 v226⟩) Q) :
    (held (c : Thread nD τ) (cells B S) : sProp 𝕄) ⊢ wp frame (wpE (defs₀ (F := F)) Variants.none c none) E
      (k0_part8 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v225 c255_i32_163 v226 >>= κ) Q := by
  rw [k0_part8_eq_skeleton]
  unfold k0_part8_skel
  refine load 26 rfl ?_
  refine store 26 rfl _ (cells_put27 _ _ _ _ _) ?_
  refine load 37 rfl ?_
  refine store 37 rfl _ (cells_put38 _ _ _ _ _) ?_
  refine load_reshape 0 rfl ?_
  refine load 37 rfl ?_
  refine load 31 rfl ?_
  refine load 12 rfl ?_
  refine load 13 rfl ?_
  refine load 32 rfl ?_
  exact ret_bind hk

/-- Value 0 returned by part 9. -/
def part9_r0 (i : grid0.Coords) (S : St F) (arg0 : BitVec 32) (k0_h2 : k0_cond2 i = 1#1) (v246 : FVec F S576x512 .bf16) (v260 : FVec F S576x256 .f32) (v261 : Vec F S512x256 .bf16) (cst_186 : FVec F S576x256 .f32) : FVec F S1x576x256 .bf16 :=
  let v263 : Vec F S1x256 .i32 := VecWindow.window S.a15 ![0, 0] S1x256.size inb_S1x1024_S1x256_0_0
  let v265 : Vec F S1x256 .f32 := VecWindow.window S.a16 ![0, 0] S1x256.size inb_S1x1024_S1x256_0_0
  (k0_pay47 v246 v260 v261 cst_186 v263 v265)

/-- The contents part 9 leaves. -/
def part9 (i : grid0.Coords) (S : St F) (arg0 : BitVec 32) (k0_h2 : k0_cond2 i = 1#1) (v246 : FVec F S576x512 .bf16) (v260 : FVec F S576x256 .f32) (v261 : Vec F S512x256 .bf16) (cst_186 : FVec F S576x256 .f32) : St F :=
  let v263 : Vec F S1x256 .i32 := VecWindow.window S.a15 ![0, 0] S1x256.size inb_S1x1024_S1x256_0_0
  let v265 : Vec F S1x256 .f32 := VecWindow.window S.a16 ![0, 0] S1x256.size inb_S1x1024_S1x256_0_0
  let C1 : St F := S.put25 ![0, 0, 0, 0] S1x18x32x256.size (k0_pay46 v246 v260 v261 cst_186 v263 v265)
  C1

theorem run_part9 {c : Dev nD} {i : grid0.Coords} {B : Bufs} {S : St F} {arg0 : BitVec 32} {k0_h2 : k0_cond2 i = 1#1} {v246 : FVec F S576x512 .bf16} {v260 : FVec F S576x256 .f32} {v261 : Vec F S512x256 .bf16} {cst_186 : FVec F S576x256 .f32} {E : Set ℕ} {α : Type} {Q : α → sProp 𝕄}
    {κ : (FVec F S1x576x256 .bf16) → Prog (TpuEff nD τ sig (Elt F) Λ₀ .tc) α}
    (hk : (held (c : Thread nD τ) (cells B (part9 i S arg0 k0_h2 v246 v260 v261 cst_186)) : sProp 𝕄) ⊢ wp frame (wpE (defs₀ (F := F)) Variants.none c none) E (κ (part9_r0 i S arg0 k0_h2 v246 v260 v261 cst_186)) Q) :
    (held (c : Thread nD τ) (cells B S) : sProp 𝕄) ⊢ wp frame (wpE (defs₀ (F := F)) Variants.none c none) E
      (k0_part9 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h2 v246 v260 v261 cst_186 >>= κ) Q := by
  rw [k0_part9_eq_skeleton]
  unfold k0_part9_skel
  refine load 14 rfl ?_
  refine load 15 rfl ?_
  refine load 24 rfl ?_
  refine store 24 rfl _ (cells_put25 _ _ _ _ _) ?_
  refine load 38 rfl ?_
  exact ret_bind hk

/-- Value 0 returned by part 10. -/
def part10_r0 (i : grid0.Coords) (S : St F) (k0_h2 : k0_cond2 i = 1#1) (v246 : FVec F S576x512 .bf16) (v302 : FVec F S1x576x256 .bf16) : FVec F S576x256 .f32 :=
  let C1 : St F := S.put39 (k0_off1 i) S1x576x256.size v302
  let v303 : Vec F S576x256 .bf16 := VecWindow.window C1.a38 ![0, 0] S576x256.size inb_S576x256_S576x256_0_0
  let v304 : Vec F S256x256 .bf16 := VecWindow.window C1.a32 ![0, 256] S256x256.size inb_S256x1024_S256x256_0_256
  let v306 : Vec F S1x256 .i32 := VecWindow.window C1.a13 ![0, 256] S1x256.size inb_S1x1024_S1x256_0_256
  let v308 : Vec F S1x256 .f32 := VecWindow.window C1.a14 ![0, 256] S1x256.size inb_S1x1024_S1x256_0_256
  let v317 : Vec F S512x256 .bf16 := VecWindow.window C1.a33 ![0, 256] S512x256.size inb_S512x1024_S512x256_0_256
  let v319 : Vec F S1x256 .i32 := VecWindow.window C1.a15 ![0, 256] S1x256.size inb_S1x1024_S1x256_0_256
  let v321 : Vec F S1x256 .f32 := VecWindow.window C1.a16 ![0, 256] S1x256.size inb_S1x1024_S1x256_0_256
  k0_pay48 v246 v303 v304 v306 v308 v317 v319 v321

/-- Value 1 returned by part 10. -/
def part10_r1 (i : grid0.Coords) (S : St F) (k0_h2 : k0_cond2 i = 1#1) (v246 : FVec F S576x512 .bf16) (v302 : FVec F S1x576x256 .bf16) : IVec S18x32x256 8 :=
  let C1 : St F := S.put39 (k0_off1 i) S1x576x256.size v302
  let v303 : Vec F S576x256 .bf16 := VecWindow.window C1.a38 ![0, 0] S576x256.size inb_S576x256_S576x256_0_0
  let v304 : Vec F S256x256 .bf16 := VecWindow.window C1.a32 ![0, 256] S256x256.size inb_S256x1024_S256x256_0_256
  let v306 : Vec F S1x256 .i32 := VecWindow.window C1.a13 ![0, 256] S1x256.size inb_S1x1024_S1x256_0_256
  let v308 : Vec F S1x256 .f32 := VecWindow.window C1.a14 ![0, 256] S1x256.size inb_S1x1024_S1x256_0_256
  let v317 : Vec F S512x256 .bf16 := VecWindow.window C1.a33 ![0, 256] S512x256.size inb_S512x1024_S512x256_0_256
  let v319 : Vec F S1x256 .i32 := VecWindow.window C1.a15 ![0, 256] S1x256.size inb_S1x1024_S1x256_0_256
  let v321 : Vec F S1x256 .f32 := VecWindow.window C1.a16 ![0, 256] S1x256.size inb_S1x1024_S1x256_0_256
  k0_pay49 v246 v303 v304 v306 v308 v317 v319 v321

/-- The contents part 10 leaves. -/
def part10 (i : grid0.Coords) (S : St F) (k0_h2 : k0_cond2 i = 1#1) (v246 : FVec F S576x512 .bf16) (v302 : FVec F S1x576x256 .bf16) : St F :=
  let C1 : St F := S.put39 (k0_off1 i) S1x576x256.size v302
  C1

theorem run_part10 {c : Dev nD} {i : grid0.Coords} {B : Bufs} {S : St F} {k0_h2 : k0_cond2 i = 1#1} {v246 : FVec F S576x512 .bf16} {v302 : FVec F S1x576x256 .bf16} {E : Set ℕ} {α : Type} {Q : α → sProp 𝕄}
    {κ : (Σ' (v337 : FVec F S576x256 .f32), IVec S18x32x256 8) → Prog (TpuEff nD τ sig (Elt F) Λ₀ .tc) α}
    (hk : (held (c : Thread nD τ) (cells B (part10 i S k0_h2 v246 v302)) : sProp 𝕄) ⊢ wp frame (wpE (defs₀ (F := F)) Variants.none c none) E (κ ⟨part10_r0 i S k0_h2 v246 v302, part10_r1 i S k0_h2 v246 v302⟩) Q) :
    (held (c : Thread nD τ) (cells B S) : sProp 𝕄) ⊢ wp frame (wpE (defs₀ (F := F)) Variants.none c none) E
      (k0_part10 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 k0_h2 v246 v302 >>= κ) Q := by
  rw [k0_part10_eq_skeleton]
  unfold k0_part10_skel
  refine store 38 rfl _ (cells_put39 _ _ _ _ _) ?_
  refine load 37 rfl ?_
  refine load 31 rfl ?_
  refine load 12 rfl ?_
  refine load 13 rfl ?_
  refine load 32 rfl ?_
  refine load 14 rfl ?_
  refine load 15 rfl ?_
  exact ret_bind hk

/-- Value 0 returned by part 11. -/
def part11_r0 (i : grid0.Coords) (S : St F) (arg0 : BitVec 32) (k0_h2 : k0_cond2 i = 1#1) (v246 : FVec F S576x512 .bf16) (v337 : FVec F S576x256 .f32) (v340 : IVec S18x32x256 8) : FVec F S576x256 .f32 :=
  let C1 : St F := S.put25 ![0, 0, 0, 256] S1x18x32x256.size (k0_pay50 v340)
  let C2 : St F := C1.put39 (k0_off2 i) S1x576x256.size (k0_pay51 v337)
  let v359 : Vec F S576x256 .bf16 := VecWindow.window C2.a38 ![0, 0] S576x256.size inb_S576x256_S576x256_0_0
  let v360 : Vec F S256x256 .bf16 := VecWindow.window C2.a32 ![0, 512] S256x256.size inb_S256x1024_S256x256_0_512
  let v362 : Vec F S1x256 .i32 := VecWindow.window C2.a13 ![0, 512] S1x256.size inb_S1x1024_S1x256_0_512
  let v364 : Vec F S1x256 .f32 := VecWindow.window C2.a14 ![0, 512] S1x256.size inb_S1x1024_S1x256_0_512
  k0_pay52 v359 v360 v362 v364

/-- Value 1 returned by part 11. -/
def part11_r1 (i : grid0.Coords) (S : St F) (arg0 : BitVec 32) (k0_h2 : k0_cond2 i = 1#1) (v246 : FVec F S576x512 .bf16) (v337 : FVec F S576x256 .f32) (v340 : IVec S18x32x256 8) : FVec F S576x256 .f32 :=
  let C1 : St F := S.put25 ![0, 0, 0, 256] S1x18x32x256.size (k0_pay50 v340)
  let C2 : St F := C1.put39 (k0_off2 i) S1x576x256.size (k0_pay51 v337)
  let v373 : Vec F S512x256 .bf16 := VecWindow.window C2.a33 ![0, 512] S512x256.size inb_S512x1024_S512x256_0_512
  k0_pay53 v246 v373

/-- Value 2 returned by part 11. -/
def part11_r2 (i : grid0.Coords) (S : St F) (arg0 : BitVec 32) (k0_h2 : k0_cond2 i = 1#1) (v246 : FVec F S576x512 .bf16) (v337 : FVec F S576x256 .f32) (v340 : IVec S18x32x256 8) : Vec F S1x256 .i32 :=
  let C1 : St F := S.put25 ![0, 0, 0, 256] S1x18x32x256.size (k0_pay50 v340)
  let C2 : St F := C1.put39 (k0_off2 i) S1x576x256.size (k0_pay51 v337)
  let v375 : Vec F S1x256 .i32 := VecWindow.window C2.a15 ![0, 512] S1x256.size inb_S1x1024_S1x256_0_512
  v375

/-- The contents part 11 leaves. -/
def part11 (i : grid0.Coords) (S : St F) (arg0 : BitVec 32) (k0_h2 : k0_cond2 i = 1#1) (v246 : FVec F S576x512 .bf16) (v337 : FVec F S576x256 .f32) (v340 : IVec S18x32x256 8) : St F :=
  let C1 : St F := S.put25 ![0, 0, 0, 256] S1x18x32x256.size (k0_pay50 v340)
  let C2 : St F := C1.put39 (k0_off2 i) S1x576x256.size (k0_pay51 v337)
  C2

theorem run_part11 {c : Dev nD} {i : grid0.Coords} {B : Bufs} {S : St F} {arg0 : BitVec 32} {k0_h2 : k0_cond2 i = 1#1} {v246 : FVec F S576x512 .bf16} {v337 : FVec F S576x256 .f32} {v340 : IVec S18x32x256 8} {E : Set ℕ} {α : Type} {Q : α → sProp 𝕄}
    {κ : (Σ' (v372 : FVec F S576x256 .f32) (v374 : FVec F S576x256 .f32), Vec F S1x256 .i32) → Prog (TpuEff nD τ sig (Elt F) Λ₀ .tc) α}
    (hk : (held (c : Thread nD τ) (cells B (part11 i S arg0 k0_h2 v246 v337 v340)) : sProp 𝕄) ⊢ wp frame (wpE (defs₀ (F := F)) Variants.none c none) E (κ ⟨part11_r0 i S arg0 k0_h2 v246 v337 v340, part11_r1 i S arg0 k0_h2 v246 v337 v340, part11_r2 i S arg0 k0_h2 v246 v337 v340⟩) Q) :
    (held (c : Thread nD τ) (cells B S) : sProp 𝕄) ⊢ wp frame (wpE (defs₀ (F := F)) Variants.none c none) E
      (k0_part11 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h2 v246 v337 v340 >>= κ) Q := by
  rw [k0_part11_eq_skeleton]
  unfold k0_part11_skel
  refine load 24 rfl ?_
  refine store 24 rfl _ (cells_put25 _ _ _ _ _) ?_
  refine load 38 rfl ?_
  refine store 38 rfl _ (cells_put39 _ _ _ _ _) ?_
  refine load 37 rfl ?_
  refine load 31 rfl ?_
  refine load 12 rfl ?_
  refine load 13 rfl ?_
  refine load 32 rfl ?_
  refine load 14 rfl ?_
  exact ret_bind hk

/-- Value 0 returned by part 12. -/
def part12_r0 (i : grid0.Coords) (S : St F) (arg0 : BitVec 32) (k0_h2 : k0_cond2 i = 1#1) (v372 : FVec F S576x256 .f32) (v374 : FVec F S576x256 .f32) (v375 : Vec F S1x256 .i32) : Vec F S576x256 .bf16 :=
  let v377 : Vec F S1x256 .f32 := VecWindow.window S.a16 ![0, 512] S1x256.size inb_S1x1024_S1x256_0_512
  let C1 : St F := S.put25 ![0, 0, 0, 512] S1x18x32x256.size (k0_pay55 v372 v374 v375 v377)
  let C2 : St F := C1.put39 (k0_off3 i) S1x576x256.size (k0_pay56 v372 v374 v375 v377)
  let v415 : Vec F S576x256 .bf16 := VecWindow.window C2.a38 ![0, 0] S576x256.size inb_S576x256_S576x256_0_0
  v415

/-- The contents part 12 leaves. -/
def part12 (i : grid0.Coords) (S : St F) (arg0 : BitVec 32) (k0_h2 : k0_cond2 i = 1#1) (v372 : FVec F S576x256 .f32) (v374 : FVec F S576x256 .f32) (v375 : Vec F S1x256 .i32) : St F :=
  let v377 : Vec F S1x256 .f32 := VecWindow.window S.a16 ![0, 512] S1x256.size inb_S1x1024_S1x256_0_512
  let C1 : St F := S.put25 ![0, 0, 0, 512] S1x18x32x256.size (k0_pay55 v372 v374 v375 v377)
  let C2 : St F := C1.put39 (k0_off3 i) S1x576x256.size (k0_pay56 v372 v374 v375 v377)
  C2

theorem run_part12 {c : Dev nD} {i : grid0.Coords} {B : Bufs} {S : St F} {arg0 : BitVec 32} {k0_h2 : k0_cond2 i = 1#1} {v372 : FVec F S576x256 .f32} {v374 : FVec F S576x256 .f32} {v375 : Vec F S1x256 .i32} {E : Set ℕ} {α : Type} {Q : α → sProp 𝕄}
    {κ : (Vec F S576x256 .bf16) → Prog (TpuEff nD τ sig (Elt F) Λ₀ .tc) α}
    (hk : (held (c : Thread nD τ) (cells B (part12 i S arg0 k0_h2 v372 v374 v375)) : sProp 𝕄) ⊢ wp frame (wpE (defs₀ (F := F)) Variants.none c none) E (κ (part12_r0 i S arg0 k0_h2 v372 v374 v375)) Q) :
    (held (c : Thread nD τ) (cells B S) : sProp 𝕄) ⊢ wp frame (wpE (defs₀ (F := F)) Variants.none c none) E
      (k0_part12 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h2 v372 v374 v375 >>= κ) Q := by
  rw [k0_part12_eq_skeleton]
  unfold k0_part12_skel
  refine load 15 rfl ?_
  refine load 24 rfl ?_
  refine store 24 rfl _ (cells_put25 _ _ _ _ _) ?_
  refine load 38 rfl ?_
  refine store 38 rfl _ (cells_put39 _ _ _ _ _) ?_
  refine load 37 rfl ?_
  exact ret_bind hk

/-- Value 0 returned by part 13. -/
def part13_r0 (i : grid0.Coords) (S : St F) (v246 : FVec F S576x512 .bf16) (v415 : Vec F S576x256 .bf16) : FVec F S576x256 .f32 :=
  let v416 : Vec F S256x256 .bf16 := VecWindow.window S.a32 ![0, 768] S256x256.size inb_S256x1024_S256x256_0_768
  let v418 : Vec F S1x256 .i32 := VecWindow.window S.a13 ![0, 768] S1x256.size inb_S1x1024_S1x256_0_768
  let v420 : Vec F S1x256 .f32 := VecWindow.window S.a14 ![0, 768] S1x256.size inb_S1x1024_S1x256_0_768
  let v429 : Vec F S512x256 .bf16 := VecWindow.window S.a33 ![0, 768] S512x256.size inb_S512x1024_S512x256_0_768
  let v431 : Vec F S1x256 .i32 := VecWindow.window S.a15 ![0, 768] S1x256.size inb_S1x1024_S1x256_0_768
  let v433 : Vec F S1x256 .f32 := VecWindow.window S.a16 ![0, 768] S1x256.size inb_S1x1024_S1x256_0_768
  k0_pay57 v246 v415 v416 v418 v420 v429 v431 v433

/-- Value 1 returned by part 13. -/
def part13_r1 (i : grid0.Coords) (S : St F) (v246 : FVec F S576x512 .bf16) (v415 : Vec F S576x256 .bf16) : IVec S1x18x32x256 8 :=
  let v416 : Vec F S256x256 .bf16 := VecWindow.window S.a32 ![0, 768] S256x256.size inb_S256x1024_S256x256_0_768
  let v418 : Vec F S1x256 .i32 := VecWindow.window S.a13 ![0, 768] S1x256.size inb_S1x1024_S1x256_0_768
  let v420 : Vec F S1x256 .f32 := VecWindow.window S.a14 ![0, 768] S1x256.size inb_S1x1024_S1x256_0_768
  let v429 : Vec F S512x256 .bf16 := VecWindow.window S.a33 ![0, 768] S512x256.size inb_S512x1024_S512x256_0_768
  let v431 : Vec F S1x256 .i32 := VecWindow.window S.a15 ![0, 768] S1x256.size inb_S1x1024_S1x256_0_768
  let v433 : Vec F S1x256 .f32 := VecWindow.window S.a16 ![0, 768] S1x256.size inb_S1x1024_S1x256_0_768
  k0_pay58 v246 v415 v416 v418 v420 v429 v431 v433

theorem run_part13 {c : Dev nD} {i : grid0.Coords} {B : Bufs} {S : St F} {v246 : FVec F S576x512 .bf16} {v415 : Vec F S576x256 .bf16} {E : Set ℕ} {α : Type} {Q : α → sProp 𝕄}
    {κ : (Σ' (v449 : FVec F S576x256 .f32), IVec S1x18x32x256 8) → Prog (TpuEff nD τ sig (Elt F) Λ₀ .tc) α}
    (hk : (held (c : Thread nD τ) (cells B S) : sProp 𝕄) ⊢ wp frame (wpE (defs₀ (F := F)) Variants.none c none) E (κ ⟨part13_r0 i S v246 v415, part13_r1 i S v246 v415⟩) Q) :
    (held (c : Thread nD τ) (cells B S) : sProp 𝕄) ⊢ wp frame (wpE (defs₀ (F := F)) Variants.none c none) E
      (k0_part13 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v246 v415 >>= κ) Q := by
  rw [k0_part13_eq_skeleton]
  unfold k0_part13_skel
  refine load 31 rfl ?_
  refine load 12 rfl ?_
  refine load 13 rfl ?_
  refine load 32 rfl ?_
  refine load 14 rfl ?_
  refine load 15 rfl ?_
  refine load 24 rfl ?_
  exact ret_bind hk

/-- Value 0 returned by part 14. -/
def part14_r0 (i : grid0.Coords) (S : St F) (arg0 : BitVec 32) (k0_h2 : k0_cond2 i = 1#1) (v449 : FVec F S576x256 .f32) (v455 : IVec S1x18x32x256 8) : IVec S1x256 32 :=
  let C1 : St F := S.put25 ![0, 0, 0, 768] S1x18x32x256.size v455
  let C2 : St F := C1.put39 (k0_off4 i) S1x576x256.size (k0_pay59 v449)
  let v486 : Vec F S1x256 .i32 := VecWindow.window C2.a17 ![0, 0] S1x256.size inb_S1x256_S1x256_0_0
  k0_pay60 v486

/-- Value 1 returned by part 14. -/
def part14_r1 (i : grid0.Coords) (S : St F) (arg0 : BitVec 32) (k0_h2 : k0_cond2 i = 1#1) (v449 : FVec F S576x256 .f32) (v455 : IVec S1x18x32x256 8) : FVec F S1x256 .f32 :=
  let C1 : St F := S.put25 ![0, 0, 0, 768] S1x18x32x256.size v455
  let C2 : St F := C1.put39 (k0_off4 i) S1x576x256.size (k0_pay59 v449)
  let v488 : Vec F S1x256 .f32 := VecWindow.window C2.a18 ![0, 0] S1x256.size inb_S1x256_S1x256_0_0
  k0_pay61 v488

/-- Value 2 returned by part 14. -/
def part14_r2 (i : grid0.Coords) (S : St F) (arg0 : BitVec 32) (k0_h2 : k0_cond2 i = 1#1) (v449 : FVec F S576x256 .f32) (v455 : IVec S1x18x32x256 8) : FVec F S576x256 .f32 :=
  let C1 : St F := S.put25 ![0, 0, 0, 768] S1x18x32x256.size v455
  let C2 : St F := C1.put39 (k0_off4 i) S1x576x256.size (k0_pay59 v449)
  let v482 : Vec F S1x576x1024 .bf16 := VecWindow.window C2.a39 (k0_off5 i) S1x576x1024.size (k0_off5_inb i k0_h2)
  let v484 : Vec F S1024x256 .bf16 := VecWindow.window C2.a34 ![0, 0] S1024x256.size inb_S1024x256_S1024x256_0_0
  k0_pay62 v482 v484

/-- The contents part 14 leaves. -/
def part14 (i : grid0.Coords) (S : St F) (arg0 : BitVec 32) (k0_h2 : k0_cond2 i = 1#1) (v449 : FVec F S576x256 .f32) (v455 : IVec S1x18x32x256 8) : St F :=
  let C1 : St F := S.put25 ![0, 0, 0, 768] S1x18x32x256.size v455
  let C2 : St F := C1.put39 (k0_off4 i) S1x576x256.size (k0_pay59 v449)
  C2

theorem run_part14 {c : Dev nD} {i : grid0.Coords} {B : Bufs} {S : St F} {arg0 : BitVec 32} {k0_h2 : k0_cond2 i = 1#1} {v449 : FVec F S576x256 .f32} {v455 : IVec S1x18x32x256 8} {E : Set ℕ} {α : Type} {Q : α → sProp 𝕄}
    {κ : (Σ' (v487 : IVec S1x256 32) (v489 : FVec F S1x256 .f32), FVec F S576x256 .f32) → Prog (TpuEff nD τ sig (Elt F) Λ₀ .tc) α}
    (hk : (held (c : Thread nD τ) (cells B (part14 i S arg0 k0_h2 v449 v455)) : sProp 𝕄) ⊢ wp frame (wpE (defs₀ (F := F)) Variants.none c none) E (κ ⟨part14_r0 i S arg0 k0_h2 v449 v455, part14_r1 i S arg0 k0_h2 v449 v455, part14_r2 i S arg0 k0_h2 v449 v455⟩) Q) :
    (held (c : Thread nD τ) (cells B S) : sProp 𝕄) ⊢ wp frame (wpE (defs₀ (F := F)) Variants.none c none) E
      (k0_part14 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h2 v449 v455 >>= κ) Q := by
  rw [k0_part14_eq_skeleton]
  unfold k0_part14_skel
  refine store 24 rfl _ (cells_put25 _ _ _ _ _) ?_
  refine load 38 rfl ?_
  refine store 38 rfl _ (cells_put39 _ _ _ _ _) ?_
  refine load 38 rfl ?_
  refine load 33 rfl ?_
  refine load 16 rfl ?_
  refine load 17 rfl ?_
  exact ret_bind hk

/-- Value 0 returned by part 15. -/
def part15_r0 (i : grid0.Coords) (S : St F) (v0 : BitVec 32) : FVec F S576x256 .bf16 :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  let v35 : Vec F S1x18x32x256 .bf16 := VecWindow.window C1.a40 ![0, 0, 0, 0] S1x18x32x256.size inb_S4x20x32x256_S1x18x32x256_0_0_0_0
  k0_pay64 v35

/-- Value 1 returned by part 15. -/
def part15_r1 (i : grid0.Coords) (S : St F) (v0 : BitVec 32) : FVec F S576x256 .bf16 :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  let v38 : Vec F S1x18x32x256 .bf16 := VecWindow.window C1.a40 ![0, 1, 0, 0] S1x18x32x256.size inb_S4x20x32x256_S1x18x32x256_0_1_0_0
  k0_pay65 v38

/-- Value 2 returned by part 15. -/
def part15_r2 (i : grid0.Coords) (S : St F) (v0 : BitVec 32) : FVec F S576x256 .bf16 :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  let v41 : Vec F S1x18x32x256 .bf16 := VecWindow.window C1.a40 ![0, 2, 0, 0] S1x18x32x256.size inb_S4x20x32x256_S1x18x32x256_0_2_0_0
  k0_pay66 v41

/-- Value 3 returned by part 15. -/
def part15_r3 (i : grid0.Coords) (S : St F) (v0 : BitVec 32) : FVec F S576x256 .bf16 :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  let v44 : Vec F S1x18x32x256 .bf16 := VecWindow.window C1.a40 ![1, 0, 0, 0] S1x18x32x256.size inb_S4x20x32x256_S1x18x32x256_1_0_0_0
  k0_pay67 v44

/-- Value 4 returned by part 15. -/
def part15_r4 (i : grid0.Coords) (S : St F) (v0 : BitVec 32) : FVec F S576x256 .bf16 :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  let v47 : Vec F S1x18x32x256 .bf16 := VecWindow.window C1.a40 ![1, 1, 0, 0] S1x18x32x256.size inb_S4x20x32x256_S1x18x32x256_1_1_0_0
  k0_pay68 v47

/-- The contents part 15 leaves. -/
def part15 (i : grid0.Coords) (S : St F) (v0 : BitVec 32) : St F :=
  let v28 : Vec F S1x20x32x256 .bf16 := VecWindow.window S.a40 ![3, 0, 0, 0] S1x20x32x256.size inb_S4x20x32x256_S1x20x32x256_3_0_0_0
  let C1 : St F := S.put40 ![2, 0, 0, 0] S1x20x32x256.size (k0_pay63 v0 v28)
  C1

theorem run_part15 {c : Dev nD} {i : grid0.Coords} {B : Bufs} {S : St F} {v0 : BitVec 32} {E : Set ℕ} {α : Type} {Q : α → sProp 𝕄}
    {κ : (Σ' (v37 : FVec F S576x256 .bf16) (v40 : FVec F S576x256 .bf16) (v43 : FVec F S576x256 .bf16) (v46 : FVec F S576x256 .bf16), FVec F S576x256 .bf16) → Prog (TpuEff nD τ sig (Elt F) Λ₀ .tc) α}
    (hk : (held (c : Thread nD τ) (cells B (part15 i S v0)) : sProp 𝕄) ⊢ wp frame (wpE (defs₀ (F := F)) Variants.none c none) E (κ ⟨part15_r0 i S v0, part15_r1 i S v0, part15_r2 i S v0, part15_r3 i S v0, part15_r4 i S v0⟩) Q) :
    (held (c : Thread nD τ) (cells B S) : sProp 𝕄) ⊢ wp frame (wpE (defs₀ (F := F)) Variants.none c none) E
      (k0_part15 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v0 >>= κ) Q := by
  rw [k0_part15_eq_skeleton]
  unfold k0_part15_skel
  refine load 39 rfl ?_
  refine load 39 rfl ?_
  refine store 39 rfl _ (cells_put40 _ _ _ _ _) ?_
  refine load 39 rfl ?_
  refine load 39 rfl ?_
  refine load 39 rfl ?_
  refine load 39 rfl ?_
  refine load 39 rfl ?_
  exact ret_bind hk

/-- Value 0 returned by part 16. -/
def part16_r0 (i : grid0.Coords) (S : St F) (v37 : FVec F S576x256 .bf16) (v40 : FVec F S576x256 .bf16) (v43 : FVec F S576x256 .bf16) (v46 : FVec F S576x256 .bf16) (v49 : FVec F S576x256 .bf16) : FVec F S576x256 .f32 :=
  let v50 : Vec F S1x18x32x256 .bf16 := VecWindow.window S.a40 ![1, 2, 0, 0] S1x18x32x256.size inb_S4x20x32x256_S1x18x32x256_1_2_0_0
  let v53 : Vec F S1x18x32x256 .bf16 := VecWindow.window S.a40 ![2, 0, 0, 0] S1x18x32x256.size inb_S4x20x32x256_S1x18x32x256_2_0_0_0
  let v56 : Vec F S1x18x32x256 .bf16 := VecWindow.window S.a40 ![2, 1, 0, 0] S1x18x32x256.size inb_S4x20x32x256_S1x18x32x256_2_1_0_0
  let v59 : Vec F S1x18x32x256 .bf16 := VecWindow.window S.a40 ![2, 2, 0, 0] S1x18x32x256.size inb_S4x20x32x256_S1x18x32x256_2_2_0_0
  let v63 : Vec F S2304x256 .bf16 := VecWindow.window S.a35 ![0, 0] S2304x256.size inb_S2304x256_S2304x256_0_0
  let v65 : Vec F S1x256 .i32 := VecWindow.window S.a19 ![0, 0] S1x256.size inb_S1x256_S1x256_0_0
  let v67 : Vec F S1x256 .f32 := VecWindow.window S.a20 ![0, 0] S1x256.size inb_S1x256_S1x256_0_0
  k0_pay69 v37 v40 v43 v46 v49 v50 v53 v56 v59 v63 v65 v67

/-- Value 1 returned by part 16. -/
def part16_r1 (i : grid0.Coords) (S : St F) (v37 : FVec F S576x256 .bf16) (v40 : FVec F S576x256 .bf16) (v43 : FVec F S576x256 .bf16) (v46 : FVec F S576x256 .bf16) (v49 : FVec F S576x256 .bf16) : IVec S18x32x256 8 :=
  let v50 : Vec F S1x18x32x256 .bf16 := VecWindow.window S.a40 ![1, 2, 0, 0] S1x18x32x256.size inb_S4x20x32x256_S1x18x32x256_1_2_0_0
  let v53 : Vec F S1x18x32x256 .bf16 := VecWindow.window S.a40 ![2, 0, 0, 0] S1x18x32x256.size inb_S4x20x32x256_S1x18x32x256_2_0_0_0
  let v56 : Vec F S1x18x32x256 .bf16 := VecWindow.window S.a40 ![2, 1, 0, 0] S1x18x32x256.size inb_S4x20x32x256_S1x18x32x256_2_1_0_0
  let v59 : Vec F S1x18x32x256 .bf16 := VecWindow.window S.a40 ![2, 2, 0, 0] S1x18x32x256.size inb_S4x20x32x256_S1x18x32x256_2_2_0_0
  let v63 : Vec F S2304x256 .bf16 := VecWindow.window S.a35 ![0, 0] S2304x256.size inb_S2304x256_S2304x256_0_0
  let v65 : Vec F S1x256 .i32 := VecWindow.window S.a19 ![0, 0] S1x256.size inb_S1x256_S1x256_0_0
  let v67 : Vec F S1x256 .f32 := VecWindow.window S.a20 ![0, 0] S1x256.size inb_S1x256_S1x256_0_0
  k0_pay70 v37 v40 v43 v46 v49 v50 v53 v56 v59 v63 v65 v67

theorem run_part16 {c : Dev nD} {i : grid0.Coords} {B : Bufs} {S : St F} {v37 : FVec F S576x256 .bf16} {v40 : FVec F S576x256 .bf16} {v43 : FVec F S576x256 .bf16} {v46 : FVec F S576x256 .bf16} {v49 : FVec F S576x256 .bf16} {E : Set ℕ} {α : Type} {Q : α → sProp 𝕄}
    {κ : (Σ' (v82 : FVec F S576x256 .f32), IVec S18x32x256 8) → Prog (TpuEff nD τ sig (Elt F) Λ₀ .tc) α}
    (hk : (held (c : Thread nD τ) (cells B S) : sProp 𝕄) ⊢ wp frame (wpE (defs₀ (F := F)) Variants.none c none) E (κ ⟨part16_r0 i S v37 v40 v43 v46 v49, part16_r1 i S v37 v40 v43 v46 v49⟩) Q) :
    (held (c : Thread nD τ) (cells B S) : sProp 𝕄) ⊢ wp frame (wpE (defs₀ (F := F)) Variants.none c none) E
      (k0_part16 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 v37 v40 v43 v46 v49 >>= κ) Q := by
  rw [k0_part16_eq_skeleton]
  unfold k0_part16_skel
  refine load 39 rfl ?_
  refine load 39 rfl ?_
  refine load 39 rfl ?_
  refine load 39 rfl ?_
  refine load 34 rfl ?_
  refine load 18 rfl ?_
  refine load 19 rfl ?_
  exact ret_bind hk

/-- Value 0 returned by part 17. -/
def part17_r0 (i : grid0.Coords) (S : St F) (arg0 : BitVec 32) (k0_h3 : k0_cond3 i = 1#1) (v82 : FVec F S576x256 .f32) (v85 : IVec S18x32x256 8) : Elt F .f32 :=
  let C1 : St F := S.put29 ![0, 0, 0, 0] S1x18x32x256.size (k0_pay71 v85)
  let C2 : St F := C1.put41 ![0, 0] S576x256.size (k0_pay72 v82)
  let v93 : Elt F .f32 := C2.a23 (Rect.emb (Rect.unit (s := S1) ![0] S1.size inb_S1_S1_0) (Shape.Idx.first (numel1_S1.symm ▸ Nat.one_pos)))
  v93

/-- Value 1 returned by part 17. -/
def part17_r1 (i : grid0.Coords) (S : St F) (arg0 : BitVec 32) (k0_h3 : k0_cond3 i = 1#1) (v82 : FVec F S576x256 .f32) (v85 : IVec S18x32x256 8) : FVec F S576x256 .f32 :=
  let C1 : St F := S.put29 ![0, 0, 0, 0] S1x18x32x256.size (k0_pay71 v85)
  let C2 : St F := C1.put41 ![0, 0] S576x256.size (k0_pay72 v82)
  let v94 : Vec F S576x256 .bf16 := VecWindow.window C2.a41 ![0, 0] S576x256.size inb_S576x256_S576x256_0_0
  let v95 : Vec F S256x256 .bf16 := VecWindow.window C2.a36 ![0, 0] S256x256.size inb_S256x1024_S256x256_0_0
  let v97 : Vec F S1x256 .i32 := VecWindow.window C2.a21 ![0, 0] S1x256.size inb_S1x1024_S1x256_0_0
  let v99 : Vec F S1x256 .f32 := VecWindow.window C2.a22 ![0, 0] S1x256.size inb_S1x1024_S1x256_0_0
  k0_pay73 v94 v95 v97 v99

/-- Value 2 returned by part 17. -/
def part17_r2 (i : grid0.Coords) (S : St F) (arg0 : BitVec 32) (k0_h3 : k0_cond3 i = 1#1) (v82 : FVec F S576x256 .f32) (v85 : IVec S18x32x256 8) : Vec F S1x576x256 .bf16 :=
  let C1 : St F := S.put29 ![0, 0, 0, 0] S1x18x32x256.size (k0_pay71 v85)
  let C2 : St F := C1.put41 ![0, 0] S576x256.size (k0_pay72 v82)
  let v120 : Vec F S1x576x256 .bf16 := VecWindow.window C2.a39 (k0_off6 i) S1x576x256.size (k0_off6_inb i k0_h3)
  v120

/-- The contents part 17 leaves. -/
def part17 (i : grid0.Coords) (S : St F) (arg0 : BitVec 32) (k0_h3 : k0_cond3 i = 1#1) (v82 : FVec F S576x256 .f32) (v85 : IVec S18x32x256 8) : St F :=
  let C1 : St F := S.put29 ![0, 0, 0, 0] S1x18x32x256.size (k0_pay71 v85)
  let C2 : St F := C1.put41 ![0, 0] S576x256.size (k0_pay72 v82)
  C2

theorem run_part17 {c : Dev nD} {i : grid0.Coords} {B : Bufs} {S : St F} {arg0 : BitVec 32} {k0_h3 : k0_cond3 i = 1#1} {v82 : FVec F S576x256 .f32} {v85 : IVec S18x32x256 8} {E : Set ℕ} {α : Type} {Q : α → sProp 𝕄}
    {κ : (Σ' (v93 : Elt F .f32) (v107 : FVec F S576x256 .f32), Vec F S1x576x256 .bf16) → Prog (TpuEff nD τ sig (Elt F) Λ₀ .tc) α}
    (hk : (held (c : Thread nD τ) (cells B (part17 i S arg0 k0_h3 v82 v85)) : sProp 𝕄) ⊢ wp frame (wpE (defs₀ (F := F)) Variants.none c none) E (κ ⟨part17_r0 i S arg0 k0_h3 v82 v85, part17_r1 i S arg0 k0_h3 v82 v85, part17_r2 i S arg0 k0_h3 v82 v85⟩) Q) :
    (held (c : Thread nD τ) (cells B S) : sProp 𝕄) ⊢ wp frame (wpE (defs₀ (F := F)) Variants.none c none) E
      (k0_part17 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h3 v82 v85 >>= κ) Q := by
  rw [k0_part17_eq_skeleton]
  unfold k0_part17_skel
  refine load 28 rfl ?_
  refine store 28 rfl _ (cells_put29 _ _ _ _ _) ?_
  refine load 40 rfl ?_
  refine store 40 rfl _ (cells_put41 _ _ _ _ _) ?_
  refine smem_load 22 rfl ?_
  refine load 40 rfl ?_
  refine load 35 rfl ?_
  refine load 20 rfl ?_
  refine load 21 rfl ?_
  refine load 38 rfl ?_
  exact ret_bind hk

/-- Value 0 returned by part 18. -/
def part18_r0 (i : grid0.Coords) (S : St F) (arg0 : BitVec 32) (v93 : Elt F .f32) (v107 : FVec F S576x256 .f32) (v120 : Vec F S1x576x256 .bf16) : FVec F S576x256 .f32 :=
  let C1 : St F := S.put24 ![0, 0, 0, 0] S1x18x32x256.size (k0_pay74 v93 v107 v120)
  let v139 : Vec F S576x256 .bf16 := VecWindow.window C1.a41 ![0, 0] S576x256.size inb_S576x256_S576x256_0_0
  let v140 : Vec F S256x256 .bf16 := VecWindow.window C1.a36 ![0, 256] S256x256.size inb_S256x1024_S256x256_0_256
  let v142 : Vec F S1x256 .i32 := VecWindow.window C1.a21 ![0, 256] S1x256.size inb_S1x1024_S1x256_0_256
  let v144 : Vec F S1x256 .f32 := VecWindow.window C1.a22 ![0, 256] S1x256.size inb_S1x1024_S1x256_0_256
  k0_pay75 v139 v140 v142 v144

/-- Value 1 returned by part 18. -/
def part18_r1 (i : grid0.Coords) (S : St F) (arg0 : BitVec 32) (v93 : Elt F .f32) (v107 : FVec F S576x256 .f32) (v120 : Vec F S1x576x256 .bf16) : BitVec 32 :=
  let v154 : BitVec 1 := Scalar.cmpi .eq 2#32 0#32
  let v155 : BitVec 32 := Scalar.select v154 1#32 2#32
  v155

/-- Value 2 returned by part 18. -/
def part18_r2 (i : grid0.Coords) (S : St F) (arg0 : BitVec 32) (v93 : Elt F .f32) (v107 : FVec F S576x256 .f32) (v120 : Vec F S1x576x256 .bf16) : BitVec 32 :=
  let v153 : BitVec 32 := Scalar.addi arg0 1#32
  let v154 : BitVec 1 := Scalar.cmpi .eq 2#32 0#32
  let v155 : BitVec 32 := Scalar.select v154 1#32 2#32
  let v156 : BitVec 32 := Scalar.remsi v153 v155
  v156

/-- Value 3 returned by part 18. -/
def part18_r3 (i : grid0.Coords) (S : St F) (arg0 : BitVec 32) (v93 : Elt F .f32) (v107 : FVec F S576x256 .f32) (v120 : Vec F S1x576x256 .bf16) : BitVec 1 :=
  let v153 : BitVec 32 := Scalar.addi arg0 1#32
  let v154 : BitVec 1 := Scalar.cmpi .eq 2#32 0#32
  let v155 : BitVec 32 := Scalar.select v154 1#32 2#32
  let v156 : BitVec 32 := Scalar.remsi v153 v155
  let v157 : BitVec 1 := Scalar.cmpi .ne v156 0#32
  v157

/-- Value 4 returned by part 18. -/
def part18_r4 (i : grid0.Coords) (S : St F) (arg0 : BitVec 32) (v93 : Elt F .f32) (v107 : FVec F S576x256 .f32) (v120 : Vec F S1x576x256 .bf16) : BitVec 1 :=
  let v153 : BitVec 32 := Scalar.addi arg0 1#32
  let v154 : BitVec 1 := Scalar.cmpi .eq 2#32 0#32
  let v155 : BitVec 32 := Scalar.select v154 1#32 2#32
  let v156 : BitVec 32 := Scalar.remsi v153 v155
  let v158 : BitVec 1 := Scalar.cmpi .slt v156 0#32
  v158

/-- The contents part 18 leaves. -/
def part18 (i : grid0.Coords) (S : St F) (arg0 : BitVec 32) (v93 : Elt F .f32) (v107 : FVec F S576x256 .f32) (v120 : Vec F S1x576x256 .bf16) : St F :=
  let C1 : St F := S.put24 ![0, 0, 0, 0] S1x18x32x256.size (k0_pay74 v93 v107 v120)
  C1

theorem run_part18 {c : Dev nD} {i : grid0.Coords} {B : Bufs} {S : St F} {arg0 : BitVec 32} {v93 : Elt F .f32} {v107 : FVec F S576x256 .f32} {v120 : Vec F S1x576x256 .bf16} {E : Set ℕ} {α : Type} {Q : α → sProp 𝕄}
    {κ : (Σ' (v152 : FVec F S576x256 .f32) (v155 : BitVec 32) (v156 : BitVec 32) (v157 : BitVec 1), BitVec 1) → Prog (TpuEff nD τ sig (Elt F) Λ₀ .tc) α}
    (hk : (held (c : Thread nD τ) (cells B (part18 i S arg0 v93 v107 v120)) : sProp 𝕄) ⊢ wp frame (wpE (defs₀ (F := F)) Variants.none c none) E (κ ⟨part18_r0 i S arg0 v93 v107 v120, part18_r1 i S arg0 v93 v107 v120, part18_r2 i S arg0 v93 v107 v120, part18_r3 i S arg0 v93 v107 v120, part18_r4 i S arg0 v93 v107 v120⟩) Q) :
    (held (c : Thread nD τ) (cells B S) : sProp 𝕄) ⊢ wp frame (wpE (defs₀ (F := F)) Variants.none c none) E
      (k0_part18 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 v93 v107 v120 >>= κ) Q := by
  rw [k0_part18_eq_skeleton]
  unfold k0_part18_skel
  refine load 23 rfl ?_
  refine store 23 rfl _ (cells_put24 _ _ _ _ _) ?_
  refine load 40 rfl ?_
  refine load 35 rfl ?_
  refine load 20 rfl ?_
  refine load 21 rfl ?_
  exact ret_bind hk

/-- Value 0 returned by part 19. -/
def part19_r0 (i : grid0.Coords) (S : St F) (arg0 : BitVec 32) (k0_h3 : k0_cond3 i = 1#1) (v93 : Elt F .f32) (v152 : FVec F S576x256 .f32) (v155 : BitVec 32) (v156 : BitVec 32) (v157 : BitVec 1) (v158 : BitVec 1) : FVec F S576x256 .f32 :=
  let v165 : Vec F S1x576x256 .bf16 := VecWindow.window S.a39 (k0_off7 i) S1x576x256.size (k0_off7_inb i k0_h3)
  let C1 : St F := S.put24 ![0, 0, 0, 256] S1x18x32x256.size (k0_pay76 v93 v152 v165)
  let v184 : Vec F S576x256 .bf16 := VecWindow.window C1.a41 ![0, 0] S576x256.size inb_S576x256_S576x256_0_0
  let v185 : Vec F S256x256 .bf16 := VecWindow.window C1.a36 ![0, 512] S256x256.size inb_S256x1024_S256x256_0_512
  let v187 : Vec F S1x256 .i32 := VecWindow.window C1.a21 ![0, 512] S1x256.size inb_S1x1024_S1x256_0_512
  let v189 : Vec F S1x256 .f32 := VecWindow.window C1.a22 ![0, 512] S1x256.size inb_S1x1024_S1x256_0_512
  k0_pay77 v184 v185 v187 v189

/-- Value 1 returned by part 19. -/
def part19_r1 (i : grid0.Coords) (S : St F) (arg0 : BitVec 32) (k0_h3 : k0_cond3 i = 1#1) (v93 : Elt F .f32) (v152 : FVec F S576x256 .f32) (v155 : BitVec 32) (v156 : BitVec 32) (v157 : BitVec 1) (v158 : BitVec 1) : BitVec 32 :=
  let v198 : BitVec 32 := Scalar.addi arg0 1#32
  v198

/-- The contents part 19 leaves. -/
def part19 (i : grid0.Coords) (S : St F) (arg0 : BitVec 32) (k0_h3 : k0_cond3 i = 1#1) (v93 : Elt F .f32) (v152 : FVec F S576x256 .f32) (v155 : BitVec 32) (v156 : BitVec 32) (v157 : BitVec 1) (v158 : BitVec 1) : St F :=
  let v165 : Vec F S1x576x256 .bf16 := VecWindow.window S.a39 (k0_off7 i) S1x576x256.size (k0_off7_inb i k0_h3)
  let C1 : St F := S.put24 ![0, 0, 0, 256] S1x18x32x256.size (k0_pay76 v93 v152 v165)
  C1

theorem run_part19 {c : Dev nD} {i : grid0.Coords} {B : Bufs} {S : St F} {arg0 : BitVec 32} {k0_h3 : k0_cond3 i = 1#1} {v93 : Elt F .f32} {v152 : FVec F S576x256 .f32} {v155 : BitVec 32} {v156 : BitVec 32} {v157 : BitVec 1} {v158 : BitVec 1} {E : Set ℕ} {α : Type} {Q : α → sProp 𝕄}
    {κ : (Σ' (v197 : FVec F S576x256 .f32), BitVec 32) → Prog (TpuEff nD τ sig (Elt F) Λ₀ .tc) α}
    (hk : (held (c : Thread nD τ) (cells B (part19 i S arg0 k0_h3 v93 v152 v155 v156 v157 v158)) : sProp 𝕄) ⊢ wp frame (wpE (defs₀ (F := F)) Variants.none c none) E (κ ⟨part19_r0 i S arg0 k0_h3 v93 v152 v155 v156 v157 v158, part19_r1 i S arg0 k0_h3 v93 v152 v155 v156 v157 v158⟩) Q) :
    (held (c : Thread nD τ) (cells B S) : sProp 𝕄) ⊢ wp frame (wpE (defs₀ (F := F)) Variants.none c none) E
      (k0_part19 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 k0_h3 v93 v152 v155 v156 v157 v158 >>= κ) Q := by
  rw [k0_part19_eq_skeleton]
  unfold k0_part19_skel
  refine load 38 rfl ?_
  refine load 23 rfl ?_
  refine store 23 rfl _ (cells_put24 _ _ _ _ _) ?_
  refine load 40 rfl ?_
  refine load 35 rfl ?_
  refine load 20 rfl ?_
  refine load 21 rfl ?_
  exact ret_bind hk

/-- Value 0 returned by part 20. -/
def part20_r0 (i : grid0.Coords) (S : St F) (k0_h3 : k0_cond3 i = 1#1) (v93 : Elt F .f32) (v197 : FVec F S576x256 .f32) (v198 : BitVec 32) : FVec F S576x256 .f32 :=
  let v210 : Vec F S1x576x256 .bf16 := VecWindow.window S.a39 (k0_off8 i) S1x576x256.size (k0_off8_inb i k0_h3)
  let C1 : St F := S.put24 ![0, 0, 0, 512] S1x18x32x256.size (k0_pay78 v93 v197 v210)
  let v229 : Vec F S576x256 .bf16 := VecWindow.window C1.a41 ![0, 0] S576x256.size inb_S576x256_S576x256_0_0
  let v230 : Vec F S256x256 .bf16 := VecWindow.window C1.a36 ![0, 768] S256x256.size inb_S256x1024_S256x256_0_768
  k0_pay79 v229 v230

/-- Value 1 returned by part 20. -/
def part20_r1 (i : grid0.Coords) (S : St F) (k0_h3 : k0_cond3 i = 1#1) (v93 : Elt F .f32) (v197 : FVec F S576x256 .f32) (v198 : BitVec 32) : IVec S1x256 32 :=
  let v210 : Vec F S1x576x256 .bf16 := VecWindow.window S.a39 (k0_off8 i) S1x576x256.size (k0_off8_inb i k0_h3)
  let C1 : St F := S.put24 ![0, 0, 0, 512] S1x18x32x256.size (k0_pay78 v93 v197 v210)
  let v232 : Vec F S1x256 .i32 := VecWindow.window C1.a21 ![0, 768] S1x256.size inb_S1x1024_S1x256_0_768
  k0_pay80 v232

/-- Value 2 returned by part 20. -/
def part20_r2 (i : grid0.Coords) (S : St F) (k0_h3 : k0_cond3 i = 1#1) (v93 : Elt F .f32) (v197 : FVec F S576x256 .f32) (v198 : BitVec 32) : Vec F S1x256 .f32 :=
  let v210 : Vec F S1x576x256 .bf16 := VecWindow.window S.a39 (k0_off8 i) S1x576x256.size (k0_off8_inb i k0_h3)
  let C1 : St F := S.put24 ![0, 0, 0, 512] S1x18x32x256.size (k0_pay78 v93 v197 v210)
  let v234 : Vec F S1x256 .f32 := VecWindow.window C1.a22 ![0, 768] S1x256.size inb_S1x1024_S1x256_0_768
  v234

/-- The contents part 20 leaves. -/
def part20 (i : grid0.Coords) (S : St F) (k0_h3 : k0_cond3 i = 1#1) (v93 : Elt F .f32) (v197 : FVec F S576x256 .f32) (v198 : BitVec 32) : St F :=
  let v210 : Vec F S1x576x256 .bf16 := VecWindow.window S.a39 (k0_off8 i) S1x576x256.size (k0_off8_inb i k0_h3)
  let C1 : St F := S.put24 ![0, 0, 0, 512] S1x18x32x256.size (k0_pay78 v93 v197 v210)
  C1

theorem run_part20 {c : Dev nD} {i : grid0.Coords} {B : Bufs} {S : St F} {k0_h3 : k0_cond3 i = 1#1} {v93 : Elt F .f32} {v197 : FVec F S576x256 .f32} {v198 : BitVec 32} {E : Set ℕ} {α : Type} {Q : α → sProp 𝕄}
    {κ : (Σ' (v231 : FVec F S576x256 .f32) (v233 : IVec S1x256 32), Vec F S1x256 .f32) → Prog (TpuEff nD τ sig (Elt F) Λ₀ .tc) α}
    (hk : (held (c : Thread nD τ) (cells B (part20 i S k0_h3 v93 v197 v198)) : sProp 𝕄) ⊢ wp frame (wpE (defs₀ (F := F)) Variants.none c none) E (κ ⟨part20_r0 i S k0_h3 v93 v197 v198, part20_r1 i S k0_h3 v93 v197 v198, part20_r2 i S k0_h3 v93 v197 v198⟩) Q) :
    (held (c : Thread nD τ) (cells B S) : sProp 𝕄) ⊢ wp frame (wpE (defs₀ (F := F)) Variants.none c none) E
      (k0_part20 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 k0_h3 v93 v197 v198 >>= κ) Q := by
  rw [k0_part20_eq_skeleton]
  unfold k0_part20_skel
  refine load 38 rfl ?_
  refine load 23 rfl ?_
  refine store 23 rfl _ (cells_put24 _ _ _ _ _) ?_
  refine load 40 rfl ?_
  refine load 35 rfl ?_
  refine load 20 rfl ?_
  refine load 21 rfl ?_
  exact ret_bind hk

/-- Value 0 returned by part 21. -/
def part21_r0 (i : grid0.Coords) (S : St F) (arg0 : BitVec 32) (v0 : BitVec 32) (k0_h3 : k0_cond3 i = 1#1) : IVec S1x18x32x256 8 :=
  let v37 : FVec F S576x256 .bf16 := part15_r0 i S v0
  let v40 : FVec F S576x256 .bf16 := part15_r1 i S v0
  let v43 : FVec F S576x256 .bf16 := part15_r2 i S v0
  let v46 : FVec F S576x256 .bf16 := part15_r3 i S v0
  let v49 : FVec F S576x256 .bf16 := part15_r4 i S v0
  let C1 : St F := part15 i S v0
  let v82 : FVec F S576x256 .f32 := part16_r0 i C1 v37 v40 v43 v46 v49
  let v85 : IVec S18x32x256 8 := part16_r1 i C1 v37 v40 v43 v46 v49
  let v93 : Elt F .f32 := part17_r0 i C1 arg0 k0_h3 v82 v85
  let v107 : FVec F S576x256 .f32 := part17_r1 i C1 arg0 k0_h3 v82 v85
  let v120 : Vec F S1x576x256 .bf16 := part17_r2 i C1 arg0 k0_h3 v82 v85
  let C2 : St F := part17 i C1 arg0 k0_h3 v82 v85
  let v152 : FVec F S576x256 .f32 := part18_r0 i C2 arg0 v93 v107 v120
  let v155 : BitVec 32 := part18_r1 i C2 arg0 v93 v107 v120
  let v156 : BitVec 32 := part18_r2 i C2 arg0 v93 v107 v120
  let v157 : BitVec 1 := part18_r3 i C2 arg0 v93 v107 v120
  let v158 : BitVec 1 := part18_r4 i C2 arg0 v93 v107 v120
  let C3 : St F := part18 i C2 arg0 v93 v107 v120
  let v197 : FVec F S576x256 .f32 := part19_r0 i C3 arg0 k0_h3 v93 v152 v155 v156 v157 v158
  let v198 : BitVec 32 := part19_r1 i C3 arg0 k0_h3 v93 v152 v155 v156 v157 v158
  let C4 : St F := part19 i C3 arg0 k0_h3 v93 v152 v155 v156 v157 v158
  let v231 : FVec F S576x256 .f32 := part20_r0 i C4 k0_h3 v93 v197 v198
  let v233 : IVec S1x256 32 := part20_r1 i C4 k0_h3 v93 v197 v198
  let v234 : Vec F S1x256 .f32 := part20_r2 i C4 k0_h3 v93 v197 v198
  let C5 : St F := part20 i C4 k0_h3 v93 v197 v198
  let v255 : Vec F S1x576x256 .bf16 := VecWindow.window C5.a39 (k0_off9 i) S1x576x256.size (k0_off9_inb i k0_h3)
  (k0_pay81 v93 v231 v233 v234 v255)

/-- The contents part 21 leaves. -/
def part21 (i : grid0.Coords) (S : St F) (arg0 : BitVec 32) (v0 : BitVec 32) (k0_h3 : k0_cond3 i = 1#1) : St F :=
  let v37 : FVec F S576x256 .bf16 := part15_r0 i S v0
  let v40 : FVec F S576x256 .bf16 := part15_r1 i S v0
  let v43 : FVec F S576x256 .bf16 := part15_r2 i S v0
  let v46 : FVec F S576x256 .bf16 := part15_r3 i S v0
  let v49 : FVec F S576x256 .bf16 := part15_r4 i S v0
  let C1 : St F := part15 i S v0
  let v82 : FVec F S576x256 .f32 := part16_r0 i C1 v37 v40 v43 v46 v49
  let v85 : IVec S18x32x256 8 := part16_r1 i C1 v37 v40 v43 v46 v49
  let v93 : Elt F .f32 := part17_r0 i C1 arg0 k0_h3 v82 v85
  let v107 : FVec F S576x256 .f32 := part17_r1 i C1 arg0 k0_h3 v82 v85
  let v120 : Vec F S1x576x256 .bf16 := part17_r2 i C1 arg0 k0_h3 v82 v85
  let C2 : St F := part17 i C1 arg0 k0_h3 v82 v85
  let v152 : FVec F S576x256 .f32 := part18_r0 i C2 arg0 v93 v107 v120
  let v155 : BitVec 32 := part18_r1 i C2 arg0 v93 v107 v120
  let v156 : BitVec 32 := part18_r2 i C2 arg0 v93 v107 v120
  let v157 : BitVec 1 := part18_r3 i C2 arg0 v93 v107 v120
  let v158 : BitVec 1 := part18_r4 i C2 arg0 v93 v107 v120
  let C3 : St F := part18 i C2 arg0 v93 v107 v120
  let v197 : FVec F S576x256 .f32 := part19_r0 i C3 arg0 k0_h3 v93 v152 v155 v156 v157 v158
  let v198 : BitVec 32 := part19_r1 i C3 arg0 k0_h3 v93 v152 v155 v156 v157 v158
  let C4 : St F := part19 i C3 arg0 k0_h3 v93 v152 v155 v156 v157 v158
  let C5 : St F := part20 i C4 k0_h3 v93 v197 v198
  C5

theorem run_part21 {c : Dev nD} {i : grid0.Coords} {B : Bufs} {S : St F} {arg0 : BitVec 32} {v0 : BitVec 32} {k0_h3 : k0_cond3 i = 1#1} {E : Set ℕ} {α : Type} {Q : α → sProp 𝕄}
    {κ : (IVec S1x18x32x256 8) → Prog (TpuEff nD τ sig (Elt F) Λ₀ .tc) α}
    (hk : (held (c : Thread nD τ) (cells B (part21 i S arg0 v0 k0_h3)) : sProp 𝕄) ⊢ wp frame (wpE (defs₀ (F := F)) Variants.none c none) E (κ (part21_r0 i S arg0 v0 k0_h3)) Q) :
    (held (c : Thread nD τ) (cells B S) : sProp 𝕄) ⊢ wp frame (wpE (defs₀ (F := F)) Variants.none c none) E
      (k0_part21 i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41 arg0 v0 k0_h3 >>= κ) Q := by
  rw [k0_part21_eq_skeleton]
  unfold k0_part21_skel
  refine assoc (run_part15 ?_)
  refine assoc (run_part16 ?_)
  refine assoc (run_part17 ?_)
  refine assoc (run_part18 ?_)
  refine assoc (run_part19 ?_)
  refine assoc (run_part20 ?_)
  refine load 38 rfl ?_
  refine load 23 rfl ?_
  exact ret_bind hk

end Cert.KernelIdeal.Hand

end
-- ==== Proof.KernelIdeal.Body.lean ====
/-
  THE BODY AS A FUNCTION OF THE CONTENTS: `step i S` is what the body at grid point `i` leaves of `S`, and `run_body` that it does.
-/
module

public import proofs.«01_k».proof.Proof.KernelIdeal.Parts

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Held

variable {F : FTy → Type} [FloatOps F]

local notation "𝕄" => MT nD τ sig Unit (Elt F) ℕ (UR sig nD τ) ℕ

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81

/-- The grid point is the first. -/
abbrev k0c0 (i : grid0.Coords) : Prop :=
  (Scalar.cmpi .ne (Scalar.extui (Scalar.cmpi .eq (BitVec.ofNat 32 (i 0).val) 0#32)) 0#32) = 1#1

/-- The first grid point: the weights are copied into scratch and the two line buffers are cleared. -/
def first (i : grid0.Coords) (S : St F)  : St F :=
  let v53 : FVec F S2304x256 .bf16 := part1_r0 i S
  let C1 : St F := part1 i S
  let C2 : St F := C1.put35 ![0, 0] S2304x256.size (k0_pay1 v53)
  let v57 : Vec F S256x1024 .i8 := VecWindow.window C2.a8 ![0, 0] S256x1024.size inb_S256x1024_S256x1024_0_0
  let C3 : St F := C2.put36 ![0, 0] S256x1024.size (k0_pay2 v57)
  let C4 : St F := C3.put37 ![0, 0, 0, 0] S3x38x32x256.size (k0_pay3 (F := F))
  let C5 : St F := C4.put40 ![0, 0, 0, 0] S4x20x32x256.size (k0_pay4 (F := F))
  C5

/-- The leading half of a step. -/
def lead (i : grid0.Coords) (S : St F) (k0_h2 : k0_cond2 i = 1#1) : St F :=
  let arg0 : BitVec 32 := BitVec.ofNat 32 (i 0).val
  let v0 : BitVec 32 := Scalar.remsi arg0 14#32
  let v58 : FVec F S576x256 .f32 := part2_r0 i S v0
  let v59 : IVec S576x256 32 := part2_r1 i S v0
  let C1 : St F := part2 i S v0
  let v93 : FVec F S576x256 .f32 := part3_r0 i C1 v58 v59
  let v96 : IVec S18x32x256 8 := part3_r1 i C1 v58 v59
  let C2 : St F := part3 i C1 v58 v59
  let v128 : FVec F S576x256 .f32 := part4_r0 i C2 v93 v96
  let v131 : IVec S18x32x256 8 := part4_r1 i C2 v93 v96
  let C3 : St F := part4 i C2 v93 v96
  let v163 : FVec F S576x256 .f32 := part5_r0 i C3 v128 v131
  let v166 : IVec S18x32x256 8 := part5_r1 i C3 v128 v131
  let C4 : St F := part5 i C3 v128 v131
  let v178 : FVec F S576x256 .bf16 := part6_r0 i C4 v163 v166
  let v182 : FVec F S576x256 .bf16 := part6_r1 i C4 v163 v166
  let v186 : FVec F S576x256 .bf16 := part6_r2 i C4 v163 v166
  let v190 : FVec F S576x256 .bf16 := part6_r3 i C4 v163 v166
  let v194 : FVec F S576x256 .bf16 := part6_r4 i C4 v163 v166
  let C5 : St F := part6 i C4 v163 v166
  let v225 : FVec F S576x256 .f32 := part7_r0 i C5 v178 v182 v186 v190 v194
  let c255_i32_163 : BitVec 32 := part7_r1 i C5 v178 v182 v186 v190 v194
  let v226 : F .f32 := part7_r2 i C5 v178 v182 v186 v190 v194
  let v246 : FVec F S576x512 .bf16 := part8_r0 i C5 v225 c255_i32_163 v226
  let v260 : FVec F S576x256 .f32 := part8_r1 i C5 v225 c255_i32_163 v226
  let v261 : Vec F S512x256 .bf16 := part8_r2 i C5 v225 c255_i32_163 v226
  let cst_186 : FVec F S576x256 .f32 := part8_r3 i C5 v225 c255_i32_163 v226
  let C6 : St F := part8 i C5 v225 c255_i32_163 v226
  let v302 : FVec F S1x576x256 .bf16 := part9_r0 i C6 arg0 k0_h2 v246 v260 v261 cst_186
  let C7 : St F := part9 i C6 arg0 k0_h2 v246 v260 v261 cst_186
  let v337 : FVec F S576x256 .f32 := part10_r0 i C7 k0_h2 v246 v302
  let v340 : IVec S18x32x256 8 := part10_r1 i C7 k0_h2 v246 v302
  let C8 : St F := part10 i C7 k0_h2 v246 v302
  let v372 : FVec F S576x256 .f32 := part11_r0 i C8 arg0 k0_h2 v246 v337 v340
  let v374 : FVec F S576x256 .f32 := part11_r1 i C8 arg0 k0_h2 v246 v337 v340
  let v375 : Vec F S1x256 .i32 := part11_r2 i C8 arg0 k0_h2 v246 v337 v340
  let C9 : St F := part11 i C8 arg0 k0_h2 v246 v337 v340
  let v415 : Vec F S576x256 .bf16 := part12_r0 i C9 arg0 k0_h2 v372 v374 v375
  let C10 : St F := part12 i C9 arg0 k0_h2 v372 v374 v375
  let v449 : FVec F S576x256 .f32 := part13_r0 i C10 v246 v415
  let v455 : IVec S1x18x32x256 8 := part13_r1 i C10 v246 v415
  let v487 : IVec S1x256 32 := part14_r0 i C10 arg0 k0_h2 v449 v455
  let v489 : FVec F S1x256 .f32 := part14_r1 i C10 arg0 k0_h2 v449 v455
  let v490 : FVec F S576x256 .f32 := part14_r2 i C10 arg0 k0_h2 v449 v455
  let C11 : St F := part14 i C10 arg0 k0_h2 v449 v455
  let C12 : St F := C11.put28 ![0, 0, 0, 0] S1x18x32x256.size (k0_pay6 v487 v489 v490)
  let C13 : St F := C12.put40 ![3, 1, 0, 0] S1x18x32x256.size (k0_pay7 v487 v489 v490)
  C13

/-- The trailing half of a step, which works on the rows the step before left. -/
def lag (i : grid0.Coords) (S : St F) (k0_h3 : k0_cond3 i = 1#1) : St F :=
  let arg0 : BitVec 32 := BitVec.ofNat 32 (i 0).val
  let v0 : BitVec 32 := Scalar.remsi arg0 14#32
  let v273 : IVec S1x18x32x256 8 := part21_r0 i S arg0 v0 k0_h3
  let C1 : St F := part21 i S arg0 v0 k0_h3
  let C2 : St F := C1.put24 ![0, 0, 0, 768] S1x18x32x256.size v273
  C2

/-- The end of every step: the line buffer of the last convolution is shifted. -/
def shift (i : grid0.Coords) (S : St F) : St F :=
  let v13 : Vec F S1x20x32x256 .bf16 := VecWindow.window S.a40 ![1, 0, 0, 0] S1x20x32x256.size inb_S4x20x32x256_S1x20x32x256_1_0_0_0
  let C1 : St F := S.put40 ![0, 0, 0, 0] S1x20x32x256.size (k0_pay8 i v13)
  let v20 : Vec F S1x20x32x256 .bf16 := VecWindow.window C1.a40 ![3, 0, 0, 0] S1x20x32x256.size inb_S4x20x32x256_S1x20x32x256_3_0_0_0
  let C2 : St F := C1.put40 ![1, 0, 0, 0] S1x20x32x256.size (k0_pay9 v20)
  C2

/-- What the body at a grid point leaves. -/
def step (i : grid0.Coords) (S : St F) : St F :=
  let S₁ := if h : k0c0 i then first i S else S
  let S₂ := if h : k0_cond2 i = 1#1 then lead i S₁ h else S₁
  let S₃ := if h : k0_cond3 i = 1#1 then lag i S₂ h else S₂
  shift i S₃

theorem run_body {c : Dev nD} {i : grid0.Coords} {B : Bufs} {S : St F} {E : Set ℕ} {Q : PUnit → sProp 𝕄}
    (hk : (held (c : Thread nD τ) (cells B (step i S)) : sProp 𝕄) ⊢ Q ⟨⟩) :
    (held (c : Thread nD τ) (cells B S) : sProp 𝕄) ⊢ wp frame (wpE (defs₀ (F := F)) Variants.none c none) E
      (cc0__body i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 B.arg25 B.harg25 B.arg26 B.harg26 B.arg27 B.harg27 B.arg28 B.harg28 B.arg29 B.harg29 B.arg30 B.harg30 B.arg31 B.harg31 B.arg32 B.harg32 B.arg33 B.harg33 B.arg34 B.harg34 B.arg35 B.harg35 B.arg36 B.harg36 B.arg37 B.harg37 B.arg38 B.harg38 B.arg39 B.harg39 B.arg40 B.harg40 B.arg41 B.harg41) Q := by
  rw [cc0__body_eq_skeleton, ← bind_pure (cc0__body_skel _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold cc0__body_skel
  dsimp only
  refine branch (c := (c : Thread nD τ)) (cells B (if h : k0c0 i then first i S else S)) ?_ (fun h => by rw [dif_neg h]) ?_
  · intro h hk
    rw [dif_pos h] at hk
    refine assoc (run_part1 ?_)
    refine store 34 rfl _ (cells_put35 _ _ _ _ _) ?_
    refine load 7 rfl ?_
    refine load 35 rfl ?_
    refine store 35 rfl _ (cells_put36 _ _ _ _ _) ?_
    refine load 36 rfl ?_
    refine store 36 rfl _ (cells_put37 _ _ _ _ _) ?_
    refine load 39 rfl ?_
    refine store 39 rfl _ (cells_put40 _ _ _ _ _) ?_
    exact hk
  refine branch (c := (c : Thread nD τ)) (cells B (if h : k0_cond2 i = 1#1 then lead i (if h : k0c0 i then first i S else S) h else (if h : k0c0 i then first i S else S))) ?_ (fun h => by rw [dif_neg h]) ?_
  · intro h hk
    rw [dif_pos h] at hk
    refine assoc (run_part2 ?_)
    refine assoc (run_part3 ?_)
    refine assoc (run_part4 ?_)
    refine assoc (run_part5 ?_)
    refine assoc (run_part6 ?_)
    refine assoc (run_part7 ?_)
    refine assoc (run_part8 ?_)
    refine assoc (run_part9 ?_)
    refine assoc (run_part10 ?_)
    refine assoc (run_part11 ?_)
    refine assoc (run_part12 ?_)
    refine assoc (run_part13 ?_)
    refine assoc (run_part14 ?_)
    refine load 27 rfl ?_
    refine store 27 rfl _ (cells_put28 _ _ _ _ _) ?_
    refine load 39 rfl ?_
    refine store 39 rfl _ (cells_put40 _ _ _ _ _) ?_
    exact hk
  refine branch (c := (c : Thread nD τ)) (cells B (if h : k0_cond3 i = 1#1 then lag i (if h : k0_cond2 i = 1#1 then lead i (if h : k0c0 i then first i S else S) h else (if h : k0c0 i then first i S else S)) h else (if h : k0_cond2 i = 1#1 then lead i (if h : k0c0 i then first i S else S) h else (if h : k0c0 i then first i S else S)))) ?_ (fun h => by rw [dif_neg h]) ?_
  · intro h hk
    rw [dif_pos h] at hk
    refine assoc (run_part21 ?_)
    refine store 23 rfl _ (cells_put24 _ _ _ _ _) ?_
    exact hk
  refine load 39 rfl ?_
  refine load 39 rfl ?_
  refine store 39 rfl _ (cells_put40 _ _ _ _ _) ?_
  refine load 39 rfl ?_
  refine load 39 rfl ?_
  refine store 39 rfl _ (cells_put40 _ _ _ _ _) ?_
  exact ret_bind (hk.trans (le_wp_ret _ _ _ _ _))

end Cert.KernelIdeal.Hand

end
-- ==== Proof.KernelIdeal.Track.lean ====
/-
  THE RUN OF THE KERNEL, FOR ANY INVARIANT. `Inv c n R` is what the scratch contents `R` meet before grid point `n`, `Rl w t X` what
  the block `X` that output `w` is left with at point `t` meets; whenever the body's step keeps both (`Keeps`), the kernel runs and every
  result is assembled from blocks meeting `Rl` (`run_track`). With nothing demanded of either this is the frame (`frame`).
-/
module

public import proofs.«01_k».proof.Proof.KernelIdeal.Body
public import Idealize.ShloMosaic.Lib.Pipeline.DatRel

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal.Gen Cert.Held

variable {F : FTy → Type} [FloatOps F]

local notation "𝕄" => MT nD τ sig Unit (Elt F) ℕ (UR sig nD τ) ℕ

/-- Contents of the inputs. -/
@[ext]
structure Ins (F : FTy → Type) where
  a1 : Shape.Idx S2x36x32x512 → Elt F .i8
  a2 : Shape.Idx S512x256 → Elt F .i8
  a3 : Shape.Idx S2304x256 → Elt F .i8
  a4 : Shape.Idx S256x1024 → Elt F .i8
  a5 : Shape.Idx S512x1024 → Elt F .i8
  a6 : Shape.Idx S1024x256 → Elt F .i8
  a7 : Shape.Idx S2304x256 → Elt F .i8
  a8 : Shape.Idx S256x1024 → Elt F .i8
  a9 : Shape.Idx S1x256 → Elt F .i32
  a10 : Shape.Idx S1x256 → Elt F .f32
  a11 : Shape.Idx S1x256 → Elt F .i32
  a12 : Shape.Idx S1x256 → Elt F .f32
  a13 : Shape.Idx S1x1024 → Elt F .i32
  a14 : Shape.Idx S1x1024 → Elt F .f32
  a15 : Shape.Idx S1x1024 → Elt F .i32
  a16 : Shape.Idx S1x1024 → Elt F .f32
  a17 : Shape.Idx S1x256 → Elt F .i32
  a18 : Shape.Idx S1x256 → Elt F .f32
  a19 : Shape.Idx S1x256 → Elt F .i32
  a20 : Shape.Idx S1x256 → Elt F .f32
  a21 : Shape.Idx S1x1024 → Elt F .i32
  a22 : Shape.Idx S1x1024 → Elt F .f32
  a23 : Shape.Idx S1 → Elt F .f32

/-- Contents of the outputs. -/
@[ext]
structure Outs (F : FTy → Type) where
  a24 : Shape.Idx S1x18x32x1024 → Elt F .i8
  a25 : Shape.Idx S1x18x32x1024 → Elt F .i8
  a26 : Shape.Idx S2x36x32x256 → Elt F .i8
  a27 : Shape.Idx S1x18x32x256 → Elt F .i8
  a28 : Shape.Idx S1x18x32x256 → Elt F .i8
  a29 : Shape.Idx S1x18x32x256 → Elt F .i8

/-- Contents of the scratch. -/
@[ext]
structure Scr (F : FTy → Type) where
  a30 : Shape.Idx S512x256 → Elt F .bf16
  a31 : Shape.Idx S2304x256 → Elt F .bf16
  a32 : Shape.Idx S256x1024 → Elt F .bf16
  a33 : Shape.Idx S512x1024 → Elt F .bf16
  a34 : Shape.Idx S1024x256 → Elt F .bf16
  a35 : Shape.Idx S2304x256 → Elt F .bf16
  a36 : Shape.Idx S256x1024 → Elt F .bf16
  a37 : Shape.Idx S3x38x32x256 → Elt F .bf16
  a38 : Shape.Idx S576x256 → Elt F .bf16
  a39 : Shape.Idx S2x576x1024 → Elt F .bf16
  a40 : Shape.Idx S4x20x32x256 → Elt F .bf16
  a41 : Shape.Idx S576x256 → Elt F .bf16

def St.ins (S : St F) : Ins F := ⟨S.a1, S.a2, S.a3, S.a4, S.a5, S.a6, S.a7, S.a8, S.a9, S.a10, S.a11, S.a12, S.a13, S.a14, S.a15, S.a16, S.a17, S.a18, S.a19, S.a20, S.a21, S.a22, S.a23⟩
def St.outs (S : St F) : Outs F := ⟨S.a24, S.a25, S.a26, S.a27, S.a28, S.a29⟩
def St.scr (S : St F) : Scr F := ⟨S.a30, S.a31, S.a32, S.a33, S.a34, S.a35, S.a36, S.a37, S.a38, S.a39, S.a40, S.a41⟩

/-- Contents of every buffer, from those of the inputs, the outputs and the scratch. -/
def mk (I : Ins F) (O : Outs F) (R : Scr F) : St F :=
  ⟨I.a1, I.a2, I.a3, I.a4, I.a5, I.a6, I.a7, I.a8, I.a9, I.a10, I.a11, I.a12, I.a13, I.a14, I.a15, I.a16, I.a17, I.a18, I.a19, I.a20, I.a21, I.a22, I.a23, O.a24, O.a25, O.a26, O.a27, O.a28, O.a29, R.a30, R.a31, R.a32, R.a33, R.a34, R.a35, R.a36, R.a37, R.a38, R.a39, R.a40, R.a41⟩

theorem ins_put24 (S : St F) (off size : Fin (Shape.rank S1x18x32x1024) → ℕ) (w : ((a : Fin (Shape.rank S1x18x32x1024)) → Fin (size a)) → Elt F .i8) : (S.put24 off size w).ins = S.ins := rfl
theorem ins_put25 (S : St F) (off size : Fin (Shape.rank S1x18x32x1024) → ℕ) (w : ((a : Fin (Shape.rank S1x18x32x1024)) → Fin (size a)) → Elt F .i8) : (S.put25 off size w).ins = S.ins := rfl
theorem ins_put26 (S : St F) (off size : Fin (Shape.rank S2x36x32x256) → ℕ) (w : ((a : Fin (Shape.rank S2x36x32x256)) → Fin (size a)) → Elt F .i8) : (S.put26 off size w).ins = S.ins := rfl
theorem ins_put27 (S : St F) (off size : Fin (Shape.rank S1x18x32x256) → ℕ) (w : ((a : Fin (Shape.rank S1x18x32x256)) → Fin (size a)) → Elt F .i8) : (S.put27 off size w).ins = S.ins := rfl
theorem ins_put28 (S : St F) (off size : Fin (Shape.rank S1x18x32x256) → ℕ) (w : ((a : Fin (Shape.rank S1x18x32x256)) → Fin (size a)) → Elt F .i8) : (S.put28 off size w).ins = S.ins := rfl
theorem ins_put29 (S : St F) (off size : Fin (Shape.rank S1x18x32x256) → ℕ) (w : ((a : Fin (Shape.rank S1x18x32x256)) → Fin (size a)) → Elt F .i8) : (S.put29 off size w).ins = S.ins := rfl
theorem ins_put30 (S : St F) (off size : Fin (Shape.rank S512x256) → ℕ) (w : ((a : Fin (Shape.rank S512x256)) → Fin (size a)) → Elt F .bf16) : (S.put30 off size w).ins = S.ins := rfl
theorem ins_put31 (S : St F) (off size : Fin (Shape.rank S2304x256) → ℕ) (w : ((a : Fin (Shape.rank S2304x256)) → Fin (size a)) → Elt F .bf16) : (S.put31 off size w).ins = S.ins := rfl
theorem ins_put32 (S : St F) (off size : Fin (Shape.rank S256x1024) → ℕ) (w : ((a : Fin (Shape.rank S256x1024)) → Fin (size a)) → Elt F .bf16) : (S.put32 off size w).ins = S.ins := rfl
theorem ins_put33 (S : St F) (off size : Fin (Shape.rank S512x1024) → ℕ) (w : ((a : Fin (Shape.rank S512x1024)) → Fin (size a)) → Elt F .bf16) : (S.put33 off size w).ins = S.ins := rfl
theorem ins_put34 (S : St F) (off size : Fin (Shape.rank S1024x256) → ℕ) (w : ((a : Fin (Shape.rank S1024x256)) → Fin (size a)) → Elt F .bf16) : (S.put34 off size w).ins = S.ins := rfl
theorem ins_put35 (S : St F) (off size : Fin (Shape.rank S2304x256) → ℕ) (w : ((a : Fin (Shape.rank S2304x256)) → Fin (size a)) → Elt F .bf16) : (S.put35 off size w).ins = S.ins := rfl
theorem ins_put36 (S : St F) (off size : Fin (Shape.rank S256x1024) → ℕ) (w : ((a : Fin (Shape.rank S256x1024)) → Fin (size a)) → Elt F .bf16) : (S.put36 off size w).ins = S.ins := rfl
theorem ins_put37 (S : St F) (off size : Fin (Shape.rank S3x38x32x256) → ℕ) (w : ((a : Fin (Shape.rank S3x38x32x256)) → Fin (size a)) → Elt F .bf16) : (S.put37 off size w).ins = S.ins := rfl
theorem ins_put38 (S : St F) (off size : Fin (Shape.rank S576x256) → ℕ) (w : ((a : Fin (Shape.rank S576x256)) → Fin (size a)) → Elt F .bf16) : (S.put38 off size w).ins = S.ins := rfl
theorem ins_put39 (S : St F) (off size : Fin (Shape.rank S2x576x1024) → ℕ) (w : ((a : Fin (Shape.rank S2x576x1024)) → Fin (size a)) → Elt F .bf16) : (S.put39 off size w).ins = S.ins := rfl
theorem ins_put40 (S : St F) (off size : Fin (Shape.rank S4x20x32x256) → ℕ) (w : ((a : Fin (Shape.rank S4x20x32x256)) → Fin (size a)) → Elt F .bf16) : (S.put40 off size w).ins = S.ins := rfl
theorem ins_put41 (S : St F) (off size : Fin (Shape.rank S576x256) → ℕ) (w : ((a : Fin (Shape.rank S576x256)) → Fin (size a)) → Elt F .bf16) : (S.put41 off size w).ins = S.ins := rfl
theorem ins_part1 (i : grid0.Coords) (S : St F)  : (part1 i S).ins = S.ins := by
  unfold part1; extract_lets; exact (ins_put34 _ _ _ _).trans <| (ins_put33 _ _ _ _).trans <| (ins_put32 _ _ _ _).trans <| (ins_put31 _ _ _ _).trans <| ins_put30 _ _ _ _
theorem ins_part2 (i : grid0.Coords) (S : St F) (v0 : BitVec 32) : (part2 i S v0).ins = S.ins := by
  unfold part2; extract_lets; exact ins_put37 _ _ _ _
theorem ins_part3 (i : grid0.Coords) (S : St F) (v58 : FVec F S576x256 .f32) (v59 : IVec S576x256 32) : (part3 i S v58 v59).ins = S.ins := by
  unfold part3; extract_lets; exact (ins_put37 _ _ _ _).trans <| ins_put26 _ _ _ _
theorem ins_part4 (i : grid0.Coords) (S : St F) (v93 : FVec F S576x256 .f32) (v96 : IVec S18x32x256 8) : (part4 i S v93 v96).ins = S.ins := by
  unfold part4; extract_lets; exact (ins_put37 _ _ _ _).trans <| ins_put26 _ _ _ _
theorem ins_part5 (i : grid0.Coords) (S : St F) (v128 : FVec F S576x256 .f32) (v131 : IVec S18x32x256 8) : (part5 i S v128 v131).ins = S.ins := by
  unfold part5; extract_lets; exact (ins_put37 _ _ _ _).trans <| ins_put26 _ _ _ _
theorem ins_part6 (i : grid0.Coords) (S : St F) (v163 : FVec F S576x256 .f32) (v166 : IVec S18x32x256 8) : (part6 i S v163 v166).ins = S.ins := by
  unfold part6; extract_lets; exact (ins_put37 _ _ _ _).trans <| ins_put26 _ _ _ _
theorem ins_part8 (i : grid0.Coords) (S : St F) (v225 : FVec F S576x256 .f32) (c255_i32_163 : BitVec 32) (v226 : F .f32) : (part8 i S v225 c255_i32_163 v226).ins = S.ins := by
  unfold part8; extract_lets; exact (ins_put38 _ _ _ _).trans <| ins_put27 _ _ _ _
theorem ins_part9 (i : grid0.Coords) (S : St F) (arg0 : BitVec 32) (k0_h2 : k0_cond2 i = 1#1) (v246 : FVec F S576x512 .bf16) (v260 : FVec F S576x256 .f32) (v261 : Vec F S512x256 .bf16) (cst_186 : FVec F S576x256 .f32) : (part9 i S arg0 k0_h2 v246 v260 v261 cst_186).ins = S.ins := by
  unfold part9; extract_lets; exact ins_put25 _ _ _ _
theorem ins_part10 (i : grid0.Coords) (S : St F) (k0_h2 : k0_cond2 i = 1#1) (v246 : FVec F S576x512 .bf16) (v302 : FVec F S1x576x256 .bf16) : (part10 i S k0_h2 v246 v302).ins = S.ins := by
  unfold part10; extract_lets; exact ins_put39 _ _ _ _
theorem ins_part11 (i : grid0.Coords) (S : St F) (arg0 : BitVec 32) (k0_h2 : k0_cond2 i = 1#1) (v246 : FVec F S576x512 .bf16) (v337 : FVec F S576x256 .f32) (v340 : IVec S18x32x256 8) : (part11 i S arg0 k0_h2 v246 v337 v340).ins = S.ins := by
  unfold part11; extract_lets; exact (ins_put39 _ _ _ _).trans <| ins_put25 _ _ _ _
theorem ins_part12 (i : grid0.Coords) (S : St F) (arg0 : BitVec 32) (k0_h2 : k0_cond2 i = 1#1) (v372 : FVec F S576x256 .f32) (v374 : FVec F S576x256 .f32) (v375 : Vec F S1x256 .i32) : (part12 i S arg0 k0_h2 v372 v374 v375).ins = S.ins := by
  unfold part12; extract_lets; exact (ins_put39 _ _ _ _).trans <| ins_put25 _ _ _ _
theorem ins_part14 (i : grid0.Coords) (S : St F) (arg0 : BitVec 32) (k0_h2 : k0_cond2 i = 1#1) (v449 : FVec F S576x256 .f32) (v455 : IVec S1x18x32x256 8) : (part14 i S arg0 k0_h2 v449 v455).ins = S.ins := by
  unfold part14; extract_lets; exact (ins_put39 _ _ _ _).trans <| ins_put25 _ _ _ _
theorem ins_part15 (i : grid0.Coords) (S : St F) (v0 : BitVec 32) : (part15 i S v0).ins = S.ins := by
  unfold part15; extract_lets; exact ins_put40 _ _ _ _
theorem ins_part17 (i : grid0.Coords) (S : St F) (arg0 : BitVec 32) (k0_h3 : k0_cond3 i = 1#1) (v82 : FVec F S576x256 .f32) (v85 : IVec S18x32x256 8) : (part17 i S arg0 k0_h3 v82 v85).ins = S.ins := by
  unfold part17; extract_lets; exact (ins_put41 _ _ _ _).trans <| ins_put29 _ _ _ _
theorem ins_part18 (i : grid0.Coords) (S : St F) (arg0 : BitVec 32) (v93 : Elt F .f32) (v107 : FVec F S576x256 .f32) (v120 : Vec F S1x576x256 .bf16) : (part18 i S arg0 v93 v107 v120).ins = S.ins := by
  unfold part18; extract_lets; exact ins_put24 _ _ _ _
theorem ins_part19 (i : grid0.Coords) (S : St F) (arg0 : BitVec 32) (k0_h3 : k0_cond3 i = 1#1) (v93 : Elt F .f32) (v152 : FVec F S576x256 .f32) (v155 : BitVec 32) (v156 : BitVec 32) (v157 : BitVec 1) (v158 : BitVec 1) : (part19 i S arg0 k0_h3 v93 v152 v155 v156 v157 v158).ins = S.ins := by
  unfold part19; extract_lets; exact ins_put24 _ _ _ _
theorem ins_part20 (i : grid0.Coords) (S : St F) (k0_h3 : k0_cond3 i = 1#1) (v93 : Elt F .f32) (v197 : FVec F S576x256 .f32) (v198 : BitVec 32) : (part20 i S k0_h3 v93 v197 v198).ins = S.ins := by
  unfold part20; extract_lets; exact ins_put24 _ _ _ _
theorem ins_part21 (i : grid0.Coords) (S : St F) (arg0 : BitVec 32) (v0 : BitVec 32) (k0_h3 : k0_cond3 i = 1#1) : (part21 i S arg0 v0 k0_h3).ins = S.ins := by
  unfold part21; extract_lets; exact (ins_part20 _ _ _ _ _ _).trans <| (ins_part19 _ _ _ _ _ _ _ _ _ _).trans <| (ins_part18 _ _ _ _ _ _).trans <| (ins_part17 _ _ _ _ _ _).trans <| ins_part15 _ _ _
theorem ins_first (i : grid0.Coords) (S : St F)  : (first i S).ins = S.ins := by
  unfold first; extract_lets; exact (ins_put40 _ _ _ _).trans <| (ins_put37 _ _ _ _).trans <| (ins_put36 _ _ _ _).trans <| (ins_put35 _ _ _ _).trans <| ins_part1 _ _
theorem ins_lead (i : grid0.Coords) (S : St F) (k0_h2 : k0_cond2 i = 1#1) : (lead i S k0_h2).ins = S.ins := by
  unfold lead; extract_lets; exact (ins_put40 _ _ _ _).trans <| (ins_put28 _ _ _ _).trans <| (ins_part14 _ _ _ _ _ _).trans <| (ins_part12 _ _ _ _ _ _ _).trans <| (ins_part11 _ _ _ _ _ _ _).trans <| (ins_part10 _ _ _ _ _).trans <| (ins_part9 _ _ _ _ _ _ _ _).trans <| (ins_part8 _ _ _ _ _).trans <| (ins_part6 _ _ _ _).trans <| (ins_part5 _ _ _ _).trans <| (ins_part4 _ _ _ _).trans <| (ins_part3 _ _ _ _).trans <| ins_part2 _ _ _
theorem ins_lag (i : grid0.Coords) (S : St F) (k0_h3 : k0_cond3 i = 1#1) : (lag i S k0_h3).ins = S.ins := by
  unfold lag; extract_lets; exact (ins_put24 _ _ _ _).trans <| ins_part21 _ _ _ _ _
theorem ins_shift (i : grid0.Coords) (S : St F) : (shift i S).ins = S.ins := by
  unfold shift; extract_lets; exact (ins_put40 _ _ _ _).trans <| ins_put40 _ _ _ _

/-- The body leaves the inputs. -/
theorem ins_step (i : grid0.Coords) (S : St F) : (step i S).ins = S.ins := by
  unfold step
  dsimp only
  rw [ins_shift]
  split
  · rw [ins_lag]; split
    · rw [ins_lead]; split
      · rw [ins_first]
      · rfl
    · split
      · rw [ins_first]
      · rfl
  · split
    · rw [ins_lead]; split
      · rw [ins_first]
      · rfl
    · split
      · rw [ins_first]
      · rfl

abbrev ms0_0 (t : Fin cfg0.N) : Memref sig .tc .vmem S2x36x32x512 .i8 := win0_0.stage (cfg0.slots t 0)
abbrev ms0_1 (t : Fin cfg0.N) : Memref sig .tc .vmem S512x256 .i8 := win0_1.stage (cfg0.slots t 1)
abbrev ms0_2 (t : Fin cfg0.N) : Memref sig .tc .vmem S2304x256 .i8 := win0_2.stage (cfg0.slots t 2)
abbrev ms0_3 (t : Fin cfg0.N) : Memref sig .tc .vmem S256x1024 .i8 := win0_3.stage (cfg0.slots t 3)
abbrev ms0_4 (t : Fin cfg0.N) : Memref sig .tc .vmem S512x1024 .i8 := win0_4.stage (cfg0.slots t 4)
abbrev ms0_5 (t : Fin cfg0.N) : Memref sig .tc .vmem S1024x256 .i8 := win0_5.stage (cfg0.slots t 5)
abbrev ms0_6 (t : Fin cfg0.N) : Memref sig .tc .vmem S2304x256 .i8 := win0_6.stage (cfg0.slots t 6)
abbrev ms0_7 (t : Fin cfg0.N) : Memref sig .tc .vmem S256x1024 .i8 := win0_7.stage (cfg0.slots t 7)
abbrev ms0_8 (t : Fin cfg0.N) : Memref sig .tc .vmem S1x256 .i32 := win0_8.stage (cfg0.slots t 8)
abbrev ms0_9 (t : Fin cfg0.N) : Memref sig .tc .vmem S1x256 .f32 := win0_9.stage (cfg0.slots t 9)
abbrev ms0_10 (t : Fin cfg0.N) : Memref sig .tc .vmem S1x256 .i32 := win0_10.stage (cfg0.slots t 10)
abbrev ms0_11 (t : Fin cfg0.N) : Memref sig .tc .vmem S1x256 .f32 := win0_11.stage (cfg0.slots t 11)
abbrev ms0_12 (t : Fin cfg0.N) : Memref sig .tc .vmem S1x1024 .i32 := win0_12.stage (cfg0.slots t 12)
abbrev ms0_13 (t : Fin cfg0.N) : Memref sig .tc .vmem S1x1024 .f32 := win0_13.stage (cfg0.slots t 13)
abbrev ms0_14 (t : Fin cfg0.N) : Memref sig .tc .vmem S1x1024 .i32 := win0_14.stage (cfg0.slots t 14)
abbrev ms0_15 (t : Fin cfg0.N) : Memref sig .tc .vmem S1x1024 .f32 := win0_15.stage (cfg0.slots t 15)
abbrev ms0_16 (t : Fin cfg0.N) : Memref sig .tc .vmem S1x256 .i32 := win0_16.stage (cfg0.slots t 16)
abbrev ms0_17 (t : Fin cfg0.N) : Memref sig .tc .vmem S1x256 .f32 := win0_17.stage (cfg0.slots t 17)
abbrev ms0_18 (t : Fin cfg0.N) : Memref sig .tc .vmem S1x256 .i32 := win0_18.stage (cfg0.slots t 18)
abbrev ms0_19 (t : Fin cfg0.N) : Memref sig .tc .vmem S1x256 .f32 := win0_19.stage (cfg0.slots t 19)
abbrev ms0_20 (t : Fin cfg0.N) : Memref sig .tc .vmem S1x1024 .i32 := win0_20.stage (cfg0.slots t 20)
abbrev ms0_21 (t : Fin cfg0.N) : Memref sig .tc .vmem S1x1024 .f32 := win0_21.stage (cfg0.slots t 21)
abbrev ms0_22 (t : Fin cfg0.N) : Memref sig .tc .smem S1 .f32 := win0_22.stage (cfg0.slots t 22)
abbrev ms0_23 (t : Fin cfg0.N) : Memref sig .tc .vmem S1x18x32x1024 .i8 := win0_23.stage (cfg0.slots t 23)
abbrev ms0_24 (t : Fin cfg0.N) : Memref sig .tc .vmem S1x18x32x1024 .i8 := win0_24.stage (cfg0.slots t 24)
abbrev ms0_25 (t : Fin cfg0.N) : Memref sig .tc .vmem S2x36x32x256 .i8 := win0_25.stage (cfg0.slots t 25)
abbrev ms0_26 (t : Fin cfg0.N) : Memref sig .tc .vmem S1x18x32x256 .i8 := win0_26.stage (cfg0.slots t 26)
abbrev ms0_27 (t : Fin cfg0.N) : Memref sig .tc .vmem S1x18x32x256 .i8 := win0_27.stage (cfg0.slots t 27)
abbrev ms0_28 (t : Fin cfg0.N) : Memref sig .tc .vmem S1x18x32x256 .i8 := win0_28.stage (cfg0.slots t 28)
abbrev scM0_0 : Memref sig .tc .vmem S512x256 .bf16 := Memref.whole cc0_scratch0
abbrev scM0_1 : Memref sig .tc .vmem S2304x256 .bf16 := Memref.whole cc0_scratch1
abbrev scM0_2 : Memref sig .tc .vmem S256x1024 .bf16 := Memref.whole cc0_scratch2
abbrev scM0_3 : Memref sig .tc .vmem S512x1024 .bf16 := Memref.whole cc0_scratch3
abbrev scM0_4 : Memref sig .tc .vmem S1024x256 .bf16 := Memref.whole cc0_scratch4
abbrev scM0_5 : Memref sig .tc .vmem S2304x256 .bf16 := Memref.whole cc0_scratch5
abbrev scM0_6 : Memref sig .tc .vmem S256x1024 .bf16 := Memref.whole cc0_scratch6
abbrev scM0_7 : Memref sig .tc .vmem S3x38x32x256 .bf16 := Memref.whole cc0_scratch7
abbrev scM0_8 : Memref sig .tc .vmem S576x256 .bf16 := Memref.whole cc0_scratch8
abbrev scM0_9 : Memref sig .tc .vmem S2x576x1024 .bf16 := Memref.whole cc0_scratch9
abbrev scM0_10 : Memref sig .tc .vmem S4x20x32x256 .bf16 := Memref.whole cc0_scratch10
abbrev scM0_11 : Memref sig .tc .vmem S576x256 .bf16 := Memref.whole cc0_scratch11

/-- The buffers the body is handed at point `t`. -/
def bufs (t : Fin cfg0.N) : Bufs where
  arg1 := ms0_0 t
  harg1 := hstage0_0 ((cfg0.slots t 0).cast nbuf0_0)
  arg2 := ms0_1 t
  harg2 := hstage0_1 ((cfg0.slots t 1).cast nbuf0_1)
  arg3 := ms0_2 t
  harg3 := hstage0_2 ((cfg0.slots t 2).cast nbuf0_2)
  arg4 := ms0_3 t
  harg4 := hstage0_3 ((cfg0.slots t 3).cast nbuf0_3)
  arg5 := ms0_4 t
  harg5 := hstage0_4 ((cfg0.slots t 4).cast nbuf0_4)
  arg6 := ms0_5 t
  harg6 := hstage0_5 ((cfg0.slots t 5).cast nbuf0_5)
  arg7 := ms0_6 t
  harg7 := hstage0_6 ((cfg0.slots t 6).cast nbuf0_6)
  arg8 := ms0_7 t
  harg8 := hstage0_7 ((cfg0.slots t 7).cast nbuf0_7)
  arg9 := ms0_8 t
  harg9 := hstage0_8 ((cfg0.slots t 8).cast nbuf0_8)
  arg10 := ms0_9 t
  harg10 := hstage0_9 ((cfg0.slots t 9).cast nbuf0_9)
  arg11 := ms0_10 t
  harg11 := hstage0_10 ((cfg0.slots t 10).cast nbuf0_10)
  arg12 := ms0_11 t
  harg12 := hstage0_11 ((cfg0.slots t 11).cast nbuf0_11)
  arg13 := ms0_12 t
  harg13 := hstage0_12 ((cfg0.slots t 12).cast nbuf0_12)
  arg14 := ms0_13 t
  harg14 := hstage0_13 ((cfg0.slots t 13).cast nbuf0_13)
  arg15 := ms0_14 t
  harg15 := hstage0_14 ((cfg0.slots t 14).cast nbuf0_14)
  arg16 := ms0_15 t
  harg16 := hstage0_15 ((cfg0.slots t 15).cast nbuf0_15)
  arg17 := ms0_16 t
  harg17 := hstage0_16 ((cfg0.slots t 16).cast nbuf0_16)
  arg18 := ms0_17 t
  harg18 := hstage0_17 ((cfg0.slots t 17).cast nbuf0_17)
  arg19 := ms0_18 t
  harg19 := hstage0_18 ((cfg0.slots t 18).cast nbuf0_18)
  arg20 := ms0_19 t
  harg20 := hstage0_19 ((cfg0.slots t 19).cast nbuf0_19)
  arg21 := ms0_20 t
  harg21 := hstage0_20 ((cfg0.slots t 20).cast nbuf0_20)
  arg22 := ms0_21 t
  harg22 := hstage0_21 ((cfg0.slots t 21).cast nbuf0_21)
  arg23 := ms0_22 t
  harg23 := hstage0_22 ((cfg0.slots t 22).cast nbuf0_22)
  arg24 := ms0_23 t
  harg24 := hstage0_23 ((cfg0.slots t 23).cast nbuf0_23)
  arg25 := ms0_24 t
  harg25 := hstage0_24 ((cfg0.slots t 24).cast nbuf0_24)
  arg26 := ms0_25 t
  harg26 := hstage0_25 ((cfg0.slots t 25).cast nbuf0_25)
  arg27 := ms0_26 t
  harg27 := hstage0_26 ((cfg0.slots t 26).cast nbuf0_26)
  arg28 := ms0_27 t
  harg28 := hstage0_27 ((cfg0.slots t 27).cast nbuf0_27)
  arg29 := ms0_28 t
  harg29 := hstage0_28 ((cfg0.slots t 28).cast nbuf0_28)
  arg30 := scM0_0
  harg30 := Memref.isWhole_whole _
  arg31 := scM0_1
  harg31 := Memref.isWhole_whole _
  arg32 := scM0_2
  harg32 := Memref.isWhole_whole _
  arg33 := scM0_3
  harg33 := Memref.isWhole_whole _
  arg34 := scM0_4
  harg34 := Memref.isWhole_whole _
  arg35 := scM0_5
  harg35 := Memref.isWhole_whole _
  arg36 := scM0_6
  harg36 := Memref.isWhole_whole _
  arg37 := scM0_7
  harg37 := Memref.isWhole_whole _
  arg38 := scM0_8
  harg38 := Memref.isWhole_whole _
  arg39 := scM0_9
  harg39 := Memref.isWhole_whole _
  arg40 := scM0_10
  harg40 := Memref.isWhole_whole _
  arg41 := scM0_11
  harg41 := Memref.isWhole_whole _

variable (m : (ℓ : Loc nD τ sig) → Buf (Elt F) ℓ) (ρ : Dev nD → PrngReg)

/-- The scratch at contents `R`. -/
def scrOwn (c : Dev nD) (R : Scr F) : sProp 𝕄 :=
  iprop(owns (c : Thread nD τ) scM0_0 fullShare R.a30 ∗ owns (c : Thread nD τ) scM0_1 fullShare R.a31 ∗ owns (c : Thread nD τ) scM0_2 fullShare R.a32 ∗ owns (c : Thread nD τ) scM0_3 fullShare R.a33 ∗ owns (c : Thread nD τ) scM0_4 fullShare R.a34 ∗ owns (c : Thread nD τ) scM0_5 fullShare R.a35 ∗ owns (c : Thread nD τ) scM0_6 fullShare R.a36 ∗ owns (c : Thread nD τ) scM0_7 fullShare R.a37 ∗ owns (c : Thread nD τ) scM0_8 fullShare R.a38 ∗ owns (c : Thread nD τ) scM0_9 fullShare R.a39 ∗ owns (c : Thread nD τ) scM0_10 fullShare R.a40 ∗ owns (c : Thread nD τ) scM0_11 fullShare R.a41)

/-- What holds before a grid point: the scratch at contents meeting the invariant, and the generator's register. -/
def Phi (Inv : Dev nD → ℕ → Scr F → Prop) (c : Dev nD) (n : ℕ) : sProp 𝕄 :=
  iprop((∃ R, ⌜Inv c n R⌝ ∗ scrOwn c R) ∗ (∃ r, prngReg c r))

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, owns_whole]; try rfl

/-- The input blocks at point `t`. -/
def insAt (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t⟩

/-- The proof data: each input's block stays, the outputs' are described by `Rl`. -/
def dat (Inv : Dev nD → ℕ → Scr F → Prop) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨_ + 29, h⟩ => absurd h (Nat.not_lt.2 (Nat.le_add_left _ _))
  Φ t := Phi Inv c t.val
  q _ := fullShare
  owed _ := 0

theorem dat_A (Inv : Dev nD → ℕ → Scr F → Prop) (c : Dev nD) (w : Fin cfg0.W) : (dat m Inv c).A w = V m c (Pipeline.arrRef spec0 w) := by
  dsimp only [dat]

theorem after0_0 (Inv : Dev nD → ℕ → Scr F → Prop) (c : Dev nD) (t : Fin cfg0.N) : (dat m Inv c).after 0 t = iblk m c 0 t := by dsimp only [dat]
theorem before0_0 (Inv : Dev nD → ℕ → Scr F → Prop) (c : Dev nD) (t : Fin cfg0.N) (d) : (dat m Inv c).before 0 t d = iblk m c 0 t :=
  before0_0_of m (dat m Inv c) (dat_A m Inv c 0) (after0_0 m Inv c) t d
theorem after0_1 (Inv : Dev nD → ℕ → Scr F → Prop) (c : Dev nD) (t : Fin cfg0.N) : (dat m Inv c).after 1 t = iblk m c 1 t := by dsimp only [dat]
theorem before0_1 (Inv : Dev nD → ℕ → Scr F → Prop) (c : Dev nD) (t : Fin cfg0.N) (d) : (dat m Inv c).before 1 t d = iblk m c 1 t :=
  before0_1_of m (dat m Inv c) (dat_A m Inv c 1) (after0_1 m Inv c) t d
theorem after0_2 (Inv : Dev nD → ℕ → Scr F → Prop) (c : Dev nD) (t : Fin cfg0.N) : (dat m Inv c).after 2 t = iblk m c 2 t := by dsimp only [dat]
theorem before0_2 (Inv : Dev nD → ℕ → Scr F → Prop) (c : Dev nD) (t : Fin cfg0.N) (d) : (dat m Inv c).before 2 t d = iblk m c 2 t :=
  before0_2_of m (dat m Inv c) (dat_A m Inv c 2) (after0_2 m Inv c) t d
theorem after0_3 (Inv : Dev nD → ℕ → Scr F → Prop) (c : Dev nD) (t : Fin cfg0.N) : (dat m Inv c).after 3 t = iblk m c 3 t := by dsimp only [dat]
theorem before0_3 (Inv : Dev nD → ℕ → Scr F → Prop) (c : Dev nD) (t : Fin cfg0.N) (d) : (dat m Inv c).before 3 t d = iblk m c 3 t :=
  before0_3_of m (dat m Inv c) (dat_A m Inv c 3) (after0_3 m Inv c) t d
theorem after0_4 (Inv : Dev nD → ℕ → Scr F → Prop) (c : Dev nD) (t : Fin cfg0.N) : (dat m Inv c).after 4 t = iblk m c 4 t := by dsimp only [dat]
theorem before0_4 (Inv : Dev nD → ℕ → Scr F → Prop) (c : Dev nD) (t : Fin cfg0.N) (d) : (dat m Inv c).before 4 t d = iblk m c 4 t :=
  before0_4_of m (dat m Inv c) (dat_A m Inv c 4) (after0_4 m Inv c) t d
theorem after0_5 (Inv : Dev nD → ℕ → Scr F → Prop) (c : Dev nD) (t : Fin cfg0.N) : (dat m Inv c).after 5 t = iblk m c 5 t := by dsimp only [dat]
theorem before0_5 (Inv : Dev nD → ℕ → Scr F → Prop) (c : Dev nD) (t : Fin cfg0.N) (d) : (dat m Inv c).before 5 t d = iblk m c 5 t :=
  before0_5_of m (dat m Inv c) (dat_A m Inv c 5) (after0_5 m Inv c) t d
theorem after0_6 (Inv : Dev nD → ℕ → Scr F → Prop) (c : Dev nD) (t : Fin cfg0.N) : (dat m Inv c).after 6 t = iblk m c 6 t := by dsimp only [dat]
theorem before0_6 (Inv : Dev nD → ℕ → Scr F → Prop) (c : Dev nD) (t : Fin cfg0.N) (d) : (dat m Inv c).before 6 t d = iblk m c 6 t :=
  before0_6_of m (dat m Inv c) (dat_A m Inv c 6) (after0_6 m Inv c) t d
theorem after0_7 (Inv : Dev nD → ℕ → Scr F → Prop) (c : Dev nD) (t : Fin cfg0.N) : (dat m Inv c).after 7 t = iblk m c 7 t := by dsimp only [dat]
theorem before0_7 (Inv : Dev nD → ℕ → Scr F → Prop) (c : Dev nD) (t : Fin cfg0.N) (d) : (dat m Inv c).before 7 t d = iblk m c 7 t :=
  before0_7_of m (dat m Inv c) (dat_A m Inv c 7) (after0_7 m Inv c) t d
theorem after0_8 (Inv : Dev nD → ℕ → Scr F → Prop) (c : Dev nD) (t : Fin cfg0.N) : (dat m Inv c).after 8 t = iblk m c 8 t := by dsimp only [dat]
theorem before0_8 (Inv : Dev nD → ℕ → Scr F → Prop) (c : Dev nD) (t : Fin cfg0.N) (d) : (dat m Inv c).before 8 t d = iblk m c 8 t :=
  before0_8_of m (dat m Inv c) (dat_A m Inv c 8) (after0_8 m Inv c) t d
theorem after0_9 (Inv : Dev nD → ℕ → Scr F → Prop) (c : Dev nD) (t : Fin cfg0.N) : (dat m Inv c).after 9 t = iblk m c 9 t := by dsimp only [dat]
theorem before0_9 (Inv : Dev nD → ℕ → Scr F → Prop) (c : Dev nD) (t : Fin cfg0.N) (d) : (dat m Inv c).before 9 t d = iblk m c 9 t :=
  before0_9_of m (dat m Inv c) (dat_A m Inv c 9) (after0_9 m Inv c) t d
theorem after0_10 (Inv : Dev nD → ℕ → Scr F → Prop) (c : Dev nD) (t : Fin cfg0.N) : (dat m Inv c).after 10 t = iblk m c 10 t := by dsimp only [dat]
theorem before0_10 (Inv : Dev nD → ℕ → Scr F → Prop) (c : Dev nD) (t : Fin cfg0.N) (d) : (dat m Inv c).before 10 t d = iblk m c 10 t :=
  before0_10_of m (dat m Inv c) (dat_A m Inv c 10) (after0_10 m Inv c) t d
theorem after0_11 (Inv : Dev nD → ℕ → Scr F → Prop) (c : Dev nD) (t : Fin cfg0.N) : (dat m Inv c).after 11 t = iblk m c 11 t := by dsimp only [dat]
theorem before0_11 (Inv : Dev nD → ℕ → Scr F → Prop) (c : Dev nD) (t : Fin cfg0.N) (d) : (dat m Inv c).before 11 t d = iblk m c 11 t :=
  before0_11_of m (dat m Inv c) (dat_A m Inv c 11) (after0_11 m Inv c) t d
theorem after0_12 (Inv : Dev nD → ℕ → Scr F → Prop) (c : Dev nD) (t : Fin cfg0.N) : (dat m Inv c).after 12 t = iblk m c 12 t := by dsimp only [dat]
theorem before0_12 (Inv : Dev nD → ℕ → Scr F → Prop) (c : Dev nD) (t : Fin cfg0.N) (d) : (dat m Inv c).before 12 t d = iblk m c 12 t :=
  before0_12_of m (dat m Inv c) (dat_A m Inv c 12) (after0_12 m Inv c) t d
theorem after0_13 (Inv : Dev nD → ℕ → Scr F → Prop) (c : Dev nD) (t : Fin cfg0.N) : (dat m Inv c).after 13 t = iblk m c 13 t := by dsimp only [dat]
theorem before0_13 (Inv : Dev nD → ℕ → Scr F → Prop) (c : Dev nD) (t : Fin cfg0.N) (d) : (dat m Inv c).before 13 t d = iblk m c 13 t :=
  before0_13_of m (dat m Inv c) (dat_A m Inv c 13) (after0_13 m Inv c) t d
theorem after0_14 (Inv : Dev nD → ℕ → Scr F → Prop) (c : Dev nD) (t : Fin cfg0.N) : (dat m Inv c).after 14 t = iblk m c 14 t := by dsimp only [dat]
theorem before0_14 (Inv : Dev nD → ℕ → Scr F → Prop) (c : Dev nD) (t : Fin cfg0.N) (d) : (dat m Inv c).before 14 t d = iblk m c 14 t :=
  before0_14_of m (dat m Inv c) (dat_A m Inv c 14) (after0_14 m Inv c) t d
theorem after0_15 (Inv : Dev nD → ℕ → Scr F → Prop) (c : Dev nD) (t : Fin cfg0.N) : (dat m Inv c).after 15 t = iblk m c 15 t := by dsimp only [dat]
theorem before0_15 (Inv : Dev nD → ℕ → Scr F → Prop) (c : Dev nD) (t : Fin cfg0.N) (d) : (dat m Inv c).before 15 t d = iblk m c 15 t :=
  before0_15_of m (dat m Inv c) (dat_A m Inv c 15) (after0_15 m Inv c) t d
theorem after0_16 (Inv : Dev nD → ℕ → Scr F → Prop) (c : Dev nD) (t : Fin cfg0.N) : (dat m Inv c).after 16 t = iblk m c 16 t := by dsimp only [dat]
theorem before0_16 (Inv : Dev nD → ℕ → Scr F → Prop) (c : Dev nD) (t : Fin cfg0.N) (d) : (dat m Inv c).before 16 t d = iblk m c 16 t :=
  before0_16_of m (dat m Inv c) (dat_A m Inv c 16) (after0_16 m Inv c) t d
theorem after0_17 (Inv : Dev nD → ℕ → Scr F → Prop) (c : Dev nD) (t : Fin cfg0.N) : (dat m Inv c).after 17 t = iblk m c 17 t := by dsimp only [dat]
theorem before0_17 (Inv : Dev nD → ℕ → Scr F → Prop) (c : Dev nD) (t : Fin cfg0.N) (d) : (dat m Inv c).before 17 t d = iblk m c 17 t :=
  before0_17_of m (dat m Inv c) (dat_A m Inv c 17) (after0_17 m Inv c) t d
theorem after0_18 (Inv : Dev nD → ℕ → Scr F → Prop) (c : Dev nD) (t : Fin cfg0.N) : (dat m Inv c).after 18 t = iblk m c 18 t := by dsimp only [dat]
theorem before0_18 (Inv : Dev nD → ℕ → Scr F → Prop) (c : Dev nD) (t : Fin cfg0.N) (d) : (dat m Inv c).before 18 t d = iblk m c 18 t :=
  before0_18_of m (dat m Inv c) (dat_A m Inv c 18) (after0_18 m Inv c) t d
theorem after0_19 (Inv : Dev nD → ℕ → Scr F → Prop) (c : Dev nD) (t : Fin cfg0.N) : (dat m Inv c).after 19 t = iblk m c 19 t := by dsimp only [dat]
theorem before0_19 (Inv : Dev nD → ℕ → Scr F → Prop) (c : Dev nD) (t : Fin cfg0.N) (d) : (dat m Inv c).before 19 t d = iblk m c 19 t :=
  before0_19_of m (dat m Inv c) (dat_A m Inv c 19) (after0_19 m Inv c) t d
theorem after0_20 (Inv : Dev nD → ℕ → Scr F → Prop) (c : Dev nD) (t : Fin cfg0.N) : (dat m Inv c).after 20 t = iblk m c 20 t := by dsimp only [dat]
theorem before0_20 (Inv : Dev nD → ℕ → Scr F → Prop) (c : Dev nD) (t : Fin cfg0.N) (d) : (dat m Inv c).before 20 t d = iblk m c 20 t :=
  before0_20_of m (dat m Inv c) (dat_A m Inv c 20) (after0_20 m Inv c) t d
theorem after0_21 (Inv : Dev nD → ℕ → Scr F → Prop) (c : Dev nD) (t : Fin cfg0.N) : (dat m Inv c).after 21 t = iblk m c 21 t := by dsimp only [dat]
theorem before0_21 (Inv : Dev nD → ℕ → Scr F → Prop) (c : Dev nD) (t : Fin cfg0.N) (d) : (dat m Inv c).before 21 t d = iblk m c 21 t :=
  before0_21_of m (dat m Inv c) (dat_A m Inv c 21) (after0_21 m Inv c) t d
theorem after0_22 (Inv : Dev nD → ℕ → Scr F → Prop) (c : Dev nD) (t : Fin cfg0.N) : (dat m Inv c).after 22 t = iblk m c 22 t := by dsimp only [dat]
theorem before0_22 (Inv : Dev nD → ℕ → Scr F → Prop) (c : Dev nD) (t : Fin cfg0.N) (d) : (dat m Inv c).before 22 t d = iblk m c 22 t :=
  before0_22_of m (dat m Inv c) (dat_A m Inv c 22) (after0_22 m Inv c) t d

/-- The windows of the results. -/
def isOut (w : Fin cfg0.W) : Bool := decide (23 ≤ w.val)

/-- A predicate on the block a window holds at each point. -/
abbrev BlockRel (F : FTy → Type) := (w : Fin cfg0.W) → Fin cfg0.N → ((cfg0.win w).block.Idx → Elt F (cfg0.win w).elt) → Prop

/-- The relational proof data. -/
abbrev rdat (Inv : Dev nD → ℕ → Scr F → Prop) (Rl : Dev nD → BlockRel F) (c : Dev nD) : RDat τ (Elt F) Unit ℕ (UR sig nD τ) ℕ cfg0 c :=
  (dat m Inv c).toRRel isOut (Rl c)

/-- A relation between the outputs' blocks at a point. -/
def OutsRel (P : (w : Fin cfg0.W) → ((cfg0.win w).block.Idx → Elt F (cfg0.win w).elt) → Prop) (O : Outs F) : Prop :=
  P 23 O.a24 ∧ P 24 O.a25 ∧ P 25 O.a26 ∧ P 26 O.a27 ∧ P 27 O.a28 ∧ P 28 O.a29

/-- The step keeps the invariant and leaves each output's block as `Rl` says. -/
def Keeps (Inv : Dev nD → ℕ → Scr F → Prop) (Rl : Dev nD → BlockRel F) : Prop :=
  ∀ (c : Dev nD) (t : Fin cfg0.N) (O : Outs F) (R : Scr F), Inv c t.val R →
    OutsRel (fun w X => (rdat m Inv Rl c).Finds w t X) O →
    Inv c (t.val + 1) (step (grid0.coords t) (mk (insAt m c t) O R)).scr ∧
      OutsRel (fun w X => Rl c w t X) (step (grid0.coords t) (mk (insAt m c t) O R)).outs

/-- What the body is called with at point `t`. -/
def bodyPre (Inv : Dev nD → ℕ → Scr F → Prop) (Rl : Dev nD → BlockRel F) (c : Dev nD) (t : Fin cfg0.N) : sProp 𝕄 :=
  iprop((dat m Inv c).Φ t.castSucc ∗ (dat m Inv c).owesAt () t.castSucc ∗ (∃ d, owns (c : Thread nD τ) (ms0_0 t) fullShare ((dat m Inv c).before 0 t d)) ∗ (∃ d, owns (c : Thread nD τ) (ms0_1 t) fullShare ((dat m Inv c).before 1 t d)) ∗ (∃ d, owns (c : Thread nD τ) (ms0_2 t) fullShare ((dat m Inv c).before 2 t d)) ∗ (∃ d, owns (c : Thread nD τ) (ms0_3 t) fullShare ((dat m Inv c).before 3 t d)) ∗ (∃ d, owns (c : Thread nD τ) (ms0_4 t) fullShare ((dat m Inv c).before 4 t d)) ∗ (∃ d, owns (c : Thread nD τ) (ms0_5 t) fullShare ((dat m Inv c).before 5 t d)) ∗ (∃ d, owns (c : Thread nD τ) (ms0_6 t) fullShare ((dat m Inv c).before 6 t d)) ∗ (∃ d, owns (c : Thread nD τ) (ms0_7 t) fullShare ((dat m Inv c).before 7 t d)) ∗ (∃ d, owns (c : Thread nD τ) (ms0_8 t) fullShare ((dat m Inv c).before 8 t d)) ∗ (∃ d, owns (c : Thread nD τ) (ms0_9 t) fullShare ((dat m Inv c).before 9 t d)) ∗ (∃ d, owns (c : Thread nD τ) (ms0_10 t) fullShare ((dat m Inv c).before 10 t d)) ∗ (∃ d, owns (c : Thread nD τ) (ms0_11 t) fullShare ((dat m Inv c).before 11 t d)) ∗ (∃ d, owns (c : Thread nD τ) (ms0_12 t) fullShare ((dat m Inv c).before 12 t d)) ∗ (∃ d, owns (c : Thread nD τ) (ms0_13 t) fullShare ((dat m Inv c).before 13 t d)) ∗ (∃ d, owns (c : Thread nD τ) (ms0_14 t) fullShare ((dat m Inv c).before 14 t d)) ∗ (∃ d, owns (c : Thread nD τ) (ms0_15 t) fullShare ((dat m Inv c).before 15 t d)) ∗ (∃ d, owns (c : Thread nD τ) (ms0_16 t) fullShare ((dat m Inv c).before 16 t d)) ∗ (∃ d, owns (c : Thread nD τ) (ms0_17 t) fullShare ((dat m Inv c).before 17 t d)) ∗ (∃ d, owns (c : Thread nD τ) (ms0_18 t) fullShare ((dat m Inv c).before 18 t d)) ∗ (∃ d, owns (c : Thread nD τ) (ms0_19 t) fullShare ((dat m Inv c).before 19 t d)) ∗ (∃ d, owns (c : Thread nD τ) (ms0_20 t) fullShare ((dat m Inv c).before 20 t d)) ∗ (∃ d, owns (c : Thread nD τ) (ms0_21 t) fullShare ((dat m Inv c).before 21 t d)) ∗ (∃ d, owns (c : Thread nD τ) (ms0_22 t) fullShare ((dat m Inv c).before 22 t d)) ∗ (∃ Y, ⌜(rdat m Inv Rl c).Finds 23 t Y⌝ ∗ owns (c : Thread nD τ) (ms0_23 t) fullShare Y) ∗ (∃ Y, ⌜(rdat m Inv Rl c).Finds 24 t Y⌝ ∗ owns (c : Thread nD τ) (ms0_24 t) fullShare Y) ∗ (∃ Y, ⌜(rdat m Inv Rl c).Finds 25 t Y⌝ ∗ owns (c : Thread nD τ) (ms0_25 t) fullShare Y) ∗ (∃ Y, ⌜(rdat m Inv Rl c).Finds 26 t Y⌝ ∗ owns (c : Thread nD τ) (ms0_26 t) fullShare Y) ∗ (∃ Y, ⌜(rdat m Inv Rl c).Finds 27 t Y⌝ ∗ owns (c : Thread nD τ) (ms0_27 t) fullShare Y) ∗ (∃ Y, ⌜(rdat m Inv Rl c).Finds 28 t Y⌝ ∗ owns (c : Thread nD τ) (ms0_28 t) fullShare Y))

/-- And what it returns. -/
def bodyPost (Inv : Dev nD → ℕ → Scr F → Prop) (Rl : Dev nD → BlockRel F) (c : Dev nD) (t : Fin cfg0.N) : sProp 𝕄 :=
  iprop((dat m Inv c).Φ t.succ ∗ (dat m Inv c).owesAt () t.succ ∗ owns (c : Thread nD τ) (ms0_0 t) fullShare ((dat m Inv c).after 0 t) ∗ owns (c : Thread nD τ) (ms0_1 t) fullShare ((dat m Inv c).after 1 t) ∗ owns (c : Thread nD τ) (ms0_2 t) fullShare ((dat m Inv c).after 2 t) ∗ owns (c : Thread nD τ) (ms0_3 t) fullShare ((dat m Inv c).after 3 t) ∗ owns (c : Thread nD τ) (ms0_4 t) fullShare ((dat m Inv c).after 4 t) ∗ owns (c : Thread nD τ) (ms0_5 t) fullShare ((dat m Inv c).after 5 t) ∗ owns (c : Thread nD τ) (ms0_6 t) fullShare ((dat m Inv c).after 6 t) ∗ owns (c : Thread nD τ) (ms0_7 t) fullShare ((dat m Inv c).after 7 t) ∗ owns (c : Thread nD τ) (ms0_8 t) fullShare ((dat m Inv c).after 8 t) ∗ owns (c : Thread nD τ) (ms0_9 t) fullShare ((dat m Inv c).after 9 t) ∗ owns (c : Thread nD τ) (ms0_10 t) fullShare ((dat m Inv c).after 10 t) ∗ owns (c : Thread nD τ) (ms0_11 t) fullShare ((dat m Inv c).after 11 t) ∗ owns (c : Thread nD τ) (ms0_12 t) fullShare ((dat m Inv c).after 12 t) ∗ owns (c : Thread nD τ) (ms0_13 t) fullShare ((dat m Inv c).after 13 t) ∗ owns (c : Thread nD τ) (ms0_14 t) fullShare ((dat m Inv c).after 14 t) ∗ owns (c : Thread nD τ) (ms0_15 t) fullShare ((dat m Inv c).after 15 t) ∗ owns (c : Thread nD τ) (ms0_16 t) fullShare ((dat m Inv c).after 16 t) ∗ owns (c : Thread nD τ) (ms0_17 t) fullShare ((dat m Inv c).after 17 t) ∗ owns (c : Thread nD τ) (ms0_18 t) fullShare ((dat m Inv c).after 18 t) ∗ owns (c : Thread nD τ) (ms0_19 t) fullShare ((dat m Inv c).after 19 t) ∗ owns (c : Thread nD τ) (ms0_20 t) fullShare ((dat m Inv c).after 20 t) ∗ owns (c : Thread nD τ) (ms0_21 t) fullShare ((dat m Inv c).after 21 t) ∗ owns (c : Thread nD τ) (ms0_22 t) fullShare ((dat m Inv c).after 22 t) ∗ (∃ X, ⌜Rl c 23 t X⌝ ∗ owns (c : Thread nD τ) (ms0_23 t) fullShare X) ∗ (∃ X, ⌜Rl c 24 t X⌝ ∗ owns (c : Thread nD τ) (ms0_24 t) fullShare X) ∗ (∃ X, ⌜Rl c 25 t X⌝ ∗ owns (c : Thread nD τ) (ms0_25 t) fullShare X) ∗ (∃ X, ⌜Rl c 26 t X⌝ ∗ owns (c : Thread nD τ) (ms0_26 t) fullShare X) ∗ (∃ X, ⌜Rl c 27 t X⌝ ∗ owns (c : Thread nD τ) (ms0_27 t) fullShare X) ∗ (∃ X, ⌜Rl c 28 t X⌝ ∗ owns (c : Thread nD τ) (ms0_28 t) fullShare X))

/-- The body with the rest of the world. -/
theorem run_body_frame (c : Dev nD) (t : Fin cfg0.N) (S : St F) (P : sProp 𝕄) {Q : PUnit → sProp 𝕄}
    (hk : iprop(held (c : Thread nD τ) (cells (bufs t) (step (grid0.coords t) S)) ∗ P) ⊢ Q ⟨⟩) :
    iprop(held (c : Thread nD τ) (cells (bufs t) S) ∗ P)
      ⊢ wp frame (wpE (defs₀ (F := F)) Variants.none c none) Set.univ (bodyAt0 t) Q :=
  (sep_mono_left (run_body (B := bufs t) (Q := fun _ => held (c : Thread nD τ) (cells (bufs t) (step (grid0.coords t) S))) .rfl)).trans
    ((wp_frame_r _ _ _).trans (wp_mono _ _ _ fun _ => hk))

theorem held_cells (c : Dev nD) (B : Bufs) (S : St F) :
    (held (c : Thread nD τ) (cells B S) : sProp 𝕄) = iprop(owns (c : Thread nD τ) B.arg1 fullShare S.a1 ∗ owns (c : Thread nD τ) B.arg2 fullShare S.a2 ∗ owns (c : Thread nD τ) B.arg3 fullShare S.a3 ∗ owns (c : Thread nD τ) B.arg4 fullShare S.a4 ∗ owns (c : Thread nD τ) B.arg5 fullShare S.a5 ∗ owns (c : Thread nD τ) B.arg6 fullShare S.a6 ∗ owns (c : Thread nD τ) B.arg7 fullShare S.a7 ∗ owns (c : Thread nD τ) B.arg8 fullShare S.a8 ∗ owns (c : Thread nD τ) B.arg9 fullShare S.a9 ∗ owns (c : Thread nD τ) B.arg10 fullShare S.a10 ∗ owns (c : Thread nD τ) B.arg11 fullShare S.a11 ∗ owns (c : Thread nD τ) B.arg12 fullShare S.a12 ∗ owns (c : Thread nD τ) B.arg13 fullShare S.a13 ∗ owns (c : Thread nD τ) B.arg14 fullShare S.a14 ∗ owns (c : Thread nD τ) B.arg15 fullShare S.a15 ∗ owns (c : Thread nD τ) B.arg16 fullShare S.a16 ∗ owns (c : Thread nD τ) B.arg17 fullShare S.a17 ∗ owns (c : Thread nD τ) B.arg18 fullShare S.a18 ∗ owns (c : Thread nD τ) B.arg19 fullShare S.a19 ∗ owns (c : Thread nD τ) B.arg20 fullShare S.a20 ∗ owns (c : Thread nD τ) B.arg21 fullShare S.a21 ∗ owns (c : Thread nD τ) B.arg22 fullShare S.a22 ∗ owns (c : Thread nD τ) B.arg23 fullShare S.a23 ∗ owns (c : Thread nD τ) B.arg24 fullShare S.a24 ∗ owns (c : Thread nD τ) B.arg25 fullShare S.a25 ∗ owns (c : Thread nD τ) B.arg26 fullShare S.a26 ∗ owns (c : Thread nD τ) B.arg27 fullShare S.a27 ∗ owns (c : Thread nD τ) B.arg28 fullShare S.a28 ∗ owns (c : Thread nD τ) B.arg29 fullShare S.a29 ∗ owns (c : Thread nD τ) B.arg30 fullShare S.a30 ∗ owns (c : Thread nD τ) B.arg31 fullShare S.a31 ∗ owns (c : Thread nD τ) B.arg32 fullShare S.a32 ∗ owns (c : Thread nD τ) B.arg33 fullShare S.a33 ∗ owns (c : Thread nD τ) B.arg34 fullShare S.a34 ∗ owns (c : Thread nD τ) B.arg35 fullShare S.a35 ∗ owns (c : Thread nD τ) B.arg36 fullShare S.a36 ∗ owns (c : Thread nD τ) B.arg37 fullShare S.a37 ∗ owns (c : Thread nD τ) B.arg38 fullShare S.a38 ∗ owns (c : Thread nD τ) B.arg39 fullShare S.a39 ∗ owns (c : Thread nD τ) B.arg40 fullShare S.a40 ∗ owns (c : Thread nD τ) B.arg41 fullShare S.a41 ∗ emp) := rfl

set_option maxHeartbeats 4000000 in
theorem sound_body (Inv : Dev nD → ℕ → Scr F → Prop) (Rl : Dev nD → BlockRel F) (hK : Keeps m Inv Rl) (c : Dev nD) (t : Fin cfg0.N) :
    bodyPre m Inv Rl c t ⊢ wp frame (wpE (defs₀ (F := F)) Variants.none c none) Set.univ (bodyAt0 t) (fun _ => bodyPost m Inv Rl c t) := by
  unfold bodyPre bodyPost
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, before0_12, after0_12, before0_13, after0_13, before0_14, after0_14, before0_15, after0_15, before0_16, after0_16, before0_17, after0_17, before0_18, after0_18, before0_19, after0_19, before0_20, after0_20, before0_21, after0_21, before0_22, after0_22]
  rw [show (dat m Inv c).owesAt () t.succ = (dat m Inv c).owesAt () t.castSucc from rfl,
    show (dat m Inv c).Φ t.succ = Phi Inv c (t.val + 1) from rfl, show (dat m Inv c).Φ t.castSucc = Phi Inv c t.val from rfl]
  unfold Phi scrOwn
  iintro ⟨⟨⟨%R, %hR, HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%Y23, %hY23, H23⟩, ⟨%Y24, %hY24, H24⟩, ⟨%Y25, %hY25, H25⟩, ⟨%Y26, %hY26, H26⟩, ⟨%Y27, %hY27, H27⟩, ⟨%Y28, %hY28, H28⟩⟩
  have hk := hK c t ⟨Y23, Y24, Y25, Y26, Y27, Y28⟩ R hR ⟨hY23, hY24, hY25, hY26, hY27, hY28⟩
  have hi := ins_step (grid0.coords t) (mk (insAt m c t) ⟨Y23, Y24, Y25, Y26, Y27, Y28⟩ R)
  generalize hS : step (grid0.coords t) (mk (insAt m c t) ⟨Y23, Y24, Y25, Y26, Y27, Y28⟩ R) = S at hk hi
  iapply (run_body_frame c t (mk (insAt m c t) ⟨Y23, Y24, Y25, Y26, Y27, Y28⟩ R)
    iprop((dat m Inv c).owesAt () t.castSucc ∗ (∃ r, prngReg c r)) (Q := fun _ => _) ?hk) $$ [-]
  case hk =>
    rw [hS, held_cells]
    iintro ⟨⟨H0, H1, H2, H3, H4, H5, H6, H7, H8, H9, H10, H11, H12, H13, H14, H15, H16, H17, H18, H19, H20, H21, H22, H23, H24, H25, H26, H27, H28, HS0, HS1, HS2, HS3, HS4, HS5, HS6, HS7, HS8, HS9, HS10, HS11, He⟩, Ho, Hg⟩
    isplitl [HS0 HS1 HS2 HS3 HS4 HS5 HS6 HS7 HS8 HS9 HS10 HS11 Hg]
    · isplitl [HS0 HS1 HS2 HS3 HS4 HS5 HS6 HS7 HS8 HS9 HS10 HS11]
      · iexists S.scr; isplitr
        · ipureintro; exact hk.1
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        iexact HS11
      · iexact Hg
    isplitl [Ho]; · iexact Ho
    isplitl [H0]; · rw [show iblk m c 0 t = S.a1 from (congrArg Ins.a1 hi).symm]; iexact H0
    isplitl [H1]; · rw [show iblk m c 1 t = S.a2 from (congrArg Ins.a2 hi).symm]; iexact H1
    isplitl [H2]; · rw [show iblk m c 2 t = S.a3 from (congrArg Ins.a3 hi).symm]; iexact H2
    isplitl [H3]; · rw [show iblk m c 3 t = S.a4 from (congrArg Ins.a4 hi).symm]; iexact H3
    isplitl [H4]; · rw [show iblk m c 4 t = S.a5 from (congrArg Ins.a5 hi).symm]; iexact H4
    isplitl [H5]; · rw [show iblk m c 5 t = S.a6 from (congrArg Ins.a6 hi).symm]; iexact H5
    isplitl [H6]; · rw [show iblk m c 6 t = S.a7 from (congrArg Ins.a7 hi).symm]; iexact H6
    isplitl [H7]; · rw [show iblk m c 7 t = S.a8 from (congrArg Ins.a8 hi).symm]; iexact H7
    isplitl [H8]; · rw [show iblk m c 8 t = S.a9 from (congrArg Ins.a9 hi).symm]; iexact H8
    isplitl [H9]; · rw [show iblk m c 9 t = S.a10 from (congrArg Ins.a10 hi).symm]; iexact H9
    isplitl [H10]; · rw [show iblk m c 10 t = S.a11 from (congrArg Ins.a11 hi).symm]; iexact H10
    isplitl [H11]; · rw [show iblk m c 11 t = S.a12 from (congrArg Ins.a12 hi).symm]; iexact H11
    isplitl [H12]; · rw [show iblk m c 12 t = S.a13 from (congrArg Ins.a13 hi).symm]; iexact H12
    isplitl [H13]; · rw [show iblk m c 13 t = S.a14 from (congrArg Ins.a14 hi).symm]; iexact H13
    isplitl [H14]; · rw [show iblk m c 14 t = S.a15 from (congrArg Ins.a15 hi).symm]; iexact H14
    isplitl [H15]; · rw [show iblk m c 15 t = S.a16 from (congrArg Ins.a16 hi).symm]; iexact H15
    isplitl [H16]; · rw [show iblk m c 16 t = S.a17 from (congrArg Ins.a17 hi).symm]; iexact H16
    isplitl [H17]; · rw [show iblk m c 17 t = S.a18 from (congrArg Ins.a18 hi).symm]; iexact H17
    isplitl [H18]; · rw [show iblk m c 18 t = S.a19 from (congrArg Ins.a19 hi).symm]; iexact H18
    isplitl [H19]; · rw [show iblk m c 19 t = S.a20 from (congrArg Ins.a20 hi).symm]; iexact H19
    isplitl [H20]; · rw [show iblk m c 20 t = S.a21 from (congrArg Ins.a21 hi).symm]; iexact H20
    isplitl [H21]; · rw [show iblk m c 21 t = S.a22 from (congrArg Ins.a22 hi).symm]; iexact H21
    isplitl [H22]; · rw [show iblk m c 22 t = S.a23 from (congrArg Ins.a23 hi).symm]; iexact H22
    isplitl [H23]
    · iexists S.a24; isplitr
      · ipureintro; exact hk.2.1
      · iexact H23
    isplitl [H24]
    · iexists S.a25; isplitr
      · ipureintro; exact hk.2.2.1
      · iexact H24
    isplitl [H25]
    · iexists S.a26; isplitr
      · ipureintro; exact hk.2.2.2.1
      · iexact H25
    isplitl [H26]
    · iexists S.a27; isplitr
      · ipureintro; exact hk.2.2.2.2.1
      · iexact H26
    isplitl [H27]
    · iexists S.a28; isplitr
      · ipureintro; exact hk.2.2.2.2.2.1
      · iexact H27
    iexists S.a29; isplitr
    · ipureintro; exact hk.2.2.2.2.2.2
    · iexact H28
  isplitl [H0 H1 H2 H3 H4 H5 H6 H7 H8 H9 H10 H11 H12 H13 H14 H15 H16 H17 H18 H19 H20 H21 H22 H23 H24 H25 H26 H27 H28 HS0 HS1 HS2 HS3 HS4 HS5 HS6 HS7 HS8 HS9 HS10 HS11]
  · rw [held_cells]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iempintro
  isplitl [Ho]; · iexact Ho
  iexact Hg

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body obligation at every grid point. -/
theorem body_obligation (Inv : Dev nD → ℕ → Scr F → Prop) (Rl : Dev nD → BlockRel F) (hK : Keeps m Inv Rl) (c : Dev nD) :
    BodyObligationRel (dat m Inv c) (defs₀ (F := F)) Variants.none () Set.univ isOut (Rl c) := fun t => by
  rw [bigSep_W0, bigSep_W0, defs₀_row]
  exact triple_restated (sound_body m Inv Rl hK c t) rfl .rfl fun _ => .rfl

set_option maxHeartbeats 4000000 in
theorem hin (Inv : Dev nD → ℕ → Scr F → Prop) (h0 : ∀ c R, Inv c 0 R) (c : Dev nD) : Pipeline.ΦA spec0 c ⊢ (dat m Inv c).Φ 0 := by
  rw [show (dat m Inv c).Φ 0 = Phi Inv c 0 from rfl, PhiA0_eq]
  unfold Phi scrOwn
  iintro ⟨⟨⟨%Z0, HS0⟩, ⟨%Z1, HS1⟩, ⟨%Z2, HS2⟩, ⟨%Z3, HS3⟩, ⟨%Z4, HS4⟩, ⟨%Z5, HS5⟩, ⟨%Z6, HS6⟩, ⟨%Z7, HS7⟩, ⟨%Z8, HS8⟩, ⟨%Z9, HS9⟩, ⟨%Z10, HS10⟩, ⟨%Z11, HS11⟩⟩, Hg⟩
  isplitl [HS0 HS1 HS2 HS3 HS4 HS5 HS6 HS7 HS8 HS9 HS10 HS11]
  · iexists (⟨Z0, Z1, Z2, Z3, Z4, Z5, Z6, Z7, Z8, Z9, Z10, Z11⟩ : Scr F); isplitr
    · ipureintro; exact h0 c _
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iexact HS11
  iexact Hg

set_option maxHeartbeats 4000000 in
theorem hout (Inv : Dev nD → ℕ → Scr F → Prop) (c : Dev nD) : (dat m Inv c).Φ (Fin.last cfg0.N) ⊢ Pipeline.ΦA spec0 c := by
  rw [show (dat m Inv c).Φ (Fin.last cfg0.N) = Phi Inv c (Fin.last cfg0.N).val from rfl, PhiA0_eq]
  unfold Phi scrOwn
  iintro ⟨⟨%R, %hR, HS0, HS1, HS2, HS3, HS4, HS5, HS6, HS7, HS8, HS9, HS10, HS11⟩, Hg⟩
  isplitl [HS0 HS1 HS2 HS3 HS4 HS5 HS6 HS7 HS8 HS9 HS10 HS11]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    iexists _; iexact HS11
  iexact Hg

set_option backward.isDefEq.respectTransparency.types false in
/-- The kernel runs, and its results are assembled from blocks meeting `Rl`. -/
theorem run_track (Inv : Dev nD → ℕ → Scr F → Prop) (Rl : Dev nD → BlockRel F) (h0 : ∀ c R, Inv c 0 R) (hK : Keeps m Inv Rl) :
    θ_run defs (onTc (τ := τ) (main (F := F))) (s₀ m ρ)
      (fun r => RDat.FramePost cfg0 (rdat m Inv Rl) (V m) r ∧ r.2.sem = fun _ => 0) :=
  RDat.θ_run_frame_track (Q' := _) cfgs (0 : Fin 1) launch0 defs₀ Variants.none (rdat m Inv Rl) m ρ main
    (hbody := fun c => (body_obligation m Inv Rl hK c).toRRel) (hshare := fun c => (dat m Inv c).share_full fun _ => rfl)
    (howed := fun _ _ => rfl) (V := V m) (hmain := hmain m Variants.none) (hA := dat_A m Inv) (hin := hin m Inv h0) (hout := hout m Inv)

set_option maxHeartbeats 1740000 in
/-- Such a run leaves the arguments. -/
theorem args_kept (Inv : Dev nD → ℕ → Scr F → Prop) (Rl : Dev nD → BlockRel F) (r : PUnit × MemSt nD τ sig (Elt F))
    (h : RDat.FramePost cfg0 (rdat m Inv Rl) (V m) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  fun c => ⟨((h c).2 main_arg0 (Pipeline.mem_restRefs_of main_arg0 (by decide) (by decide))).trans (V_main_arg0 m c),
      (h.arr_in c 1 rfl).trans (((dat_A m Inv c 1)).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (h.arr_in c 3 rfl).trans (((dat_A m Inv c 3)).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (h.arr_in c 4 rfl).trans (((dat_A m Inv c 4)).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      (h.arr_in c 5 rfl).trans (((dat_A m Inv c 5)).trans (V_main_arg13 m c)),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      (h.arr_in c 7 rfl).trans (((dat_A m Inv c 7)).trans (V_main_arg19 m c)),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      (h.arr_in c 22 rfl).trans (((dat_A m Inv c 22)).trans (V_main_arg22 m c))⟩

/-- THE FRAME: the kernel terminates, leaves its arguments and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun r h => ⟨args_kept m _ _ r h.1, h.2⟩)
    (run_track m ρ (fun _ _ _ => True) (fun _ _ _ _ => True) (fun _ _ => trivial) (fun _ _ _ _ _ _ => ⟨trivial, trivial, trivial, trivial, trivial, trivial, trivial⟩))

end Cert.KernelIdeal.Hand

end
-- ==== Proof.Value.Spec.lean ====
/-
  THE MATHEMATICS: both units of the stage as functions of the arguments, over the extended reals. A value of an intermediate array is
  kept as the number before it is cut to its eight-bit code; `code` is the code, and `code_back` says that the code read back is the number.
-/
module

public import Idealize.ShloMosaic.Lib.Pointwise
public import Idealize.ShloMosaic.PureOps.Ideal.Laws

@[expose] public section

noncomputable section

namespace Cert.Stage

open Idealize.ShloMosaic

/-- Rounding to the nearest integer, ties to even. -/
def rnd (z : EReal) : EReal := Ideal.liftRound Ideal.roundHalfEven z

/-- An accumulated sum, rounded to an integer, with the bias added, scaled. -/
def scaled (acc : EReal) (b : BitVec 32) (m : EReal) : EReal := (((Ideal.fptosi 32 (rnd acc) + b).toInt : ℝ) : EReal) * m

/-- Rounded and clipped to 0..255. -/
def clip (z : EReal) : EReal := min (((255#32 : BitVec 32).toInt : ℝ) : EReal) (max (((0#32 : BitVec 32).toInt : ℝ) : EReal) (rnd z))

/-- The requantised sum. -/
def requant (acc : EReal) (b : BitVec 32) (m : EReal) : EReal := clip (scaled acc b m)

theorem scaled_congr {a a' : EReal} {b b' : BitVec 32} {m m' : EReal} (ha : a = a') (hb : b = b') (hm : m = m') : scaled a b m = scaled a' b' m' := by
  rw [ha, hb, hm]

theorem requant_congr {a a' : EReal} {b b' : BitVec 32} {m m' : EReal} (ha : a = a') (hb : b = b') (hm : m = m') : requant a b m = requant a' b' m' := by
  rw [ha, hb, hm]

theorem mul_congr {a a' b b' : EReal} (ha : a = a') (hb : b = b') : a * b = a' * b' := by rw [ha, hb]

theorem add_congr {a a' b b' : EReal} (ha : a = a') (hb : b = b') : a + b = a' + b' := by rw [ha, hb]

/-- The eight-bit code of a number. -/
def code (z : EReal) : BitVec 8 := (Ideal.fptosi 32 z).setWidth 8

/-- An eight-bit code read unsigned, and read signed. -/
def ub (q : BitVec 8) : EReal := ((q.toNat : ℝ) : EReal)
def sb (q : BitVec 8) : EReal := ((q.toInt : ℝ) : EReal)

/-- A clipped number is one of the integers 0..255. -/
theorem clip_eq (z : EReal) : ∃ n : ℕ, n < 256 ∧ clip z = ((n : ℝ) : EReal) := by
  have h255 : (((255#32 : BitVec 32).toInt : ℝ) : EReal) = ((255 : ℝ) : EReal) := by norm_num [BitVec.toInt]
  have h0 : (((0#32 : BitVec 32).toInt : ℝ) : EReal) = ((0 : ℝ) : EReal) := by norm_num [BitVec.toInt]
  unfold clip rnd
  rw [h255, h0]
  induction z using EReal.rec with
  | bot => exact ⟨0, by norm_num, by simp⟩
  | top => exact ⟨255, by norm_num, by simp⟩
  | coe r =>
    rw [Ideal.liftRound_coe]
    refine ⟨(min 255 (max 0 (Ideal.roundHalfEven r))).toNat, by omega, ?_⟩
    rw [← EReal.coe_strictMono.monotone.map_max, ← EReal.coe_strictMono.monotone.map_min]
    congr 1
    have h : ((min 255 (max 0 (Ideal.roundHalfEven r))).toNat : ℤ) = min 255 (max 0 (Ideal.roundHalfEven r)) := Int.toNat_of_nonneg (by omega)
    have h' : (((min 255 (max 0 (Ideal.roundHalfEven r))).toNat : ℤ) : ℝ) = ((min 255 (max 0 (Ideal.roundHalfEven r)) : ℤ) : ℝ) := by rw [h]
    rw [Int.cast_natCast] at h'
    rw [h']
    push_cast
    rfl

theorem fptosi_nat (n : ℕ) (h : n < 256) : Ideal.fptosi 32 ((n : ℝ) : EReal) = BitVec.ofNat 32 n := by
  rw [Ideal.fptosi, Ideal.toIntClamped_coe, if_pos (by positivity), Int.floor_natCast]
  rw [show max (-(2 ^ (32 - 1) : ℕ) : ℤ) (min (((2 ^ (32 - 1) : ℕ) : ℤ) - 1) (n : ℤ)) = (n : ℤ) by norm_num; omega]
  exact BitVec.ofInt_natCast _ _

/-- The code of a clipped number, read back, is the number. -/
theorem code_back (z : EReal) : ((((code (clip z)).setWidth 32).toInt : ℝ) : EReal) = clip z := by
  obtain ⟨n, hn, e⟩ := clip_eq z
  rw [e, code, fptosi_nat n hn]
  have : (((BitVec.ofNat 32 n).setWidth 8).setWidth 32).toInt = (n : ℤ) := by
    rw [BitVec.toInt_eq_toNat_of_lt (by simp; omega)]
    simp
    omega
  rw [this]
  norm_num

theorem ub_eq (q : BitVec 8) : (((q.setWidth 32).toInt : ℝ) : EReal) = ub q := by
  have : (q.setWidth 32).toInt = (q.toNat : ℤ) := by
    rw [BitVec.toInt_eq_toNat_of_lt (by simp; omega)]
    simp; omega
  rw [this, ub]; norm_num

theorem sb_eq (q : BitVec 8) : (((q.signExtend 32).toInt : ℝ) : EReal) = sb q := by
  rw [BitVec.toInt_signExtend_of_le (by norm_num), sb]

/-- The arguments. -/
structure Args where
  x : (⟨4, ![128, 28, 36, 512]⟩ : Shape).Idx → BitVec 8
  w1a : (⟨2, ![512, 256]⟩ : Shape).Idx → BitVec 8
  b1a : (⟨1, ![256]⟩ : Shape).Idx → BitVec 32
  m1a : (⟨1, ![256]⟩ : Shape).Idx → EReal
  w1b : (⟨4, ![3, 3, 256, 256]⟩ : Shape).Idx → BitVec 8
  b1b : (⟨1, ![256]⟩ : Shape).Idx → BitVec 32
  m1b : (⟨1, ![256]⟩ : Shape).Idx → EReal
  w1c : (⟨2, ![256, 1024]⟩ : Shape).Idx → BitVec 8
  b1c : (⟨1, ![1024]⟩ : Shape).Idx → BitVec 32
  m1c : (⟨1, ![1024]⟩ : Shape).Idx → EReal
  w1s : (⟨2, ![512, 1024]⟩ : Shape).Idx → BitVec 8
  b1s : (⟨1, ![1024]⟩ : Shape).Idx → BitVec 32
  m1s : (⟨1, ![1024]⟩ : Shape).Idx → EReal
  w2a : (⟨2, ![1024, 256]⟩ : Shape).Idx → BitVec 8
  b2a : (⟨1, ![256]⟩ : Shape).Idx → BitVec 32
  m2a : (⟨1, ![256]⟩ : Shape).Idx → EReal
  w2b : (⟨4, ![3, 3, 256, 256]⟩ : Shape).Idx → BitVec 8
  b2b : (⟨1, ![256]⟩ : Shape).Idx → BitVec 32
  m2b : (⟨1, ![256]⟩ : Shape).Idx → EReal
  w2c : (⟨2, ![256, 1024]⟩ : Shape).Idx → BitVec 8
  b2c : (⟨1, ![1024]⟩ : Shape).Idx → BitVec 32
  m2c : (⟨1, ![1024]⟩ : Shape).Idx → EReal
  m2s : (⟨1, ![1]⟩ : Shape).Idx → EReal

variable (A : Args)

/-- Row and column of a tap of a 3x3 window. -/
def kh (t : Fin 9) : Fin 3 := ⟨t.val / 3, by omega⟩
def kw (t : Fin 9) : Fin 3 := ⟨t.val % 3, by omega⟩

/-- Unit 1, first product. -/
def H1a (n : Fin 128) (r : Fin 28) (w : Fin 36) (o : Fin 256) : EReal :=
  requant (∑ k : Fin 512, ub (A.x (ix4 n r w k)) * sb (A.w1a (ix2 k o))) (A.b1a (ix1 o)) (A.m1a (ix1 o))

/-- The same with a border of zeros, `r` and `w` counted from the border. -/
def P1 (n : Fin 128) (r w : ℕ) (o : Fin 256) : EReal :=
  if h : (1 ≤ r ∧ r < 29) ∧ 1 ≤ w ∧ w < 37 then H1a A n ⟨r - 1, by omega⟩ ⟨w - 1, by omega⟩ o else 0

/-- Unit 1, the 3x3 product of stride two. -/
def H1b (n : Fin 128) (i : Fin 14) (w : Fin 18) (o : Fin 256) : EReal :=
  requant (∑ t : Fin 9, ∑ k : Fin 256, P1 A n (2 * i.val + (kh t).val) (2 * w.val + (kw t).val) k * sb (A.w1b (ix4 (kh t) (kw t) k o)))
    (A.b1b (ix1 o)) (A.m1b (ix1 o))

/-- Unit 1's result. -/
def Y1 (n : Fin 128) (i : Fin 14) (w : Fin 18) (o : Fin 1024) : EReal :=
  clip (scaled (∑ k : Fin 256, H1b A n i w k * sb (A.w1c (ix2 k o))) (A.b1c (ix1 o)) (A.m1c (ix1 o))
    + scaled (∑ k : Fin 512, ub (A.x (ix4 n ⟨2 * i.val, by omega⟩ ⟨2 * w.val, by omega⟩ k)) * sb (A.w1s (ix2 k o))) (A.b1s (ix1 o)) (A.m1s (ix1 o)))

/-- Unit 2, first product. -/
def H2a (n : Fin 128) (i : Fin 14) (w : Fin 18) (o : Fin 256) : EReal :=
  requant (∑ k : Fin 1024, Y1 A n i w k * sb (A.w2a (ix2 k o))) (A.b2a (ix1 o)) (A.m2a (ix1 o))

/-- The same with a border of zeros. -/
def P2 (n : Fin 128) (r w : ℕ) (o : Fin 256) : EReal :=
  if h : (1 ≤ r ∧ r < 15) ∧ 1 ≤ w ∧ w < 19 then H2a A n ⟨r - 1, by omega⟩ ⟨w - 1, by omega⟩ o else 0

/-- Unit 2, the 3x3 product. -/
def H2b (n : Fin 128) (i : Fin 14) (w : Fin 18) (o : Fin 256) : EReal :=
  requant (∑ t : Fin 9, ∑ k : Fin 256, P2 A n (i.val + (kh t).val) (w.val + (kw t).val) k * sb (A.w2b (ix4 (kh t) (kw t) k o)))
    (A.b2b (ix1 o)) (A.m2b (ix1 o))

/-- Unit 2's result. -/
def Y2 (n : Fin 128) (i : Fin 14) (w : Fin 18) (o : Fin 1024) : EReal :=
  clip (scaled (∑ k : Fin 256, H2b A n i w k * sb (A.w2c (ix2 k o))) (A.b2c (ix1 o)) (A.m2c (ix1 o)) + Y1 A n i w o * A.m2s (ix1 0))

end Cert.Stage

end
-- ==== Proof.Value.Mat.lean ====
/-
  THE BODY'S ARITHMETIC READ AT AN INDEX, over the extended reals. A block of 18 columns and 32 images is a matrix of 576 rows;
  `row w b` is the row of column `w` of image `b`.
-/
module

public import proofs.«01_k».proof.Proof.Value.Spec
public import proofs.«01_k».proof.Proof.Gen.KernelIdeal.Skeleton
public import Idealize.ShloMosaic.Lib.MatmulPlain
public import Idealize.ShloMosaic.Lib.Pipeline.Value

@[expose] public section

noncomputable section

namespace Cert.Stage

open Idealize.ShloMosaic Cert.KernelIdeal Cert.KernelIdeal.Gen

def row (w : Fin 18) (b : Fin 32) : Fin 576 := ⟨w.val * 32 + b.val, by omega⟩

/-- Every row is the row of a column and an image. -/
theorem row_cover (M : Fin 576) : ∃ w b, M = row w b :=
  ⟨⟨M.val / 32, by omega⟩, ⟨M.val % 32, by omega⟩, Fin.ext (by show M.val = M.val / 32 * 32 + M.val % 32; omega)⟩

/-! ### Changes of shape -/

theorem up_apply {α : Type} (x : S576x256.Idx → α) (w : Fin 18) (b : Fin 32) (o : Fin 256) :
    shapeCast S1x18x32x256 (shapeCast S18x32x256 x shapeCasts_S576x256_S18x32x256) shapeCasts_S18x32x256_S1x18x32x256 (ix4 0 w b o) = x (ix2 (row w b) o) := by
  rw [shapeCast_apply _ _ _ (ix3 w b o) (by rewrite [Shape.rowMajor_val_four, Shape.rowMajor_val_three]; show (w.val * 32 + b.val) * 256 + o.val = ((0 * 18 + w.val) * 32 + b.val) * 256 + o.val; omega)]
  exact shapeCast_apply _ _ _ _ (by rewrite [Shape.rowMajor_val_two, Shape.rowMajor_val_three]; show (w.val * 32 + b.val) * 256 + o.val = (w.val * 32 + b.val) * 256 + o.val; rfl)

theorem down_apply {α : Type} (x : S1x18x32x256.Idx → α) (w : Fin 18) (b : Fin 32) (o : Fin 256) :
    shapeCast S576x256 (shapeCast S18x32x256 x shapeCasts_S1x18x32x256_S18x32x256) shapeCasts_S18x32x256_S576x256 (ix2 (row w b) o) = x (ix4 0 w b o) := by
  rw [shapeCast_apply _ _ _ (ix3 w b o) (by rewrite [Shape.rowMajor_val_two, Shape.rowMajor_val_three]; show (w.val * 32 + b.val) * 256 + o.val = (w.val * 32 + b.val) * 256 + o.val; rfl)]
  exact shapeCast_apply _ _ _ _ (by rewrite [Shape.rowMajor_val_four, Shape.rowMajor_val_three]; show ((0 * 18 + w.val) * 32 + b.val) * 256 + o.val = (w.val * 32 + b.val) * 256 + o.val; omega)

theorem down5_apply {α : Type} (x : S1x18x1x32x256.Idx → α) (w : Fin 18) (b : Fin 32) (o : Fin 256) :
    shapeCast S576x256 (shapeCast S18x32x256 x shapeCasts_S1x18x1x32x256_S18x32x256) shapeCasts_S18x32x256_S576x256 (ix2 (row w b) o) = x (ix5 0 w 0 b o) := by
  rw [shapeCast_apply _ _ _ (ix3 w b o) (by rewrite [Shape.rowMajor_val_two, Shape.rowMajor_val_three]; show (w.val * 32 + b.val) * 256 + o.val = (w.val * 32 + b.val) * 256 + o.val; rfl)]
  exact shapeCast_apply _ _ _ _ (by rewrite [Shape.rowMajor_val_five, Shape.rowMajor_val_three]; show (((0 * 18 + w.val) * 1 + 0) * 32 + b.val) * 256 + o.val = (w.val * 32 + b.val) * 256 + o.val; omega)

theorem downx_apply (x : S1x18x32x512.Idx → BitVec 8) (w : Fin 18) (b : Fin 32) (k : Fin 512) :
    shapeCast S576x512 (uitofp (F := Ideal) .bf16 (shapeCast S18x32x512 x shapeCasts_S1x18x32x512_S18x32x512)) shapeCasts_S18x32x512_S576x512 (ix2 (row w b) k) = ub (x (ix4 0 w b k)) := by
  rw [shapeCast_apply _ _ _ (ix3 w b k) (by rewrite [Shape.rowMajor_val_two, Shape.rowMajor_val_three]; show (w.val * 32 + b.val) * 512 + k.val = (w.val * 32 + b.val) * 512 + k.val; rfl)]
  refine congrArg ub ?_
  exact shapeCast_apply _ _ _ _ (by rewrite [Shape.rowMajor_val_four, Shape.rowMajor_val_three]; show ((0 * 18 + w.val) * 32 + b.val) * 512 + k.val = (w.val * 32 + b.val) * 512 + k.val; omega)

theorem downx5_apply (x : S1x18x1x32x512.Idx → BitVec 8) (w : Fin 18) (b : Fin 32) (k : Fin 512) :
    k0_pay43 (F := Ideal) x (ix2 (row w b) k) = ub (x (ix5 0 w 0 b k)) := by
  unfold k0_pay43
  rw [shapeCast_apply _ _ _ (ix3 w b k) (by rewrite [Shape.rowMajor_val_two, Shape.rowMajor_val_three]; show (w.val * 32 + b.val) * 512 + k.val = (w.val * 32 + b.val) * 512 + k.val; rfl)]
  refine congrArg ub ?_
  exact shapeCast_apply _ _ _ _ (by rewrite [Shape.rowMajor_val_five, Shape.rowMajor_val_three]; show (((0 * 18 + w.val) * 1 + 0) * 32 + b.val) * 512 + k.val = (w.val * 32 + b.val) * 512 + k.val; omega)

/-- A matrix under a leading unit axis. -/
theorem lead1_apply {α : Type} (x : S576x256.Idx → α) (M : Fin 576) (o : Fin 256) :
    shapeCast S1x576x256 x shapeCasts_S576x256_S1x576x256 (ix3 0 M o) = x (ix2 M o) :=
  shapeCast_apply _ _ _ _ (by rewrite [Shape.rowMajor_val_two, Shape.rowMajor_val_three]; show M.val * 256 + o.val = (0 * 576 + M.val) * 256 + o.val; omega)

theorem drop1_apply {α : Type} (x : S1x576x256.Idx → α) (M : Fin 576) (o : Fin 256) :
    shapeCast S576x256 x shapeCasts_S1x576x256_S576x256 (ix2 M o) = x (ix3 0 M o) :=
  shapeCast_apply _ _ _ _ (by rewrite [Shape.rowMajor_val_two, Shape.rowMajor_val_three]; show (0 * 576 + M.val) * 256 + o.val = M.val * 256 + o.val; omega)

theorem drop1024_apply {α : Type} (x : S1x576x1024.Idx → α) (M : Fin 576) (o : Fin 1024) :
    shapeCast S576x1024 x shapeCasts_S1x576x1024_S576x1024 (ix2 M o) = x (ix3 0 M o) :=
  shapeCast_apply _ _ _ _ (by rewrite [Shape.rowMajor_val_two, Shape.rowMajor_val_three]; show (0 * 576 + M.val) * 1024 + o.val = M.val * 1024 + o.val; omega)

/-- A reshape to the same shape changes nothing. -/
theorem same_cast {α : Type} {s : Shape} (x : s.Idx → α) (h : s.ShapeCasts s) : shapeCast s x h = x :=
  funext fun j => shapeCast_apply _ _ _ _ rfl

/-! ### Products -/

theorem mm512 (x : S576x512.Idx → EReal) (y : S512x256.Idx → EReal) (M : Fin 576) (o : Fin 256) :
    matmul (F := Ideal) (φ₁ := .bf16) (φ₂ := .bf16) dot_S576x512_S512x256_S576x256_1_0_0_1_n_n none x y (constant S576x256 .f32 0x00000000#32) (ix2 M o) = ∑ k : Fin 512, x (ix2 M k) * y (ix2 k o) := by
  refine (Ideal.matmul_plain_apply (φ₁ := .bf16) (φ₂ := .bf16) none x y _ M o).trans ?_
  show Ideal.ofBits .f32 0x00000000#32 + _ = _
  rw [Ideal.ofBits_zero_f32, zero_add]
  rfl

theorem mm256 (x : S576x256.Idx → EReal) (y : S256x256.Idx → EReal) (M : Fin 576) (o : Fin 256) :
    matmul (F := Ideal) (φ₁ := .bf16) (φ₂ := .bf16) dot_S576x256_S256x256_S576x256_1_0_0_1_n_n none x y (constant S576x256 .f32 0x00000000#32) (ix2 M o) = ∑ k : Fin 256, x (ix2 M k) * y (ix2 k o) := by
  refine (Ideal.matmul_plain_apply (φ₁ := .bf16) (φ₂ := .bf16) none x y _ M o).trans ?_
  show Ideal.ofBits .f32 0x00000000#32 + _ = _
  rw [Ideal.ofBits_zero_f32, zero_add]
  rfl

theorem mm1024 (x : S576x1024.Idx → EReal) (y : S1024x256.Idx → EReal) (M : Fin 576) (o : Fin 256) :
    matmul (F := Ideal) (φ₁ := .bf16) (φ₂ := .bf16) dot_S576x1024_S1024x256_S576x256_1_0_0_1_n_n none x y (constant S576x256 .f32 0x00000000#32) (ix2 M o) = ∑ k : Fin 1024, x (ix2 M k) * y (ix2 k o) := by
  refine (Ideal.matmul_plain_apply (φ₁ := .bf16) (φ₂ := .bf16) none x y _ M o).trans ?_
  show Ideal.ofBits .f32 0x00000000#32 + _ = _
  rw [Ideal.ofBits_zero_f32, zero_add]
  rfl

theorem mm2304 (x : S576x2304.Idx → EReal) (y : S2304x256.Idx → EReal) (M : Fin 576) (o : Fin 256) :
    matmul (F := Ideal) (φ₁ := .bf16) (φ₂ := .bf16) dot_S576x2304_S2304x256_S576x256_1_0_0_1_n_n none x y (constant S576x256 .f32 0x00000000#32) (ix2 M o) = ∑ k : Fin 2304, x (ix2 M k) * y (ix2 k o) := by
  refine (Ideal.matmul_plain_apply (φ₁ := .bf16) (φ₂ := .bf16) none x y _ M o).trans ?_
  show Ideal.ofBits .f32 0x00000000#32 + _ = _
  rw [Ideal.ofBits_zero_f32, zero_add]
  rfl

/-- The nine taps side by side: columns 256 t .. are tap `t`. -/
def tapCol (t : Fin 9) (k : Fin 256) : Fin 2304 := ⟨t.val * 256 + k.val, by omega⟩

theorem sum_taps (f : Fin 2304 → EReal) : ∑ q, f q = ∑ t : Fin 9, ∑ k : Fin 256, f (tapCol t k) := by
  rw [← Fintype.sum_prod_type']
  refine (Fintype.sum_equiv (finProdFinEquiv (m := 9) (n := 256)) _ _ fun p => congrArg f (Fin.ext ?_)).symm
  show p.1.val * 256 + p.2.val = p.2.val + 256 * p.1.val
  omega

/-- Nine matrices side by side. -/
def taps9 (x : Fin 9 → S576x256.Idx → EReal) : S576x2304.Idx → EReal :=
  concatenate S576x2304 1 [⟨S576x256, x 0⟩, ⟨S576x256, x 1⟩, ⟨S576x256, x 2⟩, ⟨S576x256, x 3⟩, ⟨S576x256, x 4⟩, ⟨S576x256, x 5⟩, ⟨S576x256, x 6⟩, ⟨S576x256, x 7⟩, ⟨S576x256, x 8⟩]
    concatenates_S576x256_S576x256_S576x256_S576x256_S576x256_S576x256_S576x256_S576x256_S576x256_S576x2304_d1

theorem taps9_apply (x : Fin 9 → S576x256.Idx → EReal) (M : Fin 576) (t : Fin 9) (k : Fin 256) :
    taps9 x (ix2 M (tapCol t k)) = x t (ix2 M k) := by
  refine concatenate_ofFn_apply (t := S576x2304) (s₁ := S576x256) 1 x _ rfl 256 rfl (ix2 M (tapCol t k)) t ?_ (ix2 M k) ?_ ?_
  · show (t.val * 256 + k.val) / 256 = t.val; omega
  · show k.val = (t.val * 256 + k.val) % 256; omega
  · intro b hb
    match b, hb with
    | ⟨0, _⟩, _ => rfl
    | ⟨1, _⟩, hb => exact absurd rfl hb

/-! ### Requantisation -/

def scaledArr (acc : FVec Ideal S576x256 .f32) (b : IVec S1x256 32) (m : FVec Ideal S1x256 .f32) : FVec Ideal S576x256 .f32 :=
  mulf (sitofp .f32 (addi (fptosi 32 (roundeven acc)) (broadcastTo S576x256 b broadcasts_S1x256_S576x256))) (broadcastTo S576x256 m broadcasts_S1x256_S576x256)

theorem bcast_apply {α : Type} (v : S1x256.Idx → α) (M : Fin 576) (o : Fin 256) : broadcastTo S576x256 v broadcasts_S1x256_S576x256 (ix2 M o) = v (ix2 0 o) :=
  broadcastTo_apply _ _ _ _ (fun a => match a with
    | ⟨0, _⟩ => by show 0 = if (1 : Nat) = 1 then 0 else _; rw [if_pos rfl]
    | ⟨1, _⟩ => by show o.val = if (256 : Nat) = 1 then 0 else o.val; rw [if_neg (by decide)])

theorem scaledArr_apply (acc : FVec Ideal S576x256 .f32) (b : IVec S1x256 32) (m : FVec Ideal S1x256 .f32) (M : Fin 576) (o : Fin 256) :
    scaledArr acc b m (ix2 M o) = scaled (acc (ix2 M o)) (b (ix2 0 o)) (m (ix2 0 o)) := by
  rw [← bcast_apply b M o, ← bcast_apply m M o]
  rfl

def clipArr (z : FVec Ideal S576x256 .f32) : FVec Ideal S576x256 .f32 :=
  minimumf (broadcast S576x256 (Scalar.sitofp (F := Ideal) .f32 255#32)) (maximumf (broadcast S576x256 (Scalar.sitofp (F := Ideal) .f32 0#32)) (roundeven z))

theorem clipArr_apply (z : FVec Ideal S576x256 .f32) (M : Fin 576) (o : Fin 256) : clipArr z (ix2 M o) = clip (z (ix2 M o)) := rfl

end Cert.Stage

end
-- ==== Proof.Value.Pay.lean ====
/- The body's stored values at an index, each as the mathematics' function of the values read. -/
module

public import proofs.«01_k».proof.Proof.Value.Mat

@[expose] public section

noncomputable section

namespace Cert.Stage

open Idealize.ShloMosaic Cert.KernelIdeal Cert.KernelIdeal.Gen

/-- A matrix stored as codes, and stored as it is, under the block's shape. -/
def codes (z : FVec Ideal S576x256 .f32) : IVec S1x18x32x256 8 :=
  shapeCast S1x18x32x256 (shapeCast S18x32x256 (trunci 8 (fptosi 32 z) natLt_8_32) shapeCasts_S576x256_S18x32x256) shapeCasts_S18x32x256_S1x18x32x256

theorem codes_apply (z : FVec Ideal S576x256 .f32) (w : Fin 18) (b : Fin 32) (o : Fin 256) : codes z (ix4 0 w b o) = code (z (ix2 (row w b) o)) := by
  rw [codes, up_apply]
  rfl

def nums (z : FVec Ideal S576x256 .f32) : FVec Ideal S1x18x32x256 .bf16 :=
  shapeCast S1x18x32x256 (shapeCast S18x32x256 (truncf .bf16 z bitsLt_bf16_f32) shapeCasts_S576x256_S18x32x256) shapeCasts_S18x32x256_S1x18x32x256

theorem nums_apply (z : FVec Ideal S576x256 .f32) (w : Fin 18) (b : Fin 32) (o : Fin 256) : nums z (ix4 0 w b o) = z (ix2 (row w b) o) := by
  rw [nums, up_apply]
  rfl

/-! ### Weights -/

theorem pay10_apply (v : S512x256.Idx → BitVec 8) (j) : k0_pay10 (F := Ideal) v j = sb (v j) := by unfold k0_pay10; rw [same_cast]; rfl
theorem pay11_apply (v : S2304x256.Idx → BitVec 8) (j) : k0_pay11 (F := Ideal) v j = sb (v j) := by unfold k0_pay11; rw [same_cast, same_cast]; rfl
theorem pay12_apply (v : S256x1024.Idx → BitVec 8) (j) : k0_pay12 (F := Ideal) v j = sb (v j) := by unfold k0_pay12; rw [same_cast]; rfl
theorem pay13_apply (v : S512x1024.Idx → BitVec 8) (j) : k0_pay13 (F := Ideal) v j = sb (v j) := by unfold k0_pay13; rw [same_cast]; rfl
theorem pay14_apply (v : S1024x256.Idx → BitVec 8) (j) : k0_pay14 (F := Ideal) v j = sb (v j) := by unfold k0_pay14; rw [same_cast]; rfl
theorem pay15_apply (v : S2304x256.Idx → BitVec 8) (j) : k0_pay1 (F := Ideal) (k0_pay15 (F := Ideal) v) j = sb (v j) := by unfold k0_pay1 k0_pay15; rw [same_cast, same_cast]; rfl
theorem pay2_apply (v : S256x1024.Idx → BitVec 8) (j) : k0_pay2 (F := Ideal) v j = sb (v j) := by unfold k0_pay2; rw [same_cast]; rfl
theorem pay3_apply (j) : k0_pay3 (F := Ideal) j = 0 := by unfold k0_pay3; rw [same_cast]; exact Ideal.ofBits_zero_bf16
theorem pay4_apply (j) : k0_pay4 (F := Ideal) j = 0 := by unfold k0_pay4; rw [same_cast]; exact Ideal.ofBits_zero_bf16

/-! ### Rows kept or cleared -/

/-- The factor 0 or 1. -/
def gate (c : BitVec 1) : EReal := Scalar.select c (Ideal.ofBits .f32 0x00000000#32) (Ideal.ofBits .f32 0x3F800000#32)

theorem gate_mul (v : BitVec 32) (x : EReal) : x * gate (Scalar.cmpi .eq v 0#32) = if v = 0#32 then 0 else x := by
  by_cases h : v = 0#32
  · subst h
    rw [if_pos rfl]
    exact (congrArg (x * ·) Ideal.ofBits_zero_f32).trans (mul_zero x)
  · rw [if_neg h]
    have e : gate (Scalar.cmpi .eq v 0#32) = 1 := by
      have hc : Scalar.cmpi .eq v 0#32 = 0#1 := by
        show BitVec.ofBool (v == 0#32) = 0#1
        rw [beq_eq_false_iff_ne.mpr h]; rfl
      rw [hc]
      exact Ideal.ofBits_one_f32
    rw [e, mul_one]

theorem pay16_apply (v : BitVec 32) (x : S1x37x32x256.Idx → EReal) (c : Fin 37) (b : Fin 32) (o : Fin 256) :
    k0_pay16 (F := Ideal) v x (ix4 0 c b o) = if v = 0#32 then 0 else x (ix4 0 c b o) := by
  unfold k0_pay16
  rw [shapeCast_apply _ _ _ (ix3 c b o) (by rewrite [Shape.rowMajor_val_four, Shape.rowMajor_val_three]; show (c.val * 32 + b.val) * 256 + o.val = ((0 * 37 + c.val) * 32 + b.val) * 256 + o.val; omega), ← gate_mul]
  refine mul_congr (shapeCast_apply _ _ _ _ (by rewrite [Shape.rowMajor_val_four, Shape.rowMajor_val_three]; show ((0 * 37 + c.val) * 32 + b.val) * 256 + o.val = (c.val * 32 + b.val) * 256 + o.val; omega)) rfl

theorem pay63_apply (v : BitVec 32) (x : S1x20x32x256.Idx → EReal) (c : Fin 20) (b : Fin 32) (o : Fin 256) :
    k0_pay63 (F := Ideal) v x (ix4 0 c b o) = if v = 0#32 then 0 else x (ix4 0 c b o) := by
  unfold k0_pay63
  rw [shapeCast_apply _ _ _ (ix3 c b o) (by rewrite [Shape.rowMajor_val_four, Shape.rowMajor_val_three]; show (c.val * 32 + b.val) * 256 + o.val = ((0 * 20 + c.val) * 32 + b.val) * 256 + o.val; omega), ← gate_mul]
  refine mul_congr (shapeCast_apply _ _ _ _ (by rewrite [Shape.rowMajor_val_four, Shape.rowMajor_val_three]; show ((0 * 20 + c.val) * 32 + b.val) * 256 + o.val = (c.val * 32 + b.val) * 256 + o.val; omega)) rfl

theorem pay8_eq (i : grid0.Coords) (x : S1x20x32x256.Idx → EReal) : k0_pay8 (F := Ideal) i x = k0_pay63 (F := Ideal) (Scalar.remsi (BitVec.ofNat 32 (i 0).val) 14#32) x := rfl

theorem pay9_apply (x : S1x20x32x256.Idx → EReal) (c : Fin 20) (b : Fin 32) (o : Fin 256) : k0_pay9 (F := Ideal) x (ix4 0 c b o) = x (ix4 0 c b o) := by
  unfold k0_pay9
  rw [shapeCast_apply _ _ _ (ix3 c b o) (by rewrite [Shape.rowMajor_val_four, Shape.rowMajor_val_three]; show (c.val * 32 + b.val) * 256 + o.val = ((0 * 20 + c.val) * 32 + b.val) * 256 + o.val; omega)]
  exact shapeCast_apply _ _ _ _ (by rewrite [Shape.rowMajor_val_four, Shape.rowMajor_val_three]; show ((0 * 20 + c.val) * 32 + b.val) * 256 + o.val = (c.val * 32 + b.val) * 256 + o.val; omega)

/-! ### Unit 1 -/

theorem pay17_apply (x : S1x18x32x512.Idx → BitVec 8) (W : S512x256.Idx → EReal) (p : S1x256.Idx → BitVec 32) (m : S1x256.Idx → EReal) (w : Fin 18) (b : Fin 32) (o : Fin 256) :
    k0_pay17 (F := Ideal) x W p m (ix2 (row w b) o) = requant (∑ k : Fin 512, ub (x (ix4 0 w b k)) * W (ix2 k o)) (p (ix2 0 o)) (m (ix2 0 o)) := by
  have e : k0_pay17 (F := Ideal) x W p m = clipArr (scaledArr (matmul (F := Ideal) (φ₁ := .bf16) (φ₂ := .bf16) dot_S576x512_S512x256_S576x256_1_0_0_1_n_n none
      (shapeCast S576x512 (uitofp (F := Ideal) .bf16 (shapeCast S18x32x512 x shapeCasts_S1x18x32x512_S18x32x512)) shapeCasts_S18x32x512_S576x512) W (constant S576x256 .f32 0x00000000#32))
      (shapeCast S1x256 p shapeCasts_S1x256_S1x256) (shapeCast S1x256 m shapeCasts_S1x256_S1x256)) := rfl
  rw [e, clipArr_apply, scaledArr_apply, same_cast, same_cast, mm512]
  refine requant_congr (Finset.sum_congr rfl fun k _ => ?_) rfl rfl
  rw [downx_apply]

theorem pay38_apply (Y : Fin 9 → S1x18x1x32x256.Idx → EReal) (W : S2304x256.Idx → EReal) (p : S1x256.Idx → BitVec 32) (m : S1x256.Idx → EReal) (w : Fin 18) (b : Fin 32) (o : Fin 256) :
    k0_pay38 (F := Ideal) (k0_pay33 (F := Ideal) (Y 0)) (k0_pay34 (F := Ideal) (Y 1)) (k0_pay35 (F := Ideal) (Y 2)) (k0_pay36 (F := Ideal) (Y 3)) (k0_pay37 (F := Ideal) (Y 4)) (Y 5) (Y 6) (Y 7) (Y 8) W p m (ix2 (row w b) o)
      = rnd (scaled (∑ t : Fin 9, ∑ k : Fin 256, Y t (ix5 0 w 0 b k) * W (ix2 (tapCol t k) o)) (p (ix2 0 o)) (m (ix2 0 o))) := by
  have e : k0_pay38 (F := Ideal) (k0_pay33 (F := Ideal) (Y 0)) (k0_pay34 (F := Ideal) (Y 1)) (k0_pay35 (F := Ideal) (Y 2)) (k0_pay36 (F := Ideal) (Y 3)) (k0_pay37 (F := Ideal) (Y 4)) (Y 5) (Y 6) (Y 7) (Y 8) W p m
      = roundeven (scaledArr (matmul (F := Ideal) (φ₁ := .bf16) (φ₂ := .bf16) dot_S576x2304_S2304x256_S576x256_1_0_0_1_n_n none
        (taps9 fun t => shapeCast S576x256 (shapeCast S18x32x256 (Y t) shapeCasts_S1x18x1x32x256_S18x32x256) shapeCasts_S18x32x256_S576x256) W (constant S576x256 .f32 0x00000000#32))
        (shapeCast S1x256 p shapeCasts_S1x256_S1x256) (shapeCast S1x256 m shapeCasts_S1x256_S1x256)) := rfl
  rw [e]
  refine congrArg rnd ?_
  rw [scaledArr_apply, same_cast, same_cast, mm2304, sum_taps]
  refine scaled_congr (Finset.sum_congr rfl fun t _ => Finset.sum_congr rfl fun k _ => mul_congr ?_ rfl) rfl rfl
  rw [taps9_apply, down5_apply]

/-- A rounded number, clipped. -/
theorem pay40_apply (v : FVec Ideal S576x256 .f32) (z : EReal) (j) (h : v j = rnd z) : k0_pay40 (F := Ideal) v 255#32 (k0_pay39 (F := Ideal)) j = clip z := by
  show min _ (max _ (v j)) = _
  rw [h]
  rfl

theorem pay41_eq (v : FVec Ideal S576x256 .f32) : k0_pay41 (F := Ideal) v 255#32 (k0_pay39 (F := Ideal)) = codes (k0_pay40 (F := Ideal) v 255#32 (k0_pay39 (F := Ideal))) := rfl

theorem pay42_apply (v : FVec Ideal S576x256 .f32) (j) : k0_pay42 (F := Ideal) v 255#32 (k0_pay39 (F := Ideal)) j = k0_pay40 (F := Ideal) v 255#32 (k0_pay39 (F := Ideal)) j := by
  unfold k0_pay42; rw [same_cast]; rfl

/-- One block of 256 channels of unit 1's result. -/
def yBlk (xe : FVec Ideal S576x512 .bf16) (h : FVec Ideal S576x256 .bf16) (W1 : FVec Ideal S256x256 .bf16) (p1 : IVec S1x256 32) (m1 : FVec Ideal S1x256 .f32)
    (W2 : FVec Ideal S512x256 .bf16) (p2 : IVec S1x256 32) (m2 : FVec Ideal S1x256 .f32) : FVec Ideal S576x256 .f32 := k0_pay48 (F := Ideal) xe h W1 p1 m1 W2 p2 m2

theorem yBlk_apply (xe : FVec Ideal S576x512 .bf16) (h : FVec Ideal S576x256 .bf16) (W1 : FVec Ideal S256x256 .bf16) (p1 : IVec S1x256 32) (m1 : FVec Ideal S1x256 .f32)
    (W2 : FVec Ideal S512x256 .bf16) (p2 : IVec S1x256 32) (m2 : FVec Ideal S1x256 .f32) (M : Fin 576) (o : Fin 256) :
    yBlk xe h W1 p1 m1 W2 p2 m2 (ix2 M o) = clip (scaled (∑ k : Fin 256, h (ix2 M k) * W1 (ix2 k o)) (p1 (ix2 0 o)) (m1 (ix2 0 o))
      + scaled (∑ k : Fin 512, xe (ix2 M k) * W2 (ix2 k o)) (p2 (ix2 0 o)) (m2 (ix2 0 o))) := by
  have e : yBlk xe h W1 p1 m1 W2 p2 m2 = clipArr (addf
      (scaledArr (matmul (F := Ideal) (φ₁ := .bf16) (φ₂ := .bf16) dot_S576x256_S256x256_S576x256_1_0_0_1_n_n none h W1 (constant S576x256 .f32 0x00000000#32))
        (shapeCast S1x256 p1 shapeCasts_S1x256_S1x256) (shapeCast S1x256 m1 shapeCasts_S1x256_S1x256))
      (scaledArr (matmul (F := Ideal) (φ₁ := .bf16) (φ₂ := .bf16) dot_S576x512_S512x256_S576x256_1_0_0_1_n_n none xe W2 (constant S576x256 .f32 0x00000000#32))
        (shapeCast S1x256 p2 shapeCasts_S1x256_S1x256) (shapeCast S1x256 m2 shapeCasts_S1x256_S1x256))) := rfl
  rw [e, clipArr_apply, same_cast, same_cast, same_cast, same_cast]
  refine congrArg clip (add_congr ?_ ?_)
  · rw [scaledArr_apply, mm256]
  · rw [scaledArr_apply, mm512]

section
variable (xe : FVec Ideal S576x512 .bf16) (h : FVec Ideal S576x256 .bf16) (W1 : FVec Ideal S256x256 .bf16) (p1 : IVec S1x256 32) (m1 : FVec Ideal S1x256 .f32)
    (W2 : FVec Ideal S512x256 .bf16) (p2 : IVec S1x256 32) (m2 : FVec Ideal S1x256 .f32)

theorem pay46_eq : k0_pay46 (F := Ideal) xe (k0_pay44 (F := Ideal) h W1 p1 m1) W2 (constant S576x256 .f32 0x00000000#32) p2 m2 = codes (yBlk xe h W1 p1 m1 W2 p2 m2) := rfl
theorem pay50_eq : k0_pay50 (k0_pay49 (F := Ideal) xe h W1 p1 m1 W2 p2 m2) = codes (yBlk xe h W1 p1 m1 W2 p2 m2) := rfl
theorem pay55_eq : k0_pay55 (F := Ideal) (k0_pay52 (F := Ideal) h W1 p1 m1) (k0_pay53 (F := Ideal) xe W2) p2 m2 = codes (yBlk xe h W1 p1 m1 W2 p2 m2) := rfl
theorem pay58_eq : k0_pay58 (F := Ideal) xe h W1 p1 m1 W2 p2 m2 = codes (yBlk xe h W1 p1 m1 W2 p2 m2) := rfl

theorem pay47_apply (M : Fin 576) (o : Fin 256) : k0_pay47 (F := Ideal) xe (k0_pay44 (F := Ideal) h W1 p1 m1) W2 (constant S576x256 .f32 0x00000000#32) p2 m2 (ix3 0 M o)
    = yBlk xe h W1 p1 m1 W2 p2 m2 (ix2 M o) := by
  unfold k0_pay47; rw [lead1_apply]; rfl
theorem pay51_apply (M : Fin 576) (o : Fin 256) : k0_pay51 (F := Ideal) (k0_pay48 (F := Ideal) xe h W1 p1 m1 W2 p2 m2) (ix3 0 M o) = yBlk xe h W1 p1 m1 W2 p2 m2 (ix2 M o) := by
  unfold k0_pay51; rw [lead1_apply]; rfl
theorem pay56_apply (M : Fin 576) (o : Fin 256) : k0_pay56 (F := Ideal) (k0_pay52 (F := Ideal) h W1 p1 m1) (k0_pay53 (F := Ideal) xe W2) p2 m2 (ix3 0 M o)
    = yBlk xe h W1 p1 m1 W2 p2 m2 (ix2 M o) := by
  unfold k0_pay56; rw [lead1_apply]; rfl
theorem pay59_apply (M : Fin 576) (o : Fin 256) : k0_pay59 (F := Ideal) (k0_pay57 (F := Ideal) xe h W1 p1 m1 W2 p2 m2) (ix3 0 M o) = yBlk xe h W1 p1 m1 W2 p2 m2 (ix2 M o) := by
  unfold k0_pay59; rw [lead1_apply]; rfl
end

/-! ### Unit 2 -/

/-- Unit 2's first product. -/
def hBlk (p : IVec S1x256 32) (m : FVec Ideal S1x256 .f32) (y : FVec Ideal S1x576x1024 .bf16) (W : FVec Ideal S1024x256 .bf16) : FVec Ideal S576x256 .f32 :=
  k0_pay5 (F := Ideal) (k0_pay60 (F := Ideal) p) (k0_pay61 (F := Ideal) m) (k0_pay62 (F := Ideal) y W)

theorem hBlk_apply (p : IVec S1x256 32) (m : FVec Ideal S1x256 .f32) (y : FVec Ideal S1x576x1024 .bf16) (W : FVec Ideal S1024x256 .bf16) (M : Fin 576) (o : Fin 256) :
    hBlk p m y W (ix2 M o) = requant (∑ k : Fin 1024, y (ix3 0 M k) * W (ix2 k o)) (p (ix2 0 o)) (m (ix2 0 o)) := by
  have e : hBlk p m y W = clipArr (scaledArr (matmul (F := Ideal) (φ₁ := .bf16) (φ₂ := .bf16) dot_S576x1024_S1024x256_S576x256_1_0_0_1_n_n none
      (shapeCast S576x1024 y shapeCasts_S1x576x1024_S576x1024) W (constant S576x256 .f32 0x00000000#32))
      (shapeCast S1x256 p shapeCasts_S1x256_S1x256) (shapeCast S1x256 m shapeCasts_S1x256_S1x256)) := rfl
  rw [e, clipArr_apply, scaledArr_apply, same_cast, same_cast, mm1024]
  refine requant_congr (Finset.sum_congr rfl fun k _ => ?_) rfl rfl
  rw [drop1024_apply]

theorem pay6_eq (p : IVec S1x256 32) (m : FVec Ideal S1x256 .f32) (y : FVec Ideal S1x576x1024 .bf16) (W : FVec Ideal S1024x256 .bf16) :
    k0_pay6 (F := Ideal) (k0_pay60 (F := Ideal) p) (k0_pay61 (F := Ideal) m) (k0_pay62 (F := Ideal) y W) = codes (hBlk p m y W) := rfl
theorem pay7_eq (p : IVec S1x256 32) (m : FVec Ideal S1x256 .f32) (y : FVec Ideal S1x576x1024 .bf16) (W : FVec Ideal S1024x256 .bf16) :
    k0_pay7 (F := Ideal) (k0_pay60 (F := Ideal) p) (k0_pay61 (F := Ideal) m) (k0_pay62 (F := Ideal) y W) = nums (hBlk p m y W) := rfl

theorem pay69_apply (Y : Fin 9 → S1x18x32x256.Idx → EReal) (W : S2304x256.Idx → EReal) (p : S1x256.Idx → BitVec 32) (m : S1x256.Idx → EReal) (w : Fin 18) (b : Fin 32) (o : Fin 256) :
    k0_pay69 (F := Ideal) (k0_pay64 (F := Ideal) (Y 0)) (k0_pay65 (F := Ideal) (Y 1)) (k0_pay66 (F := Ideal) (Y 2)) (k0_pay67 (F := Ideal) (Y 3)) (k0_pay68 (F := Ideal) (Y 4)) (Y 5) (Y 6) (Y 7) (Y 8) W p m (ix2 (row w b) o)
      = requant (∑ t : Fin 9, ∑ k : Fin 256, Y t (ix4 0 w b k) * W (ix2 (tapCol t k) o)) (p (ix2 0 o)) (m (ix2 0 o)) := by
  have e : k0_pay69 (F := Ideal) (k0_pay64 (F := Ideal) (Y 0)) (k0_pay65 (F := Ideal) (Y 1)) (k0_pay66 (F := Ideal) (Y 2)) (k0_pay67 (F := Ideal) (Y 3)) (k0_pay68 (F := Ideal) (Y 4)) (Y 5) (Y 6) (Y 7) (Y 8) W p m
      = clipArr (scaledArr (matmul (F := Ideal) (φ₁ := .bf16) (φ₂ := .bf16) dot_S576x2304_S2304x256_S576x256_1_0_0_1_n_n none
        (taps9 fun t => shapeCast S576x256 (shapeCast S18x32x256 (Y t) shapeCasts_S1x18x32x256_S18x32x256) shapeCasts_S18x32x256_S576x256) W (constant S576x256 .f32 0x00000000#32))
        (shapeCast S1x256 p shapeCasts_S1x256_S1x256) (shapeCast S1x256 m shapeCasts_S1x256_S1x256)) := rfl
  rw [e, clipArr_apply, scaledArr_apply, same_cast, same_cast, mm2304, sum_taps]
  refine requant_congr (Finset.sum_congr rfl fun t _ => Finset.sum_congr rfl fun k _ => mul_congr ?_ rfl) rfl rfl
  rw [taps9_apply, down_apply]

theorem pay70_eq (a b c d e f g h j W p m) : k0_pay71 (k0_pay70 (F := Ideal) a b c d e f g h j W p m) = codes (k0_pay69 (F := Ideal) a b c d e f g h j W p m) := rfl

theorem pay72_apply (v : FVec Ideal S576x256 .f32) (j) : k0_pay72 (F := Ideal) v j = v j := by unfold k0_pay72; rw [same_cast]; rfl

/-- One block of 256 channels of unit 2's result. -/
def zBlk (s : EReal) (h : FVec Ideal S576x256 .bf16) (W : FVec Ideal S256x256 .bf16) (p : IVec S1x256 32) (m : FVec Ideal S1x256 .f32) (y : FVec Ideal S1x576x256 .bf16) : FVec Ideal S576x256 .f32 :=
  clipArr (addf (scaledArr (matmul (F := Ideal) (φ₁ := .bf16) (φ₂ := .bf16) dot_S576x256_S256x256_S576x256_1_0_0_1_n_n none h W (constant S576x256 .f32 0x00000000#32))
      (shapeCast S1x256 p shapeCasts_S1x256_S1x256) (shapeCast S1x256 m shapeCasts_S1x256_S1x256))
    (mulf (extf .f32 (shapeCast S576x256 y shapeCasts_S1x576x256_S576x256) bitsLt_bf16_f32) (broadcast S576x256 s)))

theorem zBlk_apply (s : EReal) (h : FVec Ideal S576x256 .bf16) (W : FVec Ideal S256x256 .bf16) (p : IVec S1x256 32) (m : FVec Ideal S1x256 .f32) (y : FVec Ideal S1x576x256 .bf16) (M : Fin 576) (o : Fin 256) :
    zBlk s h W p m y (ix2 M o) = clip (scaled (∑ k : Fin 256, h (ix2 M k) * W (ix2 k o)) (p (ix2 0 o)) (m (ix2 0 o)) + y (ix3 0 M o) * s) := by
  rw [zBlk, clipArr_apply, same_cast, same_cast]
  refine congrArg clip (add_congr ?_ (mul_congr (drop1_apply _ _ _) rfl))
  rw [scaledArr_apply, mm256]

section
variable (s : EReal) (h : FVec Ideal S576x256 .bf16) (W : FVec Ideal S256x256 .bf16) (p : IVec S1x256 32) (m : FVec Ideal S1x256 .f32) (y : FVec Ideal S1x576x256 .bf16)
theorem pay74_eq : k0_pay74 (F := Ideal) s (k0_pay73 (F := Ideal) h W p m) y = codes (zBlk s h W p m y) := rfl
theorem pay76_eq : k0_pay76 (F := Ideal) s (k0_pay75 (F := Ideal) h W p m) y = codes (zBlk s h W p m y) := rfl
theorem pay78_eq : k0_pay78 (F := Ideal) s (k0_pay77 (F := Ideal) h W p m) y = codes (zBlk s h W p m y) := rfl
theorem pay81_eq : k0_pay81 (F := Ideal) s (k0_pay79 (F := Ideal) h W) (k0_pay80 (F := Ideal) p) m y = codes (zBlk s h W p m y) := rfl
end

end Cert.Stage

end
-- ==== Proof.Value.Win.lean ====
/- Reading a window of an array and an array with a window put over it, at a named index; and the values of the body's scalars at a step. -/
module

public import proofs.«01_k».proof.Proof.Value.Pay
public import Idealize.ShloMosaic.Lib.VecWindow

@[expose] public section

noncomputable section

namespace Cert.Stage

open Idealize.ShloMosaic Cert.KernelIdeal Cert.KernelIdeal.Gen

variable {α : Type}

/-- A window of the whole array is the array. -/
theorem window_whole {s : Shape} (x : s.Idx → α) (off : Fin s.rank → ℕ) (inb) (h : ∀ a, off a = 0) : VecWindow.window x off s.size inb = x := by
  funext y
  refine congrArg x (funext fun a => Fin.ext ?_)
  have e : ((Rect.unit off s.size inb).emb y a).val = off a + 1 * (y a).val := rfl
  rw [e, h a]; omega

/-- A window at an index. -/
theorem window_at {s : Shape} (x : s.Idx → α) (off size : Fin s.rank → ℕ) (inb) (y) (k : s.Idx) (h : ∀ a, (k a).val = off a + (y a).val) :
    VecWindow.window x off size inb y = x k := by
  refine congrArg x (funext fun a => Fin.ext ?_)
  have e : ((Rect.unit off size inb).emb y a).val = off a + 1 * (y a).val := rfl
  rw [e, h a]; omega

/-- An array with a window put over it, inside the window. -/
theorem put_at {s : Shape} (x : s.Idx → α) (off size : Fin s.rank → ℕ) (w : ((a : Fin s.rank) → Fin (size a)) → α) (k : s.Idx) (y : (a : Fin s.rank) → Fin (size a))
    (h : ∀ a, (k a).val = off a + (y a).val) : VecWindow.put x off size w k = w y := by
  have hm : ∀ a, off a ≤ (k a).val ∧ (k a).val < off a + size a := fun a => ⟨by rw [h a]; omega, by rw [h a]; have := (y a).isLt; omega⟩
  unfold VecWindow.put
  rw [dif_pos hm]
  exact congrArg w (funext fun a => Fin.ext (by
    show (k a).val - off a = (y a).val
    rw [h a]; omega))

/-- The same outside the window. -/
theorem put_out {s : Shape} (x : s.Idx → α) (off size : Fin s.rank → ℕ) (w : ((a : Fin s.rank) → Fin (size a)) → α) (k : s.Idx) (a : Fin s.rank)
    (h : (k a).val < off a ∨ off a + size a ≤ (k a).val) : VecWindow.put x off size w k = x k := by
  unfold VecWindow.put
  rw [dif_neg fun hm => by have := hm a; omega]

variable {n0 n1 n2 n3 n4 m0 m1 m2 m3 m4 o0 o1 o2 o3 o4 : ℕ}

theorem window2 (x : (⟨2, ![n0, n1]⟩ : Shape).Idx → α) (inb) (y0 : Fin m0) (y1 : Fin m1) (k0 : Fin n0) (k1 : Fin n1)
    (h0 : k0.val = o0 + y0.val) (h1 : k1.val = o1 + y1.val) :
    VecWindow.window x ![o0, o1] ![m0, m1] inb (ix2 y0 y1) = x (ix2 k0 k1) :=
  window_at x ![o0, o1] ![m0, m1] inb (ix2 y0 y1) (ix2 k0 k1) fun a => match a with | ⟨0, _⟩ => h0 | ⟨1, _⟩ => h1

theorem window3 (x : (⟨3, ![n0, n1, n2]⟩ : Shape).Idx → α) (off) (ho : off = ![o0, o1, o2]) (inb) (y0 : Fin m0) (y1 : Fin m1) (y2 : Fin m2) (k0 : Fin n0) (k1 : Fin n1) (k2 : Fin n2)
    (h0 : k0.val = o0 + y0.val) (h1 : k1.val = o1 + y1.val) (h2 : k2.val = o2 + y2.val) :
    VecWindow.window x off ![m0, m1, m2] inb (ix3 y0 y1 y2) = x (ix3 k0 k1 k2) := by
  subst ho
  exact window_at x ![o0, o1, o2] ![m0, m1, m2] inb (ix3 y0 y1 y2) (ix3 k0 k1 k2) fun a => match a with | ⟨0, _⟩ => h0 | ⟨1, _⟩ => h1 | ⟨2, _⟩ => h2

theorem window4 (x : (⟨4, ![n0, n1, n2, n3]⟩ : Shape).Idx → α) (inb) (y0 : Fin m0) (y1 : Fin m1) (y2 : Fin m2) (y3 : Fin m3) (k0 : Fin n0) (k1 : Fin n1) (k2 : Fin n2) (k3 : Fin n3)
    (h0 : k0.val = o0 + y0.val) (h1 : k1.val = o1 + y1.val) (h2 : k2.val = o2 + y2.val) (h3 : k3.val = o3 + y3.val) :
    VecWindow.window x ![o0, o1, o2, o3] ![m0, m1, m2, m3] inb (ix4 y0 y1 y2 y3) = x (ix4 k0 k1 k2 k3) :=
  window_at x ![o0, o1, o2, o3] ![m0, m1, m2, m3] inb (ix4 y0 y1 y2 y3) (ix4 k0 k1 k2 k3) fun a => match a with | ⟨0, _⟩ => h0 | ⟨1, _⟩ => h1 | ⟨2, _⟩ => h2 | ⟨3, _⟩ => h3

theorem window5 (x : (⟨5, ![n0, n1, n2, n3, n4]⟩ : Shape).Idx → α) (inb) (y0 : Fin m0) (y1 : Fin m1) (y2 : Fin m2) (y3 : Fin m3) (y4 : Fin m4)
    (k0 : Fin n0) (k1 : Fin n1) (k2 : Fin n2) (k3 : Fin n3) (k4 : Fin n4)
    (h0 : k0.val = o0 + y0.val) (h1 : k1.val = o1 + y1.val) (h2 : k2.val = o2 + y2.val) (h3 : k3.val = o3 + y3.val) (h4 : k4.val = o4 + y4.val) :
    VecWindow.window x ![o0, o1, o2, o3, o4] ![m0, m1, m2, m3, m4] inb (ix5 y0 y1 y2 y3 y4) = x (ix5 k0 k1 k2 k3 k4) :=
  window_at x ![o0, o1, o2, o3, o4] ![m0, m1, m2, m3, m4] inb (ix5 y0 y1 y2 y3 y4) (ix5 k0 k1 k2 k3 k4) fun a => match a with | ⟨0, _⟩ => h0 | ⟨1, _⟩ => h1 | ⟨2, _⟩ => h2 | ⟨3, _⟩ => h3 | ⟨4, _⟩ => h4

theorem put3 (x : (⟨3, ![n0, n1, n2]⟩ : Shape).Idx → α) (off) (ho : off = ![o0, o1, o2]) (w : (⟨3, ![m0, m1, m2]⟩ : Shape).Idx → α)
    (y0 : Fin m0) (y1 : Fin m1) (y2 : Fin m2) (k0 : Fin n0) (k1 : Fin n1) (k2 : Fin n2)
    (h0 : k0.val = o0 + y0.val) (h1 : k1.val = o1 + y1.val) (h2 : k2.val = o2 + y2.val) :
    VecWindow.put x off ![m0, m1, m2] w (ix3 k0 k1 k2) = w (ix3 y0 y1 y2) := by
  subst ho
  exact put_at x ![o0, o1, o2] ![m0, m1, m2] w (ix3 k0 k1 k2) (ix3 y0 y1 y2) fun a => match a with | ⟨0, _⟩ => h0 | ⟨1, _⟩ => h1 | ⟨2, _⟩ => h2

theorem put3_out (x : (⟨3, ![n0, n1, n2]⟩ : Shape).Idx → α) (off) (ho : off = ![o0, o1, o2]) (w : (⟨3, ![m0, m1, m2]⟩ : Shape).Idx → α)
    (k0 : Fin n0) (k1 : Fin n1) (k2 : Fin n2) (h : (k0.val < o0 ∨ o0 + m0 ≤ k0.val) ∨ (k2.val < o2 ∨ o2 + m2 ≤ k2.val)) :
    VecWindow.put x off ![m0, m1, m2] w (ix3 k0 k1 k2) = x (ix3 k0 k1 k2) := by
  subst ho
  rcases h with h | h
  · exact put_out x ![o0, o1, o2] ![m0, m1, m2] w (ix3 k0 k1 k2) (0 : Fin 3) h
  · exact put_out x ![o0, o1, o2] ![m0, m1, m2] w (ix3 k0 k1 k2) (2 : Fin 3) h

theorem put4 (x : (⟨4, ![n0, n1, n2, n3]⟩ : Shape).Idx → α) (w : (⟨4, ![m0, m1, m2, m3]⟩ : Shape).Idx → α)
    (y0 : Fin m0) (y1 : Fin m1) (y2 : Fin m2) (y3 : Fin m3) (k0 : Fin n0) (k1 : Fin n1) (k2 : Fin n2) (k3 : Fin n3)
    (h0 : k0.val = o0 + y0.val) (h1 : k1.val = o1 + y1.val) (h2 : k2.val = o2 + y2.val) (h3 : k3.val = o3 + y3.val) :
    VecWindow.put x ![o0, o1, o2, o3] ![m0, m1, m2, m3] w (ix4 k0 k1 k2 k3) = w (ix4 y0 y1 y2 y3) :=
  put_at x ![o0, o1, o2, o3] ![m0, m1, m2, m3] w (ix4 k0 k1 k2 k3) (ix4 y0 y1 y2 y3) fun a => match a with | ⟨0, _⟩ => h0 | ⟨1, _⟩ => h1 | ⟨2, _⟩ => h2 | ⟨3, _⟩ => h3

theorem put4_out (x : (⟨4, ![n0, n1, n2, n3]⟩ : Shape).Idx → α) (w : (⟨4, ![m0, m1, m2, m3]⟩ : Shape).Idx → α)
    (k0 : Fin n0) (k1 : Fin n1) (k2 : Fin n2) (k3 : Fin n3)
    (h : (k0.val < o0 ∨ o0 + m0 ≤ k0.val) ∨ (k1.val < o1 ∨ o1 + m1 ≤ k1.val) ∨ (k3.val < o3 ∨ o3 + m3 ≤ k3.val)) :
    VecWindow.put x ![o0, o1, o2, o3] ![m0, m1, m2, m3] w (ix4 k0 k1 k2 k3) = x (ix4 k0 k1 k2 k3) := by
  rcases h with h | h | h
  · exact put_out x ![o0, o1, o2, o3] ![m0, m1, m2, m3] w (ix4 k0 k1 k2 k3) (0 : Fin 4) h
  · exact put_out x ![o0, o1, o2, o3] ![m0, m1, m2, m3] w (ix4 k0 k1 k2 k3) (1 : Fin 4) h
  · exact put_out x ![o0, o1, o2, o3] ![m0, m1, m2, m3] w (ix4 k0 k1 k2 k3) (3 : Fin 4) h

theorem put2 (x : (⟨2, ![n0, n1]⟩ : Shape).Idx → α) (w : (⟨2, ![n0, n1]⟩ : Shape).Idx → α) : VecWindow.put x ![0, 0] ![n0, n1] w = w :=
  funext fun k => put_at x ![0, 0] ![n0, n1] w k k fun a => match a with | ⟨0, _⟩ => (Nat.zero_add _).symm | ⟨1, _⟩ => (Nat.zero_add _).symm

theorem put4_whole (x : (⟨4, ![n0, n1, n2, n3]⟩ : Shape).Idx → α) (w : (⟨4, ![n0, n1, n2, n3]⟩ : Shape).Idx → α) : VecWindow.put x ![0, 0, 0, 0] ![n0, n1, n2, n3] w = w :=
  funext fun k => put_at x ![0, 0, 0, 0] ![n0, n1, n2, n3] w k k fun a => match a with | ⟨0, _⟩ => (Nat.zero_add _).symm | ⟨1, _⟩ => (Nat.zero_add _).symm | ⟨2, _⟩ => (Nat.zero_add _).symm | ⟨3, _⟩ => (Nat.zero_add _).symm

/-- The padded rows of unit 1 with their columns in pairs. -/
theorem pairs37 (x : S3x38x32x256.Idx → α) (h) (r : Fin 3) (c : Fin 19) (e : Fin 2) (b : Fin 32) (k : Fin 256) :
    x (Shape.reshapeEquiv (s := S3x38x32x256) (s' := S3x19x2x32x256) h (ix5 r c e b k)) = x (ix4 r ⟨2 * c.val + e.val, by omega⟩ b k) := by
  refine congrArg x (Shape.reshapeEquiv_eq_of_rowMajor h ?_)
  rw [Shape.rowMajor_val_four, Shape.rowMajor_val_five]
  show (((r.val * 38 + (2 * c.val + e.val)) * 32 + b.val) * 256 + k.val) = ((((r.val * 19 + c.val) * 2 + e.val) * 32 + b.val) * 256 + k.val)
  omega

/-- The rows of the input with their columns in pairs. -/
theorem pairs1 (x : S2x36x32x512.Idx → α) (h) (r : Fin 2) (c : Fin 18) (e : Fin 2) (b : Fin 32) (k : Fin 512) :
    x (Shape.reshapeEquiv (s := S2x36x32x512) (s' := S2x18x2x32x512) h (ix5 r c e b k)) = x (ix4 r ⟨2 * c.val + e.val, by omega⟩ b k) := by
  refine congrArg x (Shape.reshapeEquiv_eq_of_rowMajor h ?_)
  rw [Shape.rowMajor_val_four, Shape.rowMajor_val_five]
  show (((r.val * 36 + (2 * c.val + e.val)) * 32 + b.val) * 512 + k.val) = ((((r.val * 18 + c.val) * 2 + e.val) * 32 + b.val) * 512 + k.val)
  omega

/-! ### Scalars of a step -/

theorem off1_eq : ∀ i : grid0.Coords, k0_off1 i = ![(i 0).val % 2, 0, 0] := by decide +kernel
theorem off2_eq : ∀ i : grid0.Coords, k0_off2 i = ![(i 0).val % 2, 0, 256] := by decide +kernel
theorem off3_eq : ∀ i : grid0.Coords, k0_off3 i = ![(i 0).val % 2, 0, 512] := by decide +kernel
theorem off4_eq : ∀ i : grid0.Coords, k0_off4 i = ![(i 0).val % 2, 0, 768] := by decide +kernel
theorem off5_eq : ∀ i : grid0.Coords, k0_off5 i = ![(i 0).val % 2, 0, 0] := by decide +kernel
theorem off6_eq : ∀ i : grid0.Coords, k0_off6 i = ![((i 0).val + 1) % 2, 0, 0] := by decide +kernel
theorem off7_eq : ∀ i : grid0.Coords, k0_off7 i = ![((i 0).val + 1) % 2, 0, 256] := by decide +kernel
theorem off8_eq : ∀ i : grid0.Coords, k0_off8 i = ![((i 0).val + 1) % 2, 0, 512] := by decide +kernel
theorem off9_eq : ∀ i : grid0.Coords, k0_off9 i = ![((i 0).val + 1) % 2, 0, 768] := by decide +kernel
theorem cond2_iff : ∀ i : grid0.Coords, k0_cond2 i = 1#1 ↔ (i 0).val < 56 := by decide +kernel
theorem cond3_iff : ∀ i : grid0.Coords, k0_cond3 i = 1#1 ↔ 0 < (i 0).val := by decide +kernel
theorem rem14 : ∀ i : grid0.Coords, Scalar.remsi (BitVec.ofNat 32 (i 0).val) 14#32 = 0#32 ↔ (i 0).val % 14 = 0 := by decide +kernel

end Cert.Stage

end
-- ==== Proof.Value.Facts.lean ====
/-
  What the body's buffers hold, said of a state, and the values the body computes from buffers that hold it. `b` is a block of 32
  images and `i` a row of the result; `Env` says the weights, biases and scales are the arguments' and `XOk` that the input window
  holds the two rows `2i`, `2i+1` of the images of block `b`.
-/
module

public import proofs.«01_k».proof.Proof.Value.Win
public import proofs.«01_k».proof.Proof.KernelIdeal.Body

@[expose] public section

noncomputable section

namespace Cert.Stage

open Idealize.ShloMosaic Cert.KernelIdeal Cert.KernelIdeal.Gen Cert.KernelIdeal.Hand

/-- Image `bb` of block `b`. -/
def bn (b : Fin 4) (bb : Fin 32) : Fin 128 := ⟨b.val * 32 + bb.val, by omega⟩

/-- The parts of a state that no part of the body after the first writes. -/
structure Fx where
  a1 : S2x36x32x512.Idx → BitVec 8
  a9 : S1x256.Idx → BitVec 32
  a10 : S1x256.Idx → EReal
  a11 : S1x256.Idx → BitVec 32
  a12 : S1x256.Idx → EReal
  a13 : S1x1024.Idx → BitVec 32
  a14 : S1x1024.Idx → EReal
  a15 : S1x1024.Idx → BitVec 32
  a16 : S1x1024.Idx → EReal
  a17 : S1x256.Idx → BitVec 32
  a18 : S1x256.Idx → EReal
  a19 : S1x256.Idx → BitVec 32
  a20 : S1x256.Idx → EReal
  a21 : S1x1024.Idx → BitVec 32
  a22 : S1x1024.Idx → EReal
  a23 : S1.Idx → EReal
  a30 : S512x256.Idx → EReal
  a31 : S2304x256.Idx → EReal
  a32 : S256x1024.Idx → EReal
  a33 : S512x1024.Idx → EReal
  a34 : S1024x256.Idx → EReal
  a35 : S2304x256.Idx → EReal
  a36 : S256x1024.Idx → EReal

def fx (S : St Ideal) : Fx :=
  ⟨S.a1, S.a9, S.a10, S.a11, S.a12, S.a13, S.a14, S.a15, S.a16, S.a17, S.a18, S.a19, S.a20, S.a21, S.a22, S.a23, S.a30, S.a31, S.a32, S.a33, S.a34, S.a35, S.a36⟩

/-- The biases and scales the state holds are the arguments'. -/
structure Vecs (A : Args) (S : St Ideal) : Prop where
  b1a : ∀ o, S.a9 (ix2 0 o) = A.b1a (ix1 o)
  m1a : ∀ o, S.a10 (ix2 0 o) = A.m1a (ix1 o)
  b1b : ∀ o, S.a11 (ix2 0 o) = A.b1b (ix1 o)
  m1b : ∀ o, S.a12 (ix2 0 o) = A.m1b (ix1 o)
  b1c : ∀ o, S.a13 (ix2 0 o) = A.b1c (ix1 o)
  m1c : ∀ o, S.a14 (ix2 0 o) = A.m1c (ix1 o)
  b1s : ∀ o, S.a15 (ix2 0 o) = A.b1s (ix1 o)
  m1s : ∀ o, S.a16 (ix2 0 o) = A.m1s (ix1 o)
  b2a : ∀ o, S.a17 (ix2 0 o) = A.b2a (ix1 o)
  m2a : ∀ o, S.a18 (ix2 0 o) = A.m2a (ix1 o)
  b2b : ∀ o, S.a19 (ix2 0 o) = A.b2b (ix1 o)
  m2b : ∀ o, S.a20 (ix2 0 o) = A.m2b (ix1 o)
  b2c : ∀ o, S.a21 (ix2 0 o) = A.b2c (ix1 o)
  m2c : ∀ o, S.a22 (ix2 0 o) = A.m2c (ix1 o)
  m2s : S.a23 (ix1 0) = A.m2s (ix1 0)

/-- The weights the scratch holds are the arguments'. -/
structure Wts (A : Args) (a30 : S512x256.Idx → EReal) (a31 : S2304x256.Idx → EReal) (a32 : S256x1024.Idx → EReal) (a33 : S512x1024.Idx → EReal)
    (a34 : S1024x256.Idx → EReal) (a35 : S2304x256.Idx → EReal) (a36 : S256x1024.Idx → EReal) : Prop where
  w1a : ∀ k o, a30 (ix2 k o) = sb (A.w1a (ix2 k o))
  w1b : ∀ t k o, a31 (ix2 (tapCol t k) o) = sb (A.w1b (ix4 (kh t) (kw t) k o))
  w1c : ∀ k o, a32 (ix2 k o) = sb (A.w1c (ix2 k o))
  w1s : ∀ k o, a33 (ix2 k o) = sb (A.w1s (ix2 k o))
  w2a : ∀ k o, a34 (ix2 k o) = sb (A.w2a (ix2 k o))
  w2b : ∀ t k o, a35 (ix2 (tapCol t k) o) = sb (A.w2b (ix4 (kh t) (kw t) k o))
  w2c : ∀ k o, a36 (ix2 k o) = sb (A.w2c (ix2 k o))

/-- The input window holds rows `2i` and `2i+1` of block `b`. -/
def XOk (A : Args) (b : Fin 4) (i : Fin 14) (S : St Ideal) : Prop :=
  ∀ (r : Fin 2) (w : Fin 36) (bb : Fin 32) (k : Fin 512), S.a1 (ix4 r w bb k) = A.x (ix4 (bn b bb) ⟨2 * i.val + r.val, by omega⟩ w k)

/-- Biases, scales and weights are the arguments'. -/
structure Env (A : Args) (S : St Ideal) : Prop where
  v : Vecs A S
  w : Wts A S.a30 S.a31 S.a32 S.a33 S.a34 S.a35 S.a36

theorem Env.of {A : Args} {S S' : St Ideal} (E : Env A S) (h : fx S' = fx S) : Env A S' where
  v := {
    b1a := fun o => (congrFun (congrArg Fx.a9 h) _).trans (E.v.b1a o)
    m1a := fun o => (congrFun (congrArg Fx.a10 h) _).trans (E.v.m1a o)
    b1b := fun o => (congrFun (congrArg Fx.a11 h) _).trans (E.v.b1b o)
    m1b := fun o => (congrFun (congrArg Fx.a12 h) _).trans (E.v.m1b o)
    b1c := fun o => (congrFun (congrArg Fx.a13 h) _).trans (E.v.b1c o)
    m1c := fun o => (congrFun (congrArg Fx.a14 h) _).trans (E.v.m1c o)
    b1s := fun o => (congrFun (congrArg Fx.a15 h) _).trans (E.v.b1s o)
    m1s := fun o => (congrFun (congrArg Fx.a16 h) _).trans (E.v.m1s o)
    b2a := fun o => (congrFun (congrArg Fx.a17 h) _).trans (E.v.b2a o)
    m2a := fun o => (congrFun (congrArg Fx.a18 h) _).trans (E.v.m2a o)
    b2b := fun o => (congrFun (congrArg Fx.a19 h) _).trans (E.v.b2b o)
    m2b := fun o => (congrFun (congrArg Fx.a20 h) _).trans (E.v.m2b o)
    b2c := fun o => (congrFun (congrArg Fx.a21 h) _).trans (E.v.b2c o)
    m2c := fun o => (congrFun (congrArg Fx.a22 h) _).trans (E.v.m2c o)
    m2s := (congrFun (congrArg Fx.a23 h) _).trans E.v.m2s }
  w := {
    w1a := fun k o => (congrFun (congrArg Fx.a30 h) _).trans (E.w.w1a k o)
    w1b := fun t k o => (congrFun (congrArg Fx.a31 h) _).trans (E.w.w1b t k o)
    w1c := fun k o => (congrFun (congrArg Fx.a32 h) _).trans (E.w.w1c k o)
    w1s := fun k o => (congrFun (congrArg Fx.a33 h) _).trans (E.w.w1s k o)
    w2a := fun k o => (congrFun (congrArg Fx.a34 h) _).trans (E.w.w2a k o)
    w2b := fun t k o => (congrFun (congrArg Fx.a35 h) _).trans (E.w.w2b t k o)
    w2c := fun k o => (congrFun (congrArg Fx.a36 h) _).trans (E.w.w2c k o) }

theorem XOk.of {A : Args} {b : Fin 4} {i : Fin 14} {S S' : St Ideal} (X : XOk A b i S) (h : fx S' = fx S) : XOk A b i S' :=
  fun r w bb k => (congrFun (congrArg Fx.a1 h) _).trans (X r w bb k)

variable {A : Args} {b : Fin 4} {i : Fin 14} {S : St Ideal}

/-- Unit 1's first product, half a row at a time. -/
theorem h1a_val (E : Env A S) (X : XOk A b i S) (r : Fin 2) (r' hf : ℕ) (hr : r' = r.val) (hh : hf + 18 ≤ 36) (inb inb' inb'' inb''') (w : Fin 18) (bb : Fin 32) (o : Fin 256) :
    k0_pay17 (F := Ideal) (VecWindow.window S.a1 ![r', hf, 0, 0] S1x18x32x512.size inb) (VecWindow.window S.a30 ![0, 0] S512x256.size inb')
        (VecWindow.window S.a9 ![0, 0] S1x256.size inb'') (VecWindow.window S.a10 ![0, 0] S1x256.size inb''') (ix2 (row w bb) o)
      = H1a A (bn b bb) ⟨2 * i.val + r.val, by omega⟩ ⟨hf + w.val, by omega⟩ o := by
  subst hr
  rw [pay17_apply, H1a]
  refine requant_congr (Finset.sum_congr rfl fun k _ => mul_congr ?_ ?_) ?_ ?_
  · refine congrArg ub (Eq.trans (window4 S.a1 inb 0 w bb k r ⟨hf + w.val, by omega⟩ bb k rfl rfl (by omega) (by omega)) (X r _ bb k))
  · exact (window2 S.a30 inb' k o k o (by omega) (by omega)).trans (E.w.w1a k o)
  · exact (window2 S.a9 inb'' 0 o 0 o rfl (by omega)).trans (E.v.b1a o)
  · exact (window2 S.a10 inb''' 0 o 0 o rfl (by omega)).trans (E.v.m1a o)

/-- The offsets of the nine taps among the padded rows of unit 1, columns in pairs. -/
def offT (t : Fin 9) : Fin 5 → ℕ :=
  (![![0, 0, 0, 0, 0], ![0, 0, 1, 0, 0], ![0, 1, 0, 0, 0], ![1, 0, 0, 0, 0], ![1, 0, 1, 0, 0], ![1, 1, 0, 0, 0], ![2, 0, 0, 0, 0], ![2, 0, 1, 0, 0], ![2, 1, 0, 0, 0]] : Fin 9 → Fin 5 → ℕ) t

theorem offT_eq : ∀ t, offT t = ![(kh t).val, (kw t).val / 2, (kw t).val % 2, 0, 0] := by decide

theorem offT_inb : ∀ t a, offT t a + S1x18x1x32x256.size a ≤ S3x19x2x32x256.size a := by decide

/-- One tap of unit 1. -/
def tap1 (x : S3x38x32x256.Idx → EReal) (t : Fin 9) : S1x18x1x32x256.Idx → EReal :=
  VecWindow.window (fun j => x (Shape.reshapeEquiv reshapes_S3x38x32x256_S3x19x2x32x256.1 j)) (offT t) S1x18x1x32x256.size (offT_inb t)

theorem tap1_apply (x : S3x38x32x256.Idx → EReal) (t : Fin 9) (w : Fin 18) (bb : Fin 32) (k : Fin 256) :
    tap1 x t (ix5 0 w 0 bb k) = x (ix4 (kh t) ⟨2 * w.val + (kw t).val, by have := (kw t).isLt; omega⟩ bb k) := by
  have e := window_at (fun j => x (Shape.reshapeEquiv reshapes_S3x38x32x256_S3x19x2x32x256.1 j)) (offT t) S1x18x1x32x256.size (offT_inb t) (ix5 0 w 0 bb k)
    (ix5 (kh t) ⟨w.val + (kw t).val / 2, by have := (kw t).isLt; omega⟩ ⟨(kw t).val % 2, by omega⟩ bb k) (fun a => match a with
      | ⟨0, _⟩ => (congrFun (offT_eq t) 0).symm
      | ⟨1, _⟩ => (Nat.add_comm _ _).trans (congrArg (· + w.val) (congrFun (offT_eq t) 1).symm)
      | ⟨2, _⟩ => (congrFun (offT_eq t) 2).symm
      | ⟨3, _⟩ => (Nat.zero_add _).symm.trans (congrArg (· + bb.val) (congrFun (offT_eq t) 3).symm)
      | ⟨4, _⟩ => (Nat.zero_add _).symm.trans (congrArg (· + k.val) (congrFun (offT_eq t) 4).symm))
  refine e.trans ((pairs37 x _ _ _ _ _ _).trans (congrArg x ?_))
  funext a
  exact match a with
    | ⟨0, _⟩ => rfl
    | ⟨1, _⟩ => Fin.ext (by show 2 * (w.val + (kw t).val / 2) + (kw t).val % 2 = 2 * w.val + (kw t).val; omega)
    | ⟨2, _⟩ => rfl
    | ⟨3, _⟩ => rfl

/-- Unit 1's 3x3 product, before it is stored. -/
def h1bArr (x : S3x38x32x256.Idx → EReal) (W : S2304x256.Idx → EReal) (p : S1x256.Idx → BitVec 32) (m : S1x256.Idx → EReal) : FVec Ideal S576x256 .f32 :=
  k0_pay40 (F := Ideal) (k0_pay38 (F := Ideal) (k0_pay33 (F := Ideal) (tap1 x 0)) (k0_pay34 (F := Ideal) (tap1 x 1)) (k0_pay35 (F := Ideal) (tap1 x 2)) (k0_pay36 (F := Ideal) (tap1 x 3)) (k0_pay37 (F := Ideal) (tap1 x 4))
    (tap1 x 5) (tap1 x 6) (tap1 x 7) (tap1 x 8) W p m) 255#32 (k0_pay39 (F := Ideal))

theorem h1b_val (E : Env A S) (x : S3x38x32x256.Idx → EReal)
    (hx : ∀ (k : Fin 3) (c : Fin 38) bb o, x (ix4 k c bb o) = P1 A (bn b bb) (2 * i.val + k.val) c.val o) (w : Fin 18) (bb : Fin 32) (o : Fin 256) :
    h1bArr x S.a31 S.a11 S.a12 (ix2 (row w bb) o) = H1b A (bn b bb) i w o := by
  rw [h1bArr, pay40_apply _ _ _ (pay38_apply (tap1 x) S.a31 S.a11 S.a12 w bb o)]
  rw [H1b]
  refine congrArg clip (scaled_congr (Finset.sum_congr rfl fun t _ => Finset.sum_congr rfl fun k _ => mul_congr ?_ ?_) (E.v.b1b o) (E.v.m1b o))
  · exact (tap1_apply x t w bb k).trans (hx _ _ _ _)
  · exact E.w.w1b t k o

/-- The even columns of the row `2i`. -/
theorem xe_val (X : XOk A b i S) (inb) (w : Fin 18) (bb : Fin 32) (k : Fin 512) :
    k0_pay43 (F := Ideal) (VecWindow.window (fun j => S.a1 (Shape.reshapeEquiv reshapes_S2x36x32x512_S2x18x2x32x512.1 j)) ![0, 0, 0, 0, 0] S1x18x1x32x512.size inb) (ix2 (row w bb) k)
      = ub (A.x (ix4 (bn b bb) ⟨2 * i.val, by omega⟩ ⟨2 * w.val, by omega⟩ k)) := by
  rw [downx5_apply]
  refine congrArg ub ?_
  refine (window5 (fun j => S.a1 (Shape.reshapeEquiv reshapes_S2x36x32x512_S2x18x2x32x512.1 j)) inb 0 w 0 bb k 0 w 0 bb k rfl (by omega) rfl (by omega) (by omega)).trans ?_
  exact (pairs1 S.a1 _ 0 w 0 bb k).trans (X 0 _ bb k)

/-- Unit 1's result, 256 channels at a time. -/
theorem y1_val (E : Env A S) (xe : FVec Ideal S576x512 .bf16) (h : FVec Ideal S576x256 .bf16)
    (hxe : ∀ w bb k, xe (ix2 (row w bb) k) = ub (A.x (ix4 (bn b bb) ⟨2 * i.val, by omega⟩ ⟨2 * w.val, by omega⟩ k)))
    (hh : ∀ w bb o, h (ix2 (row w bb) o) = H1b A (bn b bb) i w o) (q : ℕ) (hq : q + 256 ≤ 1024) (i1 i2 i3 i4 i5 i6) (w : Fin 18) (bb : Fin 32) (o : Fin 256) :
    yBlk xe h (VecWindow.window S.a32 ![0, q] S256x256.size i1) (VecWindow.window S.a13 ![0, q] S1x256.size i2) (VecWindow.window S.a14 ![0, q] S1x256.size i3)
        (VecWindow.window S.a33 ![0, q] S512x256.size i4) (VecWindow.window S.a15 ![0, q] S1x256.size i5) (VecWindow.window S.a16 ![0, q] S1x256.size i6) (ix2 (row w bb) o)
      = Y1 A (bn b bb) i w ⟨q + o.val, by omega⟩ := by
  rw [yBlk_apply, Y1]
  refine congrArg clip (add_congr (scaled_congr (Finset.sum_congr rfl fun k _ => mul_congr (hh w bb k) ?_) ?_ ?_) (scaled_congr (Finset.sum_congr rfl fun k _ => mul_congr (hxe w bb k) ?_) ?_ ?_))
  · exact (window2 S.a32 i1 k o k ⟨q + o.val, by omega⟩ (by omega) rfl).trans (E.w.w1c k _)
  · exact (window2 S.a13 i2 0 o 0 ⟨q + o.val, by omega⟩ rfl rfl).trans (E.v.b1c _)
  · exact (window2 S.a14 i3 0 o 0 ⟨q + o.val, by omega⟩ rfl rfl).trans (E.v.m1c _)
  · exact (window2 S.a33 i4 k o k ⟨q + o.val, by omega⟩ (by omega) rfl).trans (E.w.w1s k _)
  · exact (window2 S.a15 i5 0 o 0 ⟨q + o.val, by omega⟩ rfl rfl).trans (E.v.b1s _)
  · exact (window2 S.a16 i6 0 o 0 ⟨q + o.val, by omega⟩ rfl rfl).trans (E.v.m1s _)

/-- Unit 2's first product. -/
theorem h2a_val (E : Env A S) (y : FVec Ideal S1x576x1024 .bf16) (hy : ∀ w bb o, y (ix3 0 (row w bb) o) = Y1 A (bn b bb) i w o) (w : Fin 18) (bb : Fin 32) (o : Fin 256) :
    hBlk S.a17 S.a18 y S.a34 (ix2 (row w bb) o) = H2a A (bn b bb) i w o := by
  rw [hBlk_apply, H2a]
  exact requant_congr (Finset.sum_congr rfl fun k _ => mul_congr (hy w bb k) (E.w.w2a k o)) (E.v.b2a o) (E.v.m2a o)

/-- The offsets of the nine taps among the padded rows of unit 2. -/
def offU (t : Fin 9) : Fin 4 → ℕ :=
  (![![0, 0, 0, 0], ![0, 1, 0, 0], ![0, 2, 0, 0], ![1, 0, 0, 0], ![1, 1, 0, 0], ![1, 2, 0, 0], ![2, 0, 0, 0], ![2, 1, 0, 0], ![2, 2, 0, 0]] : Fin 9 → Fin 4 → ℕ) t

theorem offU_eq : ∀ t, offU t = ![(kh t).val, (kw t).val, 0, 0] := by decide

theorem offU_inb : ∀ t a, offU t a + S1x18x32x256.size a ≤ S4x20x32x256.size a := by decide

/-- One tap of unit 2. -/
def tap2 (x : S4x20x32x256.Idx → EReal) (t : Fin 9) : S1x18x32x256.Idx → EReal := VecWindow.window x (offU t) S1x18x32x256.size (offU_inb t)

theorem tap2_apply (x : S4x20x32x256.Idx → EReal) (t : Fin 9) (w : Fin 18) (bb : Fin 32) (k : Fin 256) :
    tap2 x t (ix4 0 w bb k) = x (ix4 ⟨(kh t).val, by omega⟩ ⟨w.val + (kw t).val, by have := (kw t).isLt; omega⟩ bb k) :=
  window_at x (offU t) S1x18x32x256.size (offU_inb t) (ix4 0 w bb k) (ix4 ⟨(kh t).val, by omega⟩ ⟨w.val + (kw t).val, by have := (kw t).isLt; omega⟩ bb k) (fun a => match a with
      | ⟨0, _⟩ => (congrFun (offU_eq t) 0).symm
      | ⟨1, _⟩ => (Nat.add_comm _ _).trans (congrArg (· + w.val) (congrFun (offU_eq t) 1).symm)
      | ⟨2, _⟩ => (Nat.zero_add _).symm.trans (congrArg (· + bb.val) (congrFun (offU_eq t) 2).symm)
      | ⟨3, _⟩ => (Nat.zero_add _).symm.trans (congrArg (· + k.val) (congrFun (offU_eq t) 3).symm))

/-- Unit 2's 3x3 product. -/
def h2bArr (x : S4x20x32x256.Idx → EReal) (W : S2304x256.Idx → EReal) (p : S1x256.Idx → BitVec 32) (m : S1x256.Idx → EReal) : FVec Ideal S576x256 .f32 :=
  k0_pay69 (F := Ideal) (k0_pay64 (F := Ideal) (tap2 x 0)) (k0_pay65 (F := Ideal) (tap2 x 1)) (k0_pay66 (F := Ideal) (tap2 x 2)) (k0_pay67 (F := Ideal) (tap2 x 3)) (k0_pay68 (F := Ideal) (tap2 x 4))
    (tap2 x 5) (tap2 x 6) (tap2 x 7) (tap2 x 8) W p m

theorem h2b_val (E : Env A S) (x : S4x20x32x256.Idx → EReal)
    (hx : ∀ (k : Fin 4), k.val < 3 → ∀ (c : Fin 20) bb o, x (ix4 k c bb o) = P2 A (bn b bb) (i.val + k.val) c.val o) (w : Fin 18) (bb : Fin 32) (o : Fin 256) :
    h2bArr x S.a35 S.a19 S.a20 (ix2 (row w bb) o) = H2b A (bn b bb) i w o := by
  rw [h2bArr, pay69_apply (tap2 x) S.a35 S.a19 S.a20 w bb o, H2b]
  refine requant_congr (Finset.sum_congr rfl fun t _ => Finset.sum_congr rfl fun k _ => mul_congr ?_ ?_) (E.v.b2b o) (E.v.m2b o)
  · exact (tap2_apply x t w bb k).trans (hx ⟨(kh t).val, by omega⟩ (kh t).isLt ⟨w.val + (kw t).val, by have := (kw t).isLt; omega⟩ bb k)
  · exact E.w.w2b t k o

/-- Unit 2's result, 256 channels at a time. -/
theorem y2_val (E : Env A S) (s : EReal) (hs : s = A.m2s (ix1 0)) (h : FVec Ideal S576x256 .bf16) (y : FVec Ideal S1x576x256 .bf16) (q : ℕ) (hq : q + 256 ≤ 1024)
    (hh : ∀ w bb o, h (ix2 (row w bb) o) = H2b A (bn b bb) i w o)
    (hy : ∀ w bb (o : Fin 256), y (ix3 0 (row w bb) o) = Y1 A (bn b bb) i w ⟨q + o.val, by omega⟩) (i1 i2 i3) (w : Fin 18) (bb : Fin 32) (o : Fin 256) :
    zBlk s h (VecWindow.window S.a36 ![0, q] S256x256.size i1) (VecWindow.window S.a21 ![0, q] S1x256.size i2) (VecWindow.window S.a22 ![0, q] S1x256.size i3) y (ix2 (row w bb) o)
      = Y2 A (bn b bb) i w ⟨q + o.val, by omega⟩ := by
  rw [zBlk_apply, Y2, hs]
  refine congrArg clip (add_congr (scaled_congr (Finset.sum_congr rfl fun k _ => mul_congr (hh w bb k) ?_) ?_ ?_) (mul_congr (hy w bb o) rfl))
  · exact (window2 S.a36 i1 k o k ⟨q + o.val, by omega⟩ (by omega) rfl).trans (E.w.w2c k _)
  · exact (window2 S.a21 i2 0 o 0 ⟨q + o.val, by omega⟩ rfl rfl).trans (E.v.b2c _)
  · exact (window2 S.a22 i3 0 o 0 ⟨q + o.val, by omega⟩ rfl rfl).trans (E.v.m2c _)

end Cert.Stage

end
-- ==== Proof.Value.Puts.lean ====
/- Buffers written in pieces: what they hold once every piece is in. -/
module

public import proofs.«01_k».proof.Proof.Value.Facts

@[expose] public section

noncomputable section

namespace Cert.Stage

open Idealize.ShloMosaic Cert.KernelIdeal Cert.KernelIdeal.Gen Cert.KernelIdeal.Hand

variable {β : Type}

/-- Four windows of 256 channels. -/
theorem quarters4 (x : S1x18x32x1024.Idx → β) (w0 w1 w2 w3 : S1x18x32x256.Idx → β) (f : Fin 18 → Fin 32 → Fin 1024 → β)
    (h0 : ∀ w bb (o : Fin 256), w0 (ix4 0 w bb o) = f w bb ⟨0 + o.val, by omega⟩) (h1 : ∀ w bb (o : Fin 256), w1 (ix4 0 w bb o) = f w bb ⟨256 + o.val, by omega⟩)
    (h2 : ∀ w bb (o : Fin 256), w2 (ix4 0 w bb o) = f w bb ⟨512 + o.val, by omega⟩) (h3 : ∀ w bb (o : Fin 256), w3 (ix4 0 w bb o) = f w bb ⟨768 + o.val, by omega⟩)
    (w : Fin 18) (bb : Fin 32) (o : Fin 1024) :
    VecWindow.put (s := S1x18x32x1024) (VecWindow.put (s := S1x18x32x1024) (VecWindow.put (s := S1x18x32x1024) (VecWindow.put (s := S1x18x32x1024) x ![0, 0, 0, 0] S1x18x32x256.size w0) ![0, 0, 0, 256] S1x18x32x256.size w1)
      ![0, 0, 0, 512] S1x18x32x256.size w2) ![0, 0, 0, 768] S1x18x32x256.size w3 (ix4 0 w bb o) = f w bb o := by
  by_cases c3 : 768 ≤ o.val
  · refine (put4 _ w3 0 w bb ⟨o.val - 768, by omega⟩ 0 w bb o rfl (by omega) (by omega) (by simp only []; omega)).trans ((h3 w bb _).trans (congrArg (f w bb) (Fin.ext ?_)))
    simp only []; omega
  refine (put4_out _ w3 0 w bb o (Or.inr (Or.inr (by omega)))).trans ?_
  by_cases c2 : 512 ≤ o.val
  · refine (put4 _ w2 0 w bb ⟨o.val - 512, by omega⟩ 0 w bb o rfl (by omega) (by omega) (by simp only []; omega)).trans ((h2 w bb _).trans (congrArg (f w bb) (Fin.ext ?_)))
    simp only []; omega
  refine (put4_out _ w2 0 w bb o (Or.inr (Or.inr (by omega)))).trans ?_
  by_cases c1 : 256 ≤ o.val
  · refine (put4 _ w1 0 w bb ⟨o.val - 256, by omega⟩ 0 w bb o rfl (by omega) (by omega) (by simp only []; omega)).trans ((h1 w bb _).trans (congrArg (f w bb) (Fin.ext ?_)))
    simp only []; omega
  refine (put4_out _ w1 0 w bb o (Or.inr (Or.inr (by omega)))).trans ?_
  refine (put4 _ w0 0 w bb ⟨o.val, by omega⟩ 0 w bb o rfl (by omega) (by omega) (by simp only []; omega)).trans ((h0 w bb _).trans (congrArg (f w bb) (Fin.ext ?_)))
  simp only []; omega

/-- The same for one of the two slots of the result of unit 1; the other slot keeps what it held. -/
theorem quarters3 (x : S2x576x1024.Idx → β) (w0 w1 w2 w3 : S1x576x256.Idx → β) (s : Fin 2) (d0 d1 d2 d3 : Fin 3 → ℕ) (e0 : d0 = ![s.val, 0, 0]) (e1 : d1 = ![s.val, 0, 256]) (e2 : d2 = ![s.val, 0, 512]) (e3 : d3 = ![s.val, 0, 768])
    (f : Fin 576 → Fin 1024 → β)
    (h0 : ∀ M (o : Fin 256), w0 (ix3 0 M o) = f M ⟨0 + o.val, by omega⟩) (h1 : ∀ M (o : Fin 256), w1 (ix3 0 M o) = f M ⟨256 + o.val, by omega⟩)
    (h2 : ∀ M (o : Fin 256), w2 (ix3 0 M o) = f M ⟨512 + o.val, by omega⟩) (h3 : ∀ M (o : Fin 256), w3 (ix3 0 M o) = f M ⟨768 + o.val, by omega⟩)
    (s' : Fin 2) (M : Fin 576) (o : Fin 1024) :
    VecWindow.put (s := S2x576x1024) (VecWindow.put (s := S2x576x1024) (VecWindow.put (s := S2x576x1024) (VecWindow.put (s := S2x576x1024) x d0 S1x576x256.size w0) d1 S1x576x256.size w1)
      d2 S1x576x256.size w2) d3 S1x576x256.size w3 (ix3 s' M o) = if s' = s then f M o else x (ix3 s' M o) := by
  by_cases hs : s' = s
  · rw [if_pos hs]
    subst hs
    by_cases c3 : 768 ≤ o.val
    · refine (put3 _ d3 e3 w3 0 M ⟨o.val - 768, by omega⟩ s' M o rfl (by omega) (by simp only []; omega)).trans ((h3 M _).trans (congrArg (f M) (Fin.ext ?_)))
      simp only []; omega
    refine (put3_out _ d3 e3 w3 s' M o (Or.inr (by omega))).trans ?_
    by_cases c2 : 512 ≤ o.val
    · refine (put3 _ d2 e2 w2 0 M ⟨o.val - 512, by omega⟩ s' M o rfl (by omega) (by simp only []; omega)).trans ((h2 M _).trans (congrArg (f M) (Fin.ext ?_)))
      simp only []; omega
    refine (put3_out _ d2 e2 w2 s' M o (Or.inr (by omega))).trans ?_
    by_cases c1 : 256 ≤ o.val
    · refine (put3 _ d1 e1 w1 0 M ⟨o.val - 256, by omega⟩ s' M o rfl (by omega) (by simp only []; omega)).trans ((h1 M _).trans (congrArg (f M) (Fin.ext ?_)))
      simp only []; omega
    refine (put3_out _ d1 e1 w1 s' M o (Or.inr (by omega))).trans ?_
    refine (put3 _ d0 e0 w0 0 M ⟨o.val, by omega⟩ s' M o rfl (by omega) (by simp only []; omega)).trans ((h0 M _).trans (congrArg (f M) (Fin.ext ?_)))
    simp only []; omega
  · rw [if_neg hs]
    have hv : s'.val < s.val ∨ s.val + 1 ≤ s'.val := by
      have : s'.val ≠ s.val := fun h => hs (Fin.ext h)
      omega
    exact (put3_out _ d3 e3 w3 s' M o (Or.inl hv)).trans ((put3_out _ d2 e2 w2 s' M o (Or.inl hv)).trans ((put3_out _ d1 e1 w1 s' M o (Or.inl hv)).trans (put3_out _ d0 e0 w0 s' M o (Or.inl hv))))

/-- Two rows in halves. -/
theorem halves (x : S2x36x32x256.Idx → β) (w0 w1 w2 w3 : S1x18x32x256.Idx → β) (f : Fin 2 → Fin 36 → Fin 32 → Fin 256 → β)
    (h0 : ∀ (w : Fin 18) bb o, w0 (ix4 0 w bb o) = f 0 ⟨0 + w.val, by omega⟩ bb o) (h1 : ∀ (w : Fin 18) bb o, w1 (ix4 0 w bb o) = f 0 ⟨18 + w.val, by omega⟩ bb o)
    (h2 : ∀ (w : Fin 18) bb o, w2 (ix4 0 w bb o) = f 1 ⟨0 + w.val, by omega⟩ bb o) (h3 : ∀ (w : Fin 18) bb o, w3 (ix4 0 w bb o) = f 1 ⟨18 + w.val, by omega⟩ bb o)
    (r : Fin 2) (w : Fin 36) (bb : Fin 32) (o : Fin 256) :
    VecWindow.put (s := S2x36x32x256) (VecWindow.put (s := S2x36x32x256) (VecWindow.put (s := S2x36x32x256) (VecWindow.put (s := S2x36x32x256) x ![0, 0, 0, 0] S1x18x32x256.size w0) ![0, 18, 0, 0] S1x18x32x256.size w1)
      ![1, 0, 0, 0] S1x18x32x256.size w2) ![1, 18, 0, 0] S1x18x32x256.size w3 (ix4 r w bb o) = f r w bb o := by
  by_cases cr : r.val = 1
  · obtain rfl : r = 1 := Fin.ext cr
    by_cases c3 : 18 ≤ w.val
    · refine (put4 _ w3 0 ⟨w.val - 18, by omega⟩ bb o 1 w bb o rfl (by simp only []; omega) (by omega) (by omega)).trans ((h3 _ bb o).trans (congrArg (fun q => f 1 q bb o) (Fin.ext ?_)))
      simp only []; omega
    refine (put4_out _ w3 1 w bb o (Or.inr (Or.inl (by omega)))).trans ?_
    refine (put4 _ w2 0 ⟨w.val, by omega⟩ bb o 1 w bb o rfl (by simp only []; omega) (by omega) (by omega)).trans ((h2 _ bb o).trans (congrArg (fun q => f 1 q bb o) (Fin.ext ?_)))
    simp only []; omega
  · have hr : r.val = 0 := by omega
    obtain rfl : r = 0 := Fin.ext hr
    refine (put4_out _ w3 0 w bb o (Or.inl (by omega))).trans ((put4_out _ w2 0 w bb o (Or.inl (by omega))).trans ?_)
    by_cases c3 : 18 ≤ w.val
    · refine (put4 _ w1 0 ⟨w.val - 18, by omega⟩ bb o 0 w bb o rfl (by simp only []; omega) (by omega) (by omega)).trans ((h1 _ bb o).trans (congrArg (fun q => f 0 q bb o) (Fin.ext ?_)))
      simp only []; omega
    refine (put4_out _ w1 0 w bb o (Or.inr (Or.inl (by omega)))).trans ?_
    refine (put4 _ w0 0 ⟨w.val, by omega⟩ bb o 0 w bb o rfl (by simp only []; omega) (by omega) (by omega)).trans ((h0 _ bb o).trans (congrArg (fun q => f 0 q bb o) (Fin.ext ?_)))
    simp only []; omega

theorem P1_in (A : Args) (n : Fin 128) (R W : ℕ) (r : Fin 28) (w : Fin 36) (o : Fin 256) (hR : R = r.val + 1) (hW : W = w.val + 1) : P1 A n R W o = H1a A n r w o := by
  subst hR hW
  rw [P1, dif_pos ⟨⟨by omega, by omega⟩, by omega, by omega⟩]
  exact congrArg₂ (fun r w => H1a A n r w o) (Fin.ext (by simp)) (Fin.ext (by simp))

theorem P1_out (A : Args) (n : Fin 128) (R W : ℕ) (o : Fin 256) (h : R = 0 ∨ W = 0 ∨ W = 37) : P1 A n R W o = 0 := by
  rw [P1, dif_neg]
  omega

theorem P2_in (A : Args) (n : Fin 128) (R W : ℕ) (r : Fin 14) (w : Fin 18) (o : Fin 256) (hR : R = r.val + 1) (hW : W = w.val + 1) : P2 A n R W o = H2a A n r w o := by
  subst hR hW
  rw [P2, dif_pos ⟨⟨by omega, by omega⟩, by omega, by omega⟩]
  exact congrArg₂ (fun r w => H2a A n r w o) (Fin.ext (by simp)) (Fin.ext (by simp))

theorem P2_out (A : Args) (n : Fin 128) (R W : ℕ) (o : Fin 256) (h : R = 0 ∨ R = 15 ∨ W = 0 ∨ W = 19) : P2 A n R W o = 0 := by
  rw [P2, dif_neg]
  omega

/-- The three padded rows of unit 1's first product. -/
theorem rows1 {A : Args} {b : Fin 4} {i : Fin 14} (x : S3x38x32x256.Idx → EReal) (p : S1x37x32x256.Idx → EReal) (n0 n1 n2 n3 : S1x18x32x256.Idx → EReal)
    (hz : ∀ (k : Fin 3) bb o, x (ix4 k 0 bb o) = 0 ∧ x (ix4 k 37 bb o) = 0)
    (hp : ∀ (c : Fin 37) bb o, p (ix4 0 c bb o) = P1 A (bn b bb) (2 * i.val) (1 + c.val) o)
    (h0 : ∀ (w : Fin 18) bb o, n0 (ix4 0 w bb o) = H1a A (bn b bb) ⟨2 * i.val + (0 : Fin 2).val, by have : (0 : Fin 2).val = 0 := rfl; omega⟩ ⟨0 + w.val, by omega⟩ o)
    (h1 : ∀ (w : Fin 18) bb o, n1 (ix4 0 w bb o) = H1a A (bn b bb) ⟨2 * i.val + (0 : Fin 2).val, by have : (0 : Fin 2).val = 0 := rfl; omega⟩ ⟨18 + w.val, by omega⟩ o)
    (h2 : ∀ (w : Fin 18) bb o, n2 (ix4 0 w bb o) = H1a A (bn b bb) ⟨2 * i.val + (1 : Fin 2).val, by have : (1 : Fin 2).val = 1 := rfl; omega⟩ ⟨0 + w.val, by omega⟩ o)
    (h3 : ∀ (w : Fin 18) bb o, n3 (ix4 0 w bb o) = H1a A (bn b bb) ⟨2 * i.val + (1 : Fin 2).val, by have : (1 : Fin 2).val = 1 := rfl; omega⟩ ⟨18 + w.val, by omega⟩ o)
    (k : Fin 3) (c : Fin 38) (bb : Fin 32) (o : Fin 256) :
    VecWindow.put (s := S3x38x32x256) (VecWindow.put (s := S3x38x32x256) (VecWindow.put (s := S3x38x32x256) (VecWindow.put (s := S3x38x32x256) (VecWindow.put (s := S3x38x32x256) x ![0, 1, 0, 0] S1x37x32x256.size p)
      ![1, 1, 0, 0] S1x18x32x256.size n0) ![1, 19, 0, 0] S1x18x32x256.size n1) ![2, 1, 0, 0] S1x18x32x256.size n2) ![2, 19, 0, 0] S1x18x32x256.size n3 (ix4 k c bb o)
      = P1 A (bn b bb) (2 * i.val + k.val) c.val o := by
  have e0 : (0 : Fin 2).val = 0 := rfl
  have e1 : (1 : Fin 2).val = 1 := rfl
  have hz' : c.val = 0 ∨ c.val = 37 → x (ix4 k c bb o) = P1 A (bn b bb) (2 * i.val + k.val) c.val o := by
    intro h
    rw [P1_out A _ _ _ o (Or.inr h)]
    rcases h with h | h
    · obtain rfl : c = 0 := Fin.ext h
      exact (hz k bb o).1
    · obtain rfl : c = 37 := Fin.ext h
      exact (hz k bb o).2
  by_cases k2 : k.val = 2
  · by_cases c3 : 19 ≤ c.val ∧ c.val < 37
    · refine (put4 _ n3 0 ⟨c.val - 19, by omega⟩ bb o k c bb o k2 (by simp only []; omega) (by omega) (by omega)).trans ((h3 _ bb o).trans (P1_in A _ _ _ _ _ o ?_ ?_).symm) <;> simp only [] <;> omega
    refine (put4_out _ n3 k c bb o (Or.inr (Or.inl (by omega)))).trans ?_
    by_cases c2 : 1 ≤ c.val ∧ c.val < 19
    · refine (put4 _ n2 0 ⟨c.val - 1, by omega⟩ bb o k c bb o k2 (by simp only []; omega) (by omega) (by omega)).trans ((h2 _ bb o).trans (P1_in A _ _ _ _ _ o ?_ ?_).symm) <;> simp only [] <;> omega
    refine (put4_out _ n2 k c bb o (Or.inr (Or.inl (by omega)))).trans ((put4_out _ n1 k c bb o (Or.inl (by omega))).trans ((put4_out _ n0 k c bb o (Or.inl (by omega))).trans ((put4_out _ p k c bb o (Or.inl (by omega))).trans ?_)))
    exact hz' (by omega)
  refine (put4_out _ n3 k c bb o (Or.inl (by omega))).trans ((put4_out _ n2 k c bb o (Or.inl (by omega))).trans ?_)
  by_cases k1 : k.val = 1
  · by_cases c3 : 19 ≤ c.val ∧ c.val < 37
    · refine (put4 _ n1 0 ⟨c.val - 19, by omega⟩ bb o k c bb o k1 (by simp only []; omega) (by omega) (by omega)).trans ((h1 _ bb o).trans (P1_in A _ _ _ _ _ o ?_ ?_).symm) <;> simp only [] <;> omega
    refine (put4_out _ n1 k c bb o (Or.inr (Or.inl (by omega)))).trans ?_
    by_cases c2 : 1 ≤ c.val ∧ c.val < 19
    · refine (put4 _ n0 0 ⟨c.val - 1, by omega⟩ bb o k c bb o k1 (by simp only []; omega) (by omega) (by omega)).trans ((h0 _ bb o).trans (P1_in A _ _ _ _ _ o ?_ ?_).symm) <;> simp only [] <;> omega
    refine (put4_out _ n0 k c bb o (Or.inr (Or.inl (by omega)))).trans ((put4_out _ p k c bb o (Or.inl (by omega))).trans ?_)
    exact hz' (by omega)
  refine (put4_out _ n1 k c bb o (Or.inl (by omega))).trans ((put4_out _ n0 k c bb o (Or.inl (by omega))).trans ?_)
  have k0 : k.val = 0 := by omega
  by_cases c2 : 1 ≤ c.val
  · refine (put4 _ p 0 ⟨c.val - 1, by omega⟩ bb o k c bb o k0 (by simp only []; omega) (by omega) (by omega)).trans ((hp _ bb o).trans (congrArg₂ (fun r w => P1 A (bn b bb) r w o) ?_ ?_)) <;> first | omega | (simp only []; omega)
  refine (put4_out _ p k c bb o (Or.inr (Or.inl (by omega)))).trans ?_
  exact hz' (by omega)

/-- The newest padded row of unit 2's first product; the other rows keep what they held. -/
theorem rows2 {A : Args} {b : Fin 4} {i : Fin 14} (x : S4x20x32x256.Idx → EReal) (n : S1x18x32x256.Idx → EReal)
    (hz : ∀ bb o, x (ix4 3 0 bb o) = 0 ∧ x (ix4 3 19 bb o) = 0) (hn : ∀ w bb o, n (ix4 0 w bb o) = H2a A (bn b bb) i w o)
    (k : Fin 4) (c : Fin 20) (bb : Fin 32) (o : Fin 256) :
    VecWindow.put (s := S4x20x32x256) x ![3, 1, 0, 0] S1x18x32x256.size n (ix4 k c bb o) = if k = 3 then P2 A (bn b bb) (i.val + 1) c.val o else x (ix4 k c bb o) := by
  by_cases k3 : k = 3
  · rw [if_pos k3]
    subst k3
    by_cases c2 : 1 ≤ c.val ∧ c.val < 19
    · refine (put4 _ n 0 ⟨c.val - 1, by omega⟩ bb o 3 c bb o rfl (by simp only []; omega) (by omega) (by omega)).trans ((hn _ bb o).trans (P2_in A _ _ _ _ _ o rfl ?_).symm)
      simp only []; omega
    refine (put4_out _ n 3 c bb o (Or.inr (Or.inl (by omega)))).trans ?_
    have hc : c.val = 0 ∨ c.val = 19 := by omega
    rw [P2_out A _ _ _ o (Or.inr (Or.inr hc))]
    rcases hc with h | h
    · obtain rfl : c = 0 := Fin.ext h
      exact (hz bb o).1
    · obtain rfl : c = 19 := Fin.ext h
      exact (hz bb o).2
  · rw [if_neg k3]
    have : k.val ≠ 3 := fun h => k3 (Fin.ext h)
    exact put4_out _ n k c bb o (Or.inl (by omega))

end Cert.Stage

end
-- ==== Proof.Value.Fields.lean ====
/- What each part of the leading half writes and returns, over any state. -/
module

public import proofs.«01_k».proof.Proof.Value.Puts

@[expose] public section

set_option maxRecDepth 16384

noncomputable section

namespace Cert.Stage

open Idealize.ShloMosaic Cert.KernelIdeal Cert.KernelIdeal.Gen Cert.KernelIdeal.Hand

/-- The parts of a state the body writes after its first point. -/
structure Mx where
  a24 : S1x18x32x1024.Idx → BitVec 8
  a25 : S1x18x32x1024.Idx → BitVec 8
  a26 : S2x36x32x256.Idx → BitVec 8
  a27 : S1x18x32x256.Idx → BitVec 8
  a28 : S1x18x32x256.Idx → BitVec 8
  a29 : S1x18x32x256.Idx → BitVec 8
  a37 : S3x38x32x256.Idx → EReal
  a38 : S576x256.Idx → EReal
  a39 : S2x576x1024.Idx → EReal
  a40 : S4x20x32x256.Idx → EReal
  a41 : S576x256.Idx → EReal

def mx (S : St Ideal) : Mx := ⟨S.a24, S.a25, S.a26, S.a27, S.a28, S.a29, S.a37, S.a38, S.a39, S.a40, S.a41⟩

variable {A : Args} {b : Fin 4} {i : Fin 14} (t : grid0.Coords) (S : St Ideal)

/-! ### Parts 2 to 6: the rows of unit 1's first product -/

section
variable (v0 : BitVec 32)

theorem fx_part2 : fx (part2 t S v0) = fx S := rfl
theorem mx_part2 : mx (part2 t S v0) = { mx S with a37 := VecWindow.put (s := S3x38x32x256) S.a37 ![0, 1, 0, 0] S1x37x32x256.size (k0_pay16 (F := Ideal) v0
    (VecWindow.window S.a37 ![2, 1, 0, 0] S1x37x32x256.size inb_S3x38x32x256_S1x37x32x256_2_1_0_0)) } := rfl
theorem part2_codes : k0_pay19 (part2_r1 t S v0) = codes (part2_r0 t S v0) := rfl
theorem part2_val (E : Env A S) (X : XOk A b i S) (w : Fin 18) (bb : Fin 32) (o : Fin 256) :
    part2_r0 t S v0 (ix2 (row w bb) o) = H1a A (bn b bb) ⟨2 * i.val + (0 : Fin 2).val, by have : (0 : Fin 2).val = 0 := rfl; omega⟩ ⟨0 + w.val, by omega⟩ o :=
  h1a_val E X 0 0 0 rfl (by omega) _ _ _ _ w bb o
end

section
variable (v : FVec Ideal S576x256 .f32) (v' : IVec S576x256 32) (u : IVec S18x32x256 8)

theorem fx_part3 : fx (part3 t S v v') = fx S := rfl
theorem mx_part3 : mx (part3 t S v v') = { mx S with
    a26 := VecWindow.put (s := S2x36x32x256) S.a26 ![0, 0, 0, 0] S1x18x32x256.size (k0_pay19 v')
    a37 := VecWindow.put (s := S3x38x32x256) S.a37 ![1, 1, 0, 0] S1x18x32x256.size (nums v) } := rfl
theorem part3_codes : k0_pay23 (part3_r1 t S v v') = codes (part3_r0 t S v v') := rfl
theorem part3_val (E : Env A S) (X : XOk A b i S) (w : Fin 18) (bb : Fin 32) (o : Fin 256) :
    part3_r0 t S v v' (ix2 (row w bb) o) = H1a A (bn b bb) ⟨2 * i.val + (0 : Fin 2).val, by have : (0 : Fin 2).val = 0 := rfl; omega⟩ ⟨18 + w.val, by omega⟩ o :=
  h1a_val E X 0 0 18 rfl (by omega) _ _ _ _ w bb o

theorem fx_part4 : fx (part4 t S v u) = fx S := rfl
theorem mx_part4 : mx (part4 t S v u) = { mx S with
    a26 := VecWindow.put (s := S2x36x32x256) S.a26 ![0, 18, 0, 0] S1x18x32x256.size (k0_pay23 u)
    a37 := VecWindow.put (s := S3x38x32x256) S.a37 ![1, 19, 0, 0] S1x18x32x256.size (nums v) } := rfl
theorem part4_codes : k0_pay27 (part4_r1 t S v u) = codes (part4_r0 t S v u) := rfl
theorem part4_val (E : Env A S) (X : XOk A b i S) (w : Fin 18) (bb : Fin 32) (o : Fin 256) :
    part4_r0 t S v u (ix2 (row w bb) o) = H1a A (bn b bb) ⟨2 * i.val + (1 : Fin 2).val, by have : (1 : Fin 2).val = 1 := rfl; omega⟩ ⟨0 + w.val, by omega⟩ o :=
  h1a_val E X 1 1 0 rfl (by omega) _ _ _ _ w bb o

theorem fx_part5 : fx (part5 t S v u) = fx S := rfl
theorem mx_part5 : mx (part5 t S v u) = { mx S with
    a26 := VecWindow.put (s := S2x36x32x256) S.a26 ![1, 0, 0, 0] S1x18x32x256.size (k0_pay27 u)
    a37 := VecWindow.put (s := S3x38x32x256) S.a37 ![2, 1, 0, 0] S1x18x32x256.size (nums v) } := rfl
theorem part5_codes : k0_pay31 (part5_r1 t S v u) = codes (part5_r0 t S v u) := rfl
theorem part5_val (E : Env A S) (X : XOk A b i S) (w : Fin 18) (bb : Fin 32) (o : Fin 256) :
    part5_r0 t S v u (ix2 (row w bb) o) = H1a A (bn b bb) ⟨2 * i.val + (1 : Fin 2).val, by have : (1 : Fin 2).val = 1 := rfl; omega⟩ ⟨18 + w.val, by omega⟩ o :=
  h1a_val E X 1 1 18 rfl (by omega) _ _ _ _ w bb o

theorem fx_part6 : fx (part6 t S v u) = fx S := rfl
theorem mx_part6 : mx (part6 t S v u) = { mx S with
    a26 := VecWindow.put (s := S2x36x32x256) S.a26 ![1, 18, 0, 0] S1x18x32x256.size (k0_pay31 u)
    a37 := VecWindow.put (s := S3x38x32x256) S.a37 ![2, 19, 0, 0] S1x18x32x256.size (nums v) } := rfl

/-! ### Parts 7 and 8: the 3x3 product -/

theorem part7_eq : k0_pay40 (F := Ideal) (part7_r0 t (part6 t S v u) (part6_r0 t S v u) (part6_r1 t S v u) (part6_r2 t S v u) (part6_r3 t S v u) (part6_r4 t S v u)) 255#32 (k0_pay39 (F := Ideal))
    = h1bArr (part6 t S v u).a37 (part6 t S v u).a31 (part6 t S v u).a11 (part6 t S v u).a12 := by
  have e : k0_pay40 (F := Ideal) (part7_r0 t (part6 t S v u) (part6_r0 t S v u) (part6_r1 t S v u) (part6_r2 t S v u) (part6_r3 t S v u) (part6_r4 t S v u)) 255#32 (k0_pay39 (F := Ideal))
      = h1bArr (part6 t S v u).a37 (VecWindow.window (part6 t S v u).a31 ![0, 0] S2304x256.size inb_S2304x256_S2304x256_0_0)
        (VecWindow.window (part6 t S v u).a11 ![0, 0] S1x256.size inb_S1x256_S1x256_0_0) (VecWindow.window (part6 t S v u).a12 ![0, 0] S1x256.size inb_S1x256_S1x256_0_0) := rfl
  rw [e, window_whole _ _ _ (by decide), window_whole _ _ _ (by decide), window_whole _ _ _ (by decide)]
end

section
variable (v : FVec Ideal S576x256 .f32)

theorem fx_part8 (c : BitVec 32) (f : EReal) : fx (part8 t S v c f) = fx S := rfl
theorem mx_part8 : mx (part8 t S v 255#32 (k0_pay39 (F := Ideal))) = { mx S with
    a27 := VecWindow.put (s := S1x18x32x256) S.a27 ![0, 0, 0, 0] S1x18x32x256.size (codes (k0_pay40 (F := Ideal) v 255#32 (k0_pay39 (F := Ideal))))
    a38 := VecWindow.put (s := S576x256) S.a38 ![0, 0] S576x256.size (k0_pay42 (F := Ideal) v 255#32 (k0_pay39 (F := Ideal))) } := rfl
theorem part8_xe (c : BitVec 32) (f : EReal) (X : XOk A b i S) (w : Fin 18) (bb : Fin 32) (k : Fin 512) :
    part8_r0 t S v c f (ix2 (row w bb) k) = ub (A.x (ix4 (bn b bb) ⟨2 * i.val, by omega⟩ ⟨2 * w.val, by omega⟩ k)) :=
  xe_val X _ w bb k

theorem inb_q (n q : ℕ) (hq : q + 256 ≤ 1024) : ∀ a, (![0, q] : Fin 2 → ℕ) a + (![n, 256] : Fin 2 → ℕ) a ≤ (![n, 1024] : Fin 2 → ℕ) a :=
  fun a => match a with | ⟨0, _⟩ => Nat.le_of_eq (Nat.zero_add n) | ⟨1, _⟩ => hq

/-- A block of 256 channels of unit 1's result, of a state. -/
def yB (S : St Ideal) (xe : FVec Ideal S576x512 .bf16) (q : ℕ) (hq : q + 256 ≤ 1024) : FVec Ideal S576x256 .f32 :=
  yBlk xe (VecWindow.window S.a38 ![0, 0] S576x256.size inb_S576x256_S576x256_0_0) (VecWindow.window S.a32 ![0, q] S256x256.size (inb_q 256 q hq))
    (VecWindow.window S.a13 ![0, q] S1x256.size (inb_q 1 q hq)) (VecWindow.window S.a14 ![0, q] S1x256.size (inb_q 1 q hq))
    (VecWindow.window S.a33 ![0, q] S512x256.size (inb_q 512 q hq)) (VecWindow.window S.a15 ![0, q] S1x256.size (inb_q 1 q hq)) (VecWindow.window S.a16 ![0, q] S1x256.size (inb_q 1 q hq))

theorem yB_val {S : St Ideal} (E : Env A S) (xe : FVec Ideal S576x512 .bf16) (q : ℕ) (hq : q + 256 ≤ 1024)
    (hxe : ∀ w bb k, xe (ix2 (row w bb) k) = ub (A.x (ix4 (bn b bb) ⟨2 * i.val, by omega⟩ ⟨2 * w.val, by omega⟩ k)))
    (hh : ∀ w bb o, S.a38 (ix2 (row w bb) o) = H1b A (bn b bb) i w o) (w : Fin 18) (bb : Fin 32) (o : Fin 256) :
    yB S xe q hq (ix2 (row w bb) o) = Y1 A (bn b bb) i w ⟨q + o.val, by omega⟩ := by
  rw [yB, window_whole _ _ _ (by decide)]
  exact y1_val E xe S.a38 hxe hh q hq _ _ _ _ _ _ w bb o

/-! ### Parts 8 to 14: unit 1's result -/

theorem fx_part9 (a0 : BitVec 32) (h) (x y z c) : fx (part9 t S a0 h x y z c) = fx S := rfl

theorem part9_eq (c : BitVec 32) (f : EReal) (a0 : BitVec 32) (h) :
    let S' := part8 t S v c f
    mx (part9 t S' a0 h (part8_r0 t S v c f) (part8_r1 t S v c f) (part8_r2 t S v c f) (part8_r3 t S v c f))
      = { mx S' with a25 := VecWindow.put (s := S1x18x32x1024) S'.a25 ![0, 0, 0, 0] S1x18x32x256.size (codes (yB S' (part8_r0 t S v c f) 0 (by decide))) }
    ∧ ∀ M o, part9_r0 t S' a0 h (part8_r0 t S v c f) (part8_r1 t S v c f) (part8_r2 t S v c f) (part8_r3 t S v c f) (ix3 0 M o) = yB S' (part8_r0 t S v c f) 0 (by decide) (ix2 M o) :=
  ⟨rfl, fun M o => pay47_apply _ _ _ _ _ _ _ _ M o⟩

theorem fx_part10 (h x y) : fx (part10 t S h x y) = fx S := rfl
theorem mx_part10 (h x y) : mx (part10 t S h x y) = { mx S with a39 := VecWindow.put (s := S2x576x1024) S.a39 (k0_off1 t) S1x576x256.size y } := rfl
theorem part10_eq (h) (x) (y) : let S' := part10 t S h x y
    k0_pay50 (part10_r1 t S h x y) = codes (yB S' x 256 (by decide))
    ∧ ∀ M o, k0_pay51 (F := Ideal) (part10_r0 t S h x y) (ix3 0 M o) = yB S' x 256 (by decide) (ix2 M o) :=
  ⟨rfl, fun M o => pay51_apply _ _ _ _ _ _ _ _ M o⟩

theorem fx_part11 (a0 h x y z) : fx (part11 t S a0 h x y z) = fx S := rfl
theorem mx_part11 (a0 h x y z) : mx (part11 t S a0 h x y z) = { mx S with
    a25 := VecWindow.put (s := S1x18x32x1024) S.a25 ![0, 0, 0, 256] S1x18x32x256.size (k0_pay50 z)
    a39 := VecWindow.put (s := S2x576x1024) S.a39 (k0_off2 t) S1x576x256.size (k0_pay51 (F := Ideal) y) } := rfl

theorem fx_part12 (a0 h x y z) : fx (part12 t S a0 h x y z) = fx S := rfl
theorem part12_eq (a0 h x y z) :
    let S' := part11 t S a0 h x y z
    ∃ w : S1x576x256.Idx → EReal,
    mx (part12 t S' a0 h (part11_r0 t S a0 h x y z) (part11_r1 t S a0 h x y z) (part11_r2 t S a0 h x y z)) = { mx S' with
      a25 := VecWindow.put (s := S1x18x32x1024) S'.a25 ![0, 0, 0, 512] S1x18x32x256.size (codes (yB S' x 512 (by decide)))
      a39 := VecWindow.put (s := S2x576x1024) S'.a39 (k0_off3 t) S1x576x256.size w }
    ∧ ∀ M o, w (ix3 0 M o) = yB S' x 512 (by decide) (ix2 M o) :=
  ⟨_, rfl, fun M o => pay56_apply _ _ _ _ _ _ _ _ M o⟩

theorem part13_eq (a0 h x y z) (xe : FVec Ideal S576x512 .bf16) :
    let S' := part12 t S a0 h x y z
    part13_r1 t S' xe (part12_r0 t S a0 h x y z) = codes (yB S' xe 768 (by decide))
    ∧ ∀ M o, k0_pay59 (F := Ideal) (part13_r0 t S' xe (part12_r0 t S a0 h x y z)) (ix3 0 M o) = yB S' xe 768 (by decide) (ix2 M o) :=
  ⟨rfl, fun M o => pay59_apply _ _ _ _ _ _ _ _ M o⟩

theorem fx_part14 (a0 h x y) : fx (part14 t S a0 h x y) = fx S := rfl
theorem mx_part14 (a0 h x y) : mx (part14 t S a0 h x y) = { mx S with
    a25 := VecWindow.put (s := S1x18x32x1024) S.a25 ![0, 0, 0, 768] S1x18x32x256.size y
    a39 := VecWindow.put (s := S2x576x1024) S.a39 (k0_off4 t) S1x576x256.size (k0_pay59 (F := Ideal) x) } := rfl

/-- Unit 2's first product, of a state. -/
def hB (S : St Ideal) (d : Fin 3 → ℕ) (hd : ∀ a, d a + S1x576x1024.size a ≤ S2x576x1024.size a) : FVec Ideal S576x256 .f32 :=
  hBlk (VecWindow.window S.a17 ![0, 0] S1x256.size inb_S1x256_S1x256_0_0) (VecWindow.window S.a18 ![0, 0] S1x256.size inb_S1x256_S1x256_0_0) (VecWindow.window S.a39 d S1x576x1024.size hd) (VecWindow.window S.a34 ![0, 0] S1024x256.size inb_S1024x256_S1024x256_0_0)

theorem hB_val {S : St Ideal} (E : Env A S) (s : Fin 2) (d : Fin 3 → ℕ) (hd : d = ![s.val, 0, 0]) (hi)
    (hy : ∀ w bb o, S.a39 (ix3 s (row w bb) o) = Y1 A (bn b bb) i w o) (w : Fin 18) (bb : Fin 32) (o : Fin 256) :
    hB S d hi (ix2 (row w bb) o) = H2a A (bn b bb) i w o := by
  rw [hB, window_whole S.a17 _ _ (by decide), window_whole S.a18 _ _ (by decide), window_whole S.a34 _ _ (by decide)]
  refine h2a_val E _ (fun w bb o => Eq.trans ?_ (hy w bb o)) w bb o
  exact window3 S.a39 d hd hi 0 (row w bb) o s (row w bb) o rfl (by omega) (by omega)

theorem part14_eq (a0 h x y) :
    k0_pay6 (F := Ideal) (part14_r0 t S a0 h x y) (part14_r1 t S a0 h x y) (part14_r2 t S a0 h x y) = codes (hB (part14 t S a0 h x y) (k0_off5 t) (k0_off5_inb t h))
    ∧ k0_pay7 (F := Ideal) (part14_r0 t S a0 h x y) (part14_r1 t S a0 h x y) (part14_r2 t S a0 h x y) = nums (hB (part14 t S a0 h x y) (k0_off5 t) (k0_off5_inb t h)) :=
  ⟨rfl, rfl⟩

theorem fx_put28 (d z w) : fx (S.put28 d z w) = fx S := rfl
theorem mx_put28 (d z w) : mx (S.put28 d z w) = { mx S with a28 := VecWindow.put (s := S1x18x32x256) S.a28 d z w } := rfl
theorem fx_put40 (d z w) : fx (S.put40 d z w) = fx S := rfl
theorem mx_put40 (d z w) : mx (S.put40 d z w) = { mx S with a40 := VecWindow.put (s := S4x20x32x256) S.a40 d z w } := rfl
end

end Cert.Stage

end
-- ==== Proof.Value.First.lean ====
/- The first point of the grid copies the weights into scratch and clears the padded rows. -/
module

public import proofs.«01_k».proof.Proof.Value.Fields

@[expose] public section

set_option maxRecDepth 16384

noncomputable section

namespace Cert.Stage

open Idealize.ShloMosaic Cert.KernelIdeal Cert.KernelIdeal.Gen Cert.KernelIdeal.Hand

/-- The weight windows hold the arguments. -/
structure RawOk (A : Args) (S : St Ideal) : Prop where
  w1a : ∀ k o, S.a2 (ix2 k o) = A.w1a (ix2 k o)
  w1b : ∀ t k o, S.a3 (ix2 (tapCol t k) o) = A.w1b (ix4 (kh t) (kw t) k o)
  w1c : ∀ k o, S.a4 (ix2 k o) = A.w1c (ix2 k o)
  w1s : ∀ k o, S.a5 (ix2 k o) = A.w1s (ix2 k o)
  w2a : ∀ k o, S.a6 (ix2 k o) = A.w2a (ix2 k o)
  w2b : ∀ t k o, S.a7 (ix2 (tapCol t k) o) = A.w2b (ix4 (kh t) (kw t) k o)
  w2c : ∀ k o, S.a8 (ix2 k o) = A.w2c (ix2 k o)

variable {A : Args} (t : grid0.Coords) (S : St Ideal)

/-- A weight buffer written whole with the codes of a window read whole. -/
theorem copied {n0 n1 : ℕ} (y : (⟨2, ![n0, n1]⟩ : Shape).Idx → EReal) (x : (⟨2, ![n0, n1]⟩ : Shape).Idx → BitVec 8) (inb)
    (p : ((⟨2, ![n0, n1]⟩ : Shape).Idx → BitVec 8) → (⟨2, ![n0, n1]⟩ : Shape).Idx → EReal) (hp : ∀ v j, p v j = sb (v j)) (k : Fin n0) (o : Fin n1) {z : BitVec 8}
    (h : x (ix2 k o) = z) :
    VecWindow.put (s := ⟨2, ![n0, n1]⟩) y ![0, 0] ![n0, n1] (p (VecWindow.window x ![0, 0] ![n0, n1] inb)) (ix2 k o) = sb z := by
  refine (congrFun (put2 y _) (ix2 k o)).trans ((hp _ _).trans (congrArg sb ?_))
  exact (window2 x inb k o k o (Nat.zero_add _).symm (Nat.zero_add _).symm).trans h

theorem part1_eq : part1 t S = { S with
          a30 := VecWindow.put (s := S512x256) S.a30 ![0, 0] S512x256.size (k0_pay10 (F := Ideal) (VecWindow.window S.a2 ![0, 0] S512x256.size inb_S512x256_S512x256_0_0))
          a31 := VecWindow.put (s := S2304x256) S.a31 ![0, 0] S2304x256.size (k0_pay11 (F := Ideal) (VecWindow.window S.a3 ![0, 0] S2304x256.size inb_S2304x256_S2304x256_0_0))
          a32 := VecWindow.put (s := S256x1024) S.a32 ![0, 0] S256x1024.size (k0_pay12 (F := Ideal) (VecWindow.window S.a4 ![0, 0] S256x1024.size inb_S256x1024_S256x1024_0_0))
          a33 := VecWindow.put (s := S512x1024) S.a33 ![0, 0] S512x1024.size (k0_pay13 (F := Ideal) (VecWindow.window S.a5 ![0, 0] S512x1024.size inb_S512x1024_S512x1024_0_0))
          a34 := VecWindow.put (s := S1024x256) S.a34 ![0, 0] S1024x256.size (k0_pay14 (F := Ideal) (VecWindow.window S.a6 ![0, 0] S1024x256.size inb_S1024x256_S1024x256_0_0)) } := by
  cases S
  rfl

theorem first_eq : first t S = { S with
          a30 := VecWindow.put (s := S512x256) S.a30 ![0, 0] S512x256.size (k0_pay10 (F := Ideal) (VecWindow.window S.a2 ![0, 0] S512x256.size inb_S512x256_S512x256_0_0))
          a31 := VecWindow.put (s := S2304x256) S.a31 ![0, 0] S2304x256.size (k0_pay11 (F := Ideal) (VecWindow.window S.a3 ![0, 0] S2304x256.size inb_S2304x256_S2304x256_0_0))
          a32 := VecWindow.put (s := S256x1024) S.a32 ![0, 0] S256x1024.size (k0_pay12 (F := Ideal) (VecWindow.window S.a4 ![0, 0] S256x1024.size inb_S256x1024_S256x1024_0_0))
          a33 := VecWindow.put (s := S512x1024) S.a33 ![0, 0] S512x1024.size (k0_pay13 (F := Ideal) (VecWindow.window S.a5 ![0, 0] S512x1024.size inb_S512x1024_S512x1024_0_0))
          a34 := VecWindow.put (s := S1024x256) S.a34 ![0, 0] S1024x256.size (k0_pay14 (F := Ideal) (VecWindow.window S.a6 ![0, 0] S1024x256.size inb_S1024x256_S1024x256_0_0))
          a35 := VecWindow.put (s := S2304x256) S.a35 ![0, 0] S2304x256.size (k0_pay1 (F := Ideal) (k0_pay15 (F := Ideal) (VecWindow.window S.a7 ![0, 0] S2304x256.size inb_S2304x256_S2304x256_0_0)))
          a36 := VecWindow.put (s := S256x1024) S.a36 ![0, 0] S256x1024.size (k0_pay2 (F := Ideal) (VecWindow.window S.a8 ![0, 0] S256x1024.size inb_S256x1024_S256x1024_0_0))
          a37 := VecWindow.put (s := S3x38x32x256) S.a37 ![0, 0, 0, 0] S3x38x32x256.size (k0_pay3 (F := Ideal))
          a40 := VecWindow.put (s := S4x20x32x256) S.a40 ![0, 0, 0, 0] S4x20x32x256.size (k0_pay4 (F := Ideal)) } := by
  unfold first
  cases S
  rfl

theorem first_vecs (V : Vecs A S) : Vecs A (first t S) := by
  rw [first_eq]
  cases S
  exact { b1a := V.b1a, m1a := V.m1a, b1b := V.b1b, m1b := V.m1b, b1c := V.b1c, m1c := V.m1c, b1s := V.b1s, m1s := V.m1s, b2a := V.b2a, m2a := V.m2a,
          b2b := V.b2b, m2b := V.m2b, b2c := V.b2c, m2c := V.m2c, m2s := V.m2s }

theorem first_env (V : Vecs A S) (R : RawOk A S) : Env A (first t S) := by
  refine ⟨first_vecs t S V, ?_⟩
  rw [first_eq]
  cases S
  exact {
    w1a := fun k o => copied _ _ inb_S512x256_S512x256_0_0 (k0_pay10 (F := Ideal)) pay10_apply k o (R.w1a k o)
    w1b := fun t k o => copied _ _ inb_S2304x256_S2304x256_0_0 (k0_pay11 (F := Ideal)) pay11_apply _ o (R.w1b t k o)
    w1c := fun k o => copied _ _ inb_S256x1024_S256x1024_0_0 (k0_pay12 (F := Ideal)) pay12_apply k o (R.w1c k o)
    w1s := fun k o => copied _ _ inb_S512x1024_S512x1024_0_0 (k0_pay13 (F := Ideal)) pay13_apply k o (R.w1s k o)
    w2a := fun k o => copied _ _ inb_S1024x256_S1024x256_0_0 (k0_pay14 (F := Ideal)) pay14_apply k o (R.w2a k o)
    w2b := fun t k o => copied _ _ inb_S2304x256_S2304x256_0_0 (fun v => k0_pay1 (F := Ideal) (k0_pay15 (F := Ideal) v)) pay15_apply _ o (R.w2b t k o)
    w2c := fun k o => copied _ _ inb_S256x1024_S256x1024_0_0 (k0_pay2 (F := Ideal)) pay2_apply k o (R.w2c k o) }

theorem first_x : (first t S).a1 = S.a1 := by
  rw [first_eq]

theorem first_a37 (j) : (first t S).a37 j = 0 := by
  rw [first_eq]
  exact (congrFun (put4_whole S.a37 (k0_pay3 (F := Ideal))) j).trans (pay3_apply j)

theorem first_a40 (j) : (first t S).a40 j = 0 := by
  rw [first_eq]
  exact (congrFun (put4_whole S.a40 (k0_pay4 (F := Ideal))) j).trans (pay4_apply j)

end Cert.Stage

end
-- ==== Proof.Value.Lead.lean ====
/- The leading half of a step: unit 1 of a row, and unit 2's first product of it. -/
module

public import proofs.«01_k».proof.Proof.Value.Fields

@[expose] public section

set_option maxRecDepth 16384

noncomputable section

namespace Cert.Stage

open Idealize.ShloMosaic Cert.KernelIdeal Cert.KernelIdeal.Gen Cert.KernelIdeal.Hand

/-- What the leading half leaves. -/
structure LeadOut (A : Args) (b : Fin 4) (i : Fin 14) (s : Fin 2) (S S' : St Ideal) : Prop where
  fx : fx S' = fx S
  a24 : S'.a24 = S.a24
  a29 : S'.a29 = S.a29
  a25 : ∀ w bb o, S'.a25 (ix4 0 w bb o) = code (Y1 A (bn b bb) i w o)
  a26 : ∀ (r : Fin 2) w bb o, S'.a26 (ix4 r w bb o) = code (H1a A (bn b bb) ⟨2 * i.val + r.val, by omega⟩ w o)
  a27 : ∀ w bb o, S'.a27 (ix4 0 w bb o) = code (H1b A (bn b bb) i w o)
  a28 : ∀ w bb o, S'.a28 (ix4 0 w bb o) = code (H2a A (bn b bb) i w o)
  a37 : ∀ (k : Fin 3) (c : Fin 38) bb o, S'.a37 (ix4 k c bb o) = P1 A (bn b bb) (2 * i.val + k.val) c.val o
  a39 : ∀ w bb o, S'.a39 (ix3 s (row w bb) o) = Y1 A (bn b bb) i w o
  a39' : ∀ s', s' ≠ s → ∀ M o, S'.a39 (ix3 s' M o) = S.a39 (ix3 s' M o)
  a40 : ∀ (c : Fin 20) bb o, S'.a40 (ix4 3 c bb o) = P2 A (bn b bb) (i.val + 1) c.val o
  a40' : ∀ k, k ≠ 3 → ∀ (c : Fin 20) bb o, S'.a40 (ix4 k c bb o) = S.a40 (ix4 k c bb o)

/-- The column and the image of a row of the scratch. -/
def col (M : Fin 576) : Fin 18 := ⟨M.val / 32, by omega⟩
def img (M : Fin 576) : Fin 32 := ⟨M.val % 32, by omega⟩
theorem col_row (w : Fin 18) (bb : Fin 32) : col (row w bb) = w := Fin.ext (by show (w.val * 32 + bb.val) / 32 = w.val; omega)
theorem img_row (w : Fin 18) (bb : Fin 32) : img (row w bb) = bb := Fin.ext (by show (w.val * 32 + bb.val) % 32 = bb.val; omega)

theorem nums_of {z : FVec Ideal S576x256 .f32} {f : Fin 18 → Fin 32 → Fin 256 → EReal} (h : ∀ w bb o, z (ix2 (row w bb) o) = f w bb o) (w : Fin 18) (bb : Fin 32) (o : Fin 256) :
    nums z (ix4 0 w bb o) = f w bb o := (nums_apply z w bb o).trans (h w bb o)
theorem codes_of {z : FVec Ideal S576x256 .f32} {f : Fin 18 → Fin 32 → Fin 256 → EReal} (h : ∀ w bb o, z (ix2 (row w bb) o) = f w bb o) (w : Fin 18) (bb : Fin 32) (o : Fin 256) :
    codes z (ix4 0 w bb o) = code (f w bb o) := (codes_apply z w bb o).trans (congrArg code (h w bb o))

/-- A value given at rows by column and image, at any row. -/
theorem by_row {β : Type} {f : Fin 576 → Fin 256 → β} {g : Fin 18 → Fin 32 → Fin 256 → β} (h : ∀ w bb o, f (row w bb) o = g w bb o) (M : Fin 576) (o : Fin 256) : f M o = g (col M) (img M) o := by
  obtain ⟨w, bb, rfl⟩ := row_cover M
  rw [h, col_row, img_row]

theorem lead_out {A : Args} {b : Fin 4} {i : Fin 14} {s : Fin 2} (t : grid0.Coords) (S : St Ideal) (h : k0_cond2 t = 1#1)
    (hi : (t 0).val % 14 = i.val) (hs : (t 0).val % 2 = s.val) (E : Env A S) (X : XOk A b i S)
    (hz : ∀ (k : Fin 3) bb o, S.a37 (ix4 k 0 bb o) = 0 ∧ S.a37 (ix4 k 37 bb o) = 0)
    (hr : i.val ≠ 0 → ∀ (c : Fin 38) bb o, S.a37 (ix4 2 c bb o) = P1 A (bn b bb) (2 * i.val) c.val o)
    (hz' : ∀ bb o, S.a40 (ix4 3 0 bb o) = 0 ∧ S.a40 (ix4 3 19 bb o) = 0) :
    LeadOut A b i s S (lead t S h) := by
  have hv := rem14 t
  unfold lead
  extract_lets arg0 v0 v58 v59 C1 v93 v96 C2 v128 v131 C3 v163 v166 C4 v178 v182 v186 v190 v194 C5 v225 c255 v226 v246 v260 v261 cst C6 v302 C7 v337 v340 C8 v372 v374 v375 C9 v415 C10 v449 v455 v487 v489 v490 C11 C12 C13
  have f1 : fx C1 = fx S := fx_part2 t S v0
  have f2 : fx C2 = fx S := (fx_part3 t C1 v58 v59).trans f1
  have f3 : fx C3 = fx S := (fx_part4 t C2 v93 v96).trans f2
  have f4 : fx C4 = fx S := (fx_part5 t C3 v128 v131).trans f3
  have f5 : fx C5 = fx S := (fx_part6 t C4 v163 v166).trans f4
  have f6 : fx C6 = fx S := (fx_part8 t C5 v225 c255 v226).trans f5
  have f7 : fx C7 = fx S := (fx_part9 t C6 arg0 h v246 v260 v261 cst).trans f6
  have f8 : fx C8 = fx S := (fx_part10 t C7 h v246 v302).trans f7
  have f9 : fx C9 = fx S := (fx_part11 t C8 arg0 h v246 v337 v340).trans f8
  have f10 : fx C10 = fx S := (fx_part12 t C9 arg0 h v372 v374 v375).trans f9
  have f11 : fx C11 = fx S := (fx_part14 t C10 arg0 h v449 v455).trans f10
  have f12 : fx C12 = fx S := (fx_put28 C11 _ _ _).trans f11
  have f13 : fx C13 = fx S := (fx_put40 C12 _ _ _).trans f12
  have m1 := mx_part2 t S v0
  have m2 := mx_part3 t C1 v58 v59
  have m3 := mx_part4 t C2 v93 v96
  have m4 := mx_part5 t C3 v128 v131
  have m5 := mx_part6 t C4 v163 v166
  have m6 := mx_part8 t C5 v225
  have m7 := part9_eq t C5 v225 c255 v226 arg0 h
  have m8 := mx_part10 t C7 h v246 v302
  have q8 := part10_eq t C7 h v246 v302
  have m9 := mx_part11 t C8 arg0 h v246 v337 v340
  have m10 := part12_eq t C8 arg0 h v246 v337 v340
  have q10 := part13_eq t C9 arg0 h v372 v374 v375 v246
  have m11 := mx_part14 t C10 arg0 h v449 v455
  have q11 := part14_eq t C10 arg0 h v449 v455
  have m12 := mx_put28 C11 ![0, 0, 0, 0] S1x18x32x256.size (k0_pay6 (F := Ideal) v487 v489 v490)
  have m13 := mx_put40 C12 ![3, 1, 0, 0] S1x18x32x256.size (k0_pay7 (F := Ideal) v487 v489 v490)
  have x58 := fun w bb o => part2_val (A := A) (b := b) (i := i) t S v0 E X w bb o
  have x93 := fun w bb o => part3_val (A := A) (b := b) (i := i) t C1 v58 v59 (E.of f1) (X.of f1) w bb o
  have x128 := fun w bb o => part4_val (A := A) (b := b) (i := i) t C2 v93 v96 (E.of f2) (X.of f2) w bb o
  have x163 := fun w bb o => part5_val (A := A) (b := b) (i := i) t C3 v128 v131 (E.of f3) (X.of f3) w bb o
  have c58 := part2_codes t S v0
  have c93 := part3_codes t C1 v58 v59
  have c128 := part4_codes t C2 v93 v96
  have c163 := part5_codes t C3 v128 v131
  have h1 := part7_eq t C4 v163 v166
  have xe := fun w bb k => part8_xe (A := A) (b := b) (i := i) t C5 v225 c255 v226 (X.of f5) w bb k
  change mx C1 = _ at m1
  change mx C2 = _ at m2
  change mx C3 = _ at m3
  change mx C4 = _ at m4
  change mx C5 = _ at m5
  change mx C6 = _ at m6
  obtain ⟨m7, q7⟩ := m7
  change mx C7 = { mx C6 with a25 := VecWindow.put (s := S1x18x32x1024) C6.a25 ![0, 0, 0, 0] S1x18x32x256.size (codes (yB C6 v246 0 (by decide))) } at m7
  change ∀ M o, v302 (ix3 0 M o) = yB C6 v246 0 (by decide) (ix2 M o) at q7
  change mx C8 = _ at m8
  change k0_pay50 v340 = codes (yB C8 v246 256 (by decide)) ∧ ∀ M o, k0_pay51 (F := Ideal) v337 (ix3 0 M o) = yB C8 v246 256 (by decide) (ix2 M o) at q8
  change mx C9 = _ at m9
  obtain ⟨w3, m10, p10⟩ := m10
  change mx C10 = { mx C9 with
      a25 := VecWindow.put (s := S1x18x32x1024) C9.a25 ![0, 0, 0, 512] S1x18x32x256.size (codes (yB C9 v246 512 (by decide)))
      a39 := VecWindow.put (s := S2x576x1024) C9.a39 (k0_off3 t) S1x576x256.size w3 } at m10
  change ∀ M o, w3 (ix3 0 M o) = yB C9 v246 512 (by decide) (ix2 M o) at p10
  change v455 = codes (yB C10 v246 768 (by decide)) ∧ ∀ M o, k0_pay59 (F := Ideal) v449 (ix3 0 M o) = yB C10 v246 768 (by decide) (ix2 M o) at q10
  change mx C11 = _ at m11
  change k0_pay6 (F := Ideal) v487 v489 v490 = codes (hB C11 (k0_off5 t) (k0_off5_inb t h)) ∧ k0_pay7 (F := Ideal) v487 v489 v490 = nums (hB C11 (k0_off5 t) (k0_off5_inb t h)) at q11
  change mx C12 = _ at m12
  change mx C13 = _ at m13
  change ∀ w bb o, v58 (ix2 (row w bb) o) = _ at x58
  change ∀ w bb o, v93 (ix2 (row w bb) o) = _ at x93
  change ∀ w bb o, v128 (ix2 (row w bb) o) = _ at x128
  change ∀ w bb o, v163 (ix2 (row w bb) o) = _ at x163
  change k0_pay19 v59 = codes v58 at c58
  change k0_pay23 v96 = codes v93 at c93
  change k0_pay27 v131 = codes v128 at c128
  change k0_pay31 v166 = codes v163 at c163
  change k0_pay40 (F := Ideal) v225 255#32 (k0_pay39 (F := Ideal)) = h1bArr C5.a37 C5.a31 C5.a11 C5.a12 at h1
  change ∀ w bb k, v246 (ix2 (row w bb) k) = _ at xe
  clear_value C13 C12 C11 v490 v489 v487 v455 v449 C10 v415 C9 v375 v374 v372 C8 v340 v337 C7 v302 C6 cst v261 v260 v246 v226 c255 v225 C5 v194 v190 v186 v182 v178 C4 v166 v163 C3 v131 v128 C2 v96 v93 C1 v59 v58
  have R : ∀ (k : Fin 3) (c : Fin 38) bb o, C5.a37 (ix4 k c bb o) = P1 A (bn b bb) (2 * i.val + k.val) c.val o := by
    have g5 : C5.a37 = _ := congrArg Mx.a37 m5
    have g4 : C4.a37 = _ := congrArg Mx.a37 m4
    have g3 : C3.a37 = _ := congrArg Mx.a37 m3
    have g2 : C2.a37 = _ := congrArg Mx.a37 m2
    have g1 : C1.a37 = _ := congrArg Mx.a37 m1
    intro k c bb o
    rw [g5, g4, g3, g2, g1]
    refine rows1 (b := b) (i := i) S.a37 _ _ _ _ _ hz (fun c bb o => ?_) (nums_of x58) (nums_of x93) (nums_of x128) (nums_of x163) k c bb o
    refine (pay16_apply v0 _ c bb o).trans ?_
    by_cases hi0 : i.val = 0
    · rw [if_pos (hv.mpr (hi.trans hi0)), P1_out A _ _ _ o (Or.inl (by omega))]
    · rw [if_neg fun e => hi0 (hi.symm.trans (hv.mp e))]
      exact (window4 S.a37 _ 0 c bb o 2 ⟨1 + c.val, by omega⟩ bb o rfl rfl (by omega) (by omega)).trans (hr hi0 _ bb o)
  have H : ∀ w bb o, k0_pay40 (F := Ideal) v225 255#32 (k0_pay39 (F := Ideal)) (ix2 (row w bb) o) = H1b A (bn b bb) i w o := by
    intro w bb o
    rw [h1]
    exact h1b_val (E.of f5) C5.a37 R w bb o
  have g6 : C6.a38 = _ := congrArg Mx.a38 m6
  have g7 : C7.a38 = C6.a38 := congrArg Mx.a38 m7
  have g8 : C8.a38 = C7.a38 := congrArg Mx.a38 m8
  have g9 : C9.a38 = C8.a38 := congrArg Mx.a38 m9
  have g10 : C10.a38 = C9.a38 := congrArg Mx.a38 m10
  have H6 : ∀ w bb o, C6.a38 (ix2 (row w bb) o) = H1b A (bn b bb) i w o := by
    intro w bb o
    rw [g6]
    exact (congrFun (put2 C5.a38 _) _).trans ((pay42_apply v225 _).trans (H w bb o))
  have y0 := yB_val (E.of f6) v246 0 (by decide) xe H6
  have y1 := yB_val (E.of f8) v246 256 (by decide) xe (by rw [g8, g7]; exact H6)
  have y2 := yB_val (E.of f9) v246 512 (by decide) xe (by rw [g9, g8, g7]; exact H6)
  have y3 := yB_val (E.of f10) v246 768 (by decide) xe (by rw [g10, g9, g8, g7]; exact H6)
  have k39 : ∀ s' M o, C11.a39 (ix3 s' M o) = if s' = s then Y1 A (bn b (img M)) i (col M) o else S.a39 (ix3 s' M o) := by
    have u11 : C11.a39 = _ := congrArg Mx.a39 m11
    have u10 : C10.a39 = _ := congrArg Mx.a39 m10
    have u9 : C9.a39 = _ := congrArg Mx.a39 m9
    have u8 : C8.a39 = _ := congrArg Mx.a39 m8
    have u7 : C7.a39 = C6.a39 := congrArg Mx.a39 m7
    have u6 : C6.a39 = C5.a39 := congrArg Mx.a39 m6
    have u5 : C5.a39 = C4.a39 := congrArg Mx.a39 m5
    have u4 : C4.a39 = C3.a39 := congrArg Mx.a39 m4
    have u3 : C3.a39 = C2.a39 := congrArg Mx.a39 m3
    have u2 : C2.a39 = C1.a39 := congrArg Mx.a39 m2
    have u1 : C1.a39 = S.a39 := congrArg Mx.a39 m1
    intro s' M o
    rw [u11, u10, u9, u8, u7, u6, u5, u4, u3, u2, u1]
    refine quarters3 S.a39 _ _ _ _ s _ _ _ _ ((off1_eq t).trans (by rw [hs])) ((off2_eq t).trans (by rw [hs])) ((off3_eq t).trans (by rw [hs])) ((off4_eq t).trans (by rw [hs]))
      (fun M o => Y1 A (bn b (img M)) i (col M) o) ?_ ?_ ?_ ?_ s' M o
    · exact fun M o => (q7 M o).trans (by_row (f := fun M o => yB C6 v246 0 (by decide) (ix2 M o)) y0 M o)
    · exact fun M o => (q8.2 M o).trans (by_row (f := fun M o => yB C8 v246 256 (by decide) (ix2 M o)) y1 M o)
    · exact fun M o => (p10 M o).trans (by_row (f := fun M o => yB C9 v246 512 (by decide) (ix2 M o)) y2 M o)
    · exact fun M o => (q10.2 M o).trans (by_row (f := fun M o => yB C10 v246 768 (by decide) (ix2 M o)) y3 M o)
  have k39s : ∀ w bb o, C11.a39 (ix3 s (row w bb) o) = Y1 A (bn b bb) i w o := by
    intro w bb o
    rw [k39, if_pos rfl, col_row, img_row]
  have h2 := hB_val (E.of f11) s (k0_off5 t) ((off5_eq t).trans (by rw [hs])) (k0_off5_inb t h) k39s
  have v39 : C13.a39 = C11.a39 := (show C13.a39 = C12.a39 from congrArg Mx.a39 m13).trans (congrArg Mx.a39 m12)
  have k40 : ∀ k (c : Fin 20) bb o, C13.a40 (ix4 k c bb o) = if k = 3 then P2 A (bn b bb) (i.val + 1) c.val o else S.a40 (ix4 k c bb o) := by
    have u13 : C13.a40 = _ := congrArg Mx.a40 m13
    have u12 : C12.a40 = C11.a40 := congrArg Mx.a40 m12
    have u11 : C11.a40 = C10.a40 := congrArg Mx.a40 m11
    have u10 : C10.a40 = C9.a40 := congrArg Mx.a40 m10
    have u9 : C9.a40 = C8.a40 := congrArg Mx.a40 m9
    have u8 : C8.a40 = C7.a40 := congrArg Mx.a40 m8
    have u7 : C7.a40 = C6.a40 := congrArg Mx.a40 m7
    have u6 : C6.a40 = C5.a40 := congrArg Mx.a40 m6
    have u5 : C5.a40 = C4.a40 := congrArg Mx.a40 m5
    have u4 : C4.a40 = C3.a40 := congrArg Mx.a40 m4
    have u3 : C3.a40 = C2.a40 := congrArg Mx.a40 m3
    have u2 : C2.a40 = C1.a40 := congrArg Mx.a40 m2
    have u1 : C1.a40 = S.a40 := congrArg Mx.a40 m1
    intro k c bb o
    rw [u13, u12, u11, u10, u9, u8, u7, u6, u5, u4, u3, u2, u1]
    refine rows2 S.a40 _ hz' (fun w bb o => ?_) k c bb o
    rw [q11.2]
    exact nums_of h2 w bb o
  have r37 : C13.a37 = C5.a37 := (show C13.a37 = C12.a37 from congrArg Mx.a37 m13).trans ((show C12.a37 = C11.a37 from congrArg Mx.a37 m12).trans
    ((show C11.a37 = C10.a37 from congrArg Mx.a37 m11).trans ((show C10.a37 = C9.a37 from congrArg Mx.a37 m10).trans ((show C9.a37 = C8.a37 from congrArg Mx.a37 m9).trans
    ((show C8.a37 = C7.a37 from congrArg Mx.a37 m8).trans ((show C7.a37 = C6.a37 from congrArg Mx.a37 m7).trans (show C6.a37 = C5.a37 from congrArg Mx.a37 m6)))))))
  exact {
    fx := f13
    a24 := by
      have u13 : C13.a24 = C12.a24 := congrArg Mx.a24 m13
      have u12 : C12.a24 = C11.a24 := congrArg Mx.a24 m12
      have u11 : C11.a24 = C10.a24 := congrArg Mx.a24 m11
      have u10 : C10.a24 = C9.a24 := congrArg Mx.a24 m10
      have u9 : C9.a24 = C8.a24 := congrArg Mx.a24 m9
      have u8 : C8.a24 = C7.a24 := congrArg Mx.a24 m8
      have u7 : C7.a24 = C6.a24 := congrArg Mx.a24 m7
      have u6 : C6.a24 = C5.a24 := congrArg Mx.a24 m6
      have u5 : C5.a24 = C4.a24 := congrArg Mx.a24 m5
      have u4 : C4.a24 = C3.a24 := congrArg Mx.a24 m4
      have u3 : C3.a24 = C2.a24 := congrArg Mx.a24 m3
      have u2 : C2.a24 = C1.a24 := congrArg Mx.a24 m2
      have u1 : C1.a24 = S.a24 := congrArg Mx.a24 m1
      rw [u13, u12, u11, u10, u9, u8, u7, u6, u5, u4, u3, u2, u1]
    a29 := by
      have u13 : C13.a29 = C12.a29 := congrArg Mx.a29 m13
      have u12 : C12.a29 = C11.a29 := congrArg Mx.a29 m12
      have u11 : C11.a29 = C10.a29 := congrArg Mx.a29 m11
      have u10 : C10.a29 = C9.a29 := congrArg Mx.a29 m10
      have u9 : C9.a29 = C8.a29 := congrArg Mx.a29 m9
      have u8 : C8.a29 = C7.a29 := congrArg Mx.a29 m8
      have u7 : C7.a29 = C6.a29 := congrArg Mx.a29 m7
      have u6 : C6.a29 = C5.a29 := congrArg Mx.a29 m6
      have u5 : C5.a29 = C4.a29 := congrArg Mx.a29 m5
      have u4 : C4.a29 = C3.a29 := congrArg Mx.a29 m4
      have u3 : C3.a29 = C2.a29 := congrArg Mx.a29 m3
      have u2 : C2.a29 = C1.a29 := congrArg Mx.a29 m2
      have u1 : C1.a29 = S.a29 := congrArg Mx.a29 m1
      rw [u13, u12, u11, u10, u9, u8, u7, u6, u5, u4, u3, u2, u1]
    a25 := by
      have u13 : C13.a25 = C12.a25 := congrArg Mx.a25 m13
      have u12 : C12.a25 = C11.a25 := congrArg Mx.a25 m12
      have u11 : C11.a25 = _ := congrArg Mx.a25 m11
      have u10 : C10.a25 = _ := congrArg Mx.a25 m10
      have u9 : C9.a25 = _ := congrArg Mx.a25 m9
      have u8 : C8.a25 = C7.a25 := congrArg Mx.a25 m8
      have u7 : C7.a25 = _ := congrArg Mx.a25 m7
      intro w bb o
      rw [u13, u12, u11, u10, u9, u8, u7, q10.1, q8.1]
      exact quarters4 C6.a25 _ _ _ _ (fun w bb o => code (Y1 A (bn b bb) i w o)) (codes_of y0) (codes_of y1) (codes_of y2) (codes_of y3) w bb o
    a26 := by
      have u13 : C13.a26 = C12.a26 := congrArg Mx.a26 m13
      have u12 : C12.a26 = C11.a26 := congrArg Mx.a26 m12
      have u11 : C11.a26 = C10.a26 := congrArg Mx.a26 m11
      have u10 : C10.a26 = C9.a26 := congrArg Mx.a26 m10
      have u9 : C9.a26 = C8.a26 := congrArg Mx.a26 m9
      have u8 : C8.a26 = C7.a26 := congrArg Mx.a26 m8
      have u7 : C7.a26 = C6.a26 := congrArg Mx.a26 m7
      have u6 : C6.a26 = C5.a26 := congrArg Mx.a26 m6
      have u5 : C5.a26 = _ := congrArg Mx.a26 m5
      have u4 : C4.a26 = _ := congrArg Mx.a26 m4
      have u3 : C3.a26 = _ := congrArg Mx.a26 m3
      have u2 : C2.a26 = _ := congrArg Mx.a26 m2
      intro r w bb o
      rw [u13, u12, u11, u10, u9, u8, u7, u6, u5, u4, u3, u2, c58, c93, c128, c163]
      exact halves C1.a26 _ _ _ _ (fun r w bb o => code (H1a A (bn b bb) ⟨2 * i.val + r.val, by omega⟩ w o)) (codes_of x58) (codes_of x93) (codes_of x128) (codes_of x163) r w bb o
    a27 := by
      have u13 : C13.a27 = C12.a27 := congrArg Mx.a27 m13
      have u12 : C12.a27 = C11.a27 := congrArg Mx.a27 m12
      have u11 : C11.a27 = C10.a27 := congrArg Mx.a27 m11
      have u10 : C10.a27 = C9.a27 := congrArg Mx.a27 m10
      have u9 : C9.a27 = C8.a27 := congrArg Mx.a27 m9
      have u8 : C8.a27 = C7.a27 := congrArg Mx.a27 m8
      have u7 : C7.a27 = C6.a27 := congrArg Mx.a27 m7
      have u6 : C6.a27 = _ := congrArg Mx.a27 m6
      intro w bb o
      rw [u13, u12, u11, u10, u9, u8, u7, u6]
      exact (congrFun (put4_whole C5.a27 _) _).trans (codes_of H w bb o)
    a28 := by
      have u13 : C13.a28 = C12.a28 := congrArg Mx.a28 m13
      have u12 : C12.a28 = _ := congrArg Mx.a28 m12
      intro w bb o
      rw [u13, u12, q11.1]
      exact (congrFun (put4_whole C11.a28 _) _).trans (codes_of h2 w bb o)
    a37 := by rw [r37]; exact R
    a39 := by rw [v39]; exact k39s
    a39' := fun s' hne M o => by rw [v39, k39, if_neg hne]
    a40 := fun c bb o => by rw [k40, if_pos rfl]
    a40' := fun k hne c bb o => by rw [k40, if_neg hne] }

end Cert.Stage

end
-- ==== Proof.Value.LagFields.lean ====
/- What each part of the trailing half writes and returns, over any state. -/
module

public import proofs.«01_k».proof.Proof.Value.Lead

@[expose] public section

set_option maxRecDepth 16384

noncomputable section

namespace Cert.Stage

open Idealize.ShloMosaic Cert.KernelIdeal Cert.KernelIdeal.Gen Cert.KernelIdeal.Hand

variable {A : Args} {b : Fin 4} {i : Fin 14} (t : grid0.Coords) (S : St Ideal)

/-! ### What each part writes and returns -/

theorem fx_part15 (v0 : BitVec 32) : fx (part15 t S v0) = fx S := rfl
theorem mx_part15 (v0 : BitVec 32) : mx (part15 t S v0) = { mx S with a40 := VecWindow.put (s := S4x20x32x256) S.a40 ![2, 0, 0, 0] S1x20x32x256.size (k0_pay63 (F := Ideal) v0 (VecWindow.window S.a40 ![3, 0, 0, 0] S1x20x32x256.size inb_S4x20x32x256_S1x20x32x256_3_0_0_0)) } := rfl

theorem part16_eq (v0 : BitVec 32) :
    let S' := part15 t S v0
    let v := part16_r0 t S' (part15_r0 t S v0) (part15_r1 t S v0) (part15_r2 t S v0) (part15_r3 t S v0) (part15_r4 t S v0)
    v = h2bArr S'.a40 S'.a35 S'.a19 S'.a20
    ∧ k0_pay71 (part16_r1 t S' (part15_r0 t S v0) (part15_r1 t S v0) (part15_r2 t S v0) (part15_r3 t S v0) (part15_r4 t S v0)) = codes v := by
  refine ⟨?_, rfl⟩
  have e : part16_r0 t (part15 t S v0) (part15_r0 t S v0) (part15_r1 t S v0) (part15_r2 t S v0) (part15_r3 t S v0) (part15_r4 t S v0)
      = h2bArr (part15 t S v0).a40 (VecWindow.window (part15 t S v0).a35 ![0, 0] S2304x256.size inb_S2304x256_S2304x256_0_0)
        (VecWindow.window (part15 t S v0).a19 ![0, 0] S1x256.size inb_S1x256_S1x256_0_0) (VecWindow.window (part15 t S v0).a20 ![0, 0] S1x256.size inb_S1x256_S1x256_0_0) := rfl
  show part16_r0 t (part15 t S v0) (part15_r0 t S v0) (part15_r1 t S v0) (part15_r2 t S v0) (part15_r3 t S v0) (part15_r4 t S v0) = _
  rw [e, window_whole _ _ _ (by decide), window_whole _ _ _ (by decide), window_whole _ _ _ (by decide)]

/-- A block of 256 channels of unit 2's result, of a state. -/
def zB (S : St Ideal) (s : EReal) (q : ℕ) (hq : q + 256 ≤ 1024) (d : Fin 3 → ℕ) (hd : ∀ a, d a + S1x576x256.size a ≤ S2x576x1024.size a) : FVec Ideal S576x256 .f32 :=
  zBlk s (VecWindow.window S.a41 ![0, 0] S576x256.size inb_S576x256_S576x256_0_0) (VecWindow.window S.a36 ![0, q] S256x256.size (inb_q 256 q hq))
    (VecWindow.window S.a21 ![0, q] S1x256.size (inb_q 1 q hq)) (VecWindow.window S.a22 ![0, q] S1x256.size (inb_q 1 q hq)) (VecWindow.window S.a39 d S1x576x256.size hd)

theorem zB_val {S : St Ideal} (E : Env A S) (s : EReal) (hs : s = A.m2s (ix1 0)) (q : ℕ) (hq : q + 256 ≤ 1024) (d : Fin 3 → ℕ) (hd) (p : Fin 2) (hp : d = ![p.val, 0, q])
    (hh : ∀ w bb o, S.a41 (ix2 (row w bb) o) = H2b A (bn b bb) i w o) (hy : ∀ w bb o, S.a39 (ix3 p (row w bb) o) = Y1 A (bn b bb) i w o) (w : Fin 18) (bb : Fin 32) (o : Fin 256) :
    zB S s q hq d hd (ix2 (row w bb) o) = Y2 A (bn b bb) i w ⟨q + o.val, by omega⟩ := by
  rw [zB, window_whole S.a41 _ _ (by decide)]
  refine y2_val E s hs S.a41 _ q hq hh (fun w bb o => Eq.trans ?_ (hy w bb _)) _ _ _ w bb o
  exact window3 S.a39 d hp hd 0 (row w bb) o p (row w bb) ⟨q + o.val, by omega⟩ rfl (by omega) rfl

section
variable (a0 : BitVec 32) (h : k0_cond3 t = 1#1) (v : FVec Ideal S576x256 .f32) (u : IVec S18x32x256 8)

theorem fx_part17 : fx (part17 t S a0 h v u) = fx S := rfl
theorem mx_part17 : mx (part17 t S a0 h v u) = { mx S with
    a29 := VecWindow.put (s := S1x18x32x256) S.a29 ![0, 0, 0, 0] S1x18x32x256.size (k0_pay71 u)
    a41 := VecWindow.put (s := S576x256) S.a41 ![0, 0] S576x256.size (k0_pay72 (F := Ideal) v) } := rfl
theorem part17_scale : part17_r0 t S a0 h v u = S.a23 (ix1 0) := by
  refine congrArg S.a23 (funext fun a => ?_)
  exact match a with | ⟨0, _⟩ => Subsingleton.elim (α := Fin 1) _ _

theorem fx_part18 (s x y) : fx (part18 t S a0 s x y) = fx S := rfl
theorem part18_eq (s) :
    let S' := part17 t S a0 h v u
    mx (part18 t S' a0 s (part17_r1 t S a0 h v u) (part17_r2 t S a0 h v u)) = { mx S' with
      a24 := VecWindow.put (s := S1x18x32x1024) S'.a24 ![0, 0, 0, 0] S1x18x32x256.size (codes (zB S' s 0 (by decide) (k0_off6 t) (k0_off6_inb t h))) } := rfl

theorem fx_part19 (s x c1 c2 c3 c4) : fx (part19 t S a0 h s x c1 c2 c3 c4) = fx S := rfl
theorem part19_eq (s x y s' c1 c2 c3 c4) :
    let S' := part18 t S a0 s x y
    mx (part19 t S' a0 h s' (part18_r0 t S a0 s x y) c1 c2 c3 c4) = { mx S' with
      a24 := VecWindow.put (s := S1x18x32x1024) S'.a24 ![0, 0, 0, 256] S1x18x32x256.size (codes (zB S' s' 256 (by decide) (k0_off7 t) (k0_off7_inb t h))) } := rfl

theorem fx_part20 (s x c) : fx (part20 t S h s x c) = fx S := rfl
theorem part20_eq (s x c1 c2 c3 c4 s' c) :
    let S' := part19 t S a0 h s x c1 c2 c3 c4
    mx (part20 t S' h s' (part19_r0 t S a0 h s x c1 c2 c3 c4) c) = { mx S' with
      a24 := VecWindow.put (s := S1x18x32x1024) S'.a24 ![0, 0, 0, 512] S1x18x32x256.size (codes (zB S' s' 512 (by decide) (k0_off8 t) (k0_off8_inb t h))) } := rfl

theorem fx_put24 (d z w) : fx (S.put24 d z w) = fx S := rfl
theorem mx_put24 (d z w) : mx (S.put24 d z w) = { mx S with a24 := VecWindow.put (s := S1x18x32x1024) S.a24 d z w } := rfl
end

end Cert.Stage

end
-- ==== Proof.Value.Lag.lean ====
/- The trailing half of a step: unit 2's 3x3 product and its result, of the row before; and the shift of the padded rows. -/
module

public import proofs.«01_k».proof.Proof.Value.LagFields

@[expose] public section

set_option maxRecDepth 16384

noncomputable section

namespace Cert.Stage

open Idealize.ShloMosaic Cert.KernelIdeal Cert.KernelIdeal.Gen Cert.KernelIdeal.Hand

variable {A : Args} {b : Fin 4} {i : Fin 14} (t : grid0.Coords) (S : St Ideal)

/-- What the trailing half finds: the two older padded rows, the newest one, and the row of unit 1's result. -/
structure LagIn (A : Args) (b : Fin 4) (i : Fin 14) (p : Fin 2) (t : grid0.Coords) (S : St Ideal) : Prop where
  E : Env A S
  r0 : ∀ (c : Fin 20) bb o, S.a40 (ix4 0 c bb o) = P2 A (bn b bb) i.val c.val o
  r1 : ∀ (c : Fin 20) bb o, S.a40 (ix4 1 c bb o) = P2 A (bn b bb) (i.val + 1) c.val o
  r3 : (t 0).val % 14 ≠ 0 → ∀ (c : Fin 20) bb o, S.a40 (ix4 3 c bb o) = P2 A (bn b bb) (i.val + 2) c.val o
  last : (t 0).val % 14 = 0 → i.val = 13
  y : ∀ w bb o, S.a39 (ix3 p (row w bb) o) = Y1 A (bn b bb) i w o
  slot : ((t 0).val + 1) % 2 = p.val

/-- What it leaves. -/
structure LagOut (A : Args) (b : Fin 4) (i : Fin 14) (S S' : St Ideal) : Prop where
  fx : fx S' = fx S
  a25 : S'.a25 = S.a25
  a26 : S'.a26 = S.a26
  a27 : S'.a27 = S.a27
  a28 : S'.a28 = S.a28
  a37 : S'.a37 = S.a37
  a39 : S'.a39 = S.a39
  a24 : ∀ w bb o, S'.a24 (ix4 0 w bb o) = code (Y2 A (bn b bb) i w o)
  a29 : ∀ w bb o, S'.a29 (ix4 0 w bb o) = code (H2b A (bn b bb) i w o)
  a40 : ∀ k, k ≠ 2 → ∀ (c : Fin 20) bb o, S'.a40 (ix4 k c bb o) = S.a40 (ix4 k c bb o)

/-- What the trailing half has left before the last 256 channels. -/
structure LagMid (A : Args) (b : Fin 4) (i : Fin 14) (S S' : St Ideal) : Prop where
  fx : fx S' = fx S
  a25 : S'.a25 = S.a25
  a26 : S'.a26 = S.a26
  a27 : S'.a27 = S.a27
  a28 : S'.a28 = S.a28
  a37 : S'.a37 = S.a37
  a39 : S'.a39 = S.a39
  a24 : ∃ w0 w1 w2, S'.a24 = VecWindow.put (s := S1x18x32x1024) (VecWindow.put (s := S1x18x32x1024) (VecWindow.put (s := S1x18x32x1024) S.a24 ![0, 0, 0, 0] S1x18x32x256.size w0) ![0, 0, 0, 256] S1x18x32x256.size w1)
          ![0, 0, 0, 512] S1x18x32x256.size w2
      ∧ (∀ w bb (o : Fin 256), w0 (ix4 0 w bb o) = code (Y2 A (bn b bb) i w ⟨0 + o.val, by omega⟩)) ∧ (∀ w bb (o : Fin 256), w1 (ix4 0 w bb o) = code (Y2 A (bn b bb) i w ⟨256 + o.val, by omega⟩))
      ∧ (∀ w bb (o : Fin 256), w2 (ix4 0 w bb o) = code (Y2 A (bn b bb) i w ⟨512 + o.val, by omega⟩))
  a41 : ∀ w bb o, S'.a41 (ix2 (row w bb) o) = H2b A (bn b bb) i w o
  a29 : ∀ w bb o, S'.a29 (ix4 0 w bb o) = code (H2b A (bn b bb) i w o)
  a40 : ∀ k, k ≠ 2 → ∀ (c : Fin 20) bb o, S'.a40 (ix4 k c bb o) = S.a40 (ix4 k c bb o)

theorem part21_out {p : Fin 2} (h : k0_cond3 t = 1#1) (L : LagIn A b i p t S) (a0 v0 : BitVec 32) (hv : v0 = 0#32 ↔ (t 0).val % 14 = 0) :
    LagMid A b i S (part21 t S a0 v0 h) := by
  unfold part21
  extract_lets v37 v40 v43 v46 v49 C1 v82 v85 v93 v107 v120 C2 v152 v155 v156 v157 v158 C3 v197 v198 C4 C5
  have f1 : fx C1 = fx S := fx_part15 t S v0
  have f2 : fx C2 = fx S := (fx_part17 t C1 a0 h v82 v85).trans f1
  have f3 : fx C3 = fx S := (fx_part18 t C2 a0 v93 v107 v120).trans f2
  have f4 : fx C4 = fx S := (fx_part19 t C3 a0 h v93 v152 v155 v156 v157 v158).trans f3
  have f5 : fx C5 = fx S := (fx_part20 t C4 h v93 v197 v198).trans f4
  have m1 := mx_part15 t S v0
  have q1 := part16_eq t S v0
  have m2 := mx_part17 t C1 a0 h v82 v85
  have s2 := part17_scale t C1 a0 h v82 v85
  have m3 := part18_eq t C1 a0 h v82 v85 v93
  have m4 := part19_eq t C2 a0 h v93 v107 v120 v93 v155 v156 v157 v158
  have m5 := part20_eq t C3 a0 h v93 v152 v155 v156 v157 v158 v93 v198
  change mx C1 = _ at m1
  change v82 = h2bArr C1.a40 C1.a35 C1.a19 C1.a20 ∧ k0_pay71 v85 = codes v82 at q1
  change mx C2 = _ at m2
  change v93 = C1.a23 (ix1 0) at s2
  change mx C3 = { mx C2 with a24 := VecWindow.put (s := S1x18x32x1024) C2.a24 ![0, 0, 0, 0] S1x18x32x256.size (codes (zB C2 v93 0 (by decide) (k0_off6 t) (k0_off6_inb t h))) } at m3
  change mx C4 = { mx C3 with a24 := VecWindow.put (s := S1x18x32x1024) C3.a24 ![0, 0, 0, 256] S1x18x32x256.size (codes (zB C3 v93 256 (by decide) (k0_off7 t) (k0_off7_inb t h))) } at m4
  change mx C5 = { mx C4 with a24 := VecWindow.put (s := S1x18x32x1024) C4.a24 ![0, 0, 0, 512] S1x18x32x256.size (codes (zB C4 v93 512 (by decide) (k0_off8 t) (k0_off8_inb t h))) } at m5
  clear_value C5 C4 v198 v197 C3 v158 v157 v156 v155 v152 C2 v120 v107 v93 v85 v82 C1 v49 v46 v43 v40 v37
  have k40 : ∀ k, k ≠ 2 → ∀ (c : Fin 20) bb o, C1.a40 (ix4 k c bb o) = S.a40 (ix4 k c bb o) := by
    intro k hk c bb o
    have g : C1.a40 = _ := congrArg Mx.a40 m1
    rw [g]
    have : k.val ≠ 2 := fun e => hk (Fin.ext e)
    exact put4_out S.a40 _ k c bb o (Or.inl (by omega))
  have R : ∀ (k : Fin 4), k.val < 3 → ∀ (c : Fin 20) bb o, C1.a40 (ix4 k c bb o) = P2 A (bn b bb) (i.val + k.val) c.val o := by
    intro k hk c bb o
    by_cases h2 : k = 2
    · subst h2
      have g : C1.a40 = _ := congrArg Mx.a40 m1
      rw [g]
      refine (put4 S.a40 _ 0 c bb o 2 c bb o rfl (by omega) (by omega) (by omega)).trans ((pay63_apply v0 _ c bb o).trans ?_)
      by_cases h0 : (t 0).val % 14 = 0
      · have h13 := L.last h0
        have e2 : (2 : Fin 4).val = 2 := rfl
        rw [if_pos (hv.mpr h0), P2_out A _ _ _ o (Or.inr (Or.inl (by omega)))]
      · rw [if_neg fun e => h0 (hv.mp e)]
        exact (window4 S.a40 _ 0 c bb o 3 c bb o rfl (by omega) (by omega) (by omega)).trans (L.r3 h0 c bb o)
    · rw [k40 k h2]
      have : k.val ≠ 2 := fun e => h2 (Fin.ext e)
      have hk' : k.val = 0 ∨ k.val = 1 := by omega
      rcases hk' with e | e
      · obtain rfl : k = 0 := Fin.ext e
        exact L.r0 c bb o
      · obtain rfl : k = 1 := Fin.ext e
        exact L.r1 c bb o
  have H : ∀ w bb o, v82 (ix2 (row w bb) o) = H2b A (bn b bb) i w o := by
    intro w bb o
    rw [q1.1]
    exact h2b_val (L.E.of f1) C1.a40 R w bb o
  have hs : v93 = A.m2s (ix1 0) := s2.trans (L.E.of f1).v.m2s
  have H2 : ∀ w bb o, C2.a41 (ix2 (row w bb) o) = H2b A (bn b bb) i w o := by
    intro w bb o
    have g : C2.a41 = _ := congrArg Mx.a41 m2
    rw [g]
    exact (congrFun (put2 C1.a41 _) _).trans ((pay72_apply v82 _).trans (H w bb o))
  have g3 : C3.a41 = C2.a41 := congrArg Mx.a41 m3
  have g4 : C4.a41 = C3.a41 := congrArg Mx.a41 m4
  have g5 : C5.a41 = C4.a41 := congrArg Mx.a41 m5
  have d1 : C1.a39 = S.a39 := congrArg Mx.a39 m1
  have d2 : C2.a39 = C1.a39 := congrArg Mx.a39 m2
  have d3 : C3.a39 = C2.a39 := congrArg Mx.a39 m3
  have d4 : C4.a39 = C3.a39 := congrArg Mx.a39 m4
  have z0 := zB_val (L.E.of f2) v93 hs 0 (by decide) (k0_off6 t) (k0_off6_inb t h) p ((off6_eq t).trans (by rw [L.slot])) H2 (by rw [d2, d1]; exact L.y)
  have z1 := zB_val (L.E.of f3) v93 hs 256 (by decide) (k0_off7 t) (k0_off7_inb t h) p ((off7_eq t).trans (by rw [L.slot])) (by rw [g3]; exact H2) (by rw [d3, d2, d1]; exact L.y)
  have z2 := zB_val (L.E.of f4) v93 hs 512 (by decide) (k0_off8 t) (k0_off8_inb t h) p ((off8_eq t).trans (by rw [L.slot])) (by rw [g4, g3]; exact H2) (by rw [d4, d3, d2, d1]; exact L.y)
  have r25 : C5.a25 = S.a25 := by
    rw [show C5.a25 = C4.a25 from congrArg Mx.a25 m5, show C4.a25 = C3.a25 from congrArg Mx.a25 m4, show C3.a25 = C2.a25 from congrArg Mx.a25 m3, show C2.a25 = C1.a25 from congrArg Mx.a25 m2, show C1.a25 = S.a25 from congrArg Mx.a25 m1]
  have r26 : C5.a26 = S.a26 := by
    rw [show C5.a26 = C4.a26 from congrArg Mx.a26 m5, show C4.a26 = C3.a26 from congrArg Mx.a26 m4, show C3.a26 = C2.a26 from congrArg Mx.a26 m3, show C2.a26 = C1.a26 from congrArg Mx.a26 m2, show C1.a26 = S.a26 from congrArg Mx.a26 m1]
  have r27 : C5.a27 = S.a27 := by
    rw [show C5.a27 = C4.a27 from congrArg Mx.a27 m5, show C4.a27 = C3.a27 from congrArg Mx.a27 m4, show C3.a27 = C2.a27 from congrArg Mx.a27 m3, show C2.a27 = C1.a27 from congrArg Mx.a27 m2, show C1.a27 = S.a27 from congrArg Mx.a27 m1]
  have r28 : C5.a28 = S.a28 := by
    rw [show C5.a28 = C4.a28 from congrArg Mx.a28 m5, show C4.a28 = C3.a28 from congrArg Mx.a28 m4, show C3.a28 = C2.a28 from congrArg Mx.a28 m3, show C2.a28 = C1.a28 from congrArg Mx.a28 m2, show C1.a28 = S.a28 from congrArg Mx.a28 m1]
  have r37 : C5.a37 = S.a37 := by
    rw [show C5.a37 = C4.a37 from congrArg Mx.a37 m5, show C4.a37 = C3.a37 from congrArg Mx.a37 m4, show C3.a37 = C2.a37 from congrArg Mx.a37 m3, show C2.a37 = C1.a37 from congrArg Mx.a37 m2, show C1.a37 = S.a37 from congrArg Mx.a37 m1]
  have r39 : C5.a39 = S.a39 := by
    rw [show C5.a39 = C4.a39 from congrArg Mx.a39 m5, show C4.a39 = C3.a39 from congrArg Mx.a39 m4, show C3.a39 = C2.a39 from congrArg Mx.a39 m3, show C2.a39 = C1.a39 from congrArg Mx.a39 m2, show C1.a39 = S.a39 from congrArg Mx.a39 m1]
  refine ⟨f5, r25, r26, r27, r28, r37, r39, ⟨_, _, _, ?_, codes_of z0, codes_of z1, codes_of z2⟩, ?_, ?_, ?_⟩
  · have w5 : C5.a24 = _ := congrArg Mx.a24 m5
    have w4 : C4.a24 = _ := congrArg Mx.a24 m4
    have w3 : C3.a24 = _ := congrArg Mx.a24 m3
    have w2 : C2.a24 = C1.a24 := congrArg Mx.a24 m2
    have w1 : C1.a24 = S.a24 := congrArg Mx.a24 m1
    rw [w5, w4, w3, w2, w1]
  · rw [g5, g4, g3]; exact H2
  · intro w bb o
    have u5 : C5.a29 = C4.a29 := congrArg Mx.a29 m5
    have u4 : C4.a29 = C3.a29 := congrArg Mx.a29 m4
    have u3 : C3.a29 = C2.a29 := congrArg Mx.a29 m3
    have u2 : C2.a29 = _ := congrArg Mx.a29 m2
    rw [u5, u4, u3, u2, q1.2]
    exact (congrFun (put4_whole C1.a29 _) _).trans (codes_of H w bb o)
  · have u5 : C5.a40 = C4.a40 := congrArg Mx.a40 m5
    have u4 : C4.a40 = C3.a40 := congrArg Mx.a40 m4
    have u3 : C3.a40 = C2.a40 := congrArg Mx.a40 m3
    have u2 : C2.a40 = C1.a40 := congrArg Mx.a40 m2
    rw [u5, u4, u3, u2]
    exact k40

/-- The last block of 256 channels. -/
theorem part21_last (a0 v0 : BitVec 32) (h : k0_cond3 t = 1#1) :
    ∃ s, s = S.a23 (ix1 0) ∧ part21_r0 t S a0 v0 h = codes (zB (part21 t S a0 v0 h) s 768 (by decide) (k0_off9 t) (k0_off9_inb t h)) :=
  ⟨_, part17_scale t (part15 t S v0) a0 h (part16_r0 t (part15 t S v0) (part15_r0 t S v0) (part15_r1 t S v0) (part15_r2 t S v0) (part15_r3 t S v0) (part15_r4 t S v0))
    (part16_r1 t (part15 t S v0) (part15_r0 t S v0) (part15_r1 t S v0) (part15_r2 t S v0) (part15_r3 t S v0) (part15_r4 t S v0)), rfl⟩

theorem lag_out {p : Fin 2} (h : k0_cond3 t = 1#1) (L : LagIn A b i p t S) : LagOut A b i S (lag t S h) := by
  have hv := rem14 t
  unfold lag
  extract_lets a0 v0 v273 C1 C2
  have Q := part21_out t S h L a0 v0 hv
  obtain ⟨s, hs, q⟩ := part21_last t S a0 v0 h
  have m2 := mx_put24 C1 ![0, 0, 0, 768] S1x18x32x256.size v273
  have f2 : fx C2 = fx C1 := fx_put24 C1 _ _ _
  change LagMid A b i S C1 at Q
  change v273 = codes (zB C1 s 768 (by decide) (k0_off9 t) (k0_off9_inb t h)) at q
  change mx C2 = _ at m2
  clear_value C2 C1 v273
  obtain ⟨f1, r25, r26, r27, r28, r37, r39, ⟨w0, w1, w2, e24, h0, h1, h2⟩, H, h29, h40⟩ := Q
  have d1 : C1.a39 = S.a39 := r39
  have z3 := zB_val (L.E.of f1) s (hs.trans L.E.v.m2s) 768 (by decide) (k0_off9 t) (k0_off9_inb t h) p ((off9_eq t).trans (by rw [L.slot])) H (by rw [d1]; exact L.y)
  exact {
    fx := f2.trans f1
    a25 := (show C2.a25 = C1.a25 from congrArg Mx.a25 m2).trans r25
    a26 := (show C2.a26 = C1.a26 from congrArg Mx.a26 m2).trans r26
    a27 := (show C2.a27 = C1.a27 from congrArg Mx.a27 m2).trans r27
    a28 := (show C2.a28 = C1.a28 from congrArg Mx.a28 m2).trans r28
    a37 := (show C2.a37 = C1.a37 from congrArg Mx.a37 m2).trans r37
    a39 := (show C2.a39 = C1.a39 from congrArg Mx.a39 m2).trans r39
    a24 := by
      have u : C2.a24 = _ := congrArg Mx.a24 m2
      intro w bb o
      rw [u, e24, q]
      exact quarters4 S.a24 _ _ _ _ (fun w bb o => code (Y2 A (bn b bb) i w o)) h0 h1 h2 (codes_of z3) w bb o
    a29 := by
      have u : C2.a29 = C1.a29 := congrArg Mx.a29 m2
      rw [u]; exact h29
    a40 := by
      have u : C2.a40 = C1.a40 := congrArg Mx.a40 m2
      rw [u]; exact h40 }

end Cert.Stage

end
-- ==== Proof.Value.Shift.lean ====
/- The shift of the padded rows that ends a step. -/
module

public import proofs.«01_k».proof.Proof.Value.Fields

@[expose] public section

set_option maxRecDepth 16384

noncomputable section

namespace Cert.Stage

open Idealize.ShloMosaic Cert.KernelIdeal Cert.KernelIdeal.Gen Cert.KernelIdeal.Hand

variable (t : grid0.Coords) (S : St Ideal)

/-- The padded rows after the shift. -/
def shifted (x : S4x20x32x256.Idx → EReal) : S4x20x32x256.Idx → EReal :=
  let y := VecWindow.put (s := S4x20x32x256) x ![0, 0, 0, 0] S1x20x32x256.size
    (k0_pay8 (F := Ideal) t (VecWindow.window x ![1, 0, 0, 0] S1x20x32x256.size inb_S4x20x32x256_S1x20x32x256_1_0_0_0))
  VecWindow.put (s := S4x20x32x256) y ![1, 0, 0, 0] S1x20x32x256.size
    (k0_pay9 (F := Ideal) (VecWindow.window y ![3, 0, 0, 0] S1x20x32x256.size inb_S4x20x32x256_S1x20x32x256_3_0_0_0))

theorem shift_out : fx (shift t S) = fx S ∧ mx (shift t S) = { mx S with a40 := shifted t S.a40 } := by
  unfold shift
  extract_lets v C1 v' C2
  have f1 : fx C1 = fx S := fx_put40 S _ _ _
  have f2 : fx C2 = fx C1 := fx_put40 C1 _ _ _
  have m1 := mx_put40 S ![0, 0, 0, 0] S1x20x32x256.size (k0_pay8 (F := Ideal) t v)
  have m2 := mx_put40 C1 ![1, 0, 0, 0] S1x20x32x256.size (k0_pay9 (F := Ideal) v')
  change mx C1 = _ at m1
  change mx C2 = _ at m2
  have hv' : v' = VecWindow.window C1.a40 ![3, 0, 0, 0] S1x20x32x256.size inb_S4x20x32x256_S1x20x32x256_3_0_0_0 := rfl
  clear_value C2 v' C1
  have g1 : C1.a40 = _ := congrArg Mx.a40 m1
  refine ⟨f2.trans f1, ?_⟩
  rw [m2, hv', g1, m1]
  rfl

/-- Row 0 is what row 1 was, or nothing at the top of an image; row 1 is row 3; row 3 stays. -/
theorem shift_rows (x : S4x20x32x256.Idx → EReal) (c : Fin 20) (bb : Fin 32) (o : Fin 256) :
    shifted t x (ix4 0 c bb o) = (if (t 0).val % 14 = 0 then 0 else x (ix4 1 c bb o))
    ∧ shifted t x (ix4 1 c bb o) = x (ix4 3 c bb o)
    ∧ shifted t x (ix4 3 c bb o) = x (ix4 3 c bb o) := by
  have hv := rem14 t
  have e0 : (0 : Fin 4).val = 0 := rfl
  have e1 : (1 : Fin 4).val = 1 := rfl
  have e3 : (3 : Fin 4).val = 3 := rfl
  unfold shifted
  refine ⟨?_, ?_, ?_⟩
  · refine (put4_out _ _ 0 c bb o (Or.inl (by omega))).trans ((put4 x _ 0 c bb o 0 c bb o rfl (by omega) (by omega) (by omega)).trans ?_)
    rw [pay8_eq, pay63_apply]
    by_cases h0 : (t 0).val % 14 = 0
    · rw [if_pos h0, if_pos (hv.mpr h0)]
    · rw [if_neg h0, if_neg fun e => h0 (hv.mp e)]
      exact window4 x _ 0 c bb o 1 c bb o rfl (by omega) (by omega) (by omega)
  · refine (put4 _ _ 0 c bb o 1 c bb o rfl (by omega) (by omega) (by omega)).trans ((pay9_apply _ c bb o).trans ?_)
    exact (window4 _ _ 0 c bb o 3 c bb o rfl (by omega) (by omega) (by omega)).trans (put4_out x _ 3 c bb o (Or.inl (by omega)))
  · exact (put4_out _ _ 3 c bb o (Or.inl (by omega))).trans (put4_out x _ 3 c bb o (Or.inl (by omega)))

end Cert.Stage

end
-- ==== Proof.Value.Step.lean ====
/-
  One grid step over any state. Point `u` of the first 56 has its leading half at row `iq u` of block `bq u`; its trailing half is that of
  the point before. `InvAt A u` says what the scratch holds once point `u` is done.
-/
module

public import proofs.«01_k».proof.Proof.KernelIdeal.Track
public import proofs.«01_k».proof.Proof.Value.First
public import proofs.«01_k».proof.Proof.Value.Lead
public import proofs.«01_k».proof.Proof.Value.Lag
public import proofs.«01_k».proof.Proof.Value.Shift

@[expose] public section

set_option maxRecDepth 16384

noncomputable section

namespace Cert.Stage

open Idealize.ShloMosaic Cert.KernelIdeal Cert.KernelIdeal.Gen Cert.KernelIdeal.Hand

/-- The block of images of a point, and its row. -/
def bq (u : Fin 56) : Fin 4 := ⟨u.val / 14, by omega⟩
def iq (u : Fin 56) : Fin 14 := ⟨u.val % 14, by omega⟩
def par (n : ℕ) : Fin 2 := ⟨n % 2, by omega⟩

/-- What the scratch holds once point `u` is done. -/
structure InvAt (A : Args) (u : Fin 56) (R : Scr Ideal) : Prop where
  w : Wts A R.a30 R.a31 R.a32 R.a33 R.a34 R.a35 R.a36
  a37 : ∀ (k : Fin 3) (c : Fin 38) bb o, R.a37 (ix4 k c bb o) = P1 A (bn (bq u) bb) (2 * (iq u).val + k.val) c.val o
  a39 : ∀ w bb o, R.a39 (ix3 (par u.val) (row w bb) o) = Y1 A (bn (bq u) bb) (iq u) w o
  r0 : ∀ (c : Fin 20) bb o, R.a40 (ix4 0 c bb o) = P2 A (bn (bq u) bb) (iq u).val c.val o
  r1 : ∀ (c : Fin 20) bb o, R.a40 (ix4 1 c bb o) = P2 A (bn (bq u) bb) ((iq u).val + 1) c.val o
  r3 : ∀ (c : Fin 20) bb o, R.a40 (ix4 3 c bb o) = P2 A (bn (bq u) bb) ((iq u).val + 1) c.val o

/-- What point `u` leaves in the blocks of its leading half. -/
structure LeadBlk (A : Args) (u : Fin 56) (O : Outs Ideal) : Prop where
  a25 : ∀ w bb o, O.a25 (ix4 0 w bb o) = code (Y1 A (bn (bq u) bb) (iq u) w o)
  a26 : ∀ (r : Fin 2) w bb o, O.a26 (ix4 r w bb o) = code (H1a A (bn (bq u) bb) ⟨2 * (iq u).val + r.val, by omega⟩ w o)
  a27 : ∀ w bb o, O.a27 (ix4 0 w bb o) = code (H1b A (bn (bq u) bb) (iq u) w o)
  a28 : ∀ w bb o, O.a28 (ix4 0 w bb o) = code (H2a A (bn (bq u) bb) (iq u) w o)

/-- And in those of the trailing half, for the point `u` before. -/
structure LagBlk (A : Args) (u : Fin 56) (O : Outs Ideal) : Prop where
  a24 : ∀ w bb o, O.a24 (ix4 0 w bb o) = code (Y2 A (bn (bq u) bb) (iq u) w o)
  a29 : ∀ w bb o, O.a29 (ix4 0 w bb o) = code (H2b A (bn (bq u) bb) (iq u) w o)

variable {A : Args} (t : grid0.Coords) (S : St Ideal)

theorem cond1_iff : ∀ i : grid0.Coords, k0c0 i ↔ (i 0).val = 0 := by decide +kernel

theorem lead_step (u : Fin 56) (hu : (t 0).val = u.val) (h : k0_cond2 t = 1#1) (E : Env A S) (X : XOk A (bq u) (iq u) S)
    (z37 : u.val = 0 → ∀ j, S.a37 j = 0) (z40 : u.val = 0 → ∀ j, S.a40 j = 0) (I : ∀ v : Fin 56, u.val = v.val + 1 → InvAt A v S.scr) :
    LeadOut A (bq u) (iq u) (par u.val) S (lead t S h) := by
  have hlt := u.isLt
  refine lead_out t S h (by rw [hu]; rfl) (by rw [hu]; rfl) E X ?_ ?_ ?_
  · intro k bb o
    by_cases h0 : u.val = 0
    · exact ⟨z37 h0 _, z37 h0 _⟩
    · have J := I ⟨u.val - 1, by omega⟩ (by show u.val = u.val - 1 + 1; omega)
      exact ⟨(J.a37 k 0 bb o).trans (P1_out A _ _ _ o (Or.inr (Or.inl rfl))), (J.a37 k 37 bb o).trans (P1_out A _ _ _ o (Or.inr (Or.inr rfl)))⟩
  · intro hi c bb o
    have hi' : u.val % 14 ≠ 0 := hi
    have J := I ⟨u.val - 1, by omega⟩ (by show u.val = u.val - 1 + 1; omega)
    have hb : bq ⟨u.val - 1, by omega⟩ = bq u := Fin.ext (by show (u.val - 1) / 14 = u.val / 14; omega)
    have he : 2 * (iq ⟨u.val - 1, by omega⟩).val + (2 : Fin 3).val = 2 * (iq u).val := by
      show 2 * ((u.val - 1) % 14) + 2 = 2 * (u.val % 14)
      omega
    have e := J.a37 2 c bb o
    rw [hb, he] at e
    exact e
  · intro bb o
    by_cases h0 : u.val = 0
    · exact ⟨z40 h0 _, z40 h0 _⟩
    · have J := I ⟨u.val - 1, by omega⟩ (by show u.val = u.val - 1 + 1; omega)
      exact ⟨(J.r3 0 bb o).trans (P2_out A _ _ _ o (Or.inr (Or.inr (Or.inl rfl)))), (J.r3 19 bb o).trans (P2_out A _ _ _ o (Or.inr (Or.inr (Or.inr rfl))))⟩

/-- The rows the trailing half takes in are those of the point before, with the newest one of this point. -/
theorem lag_step (v : Fin 56) (hv : (t 0).val = v.val + 1) (h : k0_cond3 t = 1#1) (I : InvAt A v S.scr) (S' : St Ideal) (E : Env A S')
    (k39 : ∀ M o, S'.a39 (ix3 (par v.val) M o) = S.a39 (ix3 (par v.val) M o))
    (k40 : ∀ k, k ≠ 3 → ∀ (c : Fin 20) bb o, S'.a40 (ix4 k c bb o) = S.a40 (ix4 k c bb o))
    (n40 : ∀ u : Fin 56, (t 0).val = u.val → ∀ (c : Fin 20) bb o, S'.a40 (ix4 3 c bb o) = P2 A (bn (bq u) bb) ((iq u).val + 1) c.val o) :
    LagOut A (bq v) (iq v) S' (lag t S' h) := by
  have hlt := v.isLt
  refine lag_out t S' (p := par v.val) h ⟨E, ?_, ?_, ?_, ?_, ?_, ?_⟩
  · exact fun c bb o => (k40 0 (by decide) c bb o).trans (I.r0 c bb o)
  · exact fun c bb o => (k40 1 (by decide) c bb o).trans (I.r1 c bb o)
  · intro h0 c bb o
    rw [hv] at h0
    have e := n40 ⟨v.val + 1, by omega⟩ hv c bb o
    have hb : bq ⟨v.val + 1, by omega⟩ = bq v := Fin.ext (by show (v.val + 1) / 14 = v.val / 14; omega)
    have he : (iq ⟨v.val + 1, by omega⟩).val + 1 = (iq v).val + 2 := by
      show (v.val + 1) % 14 + 1 = v.val % 14 + 2
      omega
    rw [hb, he] at e
    exact e
  · intro h0
    rw [hv] at h0
    show v.val % 14 = 13
    omega
  · exact fun w bb o => (k39 _ o).trans (I.a39 w bb o)
  · rw [hv]
    show (v.val + 1 + 1) % 2 = v.val % 2
    omega

/-- After the shift the scratch is as it should be for the next point. -/
theorem shift_inv (u : Fin 56) (hu : (t 0).val = u.val) (E : Env A S)
    (h37 : ∀ (k : Fin 3) (c : Fin 38) bb o, S.a37 (ix4 k c bb o) = P1 A (bn (bq u) bb) (2 * (iq u).val + k.val) c.val o)
    (h39 : ∀ w bb o, S.a39 (ix3 (par u.val) (row w bb) o) = Y1 A (bn (bq u) bb) (iq u) w o)
    (h1 : ∀ v : Fin 56, u.val = v.val + 1 → ∀ (c : Fin 20) bb o, S.a40 (ix4 1 c bb o) = P2 A (bn (bq v) bb) ((iq v).val + 1) c.val o)
    (h3 : ∀ (c : Fin 20) bb o, S.a40 (ix4 3 c bb o) = P2 A (bn (bq u) bb) ((iq u).val + 1) c.val o) :
    InvAt A u (shift t S).scr := by
  obtain ⟨f, m⟩ := shift_out t S
  have hlt := u.isLt
  have e40 : (shift t S).a40 = shifted t S.a40 := congrArg Mx.a40 m
  have e37 : (shift t S).a37 = S.a37 := congrArg Mx.a37 m
  have e39 : (shift t S).a39 = S.a39 := congrArg Mx.a39 m
  refine ⟨(E.of f).w, ?_, ?_, ?_, ?_, ?_⟩
  · exact fun k c bb o => (congrFun e37 _).trans (h37 k c bb o)
  · exact fun w bb o => (congrFun e39 _).trans (h39 w bb o)
  · intro c bb o
    refine (congrFun e40 _).trans ((shift_rows t S.a40 c bb o).1.trans ?_)
    by_cases h0 : (t 0).val % 14 = 0
    · rw [if_pos h0]
      rw [hu] at h0
      exact (P2_out A _ _ _ o (Or.inl h0)).symm
    · rw [if_neg h0]
      rw [hu] at h0
      have e := h1 ⟨u.val - 1, by omega⟩ (by show u.val = u.val - 1 + 1; omega) c bb o
      have hb : bq ⟨u.val - 1, by omega⟩ = bq u := Fin.ext (by show (u.val - 1) / 14 = u.val / 14; omega)
      have he : (iq ⟨u.val - 1, by omega⟩).val + 1 = (iq u).val := by
        show (u.val - 1) % 14 + 1 = u.val % 14
        omega
      rw [hb, he] at e
      exact e
  · exact fun c bb o => (congrFun e40 _).trans ((shift_rows t S.a40 c bb o).2.1.trans (h3 c bb o))
  · exact fun c bb o => (congrFun e40 _).trans ((shift_rows t S.a40 c bb o).2.2.trans (h3 c bb o))

/-- What a step finds. -/
structure Before (A : Args) (n : ℕ) (S : St Ideal) : Prop where
  v : Vecs A S
  raw : RawOk A S
  x : ∀ u : Fin 56, n = u.val → XOk A (bq u) (iq u) S
  inv : ∀ u : Fin 56, n = u.val + 1 → InvAt A u S.scr

/-- What a step leaves. -/
structure After (A : Args) (n : ℕ) (S S' : St Ideal) : Prop where
  inv : ∀ u : Fin 56, n = u.val → InvAt A u S'.scr
  lead : ∀ u : Fin 56, n = u.val → LeadBlk A u S'.outs
  lag : ∀ u : Fin 56, n = u.val + 1 → LagBlk A u S'.outs
  kept : n = 56 → S'.a25 = S.a25 ∧ S'.a26 = S.a26 ∧ S'.a27 = S.a27 ∧ S'.a28 = S.a28

/-- The outputs are not touched by the shift. -/
theorem shift_outs : (shift t S).outs = S.outs := by
  obtain ⟨f, m⟩ := shift_out t S
  have e24 : (shift t S).a24 = S.a24 := congrArg Mx.a24 m
  have e25 : (shift t S).a25 = S.a25 := congrArg Mx.a25 m
  have e26 : (shift t S).a26 = S.a26 := congrArg Mx.a26 m
  have e27 : (shift t S).a27 = S.a27 := congrArg Mx.a27 m
  have e28 : (shift t S).a28 = S.a28 := congrArg Mx.a28 m
  have e29 : (shift t S).a29 = S.a29 := congrArg Mx.a29 m
  generalize shift t S = C at *
  unfold St.outs
  rw [e24, e25, e26, e27, e28, e29]

/-- The state after the first part of a step has the weights in scratch. -/
theorem env_of_inv (V : Vecs A S) {u : Fin 56} (I : InvAt A u S.scr) : Env A S := ⟨V, I.w⟩

theorem step_first (ht : (t 0).val = 0) (B : Before A 0 S) : After A 0 S (step t S) := by
  have c1 : k0c0 t := (cond1_iff t).mpr ht
  have c2 : k0_cond2 t = 1#1 := (cond2_iff t).mpr (by omega)
  have c3 : ¬ k0_cond3 t = 1#1 := fun h => by have := (cond3_iff t).mp h; omega
  have e : step t S = shift t (lead t (first t S) c2) := by
    unfold step
    dsimp only
    rw [dif_pos c1, dif_pos c2, dif_neg c3]
  rw [e]
  have L : LeadOut A (bq 0) (iq 0) (par 0) (first t S) (lead t (first t S) c2) :=
    lead_step t (first t S) 0 ht c2 (first_env t S B.v B.raw) (fun r w bb k => (congrFun (first_x t S) _).trans (B.x 0 rfl r w bb k))
      (fun _ => first_a37 t S) (fun _ => first_a40 t S) (fun v hv => by have : (0 : Fin 56).val = 0 := rfl; omega)
  have E := (first_env t S B.v B.raw).of L.fx
  generalize lead t (first t S) c2 = C at L E ⊢
  refine ⟨?_, ?_, fun u hu => by omega, fun h => by omega⟩
  · intro u hu
    obtain rfl : u = 0 := Fin.ext hu.symm
    exact shift_inv t C 0 ht E L.a37 L.a39 (fun v hv => by have : (0 : Fin 56).val = 0 := rfl; omega) L.a40
  · intro u hu
    obtain rfl : u = 0 := Fin.ext hu.symm
    rw [shift_outs]
    exact ⟨L.a25, L.a26, L.a27, L.a28⟩

theorem step_mid (v u : Fin 56) (hv : u.val = v.val + 1) (ht : (t 0).val = u.val) (B : Before A u.val S) : After A u.val S (step t S) := by
  have c1 : ¬ k0c0 t := fun h => by have := (cond1_iff t).mp h; omega
  have c2 : k0_cond2 t = 1#1 := (cond2_iff t).mpr (by omega)
  have c3 : k0_cond3 t = 1#1 := (cond3_iff t).mpr (by omega)
  have e : step t S = shift t (lag t (lead t S c2) c3) := by
    unfold step
    dsimp only
    rw [dif_neg c1, dif_pos c2, dif_pos c3]
  rw [e]
  have I := B.inv v hv
  have E0 := env_of_inv S B.v I
  have L : LeadOut A (bq u) (iq u) (par u.val) S (lead t S c2) :=
    lead_step t S u ht c2 E0 (B.x u rfl) (fun h => by omega) (fun h => by omega) B.inv
  have E1 := E0.of L.fx
  generalize lead t S c2 = C at L E1 ⊢
  have G : LagOut A (bq v) (iq v) C (lag t C c3) :=
    lag_step t S v (ht.trans hv) c3 I C E1
      (fun M o => L.a39' _ (fun h => by have := congrArg Fin.val h; simp only [par] at this; omega) M o) L.a40'
      (fun u' hu' c bb o => by obtain rfl : u' = u := Fin.ext (hu'.symm.trans ht); exact L.a40 c bb o)
  have E2 := E1.of G.fx
  generalize lag t C c3 = D at G E2 ⊢
  refine ⟨?_, ?_, ?_, fun h => by omega⟩
  · intro u' hu'
    obtain rfl : u' = u := Fin.ext hu'.symm
    refine shift_inv t D u' ht E2 (fun k c bb o => (congrFun G.a37 _).trans (L.a37 k c bb o)) (fun w bb o => (congrFun G.a39 _).trans (L.a39 w bb o)) ?_
      (fun c bb o => (G.a40 3 (by decide) c bb o).trans (L.a40 c bb o))
    intro v' hv' c bb o
    obtain rfl : v' = v := Fin.ext (by omega)
    exact (G.a40 1 (by decide) c bb o).trans ((L.a40' 1 (by decide) c bb o).trans (I.r1 c bb o))
  · intro u' hu'
    obtain rfl : u' = u := Fin.ext hu'.symm
    rw [shift_outs]
    exact ⟨fun w bb o => (congrFun G.a25 _).trans (L.a25 w bb o), fun r w bb o => (congrFun G.a26 _).trans (L.a26 r w bb o),
      fun w bb o => (congrFun G.a27 _).trans (L.a27 w bb o), fun w bb o => (congrFun G.a28 _).trans (L.a28 w bb o)⟩
  · intro v' hv'
    obtain rfl : v' = v := Fin.ext (by omega)
    rw [shift_outs]
    exact ⟨G.a24, G.a29⟩

theorem step_last (ht : (t 0).val = 56) (B : Before A 56 S) : After A 56 S (step t S) := by
  have c1 : ¬ k0c0 t := fun h => by have := (cond1_iff t).mp h; omega
  have c2 : ¬ k0_cond2 t = 1#1 := fun h => by have := (cond2_iff t).mp h; omega
  have c3 : k0_cond3 t = 1#1 := (cond3_iff t).mpr (by omega)
  have e : step t S = shift t (lag t S c3) := by
    unfold step
    dsimp only
    rw [dif_neg c1, dif_neg c2, dif_pos c3]
  rw [e]
  have I := B.inv 55 rfl
  have E0 := env_of_inv S B.v I
  have G : LagOut A (bq 55) (iq 55) S (lag t S c3) :=
    lag_step t S 55 ht c3 I S E0 (fun M o => rfl) (fun k _ c bb o => rfl) (fun u hu => by omega)
  have o := shift_outs t (lag t S c3)
  generalize lag t S c3 = D at G o ⊢
  refine ⟨fun u hu => by omega, fun u hu => by omega, ?_, fun _ => ?_⟩
  · intro v' hv'
    obtain rfl : v' = 55 := Fin.ext (by show v'.val = 55; omega)
    rw [o]
    exact ⟨G.a24, G.a29⟩
  · exact ⟨(congrArg Outs.a25 o).trans G.a25, (congrArg Outs.a26 o).trans G.a26, (congrArg Outs.a27 o).trans G.a27, (congrArg Outs.a28 o).trans G.a28⟩

theorem step_out (n : ℕ) (ht : (t 0).val = n) (B : Before A n S) : After A n S (step t S) := by
  subst ht
  have hlt : (t 0).val < 57 := (t 0).isLt
  by_cases h0 : (t 0).val = 0
  · rw [h0] at B ⊢
    exact step_first t S h0 B
  by_cases h1 : (t 0).val < 56
  · exact step_mid t S ⟨(t 0).val - 1, by omega⟩ ⟨(t 0).val, h1⟩ (by show (t 0).val = (t 0).val - 1 + 1; omega) rfl B
  · have h56 : (t 0).val = 56 := by omega
    rw [h56] at B ⊢
    exact step_last t S h56 B

end Cert.Stage

end
-- ==== Proof.Value.Inputs.lean ====
/- What the input windows hold at a grid point, in terms of the arguments. -/
module

public import proofs.«01_k».proof.Proof.Value.Step
public import Idealize.ShloMosaic.Lib.Pipeline.ValueKit
public import Idealize.ShloMosaic.Lib.Claim

@[expose] public section

set_option maxRecDepth 16384

noncomputable section

namespace Cert.Stage

open Idealize.ShloMosaic Idealize.ShloMosaic.TcCoe Cert.KernelIdeal Cert.KernelIdeal.Gen Cert.KernelIdeal.Hand

variable (m : (ℓ : Loc nD τ sig) → Buf (Elt Ideal) ℓ) (c : Dev nD)

/-- The arguments of the kernel, read off the memory it starts in. -/
def argsOf : Args where
  x := m ((c : Thread nD τ).loc main_arg0)
  w1a := m ((c : Thread nD τ).loc main_arg1)
  b1a := m ((c : Thread nD τ).loc main_arg2)
  m1a := m ((c : Thread nD τ).loc main_arg3)
  w1b := m ((c : Thread nD τ).loc main_arg4)
  b1b := m ((c : Thread nD τ).loc main_arg5)
  m1b := m ((c : Thread nD τ).loc main_arg6)
  w1c := m ((c : Thread nD τ).loc main_arg7)
  b1c := m ((c : Thread nD τ).loc main_arg8)
  m1c := m ((c : Thread nD τ).loc main_arg9)
  w1s := m ((c : Thread nD τ).loc main_arg10)
  b1s := m ((c : Thread nD τ).loc main_arg11)
  m1s := m ((c : Thread nD τ).loc main_arg12)
  w2a := m ((c : Thread nD τ).loc main_arg13)
  b2a := m ((c : Thread nD τ).loc main_arg14)
  m2a := m ((c : Thread nD τ).loc main_arg15)
  w2b := m ((c : Thread nD τ).loc main_arg16)
  b2b := m ((c : Thread nD τ).loc main_arg17)
  m2b := m ((c : Thread nD τ).loc main_arg18)
  w2c := m ((c : Thread nD τ).loc main_arg19)
  b2c := m ((c : Thread nD τ).loc main_arg20)
  m2c := m ((c : Thread nD τ).loc main_arg21)
  m2s := m ((c : Thread nD τ).loc main_arg22)

/-! ### What the host operations make of the arguments -/

theorem at_x (j : S28x36x128x512.Idx) : V m c main_v0 j = m ((c : Thread nD τ).loc main_arg0) (ix4 (j 2) (j 0) (j 1) (j 3)) := by
  entry_read
  pointwise

theorem at_w4 (j : S2304x256.Idx) : V m c main_v1 j
    = m ((c : Thread nD τ).loc main_arg4) (ix4 ⟨(j 0).val / 768, by have := (j 0).isLt; simp at this; omega⟩ ⟨(j 0).val / 256 % 3, by omega⟩ ⟨(j 0).val % 256, by omega⟩ (j 1)) := by
  entry_read
  pointwise

theorem at_w16 (j : S2304x256.Idx) : V m c main_v2 j
    = m ((c : Thread nD τ).loc main_arg16) (ix4 ⟨(j 0).val / 768, by have := (j 0).isLt; simp at this; omega⟩ ⟨(j 0).val / 256 % 3, by omega⟩ ⟨(j 0).val % 256, by omega⟩ (j 1)) := by
  entry_read
  pointwise

theorem at_b2 (j : S1x256.Idx) : V m c main_v3 j = m ((c : Thread nD τ).loc main_arg2) (ix1 (j 1)) := by
  entry_read
  pointwise

theorem at_b3 (j : S1x256.Idx) : V m c main_v4 j = m ((c : Thread nD τ).loc main_arg3) (ix1 (j 1)) := by
  entry_read
  pointwise

theorem at_b5 (j : S1x256.Idx) : V m c main_v5 j = m ((c : Thread nD τ).loc main_arg5) (ix1 (j 1)) := by
  entry_read
  pointwise

theorem at_b6 (j : S1x256.Idx) : V m c main_v6 j = m ((c : Thread nD τ).loc main_arg6) (ix1 (j 1)) := by
  entry_read
  pointwise

theorem at_b8 (j : S1x1024.Idx) : V m c main_v7 j = m ((c : Thread nD τ).loc main_arg8) (ix1 (j 1)) := by
  entry_read
  pointwise

theorem at_b9 (j : S1x1024.Idx) : V m c main_v8 j = m ((c : Thread nD τ).loc main_arg9) (ix1 (j 1)) := by
  entry_read
  pointwise

theorem at_b11 (j : S1x1024.Idx) : V m c main_v9 j = m ((c : Thread nD τ).loc main_arg11) (ix1 (j 1)) := by
  entry_read
  pointwise

theorem at_b12 (j : S1x1024.Idx) : V m c main_v10 j = m ((c : Thread nD τ).loc main_arg12) (ix1 (j 1)) := by
  entry_read
  pointwise

theorem at_b14 (j : S1x256.Idx) : V m c main_v11 j = m ((c : Thread nD τ).loc main_arg14) (ix1 (j 1)) := by
  entry_read
  pointwise

theorem at_b15 (j : S1x256.Idx) : V m c main_v12 j = m ((c : Thread nD τ).loc main_arg15) (ix1 (j 1)) := by
  entry_read
  pointwise

theorem at_b17 (j : S1x256.Idx) : V m c main_v13 j = m ((c : Thread nD τ).loc main_arg17) (ix1 (j 1)) := by
  entry_read
  pointwise

theorem at_b18 (j : S1x256.Idx) : V m c main_v14 j = m ((c : Thread nD τ).loc main_arg18) (ix1 (j 1)) := by
  entry_read
  pointwise

theorem at_b20 (j : S1x1024.Idx) : V m c main_v15 j = m ((c : Thread nD τ).loc main_arg20) (ix1 (j 1)) := by
  entry_read
  pointwise

theorem at_b21 (j : S1x1024.Idx) : V m c main_v16 j = m ((c : Thread nD τ).loc main_arg21) (ix1 (j 1)) := by
  entry_read
  pointwise

/-! ### The windows' places -/

theorem idx_x : ∀ t : Fin cfg0.N, win0_0.index t = ![min t.val 55 % 14, 0, min t.val 55 / 14, 0] := by decide +kernel
theorem idx_1 : ∀ t : Fin cfg0.N, win0_1.index t = ![0, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![0, 0] := by decide +kernel
theorem idx_10 : ∀ t : Fin cfg0.N, win0_10.index t = ![0, 0] := by decide +kernel
theorem idx_11 : ∀ t : Fin cfg0.N, win0_11.index t = ![0, 0] := by decide +kernel
theorem idx_12 : ∀ t : Fin cfg0.N, win0_12.index t = ![0, 0] := by decide +kernel
theorem idx_13 : ∀ t : Fin cfg0.N, win0_13.index t = ![0, 0] := by decide +kernel
theorem idx_14 : ∀ t : Fin cfg0.N, win0_14.index t = ![0, 0] := by decide +kernel
theorem idx_15 : ∀ t : Fin cfg0.N, win0_15.index t = ![0, 0] := by decide +kernel
theorem idx_16 : ∀ t : Fin cfg0.N, win0_16.index t = ![0, 0] := by decide +kernel
theorem idx_17 : ∀ t : Fin cfg0.N, win0_17.index t = ![0, 0] := by decide +kernel
theorem idx_18 : ∀ t : Fin cfg0.N, win0_18.index t = ![0, 0] := by decide +kernel
theorem idx_19 : ∀ t : Fin cfg0.N, win0_19.index t = ![0, 0] := by decide +kernel
theorem idx_20 : ∀ t : Fin cfg0.N, win0_20.index t = ![0, 0] := by decide +kernel
theorem idx_21 : ∀ t : Fin cfg0.N, win0_21.index t = ![0, 0] := by decide +kernel
theorem idx_22 : ∀ t : Fin cfg0.N, win0_22.index t = ![0] := by decide +kernel

variable (t : Fin cfg0.N)

/-! ### The blocks -/

theorem in_x (u : Fin 56) (hu : t.val = u.val) (r : Fin 2) (w : Fin 36) (bb : Fin 32) (k : Fin 512) :
    iblk m c 0 t (ix4 r w bb k) = (argsOf m c).x (ix4 (bn (bq u) bb) ⟨2 * (iq u).val + r.val, by omega⟩ w k) := by
  have hlt := u.isLt
  refine (at_x m c _).trans ?_
  simp only [argsOf]
  blk_ext [iblk, V, idx_x t, bn, bq, iq]

theorem in_1 (k : Fin 512) (o : Fin 256) : iblk m c 1 t (ix2 k o) = (argsOf m c).w1a (ix2 k o) := by
  unfold argsOf
  blk_ext [iblk, V, idx_1 t]

theorem in_3 (k : Fin 256) (o : Fin 1024) : iblk m c 3 t (ix2 k o) = (argsOf m c).w1c (ix2 k o) := by
  unfold argsOf
  blk_ext [iblk, V, idx_3 t]

theorem in_4 (k : Fin 512) (o : Fin 1024) : iblk m c 4 t (ix2 k o) = (argsOf m c).w1s (ix2 k o) := by
  unfold argsOf
  blk_ext [iblk, V, idx_4 t]

theorem in_5 (k : Fin 1024) (o : Fin 256) : iblk m c 5 t (ix2 k o) = (argsOf m c).w2a (ix2 k o) := by
  unfold argsOf
  blk_ext [iblk, V, idx_5 t]

theorem in_7 (k : Fin 256) (o : Fin 1024) : iblk m c 7 t (ix2 k o) = (argsOf m c).w2c (ix2 k o) := by
  unfold argsOf
  blk_ext [iblk, V, idx_7 t]

/-- A tap and a channel back from a row of the flattened weight. -/
theorem tap_place (a : Fin 9) (k o : Fin 256) (h h' h'') :
    ix4 (n0 := 3) (n1 := 3) (n2 := 256) (n3 := 256) ⟨(tapCol a k).val / 768, h⟩ ⟨(tapCol a k).val / 256 % 3, h'⟩ ⟨(tapCol a k).val % 256, h''⟩ o = ix4 (kh a) (kw a) k o := by
  have ha := a.isLt
  have hk := k.isLt
  have e0 : (tapCol a k).val / 768 = a.val / 3 := by simp only [tapCol]; omega
  have e1 : (tapCol a k).val / 256 % 3 = a.val % 3 := by simp only [tapCol]; omega
  have e2 : (tapCol a k).val % 256 = k.val := by simp only [tapCol]; omega
  funext d
  exact match d with
    | ⟨0, _⟩ => Fin.ext e0
    | ⟨1, _⟩ => Fin.ext e1
    | ⟨2, _⟩ => Fin.ext e2
    | ⟨3, _⟩ => rfl

theorem in_2 (a : Fin 9) (k o : Fin 256) : iblk m c 2 t (ix2 (tapCol a k) o) = (argsOf m c).w1b (ix4 (kh a) (kw a) k o) := by
  have e : iblk m c 2 t (ix2 (tapCol a k) o) = V m c main_v1 (ix2 (tapCol a k) o) := by
    blk_ext [iblk, idx_2 t]
  refine e.trans ((at_w4 m c _).trans (congrArg (argsOf m c).w1b (tap_place a k o _ _ _)))

theorem in_6 (a : Fin 9) (k o : Fin 256) : iblk m c 6 t (ix2 (tapCol a k) o) = (argsOf m c).w2b (ix4 (kh a) (kw a) k o) := by
  have e : iblk m c 6 t (ix2 (tapCol a k) o) = V m c main_v2 (ix2 (tapCol a k) o) := by
    blk_ext [iblk, idx_6 t]
  refine e.trans ((at_w16 m c _).trans (congrArg (argsOf m c).w2b (tap_place a k o _ _ _)))

theorem in_8 (o : Fin 256) : iblk m c 8 t (ix2 0 o) = (argsOf m c).b1a (ix1 o) := by
  refine (at_b2 m c _).trans ?_
  simp only [argsOf]
  blk_ext [iblk, V, idx_8 t]

theorem in_9 (o : Fin 256) : iblk m c 9 t (ix2 0 o) = (argsOf m c).m1a (ix1 o) := by
  refine (at_b3 m c _).trans ?_
  simp only [argsOf]
  blk_ext [iblk, V, idx_9 t]

theorem in_10 (o : Fin 256) : iblk m c 10 t (ix2 0 o) = (argsOf m c).b1b (ix1 o) := by
  refine (at_b5 m c _).trans ?_
  simp only [argsOf]
  blk_ext [iblk, V, idx_10 t]

theorem in_11 (o : Fin 256) : iblk m c 11 t (ix2 0 o) = (argsOf m c).m1b (ix1 o) := by
  refine (at_b6 m c _).trans ?_
  simp only [argsOf]
  blk_ext [iblk, V, idx_11 t]

theorem in_12 (o : Fin 1024) : iblk m c 12 t (ix2 0 o) = (argsOf m c).b1c (ix1 o) := by
  refine (at_b8 m c _).trans ?_
  simp only [argsOf]
  blk_ext [iblk, V, idx_12 t]

theorem in_13 (o : Fin 1024) : iblk m c 13 t (ix2 0 o) = (argsOf m c).m1c (ix1 o) := by
  refine (at_b9 m c _).trans ?_
  simp only [argsOf]
  blk_ext [iblk, V, idx_13 t]

theorem in_14 (o : Fin 1024) : iblk m c 14 t (ix2 0 o) = (argsOf m c).b1s (ix1 o) := by
  refine (at_b11 m c _).trans ?_
  simp only [argsOf]
  blk_ext [iblk, V, idx_14 t]

theorem in_15 (o : Fin 1024) : iblk m c 15 t (ix2 0 o) = (argsOf m c).m1s (ix1 o) := by
  refine (at_b12 m c _).trans ?_
  simp only [argsOf]
  blk_ext [iblk, V, idx_15 t]

theorem in_16 (o : Fin 256) : iblk m c 16 t (ix2 0 o) = (argsOf m c).b2a (ix1 o) := by
  refine (at_b14 m c _).trans ?_
  simp only [argsOf]
  blk_ext [iblk, V, idx_16 t]

theorem in_17 (o : Fin 256) : iblk m c 17 t (ix2 0 o) = (argsOf m c).m2a (ix1 o) := by
  refine (at_b15 m c _).trans ?_
  simp only [argsOf]
  blk_ext [iblk, V, idx_17 t]

theorem in_18 (o : Fin 256) : iblk m c 18 t (ix2 0 o) = (argsOf m c).b2b (ix1 o) := by
  refine (at_b17 m c _).trans ?_
  simp only [argsOf]
  blk_ext [iblk, V, idx_18 t]

theorem in_19 (o : Fin 256) : iblk m c 19 t (ix2 0 o) = (argsOf m c).m2b (ix1 o) := by
  refine (at_b18 m c _).trans ?_
  simp only [argsOf]
  blk_ext [iblk, V, idx_19 t]

theorem in_20 (o : Fin 1024) : iblk m c 20 t (ix2 0 o) = (argsOf m c).b2c (ix1 o) := by
  refine (at_b20 m c _).trans ?_
  simp only [argsOf]
  blk_ext [iblk, V, idx_20 t]

theorem in_21 (o : Fin 1024) : iblk m c 21 t (ix2 0 o) = (argsOf m c).m2c (ix1 o) := by
  refine (at_b21 m c _).trans ?_
  simp only [argsOf]
  blk_ext [iblk, V, idx_21 t]

theorem in_22 : iblk m c 22 t (ix1 0) = (argsOf m c).m2s (ix1 0) := by
  simp only [argsOf]
  blk_ext [iblk, V, idx_22 t]

end Cert.Stage

end
-- ==== Proof.Value.Keeps.lean ====
/- Every step keeps the invariant of the scratch and leaves the blocks of the results as the specification says. -/
module

public import proofs.«01_k».proof.Proof.Value.Inputs

@[expose] public section

set_option maxRecDepth 16384

noncomputable section

namespace Cert.Stage

open Idealize.ShloMosaic Idealize.ShloMosaic.TcCoe Cert.KernelIdeal Cert.KernelIdeal.Gen Cert.KernelIdeal.Hand
open Idealize.ShloMosaic.Pipeline (RDat Dat)

variable (m : (ℓ : Loc nD τ sig) → Buf (Elt Ideal) ℓ)

/-- The scratch before point `n`: what the point before left. -/
def Inv (c : Dev nD) (n : ℕ) (R : Scr Ideal) : Prop := ∀ u : Fin 56, n = u.val + 1 → InvAt (argsOf m c) u R

/-- A block of a row of a result. -/
def RowBlk {n : ℕ} (f : Fin 128 → Fin 14 → Fin 18 → Fin n → EReal) (u : Fin 56) (X : (⟨4, ![1, 18, 32, n]⟩ : Shape).Idx → BitVec 8) : Prop :=
  ∀ w bb o, X (ix4 0 w bb o) = code (f (bn (bq u) bb) (iq u) w o)

/-- A block of two rows of unit 1's first product. -/
def PairBlk (f : Fin 128 → Fin 28 → Fin 36 → Fin 256 → EReal) (u : Fin 56) (X : S2x36x32x256.Idx → BitVec 8) : Prop :=
  ∀ (r : Fin 2) w bb o, X (ix4 r w bb o) = code (f (bn (bq u) bb) ⟨2 * (iq u).val + r.val, by omega⟩ w o)

/-- What each point leaves in the results' blocks: the trailing half's are those of the point before. -/
def Rl (c : Dev nD) : BlockRel Ideal := fun w t => match w with
  | ⟨23, _⟩ => fun X => ∀ u : Fin 56, t.val = u.val + 1 → RowBlk (Y2 (argsOf m c)) u X
  | ⟨24, _⟩ => fun X => ∀ u : Fin 56, min t.val 55 = u.val → RowBlk (Y1 (argsOf m c)) u X
  | ⟨25, _⟩ => fun X => ∀ u : Fin 56, min t.val 55 = u.val → PairBlk (H1a (argsOf m c)) u X
  | ⟨26, _⟩ => fun X => ∀ u : Fin 56, min t.val 55 = u.val → RowBlk (H1b (argsOf m c)) u X
  | ⟨27, _⟩ => fun X => ∀ u : Fin 56, min t.val 55 = u.val → RowBlk (H2a (argsOf m c)) u X
  | ⟨28, _⟩ => fun X => ∀ u : Fin 56, t.val = u.val + 1 → RowBlk (H2b (argsOf m c)) u X
  | _ => fun _ => True

theorem coord : ∀ t : Fin cfg0.N, (grid0.coords t 0).val = t.val := by decide +kernel

/-- The last two points. -/
def p55 : Fin cfg0.N := ⟨55, by decide⟩
def p56 : Fin cfg0.N := ⟨56, by decide⟩

variable (c : Dev nD) (t : Fin cfg0.N) (O : Outs Ideal) (R : Scr Ideal)

/-- A state made of windows that hold the arguments. -/
theorem vecs_mk {A : Args} (I : Ins Ideal) (h9 : ∀ o, I.a9 (ix2 0 o) = A.b1a (ix1 o)) (h10 : ∀ o, I.a10 (ix2 0 o) = A.m1a (ix1 o))
    (h11 : ∀ o, I.a11 (ix2 0 o) = A.b1b (ix1 o)) (h12 : ∀ o, I.a12 (ix2 0 o) = A.m1b (ix1 o)) (h13 : ∀ o, I.a13 (ix2 0 o) = A.b1c (ix1 o))
    (h14 : ∀ o, I.a14 (ix2 0 o) = A.m1c (ix1 o)) (h15 : ∀ o, I.a15 (ix2 0 o) = A.b1s (ix1 o)) (h16 : ∀ o, I.a16 (ix2 0 o) = A.m1s (ix1 o))
    (h17 : ∀ o, I.a17 (ix2 0 o) = A.b2a (ix1 o)) (h18 : ∀ o, I.a18 (ix2 0 o) = A.m2a (ix1 o)) (h19 : ∀ o, I.a19 (ix2 0 o) = A.b2b (ix1 o))
    (h20 : ∀ o, I.a20 (ix2 0 o) = A.m2b (ix1 o)) (h21 : ∀ o, I.a21 (ix2 0 o) = A.b2c (ix1 o)) (h22 : ∀ o, I.a22 (ix2 0 o) = A.m2c (ix1 o))
    (h23 : I.a23 (ix1 0) = A.m2s (ix1 0)) : Vecs A (mk I O R) :=
  ⟨h9, h10, h11, h12, h13, h14, h15, h16, h17, h18, h19, h20, h21, h22, h23⟩

theorem raw_mk {A : Args} (I : Ins Ideal) (h2 : ∀ k o, I.a2 (ix2 k o) = A.w1a (ix2 k o)) (h3 : ∀ t k o, I.a3 (ix2 (tapCol t k) o) = A.w1b (ix4 (kh t) (kw t) k o))
    (h4 : ∀ k o, I.a4 (ix2 k o) = A.w1c (ix2 k o)) (h5 : ∀ k o, I.a5 (ix2 k o) = A.w1s (ix2 k o)) (h6 : ∀ k o, I.a6 (ix2 k o) = A.w2a (ix2 k o))
    (h7 : ∀ t k o, I.a7 (ix2 (tapCol t k) o) = A.w2b (ix4 (kh t) (kw t) k o)) (h8 : ∀ k o, I.a8 (ix2 k o) = A.w2c (ix2 k o)) : RawOk A (mk I O R) :=
  ⟨h2, h3, h4, h5, h6, h7, h8⟩

set_option maxHeartbeats 1600000 in
theorem vecs_in : Vecs (argsOf m c) (mk (insAt m c t) O R) :=
  vecs_mk O R (insAt m c t) (in_8 m c t) (in_9 m c t) (in_10 m c t) (in_11 m c t) (in_12 m c t) (in_13 m c t) (in_14 m c t) (in_15 m c t) (in_16 m c t)
    (in_17 m c t) (in_18 m c t) (in_19 m c t) (in_20 m c t) (in_21 m c t) (in_22 m c t)

theorem raw_in : RawOk (argsOf m c) (mk (insAt m c t) O R) :=
  raw_mk O R (insAt m c t) (in_1 m c t) (in_2 m c t) (in_3 m c t) (in_4 m c t) (in_5 m c t) (in_6 m c t) (in_7 m c t)

theorem x_in (u : Fin 56) (hu : t.val = u.val) : XOk (argsOf m c) (bq u) (iq u) (mk (insAt m c t) O R) := in_x m c t u hu

theorem before_step (hI : Inv m c t.val R) : Before (argsOf m c) t.val (mk (insAt m c t) O R) :=
  ⟨vecs_in m c t O R, raw_in m c t O R, x_in m c t O R, hI⟩

/-- At the last point the leading half's blocks are still those of the point before. -/
theorem found_24 (ht : t = p56) (X) (h : (rdat m (Inv m) (Rl m) c).Finds 24 t X) : Rl m c 24 p55 X := by
  subst ht
  rcases ((rdat m (Inv m) (Rl m) c).finds_of_pos (by decide +kernel) (by decide) X).mp h with hf | hl
  · exact absurd hf (by decide +kernel)
  · exact (dat m (Inv m) c).toRRel_leaves (by decide) hl

theorem found_25 (ht : t = p56) (X) (h : (rdat m (Inv m) (Rl m) c).Finds 25 t X) : Rl m c 25 p55 X := by
  subst ht
  rcases ((rdat m (Inv m) (Rl m) c).finds_of_pos (by decide +kernel) (by decide) X).mp h with hf | hl
  · exact absurd hf (by decide +kernel)
  · exact (dat m (Inv m) c).toRRel_leaves (by decide) hl

theorem found_26 (ht : t = p56) (X) (h : (rdat m (Inv m) (Rl m) c).Finds 26 t X) : Rl m c 26 p55 X := by
  subst ht
  rcases ((rdat m (Inv m) (Rl m) c).finds_of_pos (by decide +kernel) (by decide) X).mp h with hf | hl
  · exact absurd hf (by decide +kernel)
  · exact (dat m (Inv m) c).toRRel_leaves (by decide) hl

theorem found_27 (ht : t = p56) (X) (h : (rdat m (Inv m) (Rl m) c).Finds 27 t X) : Rl m c 27 p55 X := by
  subst ht
  rcases ((rdat m (Inv m) (Rl m) c).finds_of_pos (by decide +kernel) (by decide) X).mp h with hf | hl
  · exact absurd hf (by decide +kernel)
  · exact (dat m (Inv m) c).toRRel_leaves (by decide) hl

theorem keeps : Keeps m (Inv m) (Rl m) := by
  intro c t O R hI hF
  have ht : t.val < 57 := t.isLt
  have G := step_out (grid0.coords t) (mk (insAt m c t) O R) t.val (coord t) (before_step m c t O R hI)
  generalize step (grid0.coords t) (mk (insAt m c t) O R) = S' at G ⊢
  refine ⟨fun u hu => G.inv u (by omega), ?_, ?_, ?_, ?_, ?_, ?_⟩
  · exact fun u hu => (G.lag u hu).a24
  · intro u hu
    by_cases h : t.val < 56
    · exact (G.lead u (by omega)).a25
    · have e := found_24 m c t (Fin.ext (by show t.val = 56; omega)) _ hF.2.1 u (by show min 55 55 = u.val; omega)
      intro w bb o
      exact (congrFun (G.kept (by omega)).1 _).trans (e w bb o)
  · intro u hu
    by_cases h : t.val < 56
    · exact (G.lead u (by omega)).a26
    · have e := found_25 m c t (Fin.ext (by show t.val = 56; omega)) _ hF.2.2.1 u (by show min 55 55 = u.val; omega)
      intro r w bb o
      exact (congrFun (G.kept (by omega)).2.1 _).trans (e r w bb o)
  · intro u hu
    by_cases h : t.val < 56
    · exact (G.lead u (by omega)).a27
    · have e := found_26 m c t (Fin.ext (by show t.val = 56; omega)) _ hF.2.2.2.1 u (by show min 55 55 = u.val; omega)
      intro w bb o
      exact (congrFun (G.kept (by omega)).2.2.1 _).trans (e w bb o)
  · intro u hu
    by_cases h : t.val < 56
    · exact (G.lead u (by omega)).a28
    · have e := found_27 m c t (Fin.ext (by show t.val = 56; omega)) _ hF.2.2.2.2.1 u (by show min 55 55 = u.val; omega)
      intro w bb o
      exact (congrFun (G.kept (by omega)).2.2.2 _).trans (e w bb o)
  · exact fun u hu => (G.lag u hu).a29

end Cert.Stage

end
-- ==== Proof.Value.Arrays.lean ====
/- What the result arrays hold after a run: the blocks the grid points leave, put together. -/
module

public import proofs.«01_k».proof.Proof.Value.Keeps
public import Idealize.ShloMosaic.Lib.Pipeline.ArrRel

@[expose] public section

set_option maxRecDepth 16384

noncomputable section

namespace Cert.Stage

open Idealize.ShloMosaic Idealize.ShloMosaic.TcCoe Cert.KernelIdeal Cert.KernelIdeal.Gen Cert.KernelIdeal.Hand
open Idealize.ShloMosaic.Pipeline (RDat Dat)

variable (m : (ℓ : Loc nD τ sig) → Buf (Elt Ideal) ℓ) (c : Dev nD)

theorem code_congr {n1 n2 n3 n4 : ℕ} (f : Fin n1 → Fin n2 → Fin n3 → Fin n4 → EReal) {a a' : Fin n1} {b b' : Fin n2} {d d' : Fin n3} {e e' : Fin n4} (ha : a.val = a'.val)
    (hb : b.val = b'.val) (hd : d.val = d'.val) (he : e.val = e'.val) : code (f a b d e) = code (f a' b' d' e') := by
  obtain rfl := Fin.ext ha
  obtain rfl := Fin.ext hb
  obtain rfl := Fin.ext hd
  obtain rfl := Fin.ext he
  rfl

/-- A place in a block of one row, and in one of two rows. -/
theorem row_place {n : ℕ} (y : (⟨4, ![1, 18, 32, n]⟩ : Shape).Idx) : y = ix4 0 (y 1) (y 2) (y 3) := by
  funext a
  exact match a with
    | ⟨0, _⟩ => Subsingleton.elim (α := Fin 1) _ _
    | ⟨1, _⟩ => rfl
    | ⟨2, _⟩ => rfl
    | ⟨3, _⟩ => rfl

theorem pair_place (y : S2x36x32x256.Idx) : y = ix4 (y 0) (y 1) (y 2) (y 3) := by
  funext a
  exact match a with
    | ⟨0, _⟩ => rfl
    | ⟨1, _⟩ => rfl
    | ⟨2, _⟩ => rfl
    | ⟨3, _⟩ => rfl

theorem idx_23 : ∀ t : Fin cfg0.N, win0_23.index t = ![(t.val - 1) % 14, 0, (t.val - 1) / 14, 0] := by decide +kernel
theorem flush_23 : ∀ t : Fin cfg0.N, (cfg0.win 23).flush t = true → t.val ≠ 0 := by decide +kernel

/-- Block by block, what window 23 leaves is `Y2`. -/
theorem blk_23 (t : Fin cfg0.N) (hf : (cfg0.win 23).flush t = true) (X : S1x18x32x1024.Idx → BitVec 8) (e : Rl m c 23 t X) (y : S1x18x32x1024.Idx) :
    X y = code (Y2 (argsOf m c) ((win0_23.blk t).view.emb y 2) ((win0_23.blk t).view.emb y 0) ((win0_23.blk t).view.emb y 1) ((win0_23.blk t).view.emb y 3)) := by
  have ht : t.val < 57 := t.isLt
  have h0 := flush_23 t hf
  have y0 : (y 0).val < 1 := (y 0).isLt
  have y2 : (y 2).val < 32 := (y 2).isLt
  have e' := e ⟨t.val - 1, by omega⟩ (by show t.val = t.val - 1 + 1; omega) (y 1) (y 2) (y 3)
  refine (congrArg X (row_place y)).trans (e'.trans (code_congr _ ?_ ?_ ?_ ?_))
  all_goals
    blk_simp [idx_23 t, bn, bq, iq]

theorem arr_23 {r} (h : RDat.FramePost cfg0 (rdat m (Inv m) (Rl m)) (V m) r) :
    r.2.mem ((c : Thread nD τ).loc main_v17_0) = fun j => code (Y2 (argsOf m c) (j 2) (j 0) (j 1) (j 3)) := by
  obtain ⟨after, hL, hA⟩ := h.exists_exact c
  refine (hA 23).trans (Dat.arrAt_eq_of_covers _ 23 _ (by decide +kernel) fun t hf y => ?_)
  have e : Rl m c 23 t (after 23 t) := (dat m (Inv m) c).toRRel_leaves (by decide) (hL 23 t hf)
  blk_simp
  exact blk_23 m c t hf _ e y

theorem idx_24 : ∀ t : Fin cfg0.N, win0_24.index t = ![(min t.val 55) % 14, 0, (min t.val 55) / 14, 0] := by decide +kernel

/-- Block by block, what window 24 leaves is `Y1`. -/
theorem blk_24 (t : Fin cfg0.N) (hf : (cfg0.win 24).flush t = true) (X : S1x18x32x1024.Idx → BitVec 8) (e : Rl m c 24 t X) (y : S1x18x32x1024.Idx) :
    X y = code (Y1 (argsOf m c) ((win0_24.blk t).view.emb y 2) ((win0_24.blk t).view.emb y 0) ((win0_24.blk t).view.emb y 1) ((win0_24.blk t).view.emb y 3)) := by
  have ht : t.val < 57 := t.isLt
  have y0 : (y 0).val < 1 := (y 0).isLt
  have y2 : (y 2).val < 32 := (y 2).isLt
  have e' := e ⟨min t.val 55, by omega⟩ (by show min t.val 55 = min t.val 55; omega) (y 1) (y 2) (y 3)
  refine (congrArg X (row_place y)).trans (e'.trans (code_congr _ ?_ ?_ ?_ ?_))
  all_goals
    blk_simp [idx_24 t, bn, bq, iq]

theorem arr_24 {r} (h : RDat.FramePost cfg0 (rdat m (Inv m) (Rl m)) (V m) r) :
    r.2.mem ((c : Thread nD τ).loc main_v17_1) = fun j => code (Y1 (argsOf m c) (j 2) (j 0) (j 1) (j 3)) := by
  obtain ⟨after, hL, hA⟩ := h.exists_exact c
  refine (hA 24).trans (Dat.arrAt_eq_of_covers _ 24 _ (by decide +kernel) fun t hf y => ?_)
  have e : Rl m c 24 t (after 24 t) := (dat m (Inv m) c).toRRel_leaves (by decide) (hL 24 t hf)
  blk_simp
  exact blk_24 m c t hf _ e y

theorem idx_25 : ∀ t : Fin cfg0.N, win0_25.index t = ![(min t.val 55) % 14, 0, (min t.val 55) / 14, 0] := by decide +kernel

/-- Block by block, what window 25 leaves is `H1a`. -/
theorem blk_25 (t : Fin cfg0.N) (hf : (cfg0.win 25).flush t = true) (X : S2x36x32x256.Idx → BitVec 8) (e : Rl m c 25 t X) (y : S2x36x32x256.Idx) :
    X y = code (H1a (argsOf m c) ((win0_25.blk t).view.emb y 2) ((win0_25.blk t).view.emb y 0) ((win0_25.blk t).view.emb y 1) ((win0_25.blk t).view.emb y 3)) := by
  have ht : t.val < 57 := t.isLt
  have y0 : (y 0).val < 2 := (y 0).isLt
  have y2 : (y 2).val < 32 := (y 2).isLt
  have e' := e ⟨min t.val 55, by omega⟩ (by show min t.val 55 = min t.val 55; omega) (y 0) (y 1) (y 2) (y 3)
  refine (congrArg X (pair_place y)).trans (e'.trans (code_congr _ ?_ ?_ ?_ ?_))
  · blk_simp [idx_25 t, bn, bq, iq]
  · show 2 * (min t.val 55 % 14) + (y 0).val = _
    blk_simp [idx_25 t]
    omega
  · blk_simp [idx_25 t]
  · blk_simp [idx_25 t]

theorem arr_25 {r} (h : RDat.FramePost cfg0 (rdat m (Inv m) (Rl m)) (V m) r) :
    r.2.mem ((c : Thread nD τ).loc main_v17_2) = fun j => code (H1a (argsOf m c) (j 2) (j 0) (j 1) (j 3)) := by
  obtain ⟨after, hL, hA⟩ := h.exists_exact c
  refine (hA 25).trans (Dat.arrAt_eq_of_covers _ 25 _ (by decide +kernel) fun t hf y => ?_)
  have e : Rl m c 25 t (after 25 t) := (dat m (Inv m) c).toRRel_leaves (by decide) (hL 25 t hf)
  blk_simp
  exact blk_25 m c t hf _ e y

theorem idx_26 : ∀ t : Fin cfg0.N, win0_26.index t = ![(min t.val 55) % 14, 0, (min t.val 55) / 14, 0] := by decide +kernel

/-- Block by block, what window 26 leaves is `H1b`. -/
theorem blk_26 (t : Fin cfg0.N) (hf : (cfg0.win 26).flush t = true) (X : S1x18x32x256.Idx → BitVec 8) (e : Rl m c 26 t X) (y : S1x18x32x256.Idx) :
    X y = code (H1b (argsOf m c) ((win0_26.blk t).view.emb y 2) ((win0_26.blk t).view.emb y 0) ((win0_26.blk t).view.emb y 1) ((win0_26.blk t).view.emb y 3)) := by
  have ht : t.val < 57 := t.isLt
  have y0 : (y 0).val < 1 := (y 0).isLt
  have y2 : (y 2).val < 32 := (y 2).isLt
  have e' := e ⟨min t.val 55, by omega⟩ (by show min t.val 55 = min t.val 55; omega) (y 1) (y 2) (y 3)
  refine (congrArg X (row_place y)).trans (e'.trans (code_congr _ ?_ ?_ ?_ ?_))
  all_goals
    blk_simp [idx_26 t, bn, bq, iq]

theorem arr_26 {r} (h : RDat.FramePost cfg0 (rdat m (Inv m) (Rl m)) (V m) r) :
    r.2.mem ((c : Thread nD τ).loc main_v17_3) = fun j => code (H1b (argsOf m c) (j 2) (j 0) (j 1) (j 3)) := by
  obtain ⟨after, hL, hA⟩ := h.exists_exact c
  refine (hA 26).trans (Dat.arrAt_eq_of_covers _ 26 _ (by decide +kernel) fun t hf y => ?_)
  have e : Rl m c 26 t (after 26 t) := (dat m (Inv m) c).toRRel_leaves (by decide) (hL 26 t hf)
  blk_simp
  exact blk_26 m c t hf _ e y

theorem idx_27 : ∀ t : Fin cfg0.N, win0_27.index t = ![(min t.val 55) % 14, 0, (min t.val 55) / 14, 0] := by decide +kernel

/-- Block by block, what window 27 leaves is `H2a`. -/
theorem blk_27 (t : Fin cfg0.N) (hf : (cfg0.win 27).flush t = true) (X : S1x18x32x256.Idx → BitVec 8) (e : Rl m c 27 t X) (y : S1x18x32x256.Idx) :
    X y = code (H2a (argsOf m c) ((win0_27.blk t).view.emb y 2) ((win0_27.blk t).view.emb y 0) ((win0_27.blk t).view.emb y 1) ((win0_27.blk t).view.emb y 3)) := by
  have ht : t.val < 57 := t.isLt
  have y0 : (y 0).val < 1 := (y 0).isLt
  have y2 : (y 2).val < 32 := (y 2).isLt
  have e' := e ⟨min t.val 55, by omega⟩ (by show min t.val 55 = min t.val 55; omega) (y 1) (y 2) (y 3)
  refine (congrArg X (row_place y)).trans (e'.trans (code_congr _ ?_ ?_ ?_ ?_))
  all_goals
    blk_simp [idx_27 t, bn, bq, iq]

theorem arr_27 {r} (h : RDat.FramePost cfg0 (rdat m (Inv m) (Rl m)) (V m) r) :
    r.2.mem ((c : Thread nD τ).loc main_v17_4) = fun j => code (H2a (argsOf m c) (j 2) (j 0) (j 1) (j 3)) := by
  obtain ⟨after, hL, hA⟩ := h.exists_exact c
  refine (hA 27).trans (Dat.arrAt_eq_of_covers _ 27 _ (by decide +kernel) fun t hf y => ?_)
  have e : Rl m c 27 t (after 27 t) := (dat m (Inv m) c).toRRel_leaves (by decide) (hL 27 t hf)
  blk_simp
  exact blk_27 m c t hf _ e y

theorem idx_28 : ∀ t : Fin cfg0.N, win0_28.index t = ![(t.val - 1) % 14, 0, (t.val - 1) / 14, 0] := by decide +kernel
theorem flush_28 : ∀ t : Fin cfg0.N, (cfg0.win 28).flush t = true → t.val ≠ 0 := by decide +kernel

/-- Block by block, what window 28 leaves is `H2b`. -/
theorem blk_28 (t : Fin cfg0.N) (hf : (cfg0.win 28).flush t = true) (X : S1x18x32x256.Idx → BitVec 8) (e : Rl m c 28 t X) (y : S1x18x32x256.Idx) :
    X y = code (H2b (argsOf m c) ((win0_28.blk t).view.emb y 2) ((win0_28.blk t).view.emb y 0) ((win0_28.blk t).view.emb y 1) ((win0_28.blk t).view.emb y 3)) := by
  have ht : t.val < 57 := t.isLt
  have h0 := flush_28 t hf
  have y0 : (y 0).val < 1 := (y 0).isLt
  have y2 : (y 2).val < 32 := (y 2).isLt
  have e' := e ⟨t.val - 1, by omega⟩ (by show t.val = t.val - 1 + 1; omega) (y 1) (y 2) (y 3)
  refine (congrArg X (row_place y)).trans (e'.trans (code_congr _ ?_ ?_ ?_ ?_))
  all_goals
    blk_simp [idx_28 t, bn, bq, iq]

theorem arr_28 {r} (h : RDat.FramePost cfg0 (rdat m (Inv m) (Rl m)) (V m) r) :
    r.2.mem ((c : Thread nD τ).loc main_v17_5) = fun j => code (H2b (argsOf m c) (j 2) (j 0) (j 1) (j 3)) := by
  obtain ⟨after, hL, hA⟩ := h.exists_exact c
  refine (hA 28).trans (Dat.arrAt_eq_of_covers _ 28 _ (by decide +kernel) fun t hf y => ?_)
  have e : Rl m c 28 t (after 28 t) := (dat m (Inv m) c).toRRel_leaves (by decide) (hL 28 t hf)
  blk_simp
  exact blk_28 m c t hf _ e y

end Cert.Stage

end
-- ==== Proof.Value.Ref1.lean ====
/- The reference's arrays as the mathematics: unit 1. -/
module

public import proofs.«01_k».proof.Proof.Value.Spec
public import proofs.«01_k».proof.Proof.Gen.ReferenceIdeal.Read
public import Idealize.ShloMosaic.Lib.KernelVsHost
public import Idealize.ShloMosaic.Lib.Pointwise

@[expose] public section

noncomputable section

namespace Cert.Stage

open Idealize.ShloMosaic Cert.ReferenceIdeal Cert.ReferenceIdeal.Read

variable (A : Args)

theorem ref_h1a (n : Fin 128) (r : Fin 28) (w : Fin 36) (o : Fin 256) :
    val_main_v19 (F := Ideal) A.x A.w1a A.b1a A.m1a (ix4 n r w o) = code (H1a A n r w o) := by
  have e : val_main_v19 (F := Ideal) A.x A.w1a A.b1a A.m1a (ix4 n r w o)
      = code (requant (val_main_v6 (F := Ideal) A.x A.w1a (ix4 n r w o)) (val_main_v10 (F := Ideal) A.b1a (ix4 n r w o)) (val_main_v14 (F := Ideal) A.m1a (ix4 n r w o))) := by
    rw [val_main_v19_apply, val_main_v18_apply, val_main_v17_apply, val_main_call2_v2_apply, val_main_v16_apply, val_main_v15_apply, val_main_v12_apply,
      val_main_v11_apply, val_main_v8_apply, val_main_v7_apply, val_main_call2_v4_apply, val_main_call2_v1_apply, val_main_call2_v3_apply,
      val_main_call2_v0_apply, val_main_c_apply, val_main_c_0_apply]
    generalize val_main_v6 (F := Ideal) A.x A.w1a (ix4 n r w o) = a, val_main_v10 (F := Ideal) A.b1a (ix4 n r w o) = b, val_main_v14 (F := Ideal) A.m1a (ix4 n r w o) = m
    rfl
  rw [e, val_main_v6_apply, val_main_v10_apply, val_main_v9_apply, val_main_v14_apply, val_main_v13_apply]
  refine congrArg code (requant_congr (Finset.sum_congr rfl fun k _ => mul_congr ?_ ?_) ?_ ?_)
  · rw [val_main_v2_apply, val_main_v1_apply, val_main_v0_apply]
    refine (ub_eq _).trans (congrArg (fun j => ub (A.x j)) ?_)
    funext a; match a with | ⟨0, _⟩ => rfl | ⟨1, _⟩ => rfl | ⟨2, _⟩ => rfl | ⟨3, _⟩ => rfl
  · rw [val_main_v5_apply, val_main_v4_apply, val_main_v3_apply]
    refine (sb_eq _).trans (congrArg (fun j => sb (A.w1a j)) ?_)
    funext a; match a with | ⟨0, _⟩ => rfl | ⟨1, _⟩ => rfl
  · refine congrArg A.b1a ?_
    funext a; match a with | ⟨0, _⟩ => rfl
  · refine congrArg A.m1a ?_
    funext a; match a with | ⟨0, _⟩ => rfl

end Cert.Stage

end
-- ==== Proof.Value.Ref2.lean ====
/- The reference's 3x3 products as nine sums: a tap of the weights, and the sum a tap contributes. -/
module

public import proofs.«01_k».proof.Proof.Value.Ref1

@[expose] public section

noncomputable section

namespace Cert.Stage

open Idealize.ShloMosaic Cert.ReferenceIdeal Cert.ReferenceIdeal.Gen Cert.ReferenceIdeal.Read

/-- A product with a 256x256 matrix over the last axis is the sum over that axis. -/
theorem dot256_apply (y0 : S128x14x18x256.Idx → EReal) (y1 : S256x256.Idx → EReal) (i : S128x14x18x256.Idx) :
    Host.dotGeneral (F := Ideal) (φ₁ := .bf16) (φ₂ := .bf16) dot_S128x14x18x256_S256x256_S128x14x18x256_3_0_012_1_n_n none y0 y1 i
      = ∑ k : Fin 256, y0 (lidx_main_v30 i k) * y1 (ridx_main_v30 i k) := by
  simp only [Host.dotGeneral]
  rw [Ideal.dotGeneral_apply, ← Equiv.sum_comp (ValueIdx.contrEquiv1 dot_S128x14x18x256_S256x256_S128x14x18x256_3_0_012_1_n_n 256 rfl rfl).symm]
  refine Finset.sum_congr rfl fun k _ => ?_
  have hk := ValueIdx.contrEquiv1_symm_val dot_S128x14x18x256_S256x256_S128x14x18x256_3_0_012_1_n_n 256 rfl rfl k
  have el : dot_S128x14x18x256_S256x256_S128x14x18x256_3_0_012_1_n_n.lhsIdx i ((ValueIdx.contrEquiv1 dot_S128x14x18x256_S256x256_S128x14x18x256_3_0_012_1_n_n 256 rfl rfl).symm k) = lidx_main_v30 i k := funext fun a => Fin.ext (by
    match a with
    | ⟨0, _⟩ => exact lhs_main_v30_0 _ _
    | ⟨1, _⟩ => exact lhs_main_v30_1 _ _
    | ⟨2, _⟩ => exact lhs_main_v30_2 _ _
    | ⟨3, _⟩ => exact (lhs_main_v30_3 _ _).trans hk)
  have er : dot_S128x14x18x256_S256x256_S128x14x18x256_3_0_012_1_n_n.rhsIdx i ((ValueIdx.contrEquiv1 dot_S128x14x18x256_S256x256_S128x14x18x256_3_0_012_1_n_n 256 rfl rfl).symm k) = ridx_main_v30 i k := funext fun a => Fin.ext (by
    match a with
    | ⟨0, _⟩ => exact (rhs_main_v30_0 _ _).trans hk
    | ⟨1, _⟩ => exact rhs_main_v30_1 _ _)
  rw [el, er]

/-- The weights of one tap, as numbers. -/
def tapW (W : S3x3x256x256.Idx → BitVec 8) (a b : ℕ) (h : S3x3x256x256.Slices ![a, b, 0, 0] S1x1x256x256) : S256x256.Idx → EReal :=
  truncf (F := Ideal) .bf16 (sitofp .f32 (extsi 32 (shapeCast S256x256 (extractStridedSlice S1x1x256x256 ![a, b, 0, 0] W h) shapeCasts_S1x1x256x256_S256x256) natLt_8_32)) bitsLt_bf16_f32

theorem tapW_apply (W : S3x3x256x256.Idx → BitVec 8) (a b : ℕ) (h) (ha : a < 3) (hb : b < 3) (k o : Fin 256) :
    tapW W a b h (ix2 k o) = sb (W (ix4 ⟨a, ha⟩ ⟨b, hb⟩ k o)) := by
  refine (sb_eq _).trans (congrArg sb ?_)
  rw [shapeCast_apply _ shapeCasts_S1x1x256x256_S256x256 (ix2 k o) (ix4 0 0 k o)
    (by rewrite [Shape.rowMajor_val_four, Shape.rowMajor_val_two]; show ((0 * 1 + 0) * 256 + k.val) * 256 + o.val = k.val * 256 + o.val; omega)]
  exact extractStridedSlice_apply _ W h _ (ix4 ⟨a, ha⟩ ⟨b, hb⟩ k o) (fun c => match c with
    | ⟨0, _⟩ => by show a = a + 0; omega
    | ⟨1, _⟩ => by show b = b + 0; omega
    | ⟨2, _⟩ => by show k.val = 0 + k.val; omega
    | ⟨3, _⟩ => by show o.val = 0 + o.val; omega)

/-- What one tap contributes. -/
def tap (X : S128x14x18x256.Idx → EReal) (W : S3x3x256x256.Idx → BitVec 8) (a b : ℕ) (h : S3x3x256x256.Slices ![a, b, 0, 0] S1x1x256x256) : S128x14x18x256.Idx → EReal :=
  Host.dotGeneral (F := Ideal) (φ₁ := .bf16) (φ₂ := .bf16) dot_S128x14x18x256_S256x256_S128x14x18x256_3_0_012_1_n_n none X (tapW W a b h)

theorem tap_apply (X : S128x14x18x256.Idx → EReal) (W : S3x3x256x256.Idx → BitVec 8) (a b : ℕ) (h) (ha : a < 3) (hb : b < 3)
    (n : Fin 128) (i : Fin 14) (w : Fin 18) (o : Fin 256) :
    tap X W a b h (ix4 n i w o) = ∑ k : Fin 256, X (ix4 n i w k) * sb (W (ix4 ⟨a, ha⟩ ⟨b, hb⟩ k o)) := by
  rw [tap, dot256_apply]
  refine Finset.sum_congr rfl fun k _ => mul_congr ?_ ?_
  · refine congrArg X ?_
    funext a; match a with | ⟨0, _⟩ => rfl | ⟨1, _⟩ => rfl | ⟨2, _⟩ => rfl | ⟨3, _⟩ => rfl
  · refine (congrArg (tapW W a b h) ?_).trans (tapW_apply W a b h ha hb k o)
    funext a; match a with | ⟨0, _⟩ => rfl | ⟨1, _⟩ => rfl

/-- A sum of nine terms, begun at zero and taken in order. -/
theorem sum_nine (f : Fin 9 → EReal) : ∑ t, f t = ((((((((0 + f 0) + f 1) + f 2) + f 3) + f 4) + f 5) + f 6) + f 7) + f 8 := by
  simp [Fin.sum_univ_castSucc]

variable (A : Args)

/-- The padded array of unit 1. -/
theorem ref_p1 (n : Fin 128) (r : Fin 30) (w : Fin 38) (o : Fin 256) :
    val_main_v23 (F := Ideal) A.x A.w1a A.b1a A.m1a (ix4 n r w o) = P1 A n r.val w.val o := by
  unfold val_main_v23
  by_cases hin : (1 ≤ r.val ∧ r.val < 29) ∧ 1 ≤ w.val ∧ w.val < 37
  · rw [pad_apply_of_inside _ _ _ _ _ _ _ _ (ix4 n ⟨r.val - 1, by omega⟩ ⟨w.val - 1, by omega⟩ o) (fun a => match a with
      | ⟨0, _⟩ => by show n.val = 0 + n.val * (0 + 1); omega
      | ⟨1, _⟩ => by show r.val = 1 + (r.val - 1) * (0 + 1); omega
      | ⟨2, _⟩ => by show w.val = 1 + (w.val - 1) * (0 + 1); omega
      | ⟨3, _⟩ => by show o.val = 0 + o.val * (0 + 1); omega)]
    rw [P1, dif_pos hin, val_main_v22_apply, val_main_v21_apply, val_main_v20_apply, ref_h1a]
    exact code_back _
  · rw [P1, dif_neg hin]
    have hz : val_main_call3_v0 (F := Ideal) (Shape.Idx.first h_S_) = (0 : EReal) := by
      rw [val_main_call3_v0_apply, val_main_c_1_apply]
      show (((0#32 : BitVec 32).toInt : ℝ) : EReal) = 0
      simp
    by_cases hr : 1 ≤ r.val ∧ r.val < 29
    · rw [pad_apply_of_not_inside _ _ _ _ _ _ _ _ (2 : Fin 4) (by show ¬(1 ≤ w.val ∧ (w.val - 1) % (0 + 1) = 0 ∧ (w.val - 1) / (0 + 1) < 36); omega)]
      exact hz
    · rw [pad_apply_of_not_inside _ _ _ _ _ _ _ _ (1 : Fin 4) (by show ¬(1 ≤ r.val ∧ (r.val - 1) % (0 + 1) = 0 ∧ (r.val - 1) / (0 + 1) < 28); omega)]
      exact hz

/-- One shifted, strided view of the padded array. -/
theorem slice1_apply (X : S128x30x38x256.Idx → EReal) (a b : ℕ) (h : S128x30x38x256.SlicesBy ![0, a, b, 0] ![1, 2, 2, 1] S128x14x18x256)
    (ha : a < 3) (hb : b < 3) (n : Fin 128) (i : Fin 14) (w : Fin 18) (k : Fin 256) :
    Host.slice S128x14x18x256 ![0, a, b, 0] ![1, 2, 2, 1] X h (ix4 n i w k) = X (ix4 n ⟨2 * i.val + a, by omega⟩ ⟨2 * w.val + b, by omega⟩ k) := by
  rw [Host.slice_apply]
  refine congrArg X (funext fun c => Fin.ext ?_)
  match c with
  | ⟨0, _⟩ => show 0 + 1 * n.val = n.val; omega
  | ⟨1, _⟩ => show a + 2 * i.val = 2 * i.val + a; omega
  | ⟨2, _⟩ => show b + 2 * w.val = 2 * w.val + b; omega
  | ⟨3, _⟩ => show 0 + 1 * k.val = k.val; omega

/-- One tap of the stride-two product. -/
theorem read1_apply (a b : ℕ) (h) (h') (t : Fin 9) (ha : t.val / 3 = a) (hb : t.val % 3 = b) (n : Fin 128) (i : Fin 14) (w : Fin 18) (o : Fin 256) :
    tap (Host.slice S128x14x18x256 ![0, a, b, 0] ![1, 2, 2, 1] (val_main_v23 (F := Ideal) A.x A.w1a A.b1a A.m1a) h') A.w1b a b h (ix4 n i w o)
      = ∑ k : Fin 256, P1 A n (2 * i.val + (kh t).val) (2 * w.val + (kw t).val) k * sb (A.w1b (ix4 (kh t) (kw t) k o)) := by
  subst ha hb
  rw [tap_apply _ _ _ _ _ (by omega) (by omega)]
  refine Finset.sum_congr rfl fun k _ => mul_congr ?_ rfl
  rw [slice1_apply _ _ _ _ (by omega) (by omega), ref_p1]
  rfl

end Cert.Stage

end
-- ==== Proof.Value.Ref3.lean ====
/- The reference's arrays as the mathematics: the rest of unit 1, and unit 2's first product. -/
module

public import proofs.«01_k».proof.Proof.Value.Ref2

@[expose] public section

noncomputable section

namespace Cert.Stage

open Idealize.ShloMosaic Cert.ReferenceIdeal Cert.ReferenceIdeal.Gen Cert.ReferenceIdeal.Read

variable (A : Args)

theorem ref_h1b (n : Fin 128) (i : Fin 14) (w : Fin 18) (o : Fin 256) :
    val_main_v109 (F := Ideal) A.x A.w1a A.b1a A.m1a A.w1b A.b1b A.m1b (ix4 n i w o) = code (H1b A n i w o) := by
  have e : val_main_v109 (F := Ideal) A.x A.w1a A.b1a A.m1a A.w1b A.b1b A.m1b (ix4 n i w o)
      = code (requant (val_main_v96 (F := Ideal) A.x A.w1a A.b1a A.m1a A.w1b (ix4 n i w o)) (val_main_v100 (F := Ideal) A.b1b (ix4 n i w o)) (val_main_v104 (F := Ideal) A.m1b (ix4 n i w o))) := by
    rw [val_main_v109_apply, val_main_v108_apply, val_main_v107_apply, val_main_call6_v2_apply, val_main_v106_apply, val_main_v105_apply, val_main_v102_apply, val_main_v101_apply, val_main_v98_apply, val_main_v97_apply,
      val_main_call6_v4_apply, val_main_call6_v1_apply, val_main_call6_v3_apply, val_main_call6_v0_apply, val_main_c_2_apply, val_main_c_3_apply]
    generalize val_main_v96 (F := Ideal) A.x A.w1a A.b1a A.m1a A.w1b (ix4 n i w o) = a, val_main_v100 (F := Ideal) A.b1b (ix4 n i w o) = b, val_main_v104 (F := Ideal) A.m1b (ix4 n i w o) = m
    rfl
  rw [e, val_main_v100_apply, val_main_v99_apply, val_main_v104_apply, val_main_v103_apply]
  refine congrArg code (requant_congr ?_ ?_ ?_)
  · rw [sum_nine, val_main_v96_apply, val_main_v88_apply, val_main_v80_apply, val_main_v72_apply, val_main_v64_apply, val_main_v56_apply, val_main_v48_apply, val_main_v40_apply, val_main_v32_apply]
    refine add_congr (add_congr (add_congr (add_congr (add_congr (add_congr (add_congr (add_congr (add_congr ?_ ?_) ?_) ?_) ?_) ?_) ?_) ?_) ?_) ?_
    · rw [val_main_v31_apply, val_main_cst_apply]
      exact Ideal.ofBits_zero_f32
    · exact read1_apply A 0 0 _ _ 0 rfl rfl n i w o
    · exact read1_apply A 0 1 _ _ 1 rfl rfl n i w o
    · exact read1_apply A 0 2 _ _ 2 rfl rfl n i w o
    · exact read1_apply A 1 0 _ _ 3 rfl rfl n i w o
    · exact read1_apply A 1 1 _ _ 4 rfl rfl n i w o
    · exact read1_apply A 1 2 _ _ 5 rfl rfl n i w o
    · exact read1_apply A 2 0 _ _ 6 rfl rfl n i w o
    · exact read1_apply A 2 1 _ _ 7 rfl rfl n i w o
    · exact read1_apply A 2 2 _ _ 8 rfl rfl n i w o
  · refine congrArg A.b1b ?_
    funext a; match a with | ⟨0, _⟩ => rfl
  · refine congrArg A.m1b ?_
    funext a; match a with | ⟨0, _⟩ => rfl

theorem ref_y1 (n : Fin 128) (i : Fin 14) (w : Fin 18) (o : Fin 1024) :
    val_main_v147 (F := Ideal) A.x A.w1a A.b1a A.m1a A.w1b A.b1b A.m1b A.w1c A.b1c A.m1c A.w1s A.b1s A.m1s (ix4 n i w o) = code (Y1 A n i w o) := by
  have e : val_main_v147 (F := Ideal) A.x A.w1a A.b1a A.m1a A.w1b A.b1b A.m1b A.w1c A.b1c A.m1c A.w1s A.b1s A.m1s (ix4 n i w o)
      = code (clip (scaled (val_main_v116 (F := Ideal) A.x A.w1a A.b1a A.m1a A.w1b A.b1b A.m1b A.w1c (ix4 n i w o)) (val_main_v120 (F := Ideal) A.b1c (ix4 n i w o)) (val_main_v137 (F := Ideal) A.m1c (ix4 n i w o)) + scaled (val_main_v129 (F := Ideal) A.x A.w1s (ix4 n i w o)) (val_main_v133 (F := Ideal) A.b1s (ix4 n i w o)) (val_main_v141 (F := Ideal) A.m1s (ix4 n i w o)))) := by
    rw [val_main_v147_apply, val_main_v146_apply, val_main_v145_apply, val_main_call10_v2_apply, val_main_v144_apply, val_main_v143_apply, val_main_v138_apply, val_main_v142_apply, val_main_v135_apply, val_main_v139_apply, val_main_v121_apply, val_main_v134_apply, val_main_v118_apply, val_main_v131_apply, val_main_v117_apply, val_main_v130_apply,
      val_main_call10_v4_apply, val_main_call10_v1_apply, val_main_call10_v3_apply, val_main_call10_v0_apply, val_main_c_4_apply, val_main_c_5_apply]
    generalize val_main_v116 (F := Ideal) A.x A.w1a A.b1a A.m1a A.w1b A.b1b A.m1b A.w1c (ix4 n i w o) = a, val_main_v120 (F := Ideal) A.b1c (ix4 n i w o) = b, val_main_v137 (F := Ideal) A.m1c (ix4 n i w o) = m, val_main_v129 (F := Ideal) A.x A.w1s (ix4 n i w o) = a', val_main_v133 (F := Ideal) A.b1s (ix4 n i w o) = b', val_main_v141 (F := Ideal) A.m1s (ix4 n i w o) = m'
    rfl
  rw [e, val_main_v120_apply, val_main_v119_apply, val_main_v137_apply, val_main_v136_apply, val_main_v133_apply, val_main_v132_apply, val_main_v141_apply, val_main_v140_apply]
  refine congrArg code (congrArg clip (add_congr (scaled_congr ?_ ?_ ?_) (scaled_congr ?_ ?_ ?_)))
  · rw [val_main_v116_apply]
    refine Finset.sum_congr rfl fun k _ => mul_congr ?_ ?_
    · rw [val_main_v112_apply, val_main_v111_apply, val_main_v110_apply]
      rw [show lidx_main_v116 (ix4 n i w o) k = ix4 n i w k from by funext a; match a with | ⟨0, _⟩ => rfl | ⟨1, _⟩ => rfl | ⟨2, _⟩ => rfl | ⟨3, _⟩ => rfl, ref_h1b]
      exact code_back _
    · rw [val_main_v115_apply, val_main_v114_apply, val_main_v113_apply]
      refine (sb_eq _).trans (congrArg (fun j => sb (A.w1c j)) ?_)
      funext a; match a with | ⟨0, _⟩ => rfl | ⟨1, _⟩ => rfl
  · refine congrArg A.b1c ?_
    funext a; match a with | ⟨0, _⟩ => rfl
  · refine congrArg A.m1c ?_
    funext a; match a with | ⟨0, _⟩ => rfl
  · rw [val_main_v129_apply]
    refine Finset.sum_congr rfl fun k _ => mul_congr ?_ ?_
    · rw [val_main_v125_apply, val_main_v124_apply, val_main_v123_apply]
      refine (ub_eq _).trans (congrArg ub ?_)
      unfold val_main_v122
      rw [Host.slice_apply]
      refine congrArg A.x (funext fun c => Fin.ext ?_)
      match c with
      | ⟨0, _⟩ => show 0 + 1 * n.val = n.val; omega
      | ⟨1, _⟩ => show 0 + 2 * i.val = 2 * i.val; omega
      | ⟨2, _⟩ => show 0 + 2 * w.val = 2 * w.val; omega
      | ⟨3, _⟩ => show 0 + 1 * k.val = k.val; omega
    · rw [val_main_v128_apply, val_main_v127_apply, val_main_v126_apply]
      refine (sb_eq _).trans (congrArg (fun j => sb (A.w1s j)) ?_)
      funext a; match a with | ⟨0, _⟩ => rfl | ⟨1, _⟩ => rfl
  · refine congrArg A.b1s ?_
    funext a; match a with | ⟨0, _⟩ => rfl
  · refine congrArg A.m1s ?_
    funext a; match a with | ⟨0, _⟩ => rfl

theorem ref_h2a (n : Fin 128) (i : Fin 14) (w : Fin 18) (o : Fin 256) :
    val_main_v167 (F := Ideal) A.x A.w1a A.b1a A.m1a A.w1b A.b1b A.m1b A.w1c A.b1c A.m1c A.w1s A.b1s A.m1s A.w2a A.b2a A.m2a (ix4 n i w o) = code (H2a A n i w o) := by
  have e : val_main_v167 (F := Ideal) A.x A.w1a A.b1a A.m1a A.w1b A.b1b A.m1b A.w1c A.b1c A.m1c A.w1s A.b1s A.m1s A.w2a A.b2a A.m2a (ix4 n i w o)
      = code (requant (val_main_v154 (F := Ideal) A.x A.w1a A.b1a A.m1a A.w1b A.b1b A.m1b A.w1c A.b1c A.m1c A.w1s A.b1s A.m1s A.w2a (ix4 n i w o)) (val_main_v158 (F := Ideal) A.b2a (ix4 n i w o)) (val_main_v162 (F := Ideal) A.m2a (ix4 n i w o))) := by
    rw [val_main_v167_apply, val_main_v166_apply, val_main_v165_apply, val_main_call13_v2_apply, val_main_v164_apply, val_main_v163_apply, val_main_v160_apply, val_main_v159_apply, val_main_v156_apply, val_main_v155_apply,
      val_main_call13_v4_apply, val_main_call13_v1_apply, val_main_call13_v3_apply, val_main_call13_v0_apply, val_main_c_6_apply, val_main_c_7_apply]
    generalize val_main_v154 (F := Ideal) A.x A.w1a A.b1a A.m1a A.w1b A.b1b A.m1b A.w1c A.b1c A.m1c A.w1s A.b1s A.m1s A.w2a (ix4 n i w o) = a, val_main_v158 (F := Ideal) A.b2a (ix4 n i w o) = b, val_main_v162 (F := Ideal) A.m2a (ix4 n i w o) = m
    rfl
  rw [e, val_main_v158_apply, val_main_v157_apply, val_main_v162_apply, val_main_v161_apply]
  refine congrArg code (requant_congr ?_ ?_ ?_)
  · rw [val_main_v154_apply]
    refine Finset.sum_congr rfl fun k _ => mul_congr ?_ ?_
    · rw [val_main_v150_apply, val_main_v149_apply, val_main_v148_apply]
      rw [show lidx_main_v154 (ix4 n i w o) k = ix4 n i w k from by funext a; match a with | ⟨0, _⟩ => rfl | ⟨1, _⟩ => rfl | ⟨2, _⟩ => rfl | ⟨3, _⟩ => rfl, ref_y1]
      exact code_back _
    · rw [val_main_v153_apply, val_main_v152_apply, val_main_v151_apply]
      refine (sb_eq _).trans (congrArg (fun j => sb (A.w2a j)) ?_)
      funext a; match a with | ⟨0, _⟩ => rfl | ⟨1, _⟩ => rfl
  · refine congrArg A.b2a ?_
    funext a; match a with | ⟨0, _⟩ => rfl
  · refine congrArg A.m2a ?_
    funext a; match a with | ⟨0, _⟩ => rfl

end Cert.Stage

end
-- ==== Proof.Value.Ref4.lean ====
/- The reference's arrays as the mathematics: the rest of unit 2. -/
module

public import proofs.«01_k».proof.Proof.Value.Ref3

@[expose] public section

noncomputable section

namespace Cert.Stage

open Idealize.ShloMosaic Cert.ReferenceIdeal Cert.ReferenceIdeal.Gen Cert.ReferenceIdeal.Read

variable (A : Args)

/-- The padded array of unit 2. -/
theorem ref_p2 (n : Fin 128) (r : Fin 16) (w : Fin 20) (o : Fin 256) :
    val_main_v171 (F := Ideal) A.x A.w1a A.b1a A.m1a A.w1b A.b1b A.m1b A.w1c A.b1c A.m1c A.w1s A.b1s A.m1s A.w2a A.b2a A.m2a (ix4 n r w o) = P2 A n r.val w.val o := by
  unfold val_main_v171
  by_cases hin : (1 ≤ r.val ∧ r.val < 15) ∧ 1 ≤ w.val ∧ w.val < 19
  · rw [pad_apply_of_inside _ _ _ _ _ _ _ _ (ix4 n ⟨r.val - 1, by omega⟩ ⟨w.val - 1, by omega⟩ o) (fun a => match a with
      | ⟨0, _⟩ => by show n.val = 0 + n.val * (0 + 1); omega
      | ⟨1, _⟩ => by show r.val = 1 + (r.val - 1) * (0 + 1); omega
      | ⟨2, _⟩ => by show w.val = 1 + (w.val - 1) * (0 + 1); omega
      | ⟨3, _⟩ => by show o.val = 0 + o.val * (0 + 1); omega)]
    rw [P2, dif_pos hin, val_main_v170_apply, val_main_v169_apply, val_main_v168_apply, ref_h2a]
    exact code_back _
  · rw [P2, dif_neg hin]
    have hz : val_main_call14_v0 (F := Ideal) (Shape.Idx.first h_S_) = (0 : EReal) := by
      rw [val_main_call14_v0_apply, val_main_c_8_apply]
      show (((0#32 : BitVec 32).toInt : ℝ) : EReal) = 0
      simp
    by_cases hr : 1 ≤ r.val ∧ r.val < 15
    · rw [pad_apply_of_not_inside _ _ _ _ _ _ _ _ (2 : Fin 4) (by show ¬(1 ≤ w.val ∧ (w.val - 1) % (0 + 1) = 0 ∧ (w.val - 1) / (0 + 1) < 18); omega)]
      exact hz
    · rw [pad_apply_of_not_inside _ _ _ _ _ _ _ _ (1 : Fin 4) (by show ¬(1 ≤ r.val ∧ (r.val - 1) % (0 + 1) = 0 ∧ (r.val - 1) / (0 + 1) < 14); omega)]
      exact hz

/-- One tap of the stride-one product. -/
theorem read2_apply (a b : ℕ) (h) (h' : S128x16x20x256.Slices ![0, a, b, 0] S128x14x18x256) (t : Fin 9) (ha : t.val / 3 = a) (hb : t.val % 3 = b) (n : Fin 128) (i : Fin 14) (w : Fin 18) (o : Fin 256) :
    tap (extractStridedSlice S128x14x18x256 ![0, a, b, 0] (val_main_v171 (F := Ideal) A.x A.w1a A.b1a A.m1a A.w1b A.b1b A.m1b A.w1c A.b1c A.m1c A.w1s A.b1s A.m1s A.w2a A.b2a A.m2a) h') A.w2b a b h (ix4 n i w o)
      = ∑ k : Fin 256, P2 A n (i.val + (kh t).val) (w.val + (kw t).val) k * sb (A.w2b (ix4 (kh t) (kw t) k o)) := by
  subst ha hb
  rw [tap_apply _ _ _ _ _ (by omega) (by omega)]
  refine Finset.sum_congr rfl fun k _ => mul_congr ?_ rfl
  rw [extractStridedSlice_apply _ _ h' _ (ix4 n ⟨i.val + t.val / 3, by omega⟩ ⟨w.val + t.val % 3, by omega⟩ k) (fun c => match c with
    | ⟨0, _⟩ => by show n.val = 0 + n.val; omega
    | ⟨1, _⟩ => by show i.val + t.val / 3 = t.val / 3 + i.val; omega
    | ⟨2, _⟩ => by show w.val + t.val % 3 = t.val % 3 + w.val; omega
    | ⟨3, _⟩ => by show k.val = 0 + k.val; omega), ref_p2]
  rfl

theorem ref_h2b (n : Fin 128) (i : Fin 14) (w : Fin 18) (o : Fin 256) :
    val_main_v257 (F := Ideal) A.x A.w1a A.b1a A.m1a A.w1b A.b1b A.m1b A.w1c A.b1c A.m1c A.w1s A.b1s A.m1s A.w2a A.b2a A.m2a A.w2b A.b2b A.m2b (ix4 n i w o) = code (H2b A n i w o) := by
  have e : val_main_v257 (F := Ideal) A.x A.w1a A.b1a A.m1a A.w1b A.b1b A.m1b A.w1c A.b1c A.m1c A.w1s A.b1s A.m1s A.w2a A.b2a A.m2a A.w2b A.b2b A.m2b (ix4 n i w o)
      = code (requant (val_main_v244 (F := Ideal) A.x A.w1a A.b1a A.m1a A.w1b A.b1b A.m1b A.w1c A.b1c A.m1c A.w1s A.b1s A.m1s A.w2a A.b2a A.m2a A.w2b (ix4 n i w o)) (val_main_v248 (F := Ideal) A.b2b (ix4 n i w o)) (val_main_v252 (F := Ideal) A.m2b (ix4 n i w o))) := by
    rw [val_main_v257_apply, val_main_v256_apply, val_main_v255_apply, val_main_call17_v2_apply, val_main_v254_apply, val_main_v253_apply, val_main_v250_apply, val_main_v249_apply, val_main_v246_apply, val_main_v245_apply,
      val_main_call17_v4_apply, val_main_call17_v1_apply, val_main_call17_v3_apply, val_main_call17_v0_apply, val_main_c_10_apply, val_main_c_11_apply]
    generalize val_main_v244 (F := Ideal) A.x A.w1a A.b1a A.m1a A.w1b A.b1b A.m1b A.w1c A.b1c A.m1c A.w1s A.b1s A.m1s A.w2a A.b2a A.m2a A.w2b (ix4 n i w o) = a, val_main_v248 (F := Ideal) A.b2b (ix4 n i w o) = b, val_main_v252 (F := Ideal) A.m2b (ix4 n i w o) = m
    rfl
  rw [e, val_main_v248_apply, val_main_v247_apply, val_main_v252_apply, val_main_v251_apply]
  refine congrArg code (requant_congr ?_ ?_ ?_)
  · rw [sum_nine, val_main_v244_apply, val_main_v236_apply, val_main_v228_apply, val_main_v220_apply, val_main_v212_apply, val_main_v204_apply, val_main_v196_apply, val_main_v188_apply, val_main_v180_apply]
    refine add_congr (add_congr (add_congr (add_congr (add_congr (add_congr (add_congr (add_congr (add_congr ?_ ?_) ?_) ?_) ?_) ?_) ?_) ?_) ?_) ?_
    · rw [val_main_v179_apply, val_main_cst_9_apply]
      exact Ideal.ofBits_zero_f32
    · exact read2_apply A 0 0 _ _ 0 rfl rfl n i w o
    · exact read2_apply A 0 1 _ _ 1 rfl rfl n i w o
    · exact read2_apply A 0 2 _ _ 2 rfl rfl n i w o
    · exact read2_apply A 1 0 _ _ 3 rfl rfl n i w o
    · exact read2_apply A 1 1 _ _ 4 rfl rfl n i w o
    · exact read2_apply A 1 2 _ _ 5 rfl rfl n i w o
    · exact read2_apply A 2 0 _ _ 6 rfl rfl n i w o
    · exact read2_apply A 2 1 _ _ 7 rfl rfl n i w o
    · exact read2_apply A 2 2 _ _ 8 rfl rfl n i w o
  · refine congrArg A.b2b ?_
    funext a; match a with | ⟨0, _⟩ => rfl
  · refine congrArg A.m2b ?_
    funext a; match a with | ⟨0, _⟩ => rfl

theorem code_back_y1 (n : Fin 128) (i : Fin 14) (w : Fin 18) (o : Fin 1024) : ((((code (Y1 A n i w o)).setWidth 32).toInt : ℝ) : EReal) = Y1 A n i w o := code_back _

theorem ref_y2 (n : Fin 128) (i : Fin 14) (w : Fin 18) (o : Fin 1024) :
    val_main_v283 (F := Ideal) A.x A.w1a A.b1a A.m1a A.w1b A.b1b A.m1b A.w1c A.b1c A.m1c A.w1s A.b1s A.m1s A.w2a A.b2a A.m2a A.w2b A.b2b A.m2b A.w2c A.b2c A.m2c A.m2s (ix4 n i w o) = code (Y2 A n i w o) := by
  have e : val_main_v283 (F := Ideal) A.x A.w1a A.b1a A.m1a A.w1b A.b1b A.m1b A.w1c A.b1c A.m1c A.w1s A.b1s A.m1s A.w2a A.b2a A.m2a A.w2b A.b2b A.m2b A.w2c A.b2c A.m2c A.m2s (ix4 n i w o)
      = code (clip (scaled (val_main_v264 (F := Ideal) A.x A.w1a A.b1a A.m1a A.w1b A.b1b A.m1b A.w1c A.b1c A.m1c A.w1s A.b1s A.m1s A.w2a A.b2a A.m2a A.w2b A.b2b A.m2b A.w2c (ix4 n i w o)) (val_main_v268 (F := Ideal) A.b2c (ix4 n i w o)) (val_main_v272 (F := Ideal) A.m2c (ix4 n i w o)) + ((((val_main_v147 (F := Ideal) A.x A.w1a A.b1a A.m1a A.w1b A.b1b A.m1b A.w1c A.b1c A.m1c A.w1s A.b1s A.m1s (ix4 n i w o)).setWidth 32).toInt : ℝ) : EReal) * (val_main_v277 (F := Ideal) A.m2s (ix4 n i w o)))) := by
    rw [val_main_v283_apply, val_main_v282_apply, val_main_v281_apply, val_main_call20_v2_apply, val_main_v280_apply, val_main_v279_apply, val_main_v273_apply, val_main_v278_apply, val_main_v270_apply, val_main_v275_apply, val_main_v269_apply, val_main_v274_apply, val_main_v266_apply, val_main_v265_apply,
      val_main_call20_v4_apply, val_main_call20_v1_apply, val_main_call20_v3_apply, val_main_call20_v0_apply, val_main_c_12_apply, val_main_c_13_apply]
    generalize val_main_v264 (F := Ideal) A.x A.w1a A.b1a A.m1a A.w1b A.b1b A.m1b A.w1c A.b1c A.m1c A.w1s A.b1s A.m1s A.w2a A.b2a A.m2a A.w2b A.b2b A.m2b A.w2c (ix4 n i w o) = a, val_main_v268 (F := Ideal) A.b2c (ix4 n i w o) = b, val_main_v272 (F := Ideal) A.m2c (ix4 n i w o) = m, val_main_v147 (F := Ideal) A.x A.w1a A.b1a A.m1a A.w1b A.b1b A.m1b A.w1c A.b1c A.m1c A.w1s A.b1s A.m1s (ix4 n i w o) = y, val_main_v277 (F := Ideal) A.m2s (ix4 n i w o) = m'
    rfl
  rw [e, val_main_v268_apply, val_main_v267_apply, val_main_v272_apply, val_main_v271_apply, val_main_v277_apply, ref_y1, code_back_y1]
  refine congrArg code (congrArg clip (add_congr (scaled_congr ?_ ?_ ?_) (mul_congr rfl ?_)))
  · rw [val_main_v264_apply]
    refine Finset.sum_congr rfl fun k _ => mul_congr ?_ ?_
    · rw [val_main_v260_apply, val_main_v259_apply, val_main_v258_apply]
      rw [show lidx_main_v264 (ix4 n i w o) k = ix4 n i w k from by funext a; match a with | ⟨0, _⟩ => rfl | ⟨1, _⟩ => rfl | ⟨2, _⟩ => rfl | ⟨3, _⟩ => rfl, ref_h2b]
      exact code_back _
    · rw [val_main_v263_apply, val_main_v262_apply, val_main_v261_apply]
      refine (sb_eq _).trans (congrArg (fun j => sb (A.w2c j)) ?_)
      funext a; match a with | ⟨0, _⟩ => rfl | ⟨1, _⟩ => rfl
  · refine congrArg A.b2c ?_
    funext a; match a with | ⟨0, _⟩ => rfl
  · refine congrArg A.m2c ?_
    funext a; match a with | ⟨0, _⟩ => rfl
  · unfold val_main_v276
    exact shapeCast_apply A.m2s shapeCasts_S1_S_ _ (ix1 0) rfl

end Cert.Stage

end
-- ==== Proof.Value.Result.lean ====
/- The reference's results, as the specification in the order of axes they are returned in. -/
module

public import proofs.«01_k».proof.Proof.Value.Ref4
public import proofs.«01_k».proof.Proof.Gen.ReferenceIdeal.Run

@[expose] public section

noncomputable section

namespace Cert.Stage

open Idealize.ShloMosaic Cert.ReferenceIdeal Cert.ReferenceIdeal.Gen Cert.ReferenceIdeal.Read

variable (A : Args)

/-- The place an element of a result comes from. -/
theorem back_place {n1 n2 n3 n4 : ℕ} (i : (⟨4, ![n1, n2, n3, n4]⟩ : Shape).Idx) (k : (⟨4, ![n3, n1, n2, n4]⟩ : Shape).Idx) (h0 : k 0 = i 2) (h1 : k 1 = i 0) (h2 : k 2 = i 1) (h3 : k 3 = i 3) :
    k = ix4 (i 2) (i 0) (i 1) (i 3) := by
  funext a
  exact match a with
    | ⟨0, _⟩ => h0
    | ⟨1, _⟩ => h1
    | ⟨2, _⟩ => h2
    | ⟨3, _⟩ => h3

theorem out_y2 : val_main_v284 (F := Ideal) A.x A.w1a A.b1a A.m1a A.w1b A.b1b A.m1b A.w1c A.b1c A.m1c A.w1s A.b1s A.m1s A.w2a A.b2a A.m2a A.w2b A.b2b A.m2b A.w2c A.b2c A.m2c A.m2s = fun j => code (Y2 A (j 2) (j 0) (j 1) (j 3)) := by
  funext j
  rw [val_main_v284_apply]
  exact (congrArg _ (back_place j (idx_main_v284 j) rfl rfl rfl rfl)).trans (ref_y2 A (j 2) (j 0) (j 1) (j 3))

theorem out_y1 : val_main_v285 (F := Ideal) A.x A.w1a A.b1a A.m1a A.w1b A.b1b A.m1b A.w1c A.b1c A.m1c A.w1s A.b1s A.m1s = fun j => code (Y1 A (j 2) (j 0) (j 1) (j 3)) := by
  funext j
  rw [val_main_v285_apply]
  exact (congrArg _ (back_place j (idx_main_v285 j) rfl rfl rfl rfl)).trans (ref_y1 A (j 2) (j 0) (j 1) (j 3))

theorem out_h1a : val_main_v286 (F := Ideal) A.x A.w1a A.b1a A.m1a = fun j => code (H1a A (j 2) (j 0) (j 1) (j 3)) := by
  funext j
  rw [val_main_v286_apply]
  exact (congrArg _ (back_place j (idx_main_v286 j) rfl rfl rfl rfl)).trans (ref_h1a A (j 2) (j 0) (j 1) (j 3))

theorem out_h1b : val_main_v287 (F := Ideal) A.x A.w1a A.b1a A.m1a A.w1b A.b1b A.m1b = fun j => code (H1b A (j 2) (j 0) (j 1) (j 3)) := by
  funext j
  rw [val_main_v287_apply]
  exact (congrArg _ (back_place j (idx_main_v287 j) rfl rfl rfl rfl)).trans (ref_h1b A (j 2) (j 0) (j 1) (j 3))

theorem out_h2a : val_main_v288 (F := Ideal) A.x A.w1a A.b1a A.m1a A.w1b A.b1b A.m1b A.w1c A.b1c A.m1c A.w1s A.b1s A.m1s A.w2a A.b2a A.m2a = fun j => code (H2a A (j 2) (j 0) (j 1) (j 3)) := by
  funext j
  rw [val_main_v288_apply]
  exact (congrArg _ (back_place j (idx_main_v288 j) rfl rfl rfl rfl)).trans (ref_h2a A (j 2) (j 0) (j 1) (j 3))

theorem out_h2b : val_main_v289 (F := Ideal) A.x A.w1a A.b1a A.m1a A.w1b A.b1b A.m1b A.w1c A.b1c A.m1c A.w1s A.b1s A.m1s A.w2a A.b2a A.m2a A.w2b A.b2b A.m2b = fun j => code (H2b A (j 2) (j 0) (j 1) (j 3)) := by
  funext j
  rw [val_main_v289_apply]
  exact (congrArg _ (back_place j (idx_main_v289 j) rfl rfl rfl rfl)).trans (ref_h2b A (j 2) (j 0) (j 1) (j 3))

/-- The reference's arguments, read off the memory it starts in. -/
def refArgs (m : (ℓ : Loc nD τ sig) → Buf (Elt Ideal) ℓ) (c : Dev nD) : Args where
  x := m ((c.tc : Thread nD τ).loc main_arg0)
  w1a := m ((c.tc : Thread nD τ).loc main_arg1)
  b1a := m ((c.tc : Thread nD τ).loc main_arg2)
  m1a := m ((c.tc : Thread nD τ).loc main_arg3)
  w1b := m ((c.tc : Thread nD τ).loc main_arg4)
  b1b := m ((c.tc : Thread nD τ).loc main_arg5)
  m1b := m ((c.tc : Thread nD τ).loc main_arg6)
  w1c := m ((c.tc : Thread nD τ).loc main_arg7)
  b1c := m ((c.tc : Thread nD τ).loc main_arg8)
  m1c := m ((c.tc : Thread nD τ).loc main_arg9)
  w1s := m ((c.tc : Thread nD τ).loc main_arg10)
  b1s := m ((c.tc : Thread nD τ).loc main_arg11)
  m1s := m ((c.tc : Thread nD τ).loc main_arg12)
  w2a := m ((c.tc : Thread nD τ).loc main_arg13)
  b2a := m ((c.tc : Thread nD τ).loc main_arg14)
  m2a := m ((c.tc : Thread nD τ).loc main_arg15)
  w2b := m ((c.tc : Thread nD τ).loc main_arg16)
  b2b := m ((c.tc : Thread nD τ).loc main_arg17)
  m2b := m ((c.tc : Thread nD τ).loc main_arg18)
  w2c := m ((c.tc : Thread nD τ).loc main_arg19)
  b2c := m ((c.tc : Thread nD τ).loc main_arg20)
  m2c := m ((c.tc : Thread nD τ).loc main_arg21)
  m2s := m ((c.tc : Thread nD τ).loc main_arg22)

/-- A result in the order of axes it is returned in: row, column, batch, channel. -/
def placed {n1 n2 n3 n4 : ℕ} (f : Fin n1 → Fin n2 → Fin n3 → Fin n4 → EReal) : (⟨4, ![n2, n3, n1, n4]⟩ : Shape).Idx → BitVec 8 := fun j =>
  code (f (j 2) (j 0) (j 1) (j 3))

variable (m : (ℓ : Loc nD τ sig) → Buf (Elt Ideal) ℓ) (c : Dev nD)

theorem got_y2 : val_main_v284 (F := Ideal) (StableHlo.launchContents m c (Proc.devRef .tc main_arg0)) (StableHlo.launchContents m c (Proc.devRef .tc main_arg1)) (StableHlo.launchContents m c (Proc.devRef .tc main_arg2)) (StableHlo.launchContents m c (Proc.devRef .tc main_arg3)) (StableHlo.launchContents m c (Proc.devRef .tc main_arg4)) (StableHlo.launchContents m c (Proc.devRef .tc main_arg5)) (StableHlo.launchContents m c (Proc.devRef .tc main_arg6)) (StableHlo.launchContents m c (Proc.devRef .tc main_arg7)) (StableHlo.launchContents m c (Proc.devRef .tc main_arg8)) (StableHlo.launchContents m c (Proc.devRef .tc main_arg9)) (StableHlo.launchContents m c (Proc.devRef .tc main_arg10)) (StableHlo.launchContents m c (Proc.devRef .tc main_arg11)) (StableHlo.launchContents m c (Proc.devRef .tc main_arg12)) (StableHlo.launchContents m c (Proc.devRef .tc main_arg13)) (StableHlo.launchContents m c (Proc.devRef .tc main_arg14)) (StableHlo.launchContents m c (Proc.devRef .tc main_arg15)) (StableHlo.launchContents m c (Proc.devRef .tc main_arg16)) (StableHlo.launchContents m c (Proc.devRef .tc main_arg17)) (StableHlo.launchContents m c (Proc.devRef .tc main_arg18)) (StableHlo.launchContents m c (Proc.devRef .tc main_arg19)) (StableHlo.launchContents m c (Proc.devRef .tc main_arg20)) (StableHlo.launchContents m c (Proc.devRef .tc main_arg21)) (StableHlo.launchContents m c (Proc.devRef .tc main_arg22)) = placed (Y2 (refArgs m c)) :=
  out_y2 (refArgs m c)

theorem got_y1 : val_main_v285 (F := Ideal) (StableHlo.launchContents m c (Proc.devRef .tc main_arg0)) (StableHlo.launchContents m c (Proc.devRef .tc main_arg1)) (StableHlo.launchContents m c (Proc.devRef .tc main_arg2)) (StableHlo.launchContents m c (Proc.devRef .tc main_arg3)) (StableHlo.launchContents m c (Proc.devRef .tc main_arg4)) (StableHlo.launchContents m c (Proc.devRef .tc main_arg5)) (StableHlo.launchContents m c (Proc.devRef .tc main_arg6)) (StableHlo.launchContents m c (Proc.devRef .tc main_arg7)) (StableHlo.launchContents m c (Proc.devRef .tc main_arg8)) (StableHlo.launchContents m c (Proc.devRef .tc main_arg9)) (StableHlo.launchContents m c (Proc.devRef .tc main_arg10)) (StableHlo.launchContents m c (Proc.devRef .tc main_arg11)) (StableHlo.launchContents m c (Proc.devRef .tc main_arg12)) = placed (Y1 (refArgs m c)) :=
  out_y1 (refArgs m c)

theorem got_h1a : val_main_v286 (F := Ideal) (StableHlo.launchContents m c (Proc.devRef .tc main_arg0)) (StableHlo.launchContents m c (Proc.devRef .tc main_arg1)) (StableHlo.launchContents m c (Proc.devRef .tc main_arg2)) (StableHlo.launchContents m c (Proc.devRef .tc main_arg3)) = placed (H1a (refArgs m c)) :=
  out_h1a (refArgs m c)

theorem got_h1b : val_main_v287 (F := Ideal) (StableHlo.launchContents m c (Proc.devRef .tc main_arg0)) (StableHlo.launchContents m c (Proc.devRef .tc main_arg1)) (StableHlo.launchContents m c (Proc.devRef .tc main_arg2)) (StableHlo.launchContents m c (Proc.devRef .tc main_arg3)) (StableHlo.launchContents m c (Proc.devRef .tc main_arg4)) (StableHlo.launchContents m c (Proc.devRef .tc main_arg5)) (StableHlo.launchContents m c (Proc.devRef .tc main_arg6)) = placed (H1b (refArgs m c)) :=
  out_h1b (refArgs m c)

theorem got_h2a : val_main_v288 (F := Ideal) (StableHlo.launchContents m c (Proc.devRef .tc main_arg0)) (StableHlo.launchContents m c (Proc.devRef .tc main_arg1)) (StableHlo.launchContents m c (Proc.devRef .tc main_arg2)) (StableHlo.launchContents m c (Proc.devRef .tc main_arg3)) (StableHlo.launchContents m c (Proc.devRef .tc main_arg4)) (StableHlo.launchContents m c (Proc.devRef .tc main_arg5)) (StableHlo.launchContents m c (Proc.devRef .tc main_arg6)) (StableHlo.launchContents m c (Proc.devRef .tc main_arg7)) (StableHlo.launchContents m c (Proc.devRef .tc main_arg8)) (StableHlo.launchContents m c (Proc.devRef .tc main_arg9)) (StableHlo.launchContents m c (Proc.devRef .tc main_arg10)) (StableHlo.launchContents m c (Proc.devRef .tc main_arg11)) (StableHlo.launchContents m c (Proc.devRef .tc main_arg12)) (StableHlo.launchContents m c (Proc.devRef .tc main_arg13)) (StableHlo.launchContents m c (Proc.devRef .tc main_arg14)) (StableHlo.launchContents m c (Proc.devRef .tc main_arg15)) = placed (H2a (refArgs m c)) :=
  out_h2a (refArgs m c)

theorem got_h2b : val_main_v289 (F := Ideal) (StableHlo.launchContents m c (Proc.devRef .tc main_arg0)) (StableHlo.launchContents m c (Proc.devRef .tc main_arg1)) (StableHlo.launchContents m c (Proc.devRef .tc main_arg2)) (StableHlo.launchContents m c (Proc.devRef .tc main_arg3)) (StableHlo.launchContents m c (Proc.devRef .tc main_arg4)) (StableHlo.launchContents m c (Proc.devRef .tc main_arg5)) (StableHlo.launchContents m c (Proc.devRef .tc main_arg6)) (StableHlo.launchContents m c (Proc.devRef .tc main_arg7)) (StableHlo.launchContents m c (Proc.devRef .tc main_arg8)) (StableHlo.launchContents m c (Proc.devRef .tc main_arg9)) (StableHlo.launchContents m c (Proc.devRef .tc main_arg10)) (StableHlo.launchContents m c (Proc.devRef .tc main_arg11)) (StableHlo.launchContents m c (Proc.devRef .tc main_arg12)) (StableHlo.launchContents m c (Proc.devRef .tc main_arg13)) (StableHlo.launchContents m c (Proc.devRef .tc main_arg14)) (StableHlo.launchContents m c (Proc.devRef .tc main_arg15)) (StableHlo.launchContents m c (Proc.devRef .tc main_arg16)) (StableHlo.launchContents m c (Proc.devRef .tc main_arg17)) (StableHlo.launchContents m c (Proc.devRef .tc main_arg18)) = placed (H2b (refArgs m c)) :=
  out_h2b (refArgs m c)

end Cert.Stage

end
-- ==== Proof.lean ====
/-
  The proof of `Cert.Claim`: the three frames, that the idealisation preserves the program, and that the kernel's six results are the
  reference's: each is the specification's array (`Value/Spec.lean`) of the arguments.
-/
module

public import proofs.«01_k».proof.Defs
public import proofs.«01_k».proof.Proof.Kernel.Track
public import proofs.«01_k».proof.Proof.KernelIdeal.Track
public import proofs.«01_k».proof.Proof.Gen.ReferenceIdeal.Run
public import proofs.«01_k».proof.Proof.Gen.ReferenceIdeal.Read
public import proofs.«01_k».proof.Proof.Value.Arrays
public import proofs.«01_k».proof.Proof.Value.Result
public import Idealize.ShloMosaic.Lib.Quiescent

@[expose] public section

noncomputable section

namespace Cert.Proof

open Idealize.ShloMosaic Idealize.SL.Sem

theorem frame_kernel : Cert.quiescent_Kernel (hKernel := Cert.Kernel.Gen.facts) := fun m g _ => Cert.Kernel.Hand.frame_all m g

theorem frame_ideal : Cert.quiescent_KernelIdeal (hKernelIdeal := Cert.KernelIdeal.Gen.facts) := fun m g _ =>
  Cert.KernelIdeal.Hand.frame_all m g

theorem frame_reference : Cert.quiescent_ReferenceIdeal (hReferenceIdeal := Cert.ReferenceIdeal.Gen.facts) := fun m g _ =>
  (θ_run _ _ _).mono (fun r h => ⟨fun c => (h c).2.2.2.2.2.2, sem_eq_zero_of_no_sems (by decide) r.2⟩) (Cert.ReferenceIdeal.Value.run m g)

/-- Both programs start from the same arguments. -/
theorem same_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.Stage.refArgs m' c = Cert.Stage.argsOf m c := by
  unfold Cert.Stage.refArgs Cert.Stage.argsOf
  rw [h0, h1, h2, h3, h4, h5, h6, h7, h8, h9, h10, h11, h12, h13, h14, h15, h16, h17, h18, h19, h20, h21, h22]

/-- The kernel's results are the specification's arrays of the kernel's arguments, and the reference's of its own; the two have the same
    arguments. -/
theorem algebraic : Cert.algebraic_KernelIdeal_ReferenceIdeal (hKernelIdeal := Cert.KernelIdeal.Gen.facts) (hReferenceIdeal := Cert.ReferenceIdeal.Gen.facts) := by
  intro m g m' g' _ hag
  have hA : ∀ c, Cert.Stage.refArgs m' c = Cert.Stage.argsOf m c := fun c =>
    let ⟨h0, h1, h2, h3, h4, h5, h6, h7, h8, h9, h10, h11, h12, h13, h14, h15, h16, h17, h18, h19, h20, h21, h22⟩ := hag c
    same_args m m' c h0 h1 h2 h3 h4 h5 h6 h7 h8 h9 h10 h11 h12 h13 h14 h15 h16 h17 h18 h19 h20 h21 h22
  refine ⟨fun c => Cert.Stage.placed (Cert.Stage.Y2 (Cert.Stage.argsOf m c)),
    fun c => Cert.Stage.placed (Cert.Stage.Y1 (Cert.Stage.argsOf m c)),
    fun c => Cert.Stage.placed (Cert.Stage.H1a (Cert.Stage.argsOf m c)),
    fun c => Cert.Stage.placed (Cert.Stage.H1b (Cert.Stage.argsOf m c)),
    fun c => Cert.Stage.placed (Cert.Stage.H2a (Cert.Stage.argsOf m c)),
    fun c => Cert.Stage.placed (Cert.Stage.H2b (Cert.Stage.argsOf m c)), ?_, ?_⟩
  · exact (θ_run _ _ _).mono
      (fun r h c => ⟨Cert.Stage.arr_23 m c h.1, Cert.Stage.arr_24 m c h.1, Cert.Stage.arr_25 m c h.1, Cert.Stage.arr_26 m c h.1, Cert.Stage.arr_27 m c h.1, Cert.Stage.arr_28 m c h.1,
        Cert.KernelIdeal.Hand.args_kept m _ _ r h.1 c⟩)
      (Cert.KernelIdeal.Hand.run_track m g (Cert.Stage.Inv m) (Cert.Stage.Rl m) (fun c R u hu => absurd hu (Nat.succ_ne_zero _).symm) (Cert.Stage.keeps m))
  · refine (θ_run _ _ _).mono (fun r h c => ?_) (Cert.ReferenceIdeal.Value.run m' g')
    obtain ⟨r0, r1, r2, r3, r4, r5, kept⟩ := h c
    exact ⟨(r0.trans (Cert.ReferenceIdeal.Read.val_main_v284_eq (StableHlo.launchContents m' c))).trans ((Cert.Stage.got_y2 m' c).trans (congrArg (fun A => Cert.Stage.placed (Cert.Stage.Y2 A)) (hA c))),
      (r1.trans (Cert.ReferenceIdeal.Read.val_main_v285_eq (StableHlo.launchContents m' c))).trans ((Cert.Stage.got_y1 m' c).trans (congrArg (fun A => Cert.Stage.placed (Cert.Stage.Y1 A)) (hA c))),
      (r2.trans (Cert.ReferenceIdeal.Read.val_main_v286_eq (StableHlo.launchContents m' c))).trans ((Cert.Stage.got_h1a m' c).trans (congrArg (fun A => Cert.Stage.placed (Cert.Stage.H1a A)) (hA c))),
      (r3.trans (Cert.ReferenceIdeal.Read.val_main_v287_eq (StableHlo.launchContents m' c))).trans ((Cert.Stage.got_h1b m' c).trans (congrArg (fun A => Cert.Stage.placed (Cert.Stage.H1b A)) (hA c))),
      (r4.trans (Cert.ReferenceIdeal.Read.val_main_v288_eq (StableHlo.launchContents m' c))).trans ((Cert.Stage.got_h2a m' c).trans (congrArg (fun A => Cert.Stage.placed (Cert.Stage.H2a A)) (hA c))),
      (r5.trans (Cert.ReferenceIdeal.Read.val_main_v289_eq (StableHlo.launchContents m' c))).trans ((Cert.Stage.got_h2b m' c).trans (congrArg (fun A => Cert.Stage.placed (Cert.Stage.H2b A)) (hA c))), kept⟩

theorem claim : Cert.Claim :=
  ⟨Cert.Kernel.Gen.facts, Cert.KernelIdeal.Gen.facts, Cert.ReferenceIdeal.Gen.facts, frame_kernel, frame_ideal, frame_reference, trivial, algebraic⟩

end Cert.Proof

end
